-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v43_0)) (v2 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v43_0) = v1 c
          ∧ r.2.mem ((c.tc : Thread Cert.KernelIdeal.nD Cert.KernelIdeal.τ).loc Cert.KernelIdeal.main_v43_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S100000x1024 : Shape := ⟨2, ![100000, 1024]⟩
abbrev S512x1024 : Shape := ⟨2, ![512, 1024]⟩
abbrev S64 : Shape := ⟨1, ![64]⟩
abbrev S64x50 : Shape := ⟨2, ![64, 50]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S64 : S_.BroadcastsInDim S64 (![] : Fin 0 → Fin S64.rank)
  reducesTo_S64_S_d0 : S64.ReducesTo [0] S_
  bcast_S_S64x50 : S_.BroadcastsInDim S64x50 (![] : Fin 0 → Fin S64x50.rank)
  reducesTo_S64x50_S_d0_1 : S64x50.ReducesTo [0, 1] S_

variable [Facts]

def fn_part2 {F : FTy → Type} [FloatOps F] (main_arg3 : IVec S64x50 32) (main_v26 : IVec S_ 1) (main_v32 : IVec S_ 1) : IVec S_ 1 :=
  let main_v33 : IVec S_ 1 := andi main_v26 main_v32
  let main_c_13 : IVec S_ 32 := constantI S_ 32 0#32
  let main_v34 : IVec S64x50 32 := broadcastInDim S64x50 ![] bcast_S_S64x50 main_c_13
  let main_v35 : IVec S64x50 1 := cmpi .sge main_arg3 main_v34
  let main_c_14 : IVec S_ 1 := constantI S_ 1 1#1
  let main_v36 : IVec S_ 1 := (fun x v => Host.reduce IntOp.andi x v reducesTo_S64x50_S_d0_1 h_S_) main_v35 main_c_14
  let main_v37 : IVec S_ 1 := andi main_v33 main_v36
  main_v37

def fn_part1 {F : FTy → Type} [FloatOps F] (main_arg2 : IVec S64 32) (main_arg3 : IVec S64x50 32) (main_arg4 : FVec F S64 .f32) (main_arg5 : FVec F S64 .f32) (main_v12 : IVec S_ 1) (main_v14 : IVec S64 1) (main_v15 : FVec F S64 .f32) : IVec S_ 1 :=
  let main_v16 : IVec S64 1 := cmpf .ogt main_arg4 main_v15
  let main_v17 : IVec S64 1 := andi main_v14 main_v16
  let main_c_6 : IVec S_ 1 := constantI S_ 1 1#1
  let main_v18 : IVec S_ 1 := (fun x v => Host.reduce IntOp.andi x v reducesTo_S64_S_d0 h_S_) main_v17 main_c_6
  let main_v19 : IVec S_ 1 := andi main_v12 main_v18
  let main_cst_7 : FVec F S_ .f32 := constant S_ .f32 0x7F800000#32
  let main_v20 : FVec F S64 .f32 := broadcastInDim S64 ![] bcast_S_S64 main_cst_7
  let main_v21 : IVec S64 1 := cmpf .olt main_arg5 main_v20
  let main_cst_8 : FVec F S_ .f32 := constant S_ .f32 0xFF800000#32
  let main_v22 : FVec F S64 .f32 := broadcastInDim S64 ![] bcast_S_S64 main_cst_8
  let main_v23 : IVec S64 1 := cmpf .ogt main_arg5 main_v22
  let main_v24 : IVec S64 1 := andi main_v21 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v19 main_v25
  let main_c_10 : IVec S_ 32 := constantI S_ 32 0#32
  let main_v27 : IVec S64 32 := broadcastInDim S64 ![] bcast_S_S64 main_c_10
  let main_v28 : IVec S64 1 := cmpi .sge main_arg2 main_v27
  let main_c_11 : IVec S_ 32 := constantI S_ 32 512#32
  let main_v29 : IVec S64 32 := broadcastInDim S64 ![] bcast_S_S64 main_c_11
  let main_v30 : IVec S64 1 := cmpi .slt main_arg2 main_v29
  let main_v31 : IVec S64 1 := andi main_v28 main_v30
  let main_c_12 : IVec S_ 1 := constantI S_ 1 1#1
  let main_v32 : IVec S_ 1 := (fun x v => Host.reduce IntOp.andi x v reducesTo_S64_S_d0 h_S_) main_v31 main_c_12
  fn_part2 (F := F) main_arg3 main_v26 main_v32

def fn {F : FTy → Type} [FloatOps F] (main_arg0 : FVec F S100000x1024 .f32) (main_arg1 : FVec F S512x1024 .f32) (main_arg2 : IVec S64 32) (main_arg3 : IVec S64x50 32) (main_arg4 : FVec F S64 .f32) (main_arg5 : FVec F S64 .f32) (main_arg6 : FVec F S64 .f32) (main_arg7 : FVec F S64 .f32) (main_arg8 : IVec S64 32) : IVec S_ 1 :=
  let main_cst : FVec F S_ .f32 := constant S_ .f32 0x7F800000#32
  let main_v0 : FVec F S100000x1024 .f32 := broadcastInDim S100000x1024 ![] bcast_S_S100000x1024 main_cst
  let main_v1 : IVec S100000x1024 1 := cmpf .olt main_arg0 main_v0
  let main_cst_0 : FVec F S_ .f32 := constant S_ .f32 0xFF800000#32
  let main_v2 : FVec F S100000x1024 .f32 := broadcastInDim S100000x1024 ![] bcast_S_S100000x1024 main_cst_0
  let main_v3 : IVec S100000x1024 1 := cmpf .ogt main_arg0 main_v2
  let main_v4 : IVec S100000x1024 1 := andi main_v1 main_v3
  let main_c : IVec S_ 1 := constantI S_ 1 1#1
  let main_v5 : IVec S_ 1 := (fun x v => Host.reduce IntOp.andi x v reducesTo_S100000x1024_S_d0_1 h_S_) main_v4 main_c
  let main_cst_1 : FVec F S_ .f32 := constant S_ .f32 0x7F800000#32
  let main_v6 : FVec F S512x1024 .f32 := broadcastInDim S512x1024 ![] bcast_S_S512x1024 main_cst_1
  let main_v7 : IVec S512x1024 1 := cmpf .olt main_arg1 main_v6
  let main_cst_2 : FVec F S_ .f32 := constant S_ .f32 0xFF800000#32
  let main_v8 : FVec F S512x1024 .f32 := broadcastInDim S512x1024 ![] bcast_S_S512x1024 main_cst_2
  let main_v9 : IVec S512x1024 1 := cmpf .ogt main_arg1 main_v8
  let main_v10 : IVec S512x1024 1 := andi main_v7 main_v9
  let main_c_3 : IVec S_ 1 := constantI S_ 1 1#1
  let main_v11 : IVec S_ 1 := (fun x v => Host.reduce IntOp.andi x v reducesTo_S512x1024_S_d0_1 h_S_) main_v10 main_c_3
  let main_v12 : IVec S_ 1 := andi main_v5 main_v11
  let main_cst_4 : FVec F S_ .f32 := constant S_ .f32 0x7F800000#32
  let main_v13 : FVec F S64 .f32 := broadcastInDim S64 ![] bcast_S_S64 main_cst_4
  let main_v14 : IVec S64 1 := cmpf .olt main_arg4 main_v13
  let main_cst_5 : FVec F S_ .f32 := constant S_ .f32 0xFF800000#32
  let main_v15 : FVec F S64 .f32 := broadcastInDim S64 ![] bcast_S_S64 main_cst_5
  fn_part1 (F := F) main_arg2 main_arg3 main_arg4 main_arg5 main_v12 main_v14 main_v15
-- ==== Kernel.lean ====
abbrev S100000x1024 : Shape := ⟨2, ![100000, 1024]⟩
abbrev S512x1024 : Shape := ⟨2, ![512, 1024]⟩
abbrev S64 : Shape := ⟨1, ![64]⟩
abbrev S64x50 : Shape := ⟨2, ![64, 50]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x1024 : Shape := ⟨2, ![64, 1024]⟩
abbrev S64x100000 : Shape := ⟨2, ![64, 100000]⟩
abbrev S2048x1024 : Shape := ⟨2, ![2048, 1024]⟩
abbrev S64x2048 : Shape := ⟨2, ![64, 2048]⟩
abbrev S1x2048 : Shape := ⟨2, ![1, 2048]⟩
abbrev S64x100000x1 : Shape := ⟨3, ![64, 100000, 1]⟩
abbrev S1x1x1 : Shape := ⟨3, ![1, 1, 1]⟩
abbrev S100000 : Shape := ⟨1, ![100000]⟩
abbrev S1x100000 : Shape := ⟨2, ![1, 100000]⟩
abbrev S64x49 : Shape := ⟨2, ![64, 49]⟩
abbrev S2 : Shape := ⟨1, ![2]⟩

abbrev nBuf : Space → Nat
  | .hbm => 416
  | .vmem => 24
  | .smem => 0
  | _ => 0

abbrev hbmTy0_0 (i : Nat) : BufTy := match i % 128 with
  | 0 => ⟨S100000x1024, .f32⟩
  | 1 => ⟨S512x1024, .f32⟩
  | 2 => ⟨S64, .i32⟩
  | 3 => ⟨S64x50, .i32⟩
  | 4 => ⟨S64, .f32⟩
  | 5 => ⟨S64, .f32⟩
  | 6 => ⟨S64, .f32⟩
  | 7 => ⟨S64, .f32⟩
  | 8 => ⟨S64, .i32⟩
  | 9 => ⟨S_, .i32⟩
  | 10 => ⟨S64, .i32⟩
  | 11 => ⟨S64, .i1⟩
  | 12 => ⟨S_, .i32⟩
  | 13 => ⟨S64, .i32⟩
  | 14 => ⟨S64, .i32⟩
  | 15 => ⟨S64, .i32⟩
  | 16 => ⟨S64x1, .i32⟩
  | 17 => ⟨S1, .i32⟩
  | 18 => ⟨S_, .i32⟩
  | 19 => ⟨S64x1, .i32⟩
  | 20 => ⟨S64x1, .i1⟩
  | 21 => ⟨S1x1, .i32⟩
  | 22 => ⟨S64x1, .i32⟩
  | 23 => ⟨S64x1, .i1⟩
  | 24 => ⟨S64x1, .i1⟩
  | 25 => ⟨S_, .i1⟩
  | 26 => ⟨S64, .i1⟩
  | 27 => ⟨S64x1024, .f32⟩
  | 28 => ⟨S64x1024, .i1⟩
  | 29 => ⟨S_, .f32⟩
  | 30 => ⟨S64x1024, .f32⟩
  | 31 => ⟨S64x1024, .f32⟩
  | 32 => ⟨S64x1, .f32⟩
  | 33 => ⟨S64x1, .f32⟩
  | 34 => ⟨S64x1, .f32⟩
  | 35 => ⟨S64x100000, .f32⟩
  | 36 => ⟨S64x100000, .f32⟩
  | 37 => ⟨S64x100000, .i32⟩
  | 38 => ⟨S64x100000, .f32⟩
  | 39 => ⟨S64x100000, .i32⟩
  | 40 => ⟨S_, .i32⟩
  | 41 => ⟨S64x100000, .i32⟩
  | 42 => ⟨S64x100000, .i1⟩
  | 43 => ⟨S_, .i32⟩
  | 44 => ⟨S64x100000, .i32⟩
  | 45 => ⟨S64x100000, .i32⟩
  | 46 => ⟨S64x100000, .i32⟩
  | 47 => ⟨S64x100000x1, .i32⟩
  | 48 => ⟨S1, .i32⟩
  | 49 => ⟨S_, .i32⟩
  | 50 => ⟨S64x100000x1, .i32⟩
  | 51 => ⟨S64x100000x1, .i1⟩
  | 52 => ⟨S1x1x1, .i32⟩
  | 53 => ⟨S64x100000x1, .i32⟩
  | 54 => ⟨S64x100000x1, .i1⟩
  | 55 => ⟨S64x100000x1, .i1⟩
  | 56 => ⟨S_, .i1⟩
  | 57 => ⟨S64x100000, .i1⟩
  | 58 => ⟨S64x100000, .f32⟩
  | 59 => ⟨S_, .f32⟩
  | 60 => ⟨S64x100000, .f32⟩
  | 61 => ⟨S64x100000, .f32⟩
  | 62 => ⟨S_, .f32⟩
  | 63 => ⟨S64, .f32⟩
  | 64 => ⟨S_, .f32⟩
  | 65 => ⟨S64, .f32⟩
  | 66 => ⟨S64, .f32⟩
  | 67 => ⟨S64x1, .f32⟩
  | 68 => ⟨S64x100000, .f32⟩
  | 69 => ⟨S64x100000, .f32⟩
  | 70 => ⟨S64x100000, .f32⟩
  | 71 => ⟨S_, .f32⟩
  | 72 => ⟨S64, .f32⟩
  | 73 => ⟨S64x1, .f32⟩
  | 74 => ⟨S64x100000, .f32⟩
  | 75 => ⟨S64x100000, .f32⟩
  | 76 => ⟨S_, .f32⟩
  | 77 => ⟨S_, .f32⟩
  | 78 => ⟨S64x100000, .f32⟩
  | 79 => ⟨S64x100000, .f32⟩
  | 80 => ⟨S64x1, .f32⟩
  | 81 => ⟨S64x100000, .f32⟩
  | 82 => ⟨S64x100000, .i1⟩
  | 83 => ⟨S_, .i32⟩
  | 84 => ⟨S64, .i32⟩
  | 85 => ⟨S64, .i32⟩
  | 86 => ⟨S100000, .i32⟩
  | 87 => ⟨S1x100000, .i32⟩
  | 88 => ⟨S64x1, .i32⟩
  | 89 => ⟨S64x100000, .i32⟩
  | 90 => ⟨S64x100000, .i32⟩
  | 91 => ⟨S64x100000, .i1⟩
  | 92 => ⟨S64x100000, .i1⟩
  | 93 => ⟨S_, .f32⟩
  | 94 => ⟨S_, .f32⟩
  | 95 => ⟨S64x100000, .f32⟩
  | 96 => ⟨S64x100000, .f32⟩
  | 97 => ⟨S64x100000, .i32⟩
  | 98 => ⟨S64x100000, .i32⟩
  | 99 => ⟨S64x100000, .i32⟩
  | 100 => ⟨S_, .i32⟩
  | 101 => ⟨S64x100000, .i32⟩
  | 102 => ⟨S64x100000, .i1⟩
  | 103 => ⟨S_, .i32⟩
  | 104 => ⟨S64x100000, .i32⟩
  | 105 => ⟨S64x100000, .i32⟩
  | 106 => ⟨S64x100000, .i32⟩
  | 107 => ⟨S64x100000x1, .i32⟩
  | 108 => ⟨S1, .i32⟩
  | 109 => ⟨S_, .i32⟩
  | 110 => ⟨S64x100000x1, .i32⟩
  | 111 => ⟨S64x100000x1, .i1⟩
  | 112 => ⟨S1x1x1, .i32⟩
  | 113 => ⟨S64x100000x1, .i32⟩
  | 114 => ⟨S64x100000x1, .i1⟩
  | 115 => ⟨S64x100000x1, .i1⟩
  | 116 => ⟨S_, .i1⟩
  | 117 => ⟨S64x100000, .i1⟩
  | 118 => ⟨S64x100000, .f32⟩
  | 119 => ⟨S_, .f32⟩
  | 120 => ⟨S64x100000, .f32⟩
  | 121 => ⟨S64x100000, .f32⟩
  | 122 => ⟨S64x49, .f32⟩
  | 123 => ⟨S_, .f32⟩
  | 124 => ⟨S64, .f32⟩
  | 125 => ⟨S64x1, .f32⟩
  | 126 => ⟨S64x49, .f32⟩
  | 127 => ⟨S_, .f32⟩
  | _ => ⟨S100000x1024, .f32⟩

abbrev hbmTy0_1 (i : Nat) : BufTy := match i % 128 with
  | 0 => ⟨S64, .f32⟩
  | 1 => ⟨S64x1, .f32⟩
  | 2 => ⟨S64x1, .f32⟩
  | 3 => ⟨S64x100000, .f32⟩
  | 4 => ⟨S64x100000, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S_, .f32⟩
  | 16 => ⟨S_, .f32⟩
  | 17 => ⟨S_, .f32⟩
  | 18 => ⟨S1x1, .f32⟩
  | 19 => ⟨S1x1, .f32⟩
  | 20 => ⟨S1, .i32⟩
  | 21 => ⟨S_, .i32⟩
  | 22 => ⟨S1, .i32⟩
  | 23 => ⟨S_, .i32⟩
  | 24 => ⟨S64x100000, .i64⟩
  | 25 => ⟨S64x100000, .i64⟩
  | 26 => ⟨S_, .i64⟩
  | 27 => ⟨S64x100000, .i64⟩
  | 28 => ⟨S64x100000, .i64⟩
  | 29 => ⟨S_, .i64⟩
  | 30 => ⟨S64x100000, .i64⟩
  | 31 => ⟨S64x100000, .i64⟩
  | 32 => ⟨S64x100000, .i64⟩
  | 33 => ⟨S_, .i64⟩
  | 34 => ⟨S64x100000, .i64⟩
  | 35 => ⟨S64x100000, .i64⟩
  | 36 => ⟨S64x100000, .i32⟩
  | 37 => ⟨S64x100000, .i32⟩
  | 38 => ⟨S_, .i32⟩
  | 39 => ⟨S_, .i32⟩
  | 40 => ⟨S_, .i32⟩
  | 41 => ⟨S64x100000, .i32⟩
  | 42 => ⟨S64x100000, .i32⟩
  | 43 => ⟨S64x100000, .i32⟩
  | 44 => ⟨S64x100000, .i32⟩
  | 45 => ⟨S64x100000, .i32⟩
  | 46 => ⟨S_, .i32⟩
  | 47 => ⟨S64x100000, .i32⟩
  | 48 => ⟨S64x100000, .i32⟩
  | 49 => ⟨S_, .i32⟩
  | 50 => ⟨S64x100000, .i32⟩
  | 51 => ⟨S64x100000, .i32⟩
  | 52 => ⟨S64x100000, .i32⟩
  | 53 => ⟨S64x100000, .i32⟩
  | 54 => ⟨S64x100000, .i32⟩
  | 55 => ⟨S_, .i32⟩
  | 56 => ⟨S64x100000, .i32⟩
  | 57 => ⟨S64x100000, .i32⟩
  | 58 => ⟨S_, .i32⟩
  | 59 => ⟨S64x100000, .i32⟩
  | 60 => ⟨S64x100000, .i32⟩
  | 61 => ⟨S64x100000, .i32⟩
  | 62 => ⟨S64x100000, .i32⟩
  | 63 => ⟨S64x100000, .i32⟩
  | 64 => ⟨S_, .i32⟩
  | 65 => ⟨S64x100000, .i32⟩
  | 66 => ⟨S64x100000, .i32⟩
  | 67 => ⟨S_, .i32⟩
  | 68 => ⟨S64x100000, .i32⟩
  | 69 => ⟨S64x100000, .i32⟩
  | 70 => ⟨S64x100000, .i32⟩
  | 71 => ⟨S64x100000, .i32⟩
  | 72 => ⟨S64x100000, .i32⟩
  | 73 => ⟨S_, .i32⟩
  | 74 => ⟨S64x100000, .i32⟩
  | 75 => ⟨S64x100000, .i32⟩
  | 76 => ⟨S_, .i32⟩
  | 77 => ⟨S64x100000, .i32⟩
  | 78 => ⟨S64x100000, .i32⟩
  | 79 => ⟨S64x100000, .i32⟩
  | 80 => ⟨S64x100000, .i32⟩
  | 81 => ⟨S64x100000, .i32⟩
  | 82 => ⟨S64x100000, .i32⟩
  | 83 => ⟨S64x100000, .i32⟩
  | 84 => ⟨S64x100000, .i32⟩
  | 85 => ⟨S_, .i32⟩
  | 86 => ⟨S64x100000, .i32⟩
  | 87 => ⟨S64x100000, .i32⟩
  | 88 => ⟨S64x100000, .i32⟩
  | 89 => ⟨S_, .i32⟩
  | 90 => ⟨S64x100000, .i32⟩
  | 91 => ⟨S64x100000, .i32⟩
  | 92 => ⟨S_, .i32⟩
  | 93 => ⟨S64x100000, .i32⟩
  | 94 => ⟨S64x100000, .i32⟩
  | 95 => ⟨S64x100000, .i32⟩
  | 96 => ⟨S64x100000, .i32⟩
  | 97 => ⟨S64x100000, .i32⟩
  | 98 => ⟨S_, .i32⟩
  | 99 => ⟨S64x100000, .i32⟩
  | 100 => ⟨S64x100000, .i32⟩
  | 101 => ⟨S_, .i32⟩
  | 102 => ⟨S64x100000, .i32⟩
  | 103 => ⟨S64x100000, .i32⟩
  | 104 => ⟨S64x100000, .i32⟩
  | 105 => ⟨S64x100000, .i32⟩
  | 106 => ⟨S64x100000, .i32⟩
  | 107 => ⟨S_, .i32⟩
  | 108 => ⟨S64x100000, .i32⟩
  | 109 => ⟨S64x100000, .i32⟩
  | 110 => ⟨S_, .i32⟩
  | 111 => ⟨S64x100000, .i32⟩
  | 112 => ⟨S64x100000, .i32⟩
  | 113 => ⟨S64x100000, .i32⟩
  | 114 => ⟨S64x100000, .i32⟩
  | 115 => ⟨S64x100000, .i32⟩
  | 116 => ⟨S_, .i32⟩
  | 117 => ⟨S64x100000, .i32⟩
  | 118 => ⟨S64x100000, .i32⟩
  | 119 => ⟨S_, .i32⟩
  | 120 => ⟨S64x100000, .i32⟩
  | 121 => ⟨S64x100000, .i32⟩
  | 122 => ⟨S64x100000, .i32⟩
  | 123 => ⟨S64x100000, .i32⟩
  | 124 => ⟨S64x100000, .i32⟩
  | 125 => ⟨S64x100000, .i32⟩
  | 126 => ⟨S64x100000, .i32⟩
  | 127 => ⟨S64x100000, .i32⟩
  | _ => ⟨S100000x1024, .f32⟩

abbrev hbmTy0_2 (i : Nat) : BufTy := match i % 128 with
  | 0 => ⟨S_, .i32⟩
  | 1 => ⟨S64x100000, .i32⟩
  | 2 => ⟨S64x100000, .i32⟩
  | 3 => ⟨S64x100000, .i32⟩
  | 4 => ⟨S_, .i32⟩
  | 5 => ⟨S64x100000, .i32⟩
  | 6 => ⟨S64x100000, .i32⟩
  | 7 => ⟨S_, .i32⟩
  | 8 => ⟨S64x100000, .i32⟩
  | 9 => ⟨S64x100000, .i32⟩
  | 10 => ⟨S64x100000, .i32⟩
  | 11 => ⟨S64x100000, .i32⟩
  | 12 => ⟨S64x100000, .i32⟩
  | 13 => ⟨S_, .i32⟩
  | 14 => ⟨S64x100000, .i32⟩
  | 15 => ⟨S64x100000, .i32⟩
  | 16 => ⟨S_, .i32⟩
  | 17 => ⟨S64x100000, .i32⟩
  | 18 => ⟨S64x100000, .i32⟩
  | 19 => ⟨S64x100000, .i32⟩
  | 20 => ⟨S64x100000, .i32⟩
  | 21 => ⟨S64x100000, .i32⟩
  | 22 => ⟨S_, .i32⟩
  | 23 => ⟨S64x100000, .i32⟩
  | 24 => ⟨S64x100000, .i32⟩
  | 25 => ⟨S_, .i32⟩
  | 26 => ⟨S64x100000, .i32⟩
  | 27 => ⟨S64x100000, .i32⟩
  | 28 => ⟨S64x100000, .i32⟩
  | 29 => ⟨S64x100000, .i32⟩
  | 30 => ⟨S64x100000, .i32⟩
  | 31 => ⟨S_, .i32⟩
  | 32 => ⟨S64x100000, .i32⟩
  | 33 => ⟨S64x100000, .i32⟩
  | 34 => ⟨S_, .i32⟩
  | 35 => ⟨S64x100000, .i32⟩
  | 36 => ⟨S64x100000, .i32⟩
  | 37 => ⟨S64x100000, .i32⟩
  | 38 => ⟨S64x100000, .i32⟩
  | 39 => ⟨S64x100000, .i32⟩
  | 40 => ⟨S64x100000, .i32⟩
  | 41 => ⟨S64x100000, .i32⟩
  | 42 => ⟨S64x100000, .i32⟩
  | 43 => ⟨S_, .i32⟩
  | 44 => ⟨S64x100000, .i32⟩
  | 45 => ⟨S64x100000, .i32⟩
  | 46 => ⟨S64x100000, .i32⟩
  | 47 => ⟨S_, .i32⟩
  | 48 => ⟨S64x100000, .i32⟩
  | 49 => ⟨S64x100000, .i32⟩
  | 50 => ⟨S_, .i32⟩
  | 51 => ⟨S64x100000, .i32⟩
  | 52 => ⟨S64x100000, .i32⟩
  | 53 => ⟨S64x100000, .i32⟩
  | 54 => ⟨S64x100000, .i32⟩
  | 55 => ⟨S64x100000, .i32⟩
  | 56 => ⟨S_, .i32⟩
  | 57 => ⟨S64x100000, .i32⟩
  | 58 => ⟨S64x100000, .i32⟩
  | 59 => ⟨S_, .i32⟩
  | 60 => ⟨S64x100000, .i32⟩
  | 61 => ⟨S64x100000, .i32⟩
  | 62 => ⟨S64x100000, .i32⟩
  | 63 => ⟨S64x100000, .i32⟩
  | 64 => ⟨S64x100000, .i32⟩
  | 65 => ⟨S_, .i32⟩
  | 66 => ⟨S64x100000, .i32⟩
  | 67 => ⟨S64x100000, .i32⟩
  | 68 => ⟨S_, .i32⟩
  | 69 => ⟨S64x100000, .i32⟩
  | 70 => ⟨S64x100000, .i32⟩
  | 71 => ⟨S64x100000, .i32⟩
  | 72 => ⟨S64x100000, .i32⟩
  | 73 => ⟨S64x100000, .i32⟩
  | 74 => ⟨S_, .i32⟩
  | 75 => ⟨S64x100000, .i32⟩
  | 76 => ⟨S64x100000, .i32⟩
  | 77 => ⟨S_, .i32⟩
  | 78 => ⟨S64x100000, .i32⟩
  | 79 => ⟨S64x100000, .i32⟩
  | 80 => ⟨S64x100000, .i32⟩
  | 81 => ⟨S64x100000, .i32⟩
  | 82 => ⟨S64x100000, .i32⟩
  | 83 => ⟨S64x100000, .i32⟩
  | 84 => ⟨S64x100000, .i32⟩
  | 85 => ⟨S64x100000, .i32⟩
  | 86 => ⟨S_, .i32⟩
  | 87 => ⟨S64x100000, .i32⟩
  | 88 => ⟨S64x100000, .i32⟩
  | 89 => ⟨S64x100000, .i32⟩
  | 90 => ⟨S_, .i32⟩
  | 91 => ⟨S64x100000, .i32⟩
  | 92 => ⟨S64x100000, .i32⟩
  | 93 => ⟨S_, .i32⟩
  | 94 => ⟨S64x100000, .i32⟩
  | 95 => ⟨S64x100000, .i32⟩
  | 96 => ⟨S64x100000, .i32⟩
  | 97 => ⟨S64x100000, .i32⟩
  | 98 => ⟨S64x100000, .i32⟩
  | 99 => ⟨S_, .i32⟩
  | 100 => ⟨S64x100000, .i32⟩
  | 101 => ⟨S64x100000, .i32⟩
  | 102 => ⟨S_, .i32⟩
  | 103 => ⟨S64x100000, .i32⟩
  | 104 => ⟨S64x100000, .i32⟩
  | 105 => ⟨S64x100000, .i32⟩
  | 106 => ⟨S64x100000, .i32⟩
  | 107 => ⟨S64x100000, .i32⟩
  | 108 => ⟨S_, .i32⟩
  | 109 => ⟨S64x100000, .i32⟩
  | 110 => ⟨S64x100000, .i32⟩
  | 111 => ⟨S_, .i32⟩
  | 112 => ⟨S64x100000, .i32⟩
  | 113 => ⟨S64x100000, .i32⟩
  | 114 => ⟨S64x100000, .i32⟩
  | 115 => ⟨S64x100000, .i32⟩
  | 116 => ⟨S64x100000, .i32⟩
  | 117 => ⟨S_, .i32⟩
  | 118 => ⟨S64x100000, .i32⟩
  | 119 => ⟨S64x100000, .i32⟩
  | 120 => ⟨S_, .i32⟩
  | 121 => ⟨S64x100000, .i32⟩
  | 122 => ⟨S64x100000, .i32⟩
  | 123 => ⟨S64x100000, .i32⟩
  | 124 => ⟨S64x100000, .i32⟩
  | 125 => ⟨S64x100000, .i32⟩
  | 126 => ⟨S64x100000, .i32⟩
  | 127 => ⟨S64x100000, .i32⟩
  | _ => ⟨S100000x1024, .f32⟩

abbrev hbmTy0_3 (i : Nat) : BufTy := match i % 128 with
  | 0 => ⟨S64x100000, .i32⟩
  | 1 => ⟨S_, .i32⟩
  | 2 => ⟨S64x100000, .i32⟩
  | 3 => ⟨S64x100000, .i32⟩
  | 4 => ⟨S64x100000, .i32⟩
  | 5 => ⟨S_, .i32⟩
  | 6 => ⟨S64x100000, .i32⟩
  | 7 => ⟨S64x100000, .i32⟩
  | 8 => ⟨S_, .i32⟩
  | 9 => ⟨S64x100000, .i32⟩
  | 10 => ⟨S64x100000, .i32⟩
  | 11 => ⟨S64x100000, .f32⟩
  | 12 => ⟨S_, .f32⟩
  | 13 => ⟨S64x100000, .f32⟩
  | 14 => ⟨S64x100000, .f32⟩
  | 15 => ⟨S1x1, .f32⟩
  | 16 => ⟨S64x100000, .f32⟩
  | 17 => ⟨S64x100000, .f32⟩
  | 18 => ⟨S64x100000, .f32⟩
  | 19 => ⟨S64x100000, .f32⟩
  | 20 => ⟨S64x100000, .f32⟩
  | 21 => ⟨S64x100000, .f32⟩
  | 22 => ⟨S64x100000, .f32⟩
  | 23 => ⟨S64x100000, .f32⟩
  | 24 => ⟨S64x100000, .f32⟩
  | 25 => ⟨S64x100000, .f32⟩
  | 26 => ⟨S64x100000, .f32⟩
  | 27 => ⟨S64x100000, .i32⟩
  | 28 => ⟨S_, .f32⟩
  | 29 => ⟨S_, .i32⟩
  | 30 => ⟨S64, .f32⟩
  | 31 => ⟨S64, .i32⟩
  | _ => ⟨S100000x1024, .f32⟩

abbrev hbmTy (i : Nat) : BufTy := match i / 128 with
  | 0 => hbmTy0_0 i
  | 1 => hbmTy0_1 i
  | 2 => hbmTy0_2 i
  | 3 => hbmTy0_3 i
  | _ => ⟨S100000x1024, .f32⟩

abbrev bufTy : (tb : Table) → Fin (tcTables nBuf tb) → BufTy
  | .hbm, ⟨i, _⟩ => hbmTy i
  | .local _ .vmem, ⟨0, _⟩ => ⟨S64x1024, .f32⟩
  | .local _ .vmem, ⟨1, _⟩ => ⟨S2048x1024, .f32⟩
  | .local _ .vmem, ⟨2, _⟩ => ⟨S2048x1024, .f32⟩
  | .local _ .vmem, ⟨3, _⟩ => ⟨S64x50, .i32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x49, .f32⟩
  | .local _ .vmem, ⟨12, _⟩ => ⟨S64x2048, .f32⟩
  | .local _ .vmem, ⟨13, _⟩ => ⟨S64x2048, .f32⟩
  | .local _ .vmem, ⟨14, _⟩ => ⟨S64x1, .f32⟩
  | .local _ .vmem, ⟨15, _⟩ => ⟨S64x49, .f32⟩
  | .local _ .vmem, ⟨16, _⟩ => ⟨S64x2048, .f32⟩
  | .local _ .vmem, ⟨17, _⟩ => ⟨S64x2048, .f32⟩
  | .local _ .vmem, ⟨18, _⟩ => ⟨S64x1, .f32⟩
  | .local _ .vmem, ⟨19, _⟩ => ⟨S64x1, .f32⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | .local _ .vmem, ⟨23, _⟩ => ⟨S64x2048, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_call1_v0 : Ref sig .tc := ⟨.hbm, 37, rfl⟩
abbrev main_call1_v1_0 : Ref sig .tc := ⟨.hbm, 38, rfl⟩
abbrev main_v6 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v7 : Ref sig .tc := ⟨.hbm, 61, rfl⟩
abbrev main_cst : Ref sig .tc := ⟨.hbm, 62, rfl⟩
abbrev main_v8 : Ref sig .tc := ⟨.hbm, 63, rfl⟩
abbrev main_cst_0 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_cst_1 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_call3_call0_cst : Ref sig .tc := ⟨.hbm, 76, rfl⟩
abbrev main_call3_call0_v0 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_c : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_cst_2 : Ref sig .tc := ⟨.hbm, 93, rfl⟩
abbrev main_call4_v0 : Ref sig .tc := ⟨.hbm, 94, rfl⟩
abbrev main_call4_v1 : Ref sig .tc := ⟨.hbm, 95, rfl⟩
abbrev main_v33 : Ref sig .tc := ⟨.hbm, 96, rfl⟩
abbrev main_call5_v0 : Ref sig .tc := ⟨.hbm, 97, rfl⟩
abbrev main_call5_v1_0 : Ref sig .tc := ⟨.hbm, 98, rfl⟩
abbrev main_v34 : Ref sig .tc := ⟨.hbm, 99, rfl⟩
abbrev main_call6_c : Ref sig .tc := ⟨.hbm, 100, rfl⟩
abbrev main_call6_v0 : Ref sig .tc := ⟨.hbm, 101, rfl⟩
abbrev main_call6_v1 : Ref sig .tc := ⟨.hbm, 102, rfl⟩
abbrev main_call6_c_0 : Ref sig .tc := ⟨.hbm, 103, rfl⟩
abbrev main_call6_v2 : Ref sig .tc := ⟨.hbm, 104, rfl⟩
abbrev main_call6_v3 : Ref sig .tc := ⟨.hbm, 105, rfl⟩
abbrev main_call6_v4 : Ref sig .tc := ⟨.hbm, 106, rfl⟩
abbrev main_call6_v5 : Ref sig .tc := ⟨.hbm, 107, rfl⟩
abbrev main_call6_c_1 : Ref sig .tc := ⟨.hbm, 108, rfl⟩
abbrev main_call6_c_2 : Ref sig .tc := ⟨.hbm, 109, rfl⟩
abbrev main_call6_v6 : Ref sig .tc := ⟨.hbm, 110, rfl⟩
abbrev main_call6_v7 : Ref sig .tc := ⟨.hbm, 111, rfl⟩
abbrev main_call6_v8 : Ref sig .tc := ⟨.hbm, 112, rfl⟩
abbrev main_call6_v9 : Ref sig .tc := ⟨.hbm, 113, rfl⟩
abbrev main_call6_v10 : Ref sig .tc := ⟨.hbm, 114, rfl⟩
abbrev main_call6_v11 : Ref sig .tc := ⟨.hbm, 115, rfl⟩
abbrev main_call6_c_3 : Ref sig .tc := ⟨.hbm, 116, rfl⟩
abbrev main_call6_v12 : Ref sig .tc := ⟨.hbm, 117, rfl⟩
abbrev main_call6_v13 : Ref sig .tc := ⟨.hbm, 118, rfl⟩
abbrev main_call6_cst : Ref sig .tc := ⟨.hbm, 119, rfl⟩
abbrev main_call6_v14 : Ref sig .tc := ⟨.hbm, 120, rfl⟩
abbrev main_v35 : Ref sig .tc := ⟨.hbm, 121, rfl⟩
abbrev main_v36 : Ref sig .tc := ⟨.hbm, 122, rfl⟩
abbrev main_cst_3 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_cst_4 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43_0 : Ref sig .tc := ⟨.hbm, 131, rfl⟩
abbrev main_v43_1 : Ref sig .tc := ⟨.hbm, 132, rfl⟩
abbrev main_c_5 : Ref sig .tc := ⟨.hbm, 133, rfl⟩
abbrev main_c_6 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_c_7 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_call7_cst : Ref sig .tc := ⟨.hbm, 143, rfl⟩
abbrev main_call7_cst_0 : Ref sig .tc := ⟨.hbm, 144, rfl⟩
abbrev main_call7_call0_v0 : Ref sig .tc := ⟨.hbm, 145, rfl⟩
abbrev main_call7_call0_v1 : Ref sig .tc := ⟨.hbm, 146, rfl⟩
abbrev main_call7_call0_v2 : Ref sig .tc := ⟨.hbm, 147, rfl⟩
abbrev main_call7_call0_v3 : Ref sig .tc := ⟨.hbm, 148, rfl⟩
abbrev main_call7_call0_v4 : Ref sig .tc := ⟨.hbm, 149, rfl⟩
abbrev main_call7_call0_v5 : Ref sig .tc := ⟨.hbm, 150, rfl⟩
abbrev main_call7_call0_v6 : Ref sig .tc := ⟨.hbm, 151, rfl⟩
abbrev main_call7_call0_v7 : Ref sig .tc := ⟨.hbm, 152, rfl⟩
abbrev main_call7_call0_v8 : Ref sig .tc := ⟨.hbm, 153, rfl⟩
abbrev main_call7_call0_c : Ref sig .tc := ⟨.hbm, 154, rfl⟩
abbrev main_call7_call0_v9 : Ref sig .tc := ⟨.hbm, 155, rfl⟩
abbrev main_call7_call0_v10 : Ref sig .tc := ⟨.hbm, 156, rfl⟩
abbrev main_call7_call0_c_0 : Ref sig .tc := ⟨.hbm, 157, rfl⟩
abbrev main_call7_call0_v11 : Ref sig .tc := ⟨.hbm, 158, rfl⟩
abbrev main_call7_call0_v12 : Ref sig .tc := ⟨.hbm, 159, rfl⟩
abbrev main_call7_call0_v13 : Ref sig .tc := ⟨.hbm, 160, rfl⟩
abbrev main_call7_call0_c_1 : Ref sig .tc := ⟨.hbm, 161, rfl⟩
abbrev main_call7_call0_v14 : Ref sig .tc := ⟨.hbm, 162, rfl⟩
abbrev main_call7_call0_v15 : Ref sig .tc := ⟨.hbm, 163, rfl⟩
abbrev main_call7_call0_v16 : Ref sig .tc := ⟨.hbm, 164, rfl⟩
abbrev main_call7_call0_v17 : Ref sig .tc := ⟨.hbm, 165, rfl⟩
abbrev main_call7_call0_call0_v0 : Ref sig .tc := ⟨.hbm, 166, rfl⟩
abbrev main_call7_call0_call0_c : Ref sig .tc := ⟨.hbm, 167, rfl⟩
abbrev main_call7_call0_call0_v1 : Ref sig .tc := ⟨.hbm, 168, rfl⟩
abbrev main_call7_call0_call0_v2 : Ref sig .tc := ⟨.hbm, 169, rfl⟩
abbrev main_call7_call0_call0_v3 : Ref sig .tc := ⟨.hbm, 170, rfl⟩
abbrev main_call7_call0_call0_v4 : Ref sig .tc := ⟨.hbm, 171, rfl⟩
abbrev main_call7_call0_call0_v5 : Ref sig .tc := ⟨.hbm, 172, rfl⟩
abbrev main_call7_call0_call0_v6 : Ref sig .tc := ⟨.hbm, 173, rfl⟩
abbrev main_call7_call0_call0_c_0 : Ref sig .tc := ⟨.hbm, 174, rfl⟩
abbrev main_call7_call0_call0_v7 : Ref sig .tc := ⟨.hbm, 175, rfl⟩
abbrev main_call7_call0_call0_v8 : Ref sig .tc := ⟨.hbm, 176, rfl⟩
abbrev main_call7_call0_call0_c_1 : Ref sig .tc := ⟨.hbm, 177, rfl⟩
abbrev main_call7_call0_call0_v9 : Ref sig .tc := ⟨.hbm, 178, rfl⟩
abbrev main_call7_call0_call0_v10 : Ref sig .tc := ⟨.hbm, 179, rfl⟩
abbrev main_call7_call0_call0_v11 : Ref sig .tc := ⟨.hbm, 180, rfl⟩
abbrev main_call7_call0_call0_v12 : Ref sig .tc := ⟨.hbm, 181, rfl⟩
abbrev main_call7_call0_call0_v13 : Ref sig .tc := ⟨.hbm, 182, rfl⟩
abbrev main_call7_call0_call0_c_2 : Ref sig .tc := ⟨.hbm, 183, rfl⟩
abbrev main_call7_call0_call0_v14 : Ref sig .tc := ⟨.hbm, 184, rfl⟩
abbrev main_call7_call0_call0_v15 : Ref sig .tc := ⟨.hbm, 185, rfl⟩
abbrev main_call7_call0_call0_c_3 : Ref sig .tc := ⟨.hbm, 186, rfl⟩
abbrev main_call7_call0_call0_v16 : Ref sig .tc := ⟨.hbm, 187, rfl⟩
abbrev main_call7_call0_call0_v17 : Ref sig .tc := ⟨.hbm, 188, rfl⟩
abbrev main_call7_call0_call0_v18 : Ref sig .tc := ⟨.hbm, 189, rfl⟩
abbrev main_call7_call0_call0_v19 : Ref sig .tc := ⟨.hbm, 190, rfl⟩
abbrev main_call7_call0_call0_v20 : Ref sig .tc := ⟨.hbm, 191, rfl⟩
abbrev main_call7_call0_call0_c_4 : Ref sig .tc := ⟨.hbm, 192, rfl⟩
abbrev main_call7_call0_call0_v21 : Ref sig .tc := ⟨.hbm, 193, rfl⟩
abbrev main_call7_call0_call0_v22 : Ref sig .tc := ⟨.hbm, 194, rfl⟩
abbrev main_call7_call0_call0_c_5 : Ref sig .tc := ⟨.hbm, 195, rfl⟩
abbrev main_call7_call0_call0_v23 : Ref sig .tc := ⟨.hbm, 196, rfl⟩
abbrev main_call7_call0_call0_v24 : Ref sig .tc := ⟨.hbm, 197, rfl⟩
abbrev main_call7_call0_call0_v25 : Ref sig .tc := ⟨.hbm, 198, rfl⟩
abbrev main_call7_call0_call0_v26 : Ref sig .tc := ⟨.hbm, 199, rfl⟩
abbrev main_call7_call0_call0_v27 : Ref sig .tc := ⟨.hbm, 200, rfl⟩
abbrev main_call7_call0_call0_c_6 : Ref sig .tc := ⟨.hbm, 201, rfl⟩
abbrev main_call7_call0_call0_v28 : Ref sig .tc := ⟨.hbm, 202, rfl⟩
abbrev main_call7_call0_call0_v29 : Ref sig .tc := ⟨.hbm, 203, rfl⟩
abbrev main_call7_call0_call0_c_7 : Ref sig .tc := ⟨.hbm, 204, rfl⟩
abbrev main_call7_call0_call0_v30 : Ref sig .tc := ⟨.hbm, 205, rfl⟩
abbrev main_call7_call0_call0_v31 : Ref sig .tc := ⟨.hbm, 206, rfl⟩
abbrev main_call7_call0_call0_v32 : Ref sig .tc := ⟨.hbm, 207, rfl⟩
abbrev main_call7_call0_call0_v33 : Ref sig .tc := ⟨.hbm, 208, rfl⟩
abbrev main_call7_call0_call0_v34 : Ref sig .tc := ⟨.hbm, 209, rfl⟩
abbrev main_call7_call0_call0_v35 : Ref sig .tc := ⟨.hbm, 210, rfl⟩
abbrev main_call7_call0_call0_v36 : Ref sig .tc := ⟨.hbm, 211, rfl⟩
abbrev main_call7_call0_call0_v37 : Ref sig .tc := ⟨.hbm, 212, rfl⟩
abbrev main_call7_call0_call0_c_8 : Ref sig .tc := ⟨.hbm, 213, rfl⟩
abbrev main_call7_call0_call0_v38 : Ref sig .tc := ⟨.hbm, 214, rfl⟩
abbrev main_call7_call0_call0_v39 : Ref sig .tc := ⟨.hbm, 215, rfl⟩
abbrev main_call7_call0_call0_v40 : Ref sig .tc := ⟨.hbm, 216, rfl⟩
abbrev main_call7_call0_call0_c_9 : Ref sig .tc := ⟨.hbm, 217, rfl⟩
abbrev main_call7_call0_call0_v41 : Ref sig .tc := ⟨.hbm, 218, rfl⟩
abbrev main_call7_call0_call0_v42 : Ref sig .tc := ⟨.hbm, 219, rfl⟩
abbrev main_call7_call0_call0_c_10 : Ref sig .tc := ⟨.hbm, 220, rfl⟩
abbrev main_call7_call0_call0_v43 : Ref sig .tc := ⟨.hbm, 221, rfl⟩
abbrev main_call7_call0_call0_v44 : Ref sig .tc := ⟨.hbm, 222, rfl⟩
abbrev main_call7_call0_call0_v45 : Ref sig .tc := ⟨.hbm, 223, rfl⟩
abbrev main_call7_call0_call0_v46 : Ref sig .tc := ⟨.hbm, 224, rfl⟩
abbrev main_call7_call0_call0_v47 : Ref sig .tc := ⟨.hbm, 225, rfl⟩
abbrev main_call7_call0_call0_c_11 : Ref sig .tc := ⟨.hbm, 226, rfl⟩
abbrev main_call7_call0_call0_v48 : Ref sig .tc := ⟨.hbm, 227, rfl⟩
abbrev main_call7_call0_call0_v49 : Ref sig .tc := ⟨.hbm, 228, rfl⟩
abbrev main_call7_call0_call0_c_12 : Ref sig .tc := ⟨.hbm, 229, rfl⟩
abbrev main_call7_call0_call0_v50 : Ref sig .tc := ⟨.hbm, 230, rfl⟩
abbrev main_call7_call0_call0_v51 : Ref sig .tc := ⟨.hbm, 231, rfl⟩
abbrev main_call7_call0_call0_v52 : Ref sig .tc := ⟨.hbm, 232, rfl⟩
abbrev main_call7_call0_call0_v53 : Ref sig .tc := ⟨.hbm, 233, rfl⟩
abbrev main_call7_call0_call0_v54 : Ref sig .tc := ⟨.hbm, 234, rfl⟩
abbrev main_call7_call0_call0_c_13 : Ref sig .tc := ⟨.hbm, 235, rfl⟩
abbrev main_call7_call0_call0_v55 : Ref sig .tc := ⟨.hbm, 236, rfl⟩
abbrev main_call7_call0_call0_v56 : Ref sig .tc := ⟨.hbm, 237, rfl⟩
abbrev main_call7_call0_call0_c_14 : Ref sig .tc := ⟨.hbm, 238, rfl⟩
abbrev main_call7_call0_call0_v57 : Ref sig .tc := ⟨.hbm, 239, rfl⟩
abbrev main_call7_call0_call0_v58 : Ref sig .tc := ⟨.hbm, 240, rfl⟩
abbrev main_call7_call0_call0_v59 : Ref sig .tc := ⟨.hbm, 241, rfl⟩
abbrev main_call7_call0_call0_v60 : Ref sig .tc := ⟨.hbm, 242, rfl⟩
abbrev main_call7_call0_call0_v61 : Ref sig .tc := ⟨.hbm, 243, rfl⟩
abbrev main_call7_call0_call0_c_15 : Ref sig .tc := ⟨.hbm, 244, rfl⟩
abbrev main_call7_call0_call0_v62 : Ref sig .tc := ⟨.hbm, 245, rfl⟩
abbrev main_call7_call0_call0_v63 : Ref sig .tc := ⟨.hbm, 246, rfl⟩
abbrev main_call7_call0_call0_c_16 : Ref sig .tc := ⟨.hbm, 247, rfl⟩
abbrev main_call7_call0_call0_v64 : Ref sig .tc := ⟨.hbm, 248, rfl⟩
abbrev main_call7_call0_call0_v65 : Ref sig .tc := ⟨.hbm, 249, rfl⟩
abbrev main_call7_call0_call0_v66 : Ref sig .tc := ⟨.hbm, 250, rfl⟩
abbrev main_call7_call0_call0_v67 : Ref sig .tc := ⟨.hbm, 251, rfl⟩
abbrev main_call7_call0_call0_v68 : Ref sig .tc := ⟨.hbm, 252, rfl⟩
abbrev main_call7_call0_call0_v69 : Ref sig .tc := ⟨.hbm, 253, rfl⟩
abbrev main_call7_call0_call0_v70 : Ref sig .tc := ⟨.hbm, 254, rfl⟩
abbrev main_call7_call0_call0_v71 : Ref sig .tc := ⟨.hbm, 255, rfl⟩
abbrev main_call7_call0_call0_c_17 : Ref sig .tc := ⟨.hbm, 256, rfl⟩
abbrev main_call7_call0_call0_v72 : Ref sig .tc := ⟨.hbm, 257, rfl⟩
abbrev main_call7_call0_call0_v73 : Ref sig .tc := ⟨.hbm, 258, rfl⟩
abbrev main_call7_call0_call0_v74 : Ref sig .tc := ⟨.hbm, 259, rfl⟩
abbrev main_call7_call0_call0_c_18 : Ref sig .tc := ⟨.hbm, 260, rfl⟩
abbrev main_call7_call0_call0_v75 : Ref sig .tc := ⟨.hbm, 261, rfl⟩
abbrev main_call7_call0_call0_v76 : Ref sig .tc := ⟨.hbm, 262, rfl⟩
abbrev main_call7_call0_call0_c_19 : Ref sig .tc := ⟨.hbm, 263, rfl⟩
abbrev main_call7_call0_call0_v77 : Ref sig .tc := ⟨.hbm, 264, rfl⟩
abbrev main_call7_call0_call0_v78 : Ref sig .tc := ⟨.hbm, 265, rfl⟩
abbrev main_call7_call0_call0_v79 : Ref sig .tc := ⟨.hbm, 266, rfl⟩
abbrev main_call7_call0_call0_v80 : Ref sig .tc := ⟨.hbm, 267, rfl⟩
abbrev main_call7_call0_call0_v81 : Ref sig .tc := ⟨.hbm, 268, rfl⟩
abbrev main_call7_call0_call0_c_20 : Ref sig .tc := ⟨.hbm, 269, rfl⟩
abbrev main_call7_call0_call0_v82 : Ref sig .tc := ⟨.hbm, 270, rfl⟩
abbrev main_call7_call0_call0_v83 : Ref sig .tc := ⟨.hbm, 271, rfl⟩
abbrev main_call7_call0_call0_c_21 : Ref sig .tc := ⟨.hbm, 272, rfl⟩
abbrev main_call7_call0_call0_v84 : Ref sig .tc := ⟨.hbm, 273, rfl⟩
abbrev main_call7_call0_call0_v85 : Ref sig .tc := ⟨.hbm, 274, rfl⟩
abbrev main_call7_call0_call0_v86 : Ref sig .tc := ⟨.hbm, 275, rfl⟩
abbrev main_call7_call0_call0_v87 : Ref sig .tc := ⟨.hbm, 276, rfl⟩
abbrev main_call7_call0_call0_v88 : Ref sig .tc := ⟨.hbm, 277, rfl⟩
abbrev main_call7_call0_call0_c_22 : Ref sig .tc := ⟨.hbm, 278, rfl⟩
abbrev main_call7_call0_call0_v89 : Ref sig .tc := ⟨.hbm, 279, rfl⟩
abbrev main_call7_call0_call0_v90 : Ref sig .tc := ⟨.hbm, 280, rfl⟩
abbrev main_call7_call0_call0_c_23 : Ref sig .tc := ⟨.hbm, 281, rfl⟩
abbrev main_call7_call0_call0_v91 : Ref sig .tc := ⟨.hbm, 282, rfl⟩
abbrev main_call7_call0_call0_v92 : Ref sig .tc := ⟨.hbm, 283, rfl⟩
abbrev main_call7_call0_call0_v93 : Ref sig .tc := ⟨.hbm, 284, rfl⟩
abbrev main_call7_call0_call0_v94 : Ref sig .tc := ⟨.hbm, 285, rfl⟩
abbrev main_call7_call0_call0_v95 : Ref sig .tc := ⟨.hbm, 286, rfl⟩
abbrev main_call7_call0_call0_c_24 : Ref sig .tc := ⟨.hbm, 287, rfl⟩
abbrev main_call7_call0_call0_v96 : Ref sig .tc := ⟨.hbm, 288, rfl⟩
abbrev main_call7_call0_call0_v97 : Ref sig .tc := ⟨.hbm, 289, rfl⟩
abbrev main_call7_call0_call0_c_25 : Ref sig .tc := ⟨.hbm, 290, rfl⟩
abbrev main_call7_call0_call0_v98 : Ref sig .tc := ⟨.hbm, 291, rfl⟩
abbrev main_call7_call0_call0_v99 : Ref sig .tc := ⟨.hbm, 292, rfl⟩
abbrev main_call7_call0_call0_v100 : Ref sig .tc := ⟨.hbm, 293, rfl⟩
abbrev main_call7_call0_call0_v101 : Ref sig .tc := ⟨.hbm, 294, rfl⟩
abbrev main_call7_call0_call0_v102 : Ref sig .tc := ⟨.hbm, 295, rfl⟩
abbrev main_call7_call0_call0_v103 : Ref sig .tc := ⟨.hbm, 296, rfl⟩
abbrev main_call7_call0_call0_v104 : Ref sig .tc := ⟨.hbm, 297, rfl⟩
abbrev main_call7_call0_call0_v105 : Ref sig .tc := ⟨.hbm, 298, rfl⟩
abbrev main_call7_call0_call0_c_26 : Ref sig .tc := ⟨.hbm, 299, rfl⟩
abbrev main_call7_call0_call0_v106 : Ref sig .tc := ⟨.hbm, 300, rfl⟩
abbrev main_call7_call0_call0_v107 : Ref sig .tc := ⟨.hbm, 301, rfl⟩
abbrev main_call7_call0_call0_v108 : Ref sig .tc := ⟨.hbm, 302, rfl⟩
abbrev main_call7_call0_call0_c_27 : Ref sig .tc := ⟨.hbm, 303, rfl⟩
abbrev main_call7_call0_call0_v109 : Ref sig .tc := ⟨.hbm, 304, rfl⟩
abbrev main_call7_call0_call0_v110 : Ref sig .tc := ⟨.hbm, 305, rfl⟩
abbrev main_call7_call0_call0_c_28 : Ref sig .tc := ⟨.hbm, 306, rfl⟩
abbrev main_call7_call0_call0_v111 : Ref sig .tc := ⟨.hbm, 307, rfl⟩
abbrev main_call7_call0_call0_v112 : Ref sig .tc := ⟨.hbm, 308, rfl⟩
abbrev main_call7_call0_call0_v113 : Ref sig .tc := ⟨.hbm, 309, rfl⟩
abbrev main_call7_call0_call0_v114 : Ref sig .tc := ⟨.hbm, 310, rfl⟩
abbrev main_call7_call0_call0_v115 : Ref sig .tc := ⟨.hbm, 311, rfl⟩
abbrev main_call7_call0_call0_c_29 : Ref sig .tc := ⟨.hbm, 312, rfl⟩
abbrev main_call7_call0_call0_v116 : Ref sig .tc := ⟨.hbm, 313, rfl⟩
abbrev main_call7_call0_call0_v117 : Ref sig .tc := ⟨.hbm, 314, rfl⟩
abbrev main_call7_call0_call0_c_30 : Ref sig .tc := ⟨.hbm, 315, rfl⟩
abbrev main_call7_call0_call0_v118 : Ref sig .tc := ⟨.hbm, 316, rfl⟩
abbrev main_call7_call0_call0_v119 : Ref sig .tc := ⟨.hbm, 317, rfl⟩
abbrev main_call7_call0_call0_v120 : Ref sig .tc := ⟨.hbm, 318, rfl⟩
abbrev main_call7_call0_call0_v121 : Ref sig .tc := ⟨.hbm, 319, rfl⟩
abbrev main_call7_call0_call0_v122 : Ref sig .tc := ⟨.hbm, 320, rfl⟩
abbrev main_call7_call0_call0_c_31 : Ref sig .tc := ⟨.hbm, 321, rfl⟩
abbrev main_call7_call0_call0_v123 : Ref sig .tc := ⟨.hbm, 322, rfl⟩
abbrev main_call7_call0_call0_v124 : Ref sig .tc := ⟨.hbm, 323, rfl⟩
abbrev main_call7_call0_call0_c_32 : Ref sig .tc := ⟨.hbm, 324, rfl⟩
abbrev main_call7_call0_call0_v125 : Ref sig .tc := ⟨.hbm, 325, rfl⟩
abbrev main_call7_call0_call0_v126 : Ref sig .tc := ⟨.hbm, 326, rfl⟩
abbrev main_call7_call0_call0_v127 : Ref sig .tc := ⟨.hbm, 327, rfl⟩
abbrev main_call7_call0_call0_v128 : Ref sig .tc := ⟨.hbm, 328, rfl⟩
abbrev main_call7_call0_call0_v129 : Ref sig .tc := ⟨.hbm, 329, rfl⟩
abbrev main_call7_call0_call0_c_33 : Ref sig .tc := ⟨.hbm, 330, rfl⟩
abbrev main_call7_call0_call0_v130 : Ref sig .tc := ⟨.hbm, 331, rfl⟩
abbrev main_call7_call0_call0_v131 : Ref sig .tc := ⟨.hbm, 332, rfl⟩
abbrev main_call7_call0_call0_c_34 : Ref sig .tc := ⟨.hbm, 333, rfl⟩
abbrev main_call7_call0_call0_v132 : Ref sig .tc := ⟨.hbm, 334, rfl⟩
abbrev main_call7_call0_call0_v133 : Ref sig .tc := ⟨.hbm, 335, rfl⟩
abbrev main_call7_call0_call0_v134 : Ref sig .tc := ⟨.hbm, 336, rfl⟩
abbrev main_call7_call0_call0_v135 : Ref sig .tc := ⟨.hbm, 337, rfl⟩
abbrev main_call7_call0_call0_v136 : Ref sig .tc := ⟨.hbm, 338, rfl⟩
abbrev main_call7_call0_call0_v137 : Ref sig .tc := ⟨.hbm, 339, rfl⟩
abbrev main_call7_call0_call0_v138 : Ref sig .tc := ⟨.hbm, 340, rfl⟩
abbrev main_call7_call0_call0_v139 : Ref sig .tc := ⟨.hbm, 341, rfl⟩
abbrev main_call7_call0_call0_c_35 : Ref sig .tc := ⟨.hbm, 342, rfl⟩
abbrev main_call7_call0_call0_v140 : Ref sig .tc := ⟨.hbm, 343, rfl⟩
abbrev main_call7_call0_call0_v141 : Ref sig .tc := ⟨.hbm, 344, rfl⟩
abbrev main_call7_call0_call0_v142 : Ref sig .tc := ⟨.hbm, 345, rfl⟩
abbrev main_call7_call0_call0_c_36 : Ref sig .tc := ⟨.hbm, 346, rfl⟩
abbrev main_call7_call0_call0_v143 : Ref sig .tc := ⟨.hbm, 347, rfl⟩
abbrev main_call7_call0_call0_v144 : Ref sig .tc := ⟨.hbm, 348, rfl⟩
abbrev main_call7_call0_call0_c_37 : Ref sig .tc := ⟨.hbm, 349, rfl⟩
abbrev main_call7_call0_call0_v145 : Ref sig .tc := ⟨.hbm, 350, rfl⟩
abbrev main_call7_call0_call0_v146 : Ref sig .tc := ⟨.hbm, 351, rfl⟩
abbrev main_call7_call0_call0_v147 : Ref sig .tc := ⟨.hbm, 352, rfl⟩
abbrev main_call7_call0_call0_v148 : Ref sig .tc := ⟨.hbm, 353, rfl⟩
abbrev main_call7_call0_call0_v149 : Ref sig .tc := ⟨.hbm, 354, rfl⟩
abbrev main_call7_call0_call0_c_38 : Ref sig .tc := ⟨.hbm, 355, rfl⟩
abbrev main_call7_call0_call0_v150 : Ref sig .tc := ⟨.hbm, 356, rfl⟩
abbrev main_call7_call0_call0_v151 : Ref sig .tc := ⟨.hbm, 357, rfl⟩
abbrev main_call7_call0_call0_c_39 : Ref sig .tc := ⟨.hbm, 358, rfl⟩
abbrev main_call7_call0_call0_v152 : Ref sig .tc := ⟨.hbm, 359, rfl⟩
abbrev main_call7_call0_call0_v153 : Ref sig .tc := ⟨.hbm, 360, rfl⟩
abbrev main_call7_call0_call0_v154 : Ref sig .tc := ⟨.hbm, 361, rfl⟩
abbrev main_call7_call0_call0_v155 : Ref sig .tc := ⟨.hbm, 362, rfl⟩
abbrev main_call7_call0_call0_v156 : Ref sig .tc := ⟨.hbm, 363, rfl⟩
abbrev main_call7_call0_call0_c_40 : Ref sig .tc := ⟨.hbm, 364, rfl⟩
abbrev main_call7_call0_call0_v157 : Ref sig .tc := ⟨.hbm, 365, rfl⟩
abbrev main_call7_call0_call0_v158 : Ref sig .tc := ⟨.hbm, 366, rfl⟩
abbrev main_call7_call0_call0_c_41 : Ref sig .tc := ⟨.hbm, 367, rfl⟩
abbrev main_call7_call0_call0_v159 : Ref sig .tc := ⟨.hbm, 368, rfl⟩
abbrev main_call7_call0_call0_v160 : Ref sig .tc := ⟨.hbm, 369, rfl⟩
abbrev main_call7_call0_call0_v161 : Ref sig .tc := ⟨.hbm, 370, rfl⟩
abbrev main_call7_call0_call0_v162 : Ref sig .tc := ⟨.hbm, 371, rfl⟩
abbrev main_call7_call0_call0_v163 : Ref sig .tc := ⟨.hbm, 372, rfl⟩
abbrev main_call7_call0_call0_c_42 : Ref sig .tc := ⟨.hbm, 373, rfl⟩
abbrev main_call7_call0_call0_v164 : Ref sig .tc := ⟨.hbm, 374, rfl⟩
abbrev main_call7_call0_call0_v165 : Ref sig .tc := ⟨.hbm, 375, rfl⟩
abbrev main_call7_call0_call0_c_43 : Ref sig .tc := ⟨.hbm, 376, rfl⟩
abbrev main_call7_call0_call0_v166 : Ref sig .tc := ⟨.hbm, 377, rfl⟩
abbrev main_call7_call0_call0_v167 : Ref sig .tc := ⟨.hbm, 378, rfl⟩
abbrev main_call7_call0_call0_v168 : Ref sig .tc := ⟨.hbm, 379, rfl⟩
abbrev main_call7_call0_call0_v169 : Ref sig .tc := ⟨.hbm, 380, rfl⟩
abbrev main_call7_call0_call0_v170 : Ref sig .tc := ⟨.hbm, 381, rfl⟩
abbrev main_call7_call0_v18_0 : Ref sig .tc := ⟨.hbm, 382, rfl⟩
abbrev main_call7_call0_call0_v172 : Ref sig .tc := ⟨.hbm, 383, rfl⟩
abbrev main_call7_call0_call0_v173 : Ref sig .tc := ⟨.hbm, 384, rfl⟩
abbrev main_call7_call0_call0_c_44 : Ref sig .tc := ⟨.hbm, 385, rfl⟩
abbrev main_call7_call0_call0_v174 : Ref sig .tc := ⟨.hbm, 386, rfl⟩
abbrev main_call7_call0_v18_1 : Ref sig .tc := ⟨.hbm, 387, rfl⟩
abbrev main_call7_call0_v19 : Ref sig .tc := ⟨.hbm, 388, rfl⟩
abbrev main_call7_call0_c_2 : Ref sig .tc := ⟨.hbm, 389, rfl⟩
abbrev main_call7_call0_v20 : Ref sig .tc := ⟨.hbm, 390, rfl⟩
abbrev main_call7_call0_v21 : Ref sig .tc := ⟨.hbm, 391, rfl⟩
abbrev main_call7_call0_c_3 : Ref sig .tc := ⟨.hbm, 392, rfl⟩
abbrev main_call7_call0_v22 : Ref sig .tc := ⟨.hbm, 393, rfl⟩
abbrev main_call7_call0_v23 : Ref sig .tc := ⟨.hbm, 394, rfl⟩
abbrev main_call7_call0_v24 : Ref sig .tc := ⟨.hbm, 395, rfl⟩
abbrev main_call7_call0_cst : Ref sig .tc := ⟨.hbm, 396, rfl⟩
abbrev main_call7_call0_v25 : Ref sig .tc := ⟨.hbm, 397, rfl⟩
abbrev main_call7_call0_v26 : Ref sig .tc := ⟨.hbm, 398, rfl⟩
abbrev main_call7_call0_v27 : Ref sig .tc := ⟨.hbm, 399, rfl⟩
abbrev main_call7_call0_v28 : Ref sig .tc := ⟨.hbm, 400, rfl⟩
abbrev main_call7_call0_v29 : Ref sig .tc := ⟨.hbm, 401, rfl⟩
abbrev main_call7_call0_v30 : Ref sig .tc := ⟨.hbm, 402, rfl⟩
abbrev main_call7_call0_v31 : Ref sig .tc := ⟨.hbm, 403, rfl⟩
abbrev main_call7_call0_v32 : Ref sig .tc := ⟨.hbm, 404, rfl⟩
abbrev main_call7_v0 : Ref sig .tc := ⟨.hbm, 405, rfl⟩
abbrev main_call7_v1 : Ref sig .tc := ⟨.hbm, 406, rfl⟩
abbrev main_call7_v2 : Ref sig .tc := ⟨.hbm, 407, rfl⟩
abbrev main_call7_v3 : Ref sig .tc := ⟨.hbm, 408, rfl⟩
abbrev main_v51 : Ref sig .tc := ⟨.hbm, 409, rfl⟩
abbrev main_v52 : Ref sig .tc := ⟨.hbm, 410, rfl⟩
abbrev main_call8_v0 : Ref sig .tc := ⟨.hbm, 411, rfl⟩
abbrev main_call8_cst : Ref sig .tc := ⟨.hbm, 412, rfl⟩
abbrev main_call8_c : Ref sig .tc := ⟨.hbm, 413, rfl⟩
abbrev main_call8_v1_0 : Ref sig .tc := ⟨.hbm, 414, rfl⟩
abbrev main_v53 : Ref sig .tc := ⟨.hbm, 415, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x50 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x49 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x49 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S64x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S64x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S64x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== KernelIdeal.lean ====
variable {F : FTy → Type} [FloatOps F] [Named F]
def κ : String → Option EReal := fun
  | "mask" => some ⊥
  | _ => none
-- ==== ReferenceIdeal.lean ====
abbrev S100000x1024 : Shape := ⟨2, ![100000, 1024]⟩
abbrev S512x1024 : Shape := ⟨2, ![512, 1024]⟩
abbrev S64 : Shape := ⟨1, ![64]⟩
abbrev S64x50 : Shape := ⟨2, ![64, 50]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x1024 : Shape := ⟨2, ![64, 1024]⟩
abbrev S1024x100000 : Shape := ⟨2, ![1024, 100000]⟩
abbrev S64x100000 : Shape := ⟨2, ![64, 100000]⟩
abbrev S64x50x1 : Shape := ⟨3, ![64, 50, 1]⟩
abbrev S64x50x2 : Shape := ⟨3, ![64, 50, 2]⟩
abbrev S64x100000x1 : Shape := ⟨3, ![64, 100000, 1]⟩
abbrev S1x1x1 : Shape := ⟨3, ![1, 1, 1]⟩
abbrev S100000 : Shape := ⟨1, ![100000]⟩
abbrev S1x100000 : Shape := ⟨2, ![1, 100000]⟩
abbrev S2 : Shape := ⟨1, ![2]⟩

abbrev nBuf : Space → Nat
  | .hbm => 475
  | .vmem => 0
  | .smem => 0
  | _ => 0

abbrev hbmTy0_0 (i : Nat) : BufTy := match i % 128 with
  | 0 => ⟨S100000x1024, .f32⟩
  | 1 => ⟨S512x1024, .f32⟩
  | 2 => ⟨S64, .i32⟩
  | 3 => ⟨S64x50, .i32⟩
  | 4 => ⟨S64, .f32⟩
  | 5 => ⟨S64, .f32⟩
  | 6 => ⟨S64, .f32⟩
  | 7 => ⟨S64, .f32⟩
  | 8 => ⟨S64, .i32⟩
  | 9 => ⟨S_, .i32⟩
  | 10 => ⟨S64, .i32⟩
  | 11 => ⟨S64, .i1⟩
  | 12 => ⟨S_, .i32⟩
  | 13 => ⟨S64, .i32⟩
  | 14 => ⟨S64, .i32⟩
  | 15 => ⟨S64, .i32⟩
  | 16 => ⟨S64x1, .i32⟩
  | 17 => ⟨S1, .i32⟩
  | 18 => ⟨S_, .i32⟩
  | 19 => ⟨S64x1, .i32⟩
  | 20 => ⟨S64x1, .i1⟩
  | 21 => ⟨S1x1, .i32⟩
  | 22 => ⟨S64x1, .i32⟩
  | 23 => ⟨S64x1, .i1⟩
  | 24 => ⟨S64x1, .i1⟩
  | 25 => ⟨S_, .i1⟩
  | 26 => ⟨S64, .i1⟩
  | 27 => ⟨S64x1024, .f32⟩
  | 28 => ⟨S64x1024, .i1⟩
  | 29 => ⟨S_, .f32⟩
  | 30 => ⟨S64x1024, .f32⟩
  | 31 => ⟨S64x1024, .f32⟩
  | 32 => ⟨S1024x100000, .f32⟩
  | 33 => ⟨S64x100000, .f32⟩
  | 34 => ⟨S_, .f32⟩
  | 35 => ⟨S64x100000, .f32⟩
  | 36 => ⟨S64, .i32⟩
  | 37 => ⟨S64x1, .i32⟩
  | 38 => ⟨S_, .i32⟩
  | 39 => ⟨S64x1, .i32⟩
  | 40 => ⟨S64x1, .i1⟩
  | 41 => ⟨S_, .i32⟩
  | 42 => ⟨S64x1, .i32⟩
  | 43 => ⟨S64x1, .i32⟩
  | 44 => ⟨S64x1, .i32⟩
  | 45 => ⟨S_, .i32⟩
  | 46 => ⟨S64x50, .i32⟩
  | 47 => ⟨S64x50, .i1⟩
  | 48 => ⟨S_, .i32⟩
  | 49 => ⟨S64x50, .i32⟩
  | 50 => ⟨S64x50, .i32⟩
  | 51 => ⟨S64x50, .i32⟩
  | 52 => ⟨S64x50, .i32⟩
  | 53 => ⟨S64x50x1, .i32⟩
  | 54 => ⟨S64x50x1, .i32⟩
  | 55 => ⟨S64x50x2, .i32⟩
  | 56 => ⟨S_, .f32⟩
  | 57 => ⟨S64x50, .f32⟩
  | 58 => ⟨S64x100000, .f32⟩
  | 59 => ⟨S64x1, .f32⟩
  | 60 => ⟨S64x100000, .f32⟩
  | 61 => ⟨S64x100000, .f32⟩
  | 62 => ⟨S64x100000, .f32⟩
  | 63 => ⟨S64x1, .f32⟩
  | 64 => ⟨S_, .f32⟩
  | 65 => ⟨S64x100000, .f32⟩
  | 66 => ⟨S64x100000, .i1⟩
  | 67 => ⟨S64x100000, .f32⟩
  | 68 => ⟨S64x100000, .f32⟩
  | 69 => ⟨S64x100000, .f32⟩
  | 70 => ⟨S64x100000, .f32⟩
  | 71 => ⟨S_, .f32⟩
  | 72 => ⟨S64, .f32⟩
  | 73 => ⟨S64, .f32⟩
  | 74 => ⟨S64x1, .f32⟩
  | 75 => ⟨S64x100000, .f32⟩
  | 76 => ⟨S64x100000, .f32⟩
  | 77 => ⟨S64x100000, .f32⟩
  | 78 => ⟨S64x100000, .i32⟩
  | 79 => ⟨S64x100000, .f32⟩
  | 80 => ⟨S64x100000, .i32⟩
  | 81 => ⟨S_, .i32⟩
  | 82 => ⟨S64x100000, .i32⟩
  | 83 => ⟨S64x100000, .i1⟩
  | 84 => ⟨S_, .i32⟩
  | 85 => ⟨S64x100000, .i32⟩
  | 86 => ⟨S64x100000, .i32⟩
  | 87 => ⟨S64x100000, .i32⟩
  | 88 => ⟨S64x100000x1, .i32⟩
  | 89 => ⟨S1, .i32⟩
  | 90 => ⟨S_, .i32⟩
  | 91 => ⟨S64x100000x1, .i32⟩
  | 92 => ⟨S64x100000x1, .i1⟩
  | 93 => ⟨S1x1x1, .i32⟩
  | 94 => ⟨S64x100000x1, .i32⟩
  | 95 => ⟨S64x100000x1, .i1⟩
  | 96 => ⟨S64x100000x1, .i1⟩
  | 97 => ⟨S_, .i1⟩
  | 98 => ⟨S64x100000, .i1⟩
  | 99 => ⟨S64x100000, .f32⟩
  | 100 => ⟨S_, .f32⟩
  | 101 => ⟨S64x100000, .f32⟩
  | 102 => ⟨S64x100000, .f32⟩
  | 103 => ⟨S_, .f32⟩
  | 104 => ⟨S64, .f32⟩
  | 105 => ⟨S_, .f32⟩
  | 106 => ⟨S64, .f32⟩
  | 107 => ⟨S64, .f32⟩
  | 108 => ⟨S64x1, .f32⟩
  | 109 => ⟨S64x100000, .f32⟩
  | 110 => ⟨S64x100000, .f32⟩
  | 111 => ⟨S64x100000, .f32⟩
  | 112 => ⟨S_, .f32⟩
  | 113 => ⟨S64, .f32⟩
  | 114 => ⟨S64x1, .f32⟩
  | 115 => ⟨S64x100000, .f32⟩
  | 116 => ⟨S64x100000, .f32⟩
  | 117 => ⟨S_, .f32⟩
  | 118 => ⟨S_, .f32⟩
  | 119 => ⟨S64x100000, .f32⟩
  | 120 => ⟨S64x100000, .f32⟩
  | 121 => ⟨S64x1, .f32⟩
  | 122 => ⟨S64x100000, .f32⟩
  | 123 => ⟨S64x100000, .i1⟩
  | 124 => ⟨S_, .i32⟩
  | 125 => ⟨S64, .i32⟩
  | 126 => ⟨S64, .i32⟩
  | 127 => ⟨S100000, .i32⟩
  | _ => ⟨S100000x1024, .f32⟩

abbrev hbmTy0_1 (i : Nat) : BufTy := match i % 128 with
  | 0 => ⟨S1x100000, .i32⟩
  | 1 => ⟨S64x1, .i32⟩
  | 2 => ⟨S64x100000, .i32⟩
  | 3 => ⟨S64x100000, .i32⟩
  | 4 => ⟨S64x100000, .i1⟩
  | 5 => ⟨S64x100000, .i1⟩
  | 6 => ⟨S_, .f32⟩
  | 7 => ⟨S_, .f32⟩
  | 8 => ⟨S64x100000, .f32⟩
  | 9 => ⟨S64x100000, .f32⟩
  | 10 => ⟨S64x100000, .i32⟩
  | 11 => ⟨S64x100000, .i32⟩
  | 12 => ⟨S64x100000, .i32⟩
  | 13 => ⟨S_, .i32⟩
  | 14 => ⟨S64x100000, .i32⟩
  | 15 => ⟨S64x100000, .i1⟩
  | 16 => ⟨S_, .i32⟩
  | 17 => ⟨S64x100000, .i32⟩
  | 18 => ⟨S64x100000, .i32⟩
  | 19 => ⟨S64x100000, .i32⟩
  | 20 => ⟨S64x100000x1, .i32⟩
  | 21 => ⟨S1, .i32⟩
  | 22 => ⟨S_, .i32⟩
  | 23 => ⟨S64x100000x1, .i32⟩
  | 24 => ⟨S64x100000x1, .i1⟩
  | 25 => ⟨S1x1x1, .i32⟩
  | 26 => ⟨S64x100000x1, .i32⟩
  | 27 => ⟨S64x100000x1, .i1⟩
  | 28 => ⟨S64x100000x1, .i1⟩
  | 29 => ⟨S_, .i1⟩
  | 30 => ⟨S64x100000, .i1⟩
  | 31 => ⟨S64x100000, .f32⟩
  | 32 => ⟨S_, .f32⟩
  | 33 => ⟨S64x100000, .f32⟩
  | 34 => ⟨S64x100000, .f32⟩
  | 35 => ⟨S_, .f32⟩
  | 36 => ⟨S64, .f32⟩
  | 37 => ⟨S_, .f32⟩
  | 38 => ⟨S64, .f32⟩
  | 39 => ⟨S64, .f32⟩
  | 40 => ⟨S64x1, .f32⟩
  | 41 => ⟨S64x100000, .f32⟩
  | 42 => ⟨S64x100000, .f32⟩
  | 43 => ⟨S64x100000, .f32⟩
  | 44 => ⟨S_, .f32⟩
  | 45 => ⟨S64, .f32⟩
  | 46 => ⟨S64x1, .f32⟩
  | 47 => ⟨S64x100000, .f32⟩
  | 48 => ⟨S64x100000, .f32⟩
  | 49 => ⟨S_, .f32⟩
  | 50 => ⟨S64, .f32⟩
  | 51 => ⟨S_, .f32⟩
  | 52 => ⟨S64, .f32⟩
  | 53 => ⟨S64, .f32⟩
  | 54 => ⟨S64x1, .f32⟩
  | 55 => ⟨S64x100000, .f32⟩
  | 56 => ⟨S64x100000, .f32⟩
  | 57 => ⟨S64x100000, .f32⟩
  | 58 => ⟨S_, .f32⟩
  | 59 => ⟨S64, .f32⟩
  | 60 => ⟨S64x1, .f32⟩
  | 61 => ⟨S64x1, .f32⟩
  | 62 => ⟨S64x100000, .f32⟩
  | 63 => ⟨S64x100000, .f32⟩
  | 64 => ⟨S_, .i32⟩
  | 65 => ⟨S_, .i32⟩
  | 66 => ⟨S_, .i32⟩
  | 67 => ⟨S_, .i32⟩
  | 68 => ⟨S1, .i32⟩
  | 69 => ⟨S_, .i32⟩
  | 70 => ⟨S_, .i32⟩
  | 71 => ⟨S_, .i32⟩
  | 72 => ⟨S1, .i32⟩
  | 73 => ⟨S2, .i32⟩
  | 74 => ⟨S_, .f32⟩
  | 75 => ⟨S_, .f32⟩
  | 76 => ⟨S_, .f32⟩
  | 77 => ⟨S1x1, .f32⟩
  | 78 => ⟨S1x1, .f32⟩
  | 79 => ⟨S1, .i32⟩
  | 80 => ⟨S_, .i32⟩
  | 81 => ⟨S1, .i32⟩
  | 82 => ⟨S_, .i32⟩
  | 83 => ⟨S64x100000, .i64⟩
  | 84 => ⟨S64x100000, .i64⟩
  | 85 => ⟨S_, .i64⟩
  | 86 => ⟨S64x100000, .i64⟩
  | 87 => ⟨S64x100000, .i64⟩
  | 88 => ⟨S_, .i64⟩
  | 89 => ⟨S64x100000, .i64⟩
  | 90 => ⟨S64x100000, .i64⟩
  | 91 => ⟨S64x100000, .i64⟩
  | 92 => ⟨S_, .i64⟩
  | 93 => ⟨S64x100000, .i64⟩
  | 94 => ⟨S64x100000, .i64⟩
  | 95 => ⟨S64x100000, .i32⟩
  | 96 => ⟨S64x100000, .i32⟩
  | 97 => ⟨S_, .i32⟩
  | 98 => ⟨S_, .i32⟩
  | 99 => ⟨S_, .i32⟩
  | 100 => ⟨S64x100000, .i32⟩
  | 101 => ⟨S64x100000, .i32⟩
  | 102 => ⟨S64x100000, .i32⟩
  | 103 => ⟨S64x100000, .i32⟩
  | 104 => ⟨S64x100000, .i32⟩
  | 105 => ⟨S_, .i32⟩
  | 106 => ⟨S64x100000, .i32⟩
  | 107 => ⟨S64x100000, .i32⟩
  | 108 => ⟨S_, .i32⟩
  | 109 => ⟨S64x100000, .i32⟩
  | 110 => ⟨S64x100000, .i32⟩
  | 111 => ⟨S64x100000, .i32⟩
  | 112 => ⟨S64x100000, .i32⟩
  | 113 => ⟨S64x100000, .i32⟩
  | 114 => ⟨S_, .i32⟩
  | 115 => ⟨S64x100000, .i32⟩
  | 116 => ⟨S64x100000, .i32⟩
  | 117 => ⟨S_, .i32⟩
  | 118 => ⟨S64x100000, .i32⟩
  | 119 => ⟨S64x100000, .i32⟩
  | 120 => ⟨S64x100000, .i32⟩
  | 121 => ⟨S64x100000, .i32⟩
  | 122 => ⟨S64x100000, .i32⟩
  | 123 => ⟨S_, .i32⟩
  | 124 => ⟨S64x100000, .i32⟩
  | 125 => ⟨S64x100000, .i32⟩
  | 126 => ⟨S_, .i32⟩
  | 127 => ⟨S64x100000, .i32⟩
  | _ => ⟨S100000x1024, .f32⟩

abbrev hbmTy0_2 (i : Nat) : BufTy := match i % 128 with
  | 0 => ⟨S64x100000, .i32⟩
  | 1 => ⟨S64x100000, .i32⟩
  | 2 => ⟨S64x100000, .i32⟩
  | 3 => ⟨S64x100000, .i32⟩
  | 4 => ⟨S_, .i32⟩
  | 5 => ⟨S64x100000, .i32⟩
  | 6 => ⟨S64x100000, .i32⟩
  | 7 => ⟨S_, .i32⟩
  | 8 => ⟨S64x100000, .i32⟩
  | 9 => ⟨S64x100000, .i32⟩
  | 10 => ⟨S64x100000, .i32⟩
  | 11 => ⟨S64x100000, .i32⟩
  | 12 => ⟨S64x100000, .i32⟩
  | 13 => ⟨S64x100000, .i32⟩
  | 14 => ⟨S64x100000, .i32⟩
  | 15 => ⟨S64x100000, .i32⟩
  | 16 => ⟨S_, .i32⟩
  | 17 => ⟨S64x100000, .i32⟩
  | 18 => ⟨S64x100000, .i32⟩
  | 19 => ⟨S64x100000, .i32⟩
  | 20 => ⟨S_, .i32⟩
  | 21 => ⟨S64x100000, .i32⟩
  | 22 => ⟨S64x100000, .i32⟩
  | 23 => ⟨S_, .i32⟩
  | 24 => ⟨S64x100000, .i32⟩
  | 25 => ⟨S64x100000, .i32⟩
  | 26 => ⟨S64x100000, .i32⟩
  | 27 => ⟨S64x100000, .i32⟩
  | 28 => ⟨S64x100000, .i32⟩
  | 29 => ⟨S_, .i32⟩
  | 30 => ⟨S64x100000, .i32⟩
  | 31 => ⟨S64x100000, .i32⟩
  | 32 => ⟨S_, .i32⟩
  | 33 => ⟨S64x100000, .i32⟩
  | 34 => ⟨S64x100000, .i32⟩
  | 35 => ⟨S64x100000, .i32⟩
  | 36 => ⟨S64x100000, .i32⟩
  | 37 => ⟨S64x100000, .i32⟩
  | 38 => ⟨S_, .i32⟩
  | 39 => ⟨S64x100000, .i32⟩
  | 40 => ⟨S64x100000, .i32⟩
  | 41 => ⟨S_, .i32⟩
  | 42 => ⟨S64x100000, .i32⟩
  | 43 => ⟨S64x100000, .i32⟩
  | 44 => ⟨S64x100000, .i32⟩
  | 45 => ⟨S64x100000, .i32⟩
  | 46 => ⟨S64x100000, .i32⟩
  | 47 => ⟨S_, .i32⟩
  | 48 => ⟨S64x100000, .i32⟩
  | 49 => ⟨S64x100000, .i32⟩
  | 50 => ⟨S_, .i32⟩
  | 51 => ⟨S64x100000, .i32⟩
  | 52 => ⟨S64x100000, .i32⟩
  | 53 => ⟨S64x100000, .i32⟩
  | 54 => ⟨S64x100000, .i32⟩
  | 55 => ⟨S64x100000, .i32⟩
  | 56 => ⟨S64x100000, .i32⟩
  | 57 => ⟨S64x100000, .i32⟩
  | 58 => ⟨S64x100000, .i32⟩
  | 59 => ⟨S_, .i32⟩
  | 60 => ⟨S64x100000, .i32⟩
  | 61 => ⟨S64x100000, .i32⟩
  | 62 => ⟨S64x100000, .i32⟩
  | 63 => ⟨S_, .i32⟩
  | 64 => ⟨S64x100000, .i32⟩
  | 65 => ⟨S64x100000, .i32⟩
  | 66 => ⟨S_, .i32⟩
  | 67 => ⟨S64x100000, .i32⟩
  | 68 => ⟨S64x100000, .i32⟩
  | 69 => ⟨S64x100000, .i32⟩
  | 70 => ⟨S64x100000, .i32⟩
  | 71 => ⟨S64x100000, .i32⟩
  | 72 => ⟨S_, .i32⟩
  | 73 => ⟨S64x100000, .i32⟩
  | 74 => ⟨S64x100000, .i32⟩
  | 75 => ⟨S_, .i32⟩
  | 76 => ⟨S64x100000, .i32⟩
  | 77 => ⟨S64x100000, .i32⟩
  | 78 => ⟨S64x100000, .i32⟩
  | 79 => ⟨S64x100000, .i32⟩
  | 80 => ⟨S64x100000, .i32⟩
  | 81 => ⟨S_, .i32⟩
  | 82 => ⟨S64x100000, .i32⟩
  | 83 => ⟨S64x100000, .i32⟩
  | 84 => ⟨S_, .i32⟩
  | 85 => ⟨S64x100000, .i32⟩
  | 86 => ⟨S64x100000, .i32⟩
  | 87 => ⟨S64x100000, .i32⟩
  | 88 => ⟨S64x100000, .i32⟩
  | 89 => ⟨S64x100000, .i32⟩
  | 90 => ⟨S_, .i32⟩
  | 91 => ⟨S64x100000, .i32⟩
  | 92 => ⟨S64x100000, .i32⟩
  | 93 => ⟨S_, .i32⟩
  | 94 => ⟨S64x100000, .i32⟩
  | 95 => ⟨S64x100000, .i32⟩
  | 96 => ⟨S64x100000, .i32⟩
  | 97 => ⟨S64x100000, .i32⟩
  | 98 => ⟨S64x100000, .i32⟩
  | 99 => ⟨S64x100000, .i32⟩
  | 100 => ⟨S64x100000, .i32⟩
  | 101 => ⟨S64x100000, .i32⟩
  | 102 => ⟨S_, .i32⟩
  | 103 => ⟨S64x100000, .i32⟩
  | 104 => ⟨S64x100000, .i32⟩
  | 105 => ⟨S64x100000, .i32⟩
  | 106 => ⟨S_, .i32⟩
  | 107 => ⟨S64x100000, .i32⟩
  | 108 => ⟨S64x100000, .i32⟩
  | 109 => ⟨S_, .i32⟩
  | 110 => ⟨S64x100000, .i32⟩
  | 111 => ⟨S64x100000, .i32⟩
  | 112 => ⟨S64x100000, .i32⟩
  | 113 => ⟨S64x100000, .i32⟩
  | 114 => ⟨S64x100000, .i32⟩
  | 115 => ⟨S_, .i32⟩
  | 116 => ⟨S64x100000, .i32⟩
  | 117 => ⟨S64x100000, .i32⟩
  | 118 => ⟨S_, .i32⟩
  | 119 => ⟨S64x100000, .i32⟩
  | 120 => ⟨S64x100000, .i32⟩
  | 121 => ⟨S64x100000, .i32⟩
  | 122 => ⟨S64x100000, .i32⟩
  | 123 => ⟨S64x100000, .i32⟩
  | 124 => ⟨S_, .i32⟩
  | 125 => ⟨S64x100000, .i32⟩
  | 126 => ⟨S64x100000, .i32⟩
  | 127 => ⟨S_, .i32⟩
  | _ => ⟨S100000x1024, .f32⟩

abbrev hbmTy0_3 (i : Nat) : BufTy := match i % 128 with
  | 0 => ⟨S64x100000, .i32⟩
  | 1 => ⟨S64x100000, .i32⟩
  | 2 => ⟨S64x100000, .i32⟩
  | 3 => ⟨S64x100000, .i32⟩
  | 4 => ⟨S64x100000, .i32⟩
  | 5 => ⟨S_, .i32⟩
  | 6 => ⟨S64x100000, .i32⟩
  | 7 => ⟨S64x100000, .i32⟩
  | 8 => ⟨S_, .i32⟩
  | 9 => ⟨S64x100000, .i32⟩
  | 10 => ⟨S64x100000, .i32⟩
  | 11 => ⟨S64x100000, .i32⟩
  | 12 => ⟨S64x100000, .i32⟩
  | 13 => ⟨S64x100000, .i32⟩
  | 14 => ⟨S64x100000, .i32⟩
  | 15 => ⟨S64x100000, .i32⟩
  | 16 => ⟨S64x100000, .i32⟩
  | 17 => ⟨S_, .i32⟩
  | 18 => ⟨S64x100000, .i32⟩
  | 19 => ⟨S64x100000, .i32⟩
  | 20 => ⟨S64x100000, .i32⟩
  | 21 => ⟨S_, .i32⟩
  | 22 => ⟨S64x100000, .i32⟩
  | 23 => ⟨S64x100000, .i32⟩
  | 24 => ⟨S_, .i32⟩
  | 25 => ⟨S64x100000, .i32⟩
  | 26 => ⟨S64x100000, .i32⟩
  | 27 => ⟨S64x100000, .i32⟩
  | 28 => ⟨S64x100000, .i32⟩
  | 29 => ⟨S64x100000, .i32⟩
  | 30 => ⟨S_, .i32⟩
  | 31 => ⟨S64x100000, .i32⟩
  | 32 => ⟨S64x100000, .i32⟩
  | 33 => ⟨S_, .i32⟩
  | 34 => ⟨S64x100000, .i32⟩
  | 35 => ⟨S64x100000, .i32⟩
  | 36 => ⟨S64x100000, .i32⟩
  | 37 => ⟨S64x100000, .i32⟩
  | 38 => ⟨S64x100000, .i32⟩
  | 39 => ⟨S_, .i32⟩
  | 40 => ⟨S64x100000, .i32⟩
  | 41 => ⟨S64x100000, .i32⟩
  | 42 => ⟨S_, .i32⟩
  | 43 => ⟨S64x100000, .i32⟩
  | 44 => ⟨S64x100000, .i32⟩
  | 45 => ⟨S64x100000, .i32⟩
  | 46 => ⟨S64x100000, .i32⟩
  | 47 => ⟨S64x100000, .i32⟩
  | 48 => ⟨S_, .i32⟩
  | 49 => ⟨S64x100000, .i32⟩
  | 50 => ⟨S64x100000, .i32⟩
  | 51 => ⟨S_, .i32⟩
  | 52 => ⟨S64x100000, .i32⟩
  | 53 => ⟨S64x100000, .i32⟩
  | 54 => ⟨S64x100000, .i32⟩
  | 55 => ⟨S64x100000, .i32⟩
  | 56 => ⟨S64x100000, .i32⟩
  | 57 => ⟨S64x100000, .i32⟩
  | 58 => ⟨S64x100000, .i32⟩
  | 59 => ⟨S64x100000, .i32⟩
  | 60 => ⟨S_, .i32⟩
  | 61 => ⟨S64x100000, .i32⟩
  | 62 => ⟨S64x100000, .i32⟩
  | 63 => ⟨S64x100000, .i32⟩
  | 64 => ⟨S_, .i32⟩
  | 65 => ⟨S64x100000, .i32⟩
  | 66 => ⟨S64x100000, .i32⟩
  | 67 => ⟨S_, .i32⟩
  | 68 => ⟨S64x100000, .i32⟩
  | 69 => ⟨S64x100000, .i32⟩
  | 70 => ⟨S64x100000, .f32⟩
  | 71 => ⟨S_, .f32⟩
  | 72 => ⟨S64x100000, .f32⟩
  | 73 => ⟨S64x100000, .f32⟩
  | 74 => ⟨S1x1, .f32⟩
  | 75 => ⟨S64x100000, .f32⟩
  | 76 => ⟨S64x100000, .f32⟩
  | 77 => ⟨S64x100000, .f32⟩
  | 78 => ⟨S64x100000, .f32⟩
  | 79 => ⟨S64x100000, .f32⟩
  | 80 => ⟨S64x100000, .f32⟩
  | 81 => ⟨S64x100000, .f32⟩
  | 82 => ⟨S64x100000, .f32⟩
  | 83 => ⟨S64x100000, .f32⟩
  | 84 => ⟨S64x100000, .f32⟩
  | 85 => ⟨S64x100000, .f32⟩
  | 86 => ⟨S64x100000, .i32⟩
  | 87 => ⟨S_, .f32⟩
  | 88 => ⟨S_, .i32⟩
  | 89 => ⟨S64, .f32⟩
  | 90 => ⟨S64, .i32⟩
  | _ => ⟨S100000x1024, .f32⟩

abbrev hbmTy (i : Nat) : BufTy := match i / 128 with
  | 0 => hbmTy0_0 i
  | 1 => hbmTy0_1 i
  | 2 => hbmTy0_2 i
  | 3 => hbmTy0_3 i
  | _ => ⟨S100000x1024, .f32⟩

abbrev bufTy : (tb : Table) → Fin (tcTables nBuf tb) → BufTy
  | .hbm, ⟨i, _⟩ => hbmTy i
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_cst : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_c : Ref sig .tc := ⟨.hbm, 38, rfl⟩
abbrev main_v6 : Ref sig .tc := ⟨.hbm, 39, rfl⟩
abbrev main_v7 : Ref sig .tc := ⟨.hbm, 40, rfl⟩
abbrev main_c_0 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_c_1 : Ref sig .tc := ⟨.hbm, 45, rfl⟩
abbrev main_v11 : Ref sig .tc := ⟨.hbm, 46, rfl⟩
abbrev main_v12 : Ref sig .tc := ⟨.hbm, 47, rfl⟩
abbrev main_c_2 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_5 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call1_v0 : Ref sig .tc := ⟨.hbm, 78, rfl⟩
abbrev main_call1_v1_0 : Ref sig .tc := ⟨.hbm, 79, rfl⟩
abbrev main_v39 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_cst : Ref sig .tc := ⟨.hbm, 100, rfl⟩
abbrev main_call2_v14 : Ref sig .tc := ⟨.hbm, 101, rfl⟩
abbrev main_v40 : Ref sig .tc := ⟨.hbm, 102, rfl⟩
abbrev main_cst_6 : Ref sig .tc := ⟨.hbm, 103, rfl⟩
abbrev main_v41 : Ref sig .tc := ⟨.hbm, 104, rfl⟩
abbrev main_cst_7 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_cst_8 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_call3_call0_cst : Ref sig .tc := ⟨.hbm, 117, rfl⟩
abbrev main_call3_call0_v0 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_c_9 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_cst_10 : Ref sig .tc := ⟨.hbm, 134, rfl⟩
abbrev main_call4_v0 : Ref sig .tc := ⟨.hbm, 135, rfl⟩
abbrev main_call4_v1 : Ref sig .tc := ⟨.hbm, 136, rfl⟩
abbrev main_v66 : Ref sig .tc := ⟨.hbm, 137, rfl⟩
abbrev main_call5_v0 : Ref sig .tc := ⟨.hbm, 138, rfl⟩
abbrev main_call5_v1_0 : Ref sig .tc := ⟨.hbm, 139, rfl⟩
abbrev main_v67 : Ref sig .tc := ⟨.hbm, 140, rfl⟩
abbrev main_call6_c : Ref sig .tc := ⟨.hbm, 141, rfl⟩
abbrev main_call6_v0 : Ref sig .tc := ⟨.hbm, 142, rfl⟩
abbrev main_call6_v1 : Ref sig .tc := ⟨.hbm, 143, rfl⟩
abbrev main_call6_c_0 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_call6_v5 : Ref sig .tc := ⟨.hbm, 148, rfl⟩
abbrev main_call6_c_1 : Ref sig .tc := ⟨.hbm, 149, rfl⟩
abbrev main_call6_c_2 : Ref sig .tc := ⟨.hbm, 150, rfl⟩
abbrev main_call6_v6 : Ref sig .tc := ⟨.hbm, 151, rfl⟩
abbrev main_call6_v7 : Ref sig .tc := ⟨.hbm, 152, rfl⟩
abbrev main_call6_v8 : Ref sig .tc := ⟨.hbm, 153, rfl⟩
abbrev main_call6_v9 : Ref sig .tc := ⟨.hbm, 154, rfl⟩
abbrev main_call6_v10 : Ref sig .tc := ⟨.hbm, 155, rfl⟩
abbrev main_call6_v11 : Ref sig .tc := ⟨.hbm, 156, rfl⟩
abbrev main_call6_c_3 : Ref sig .tc := ⟨.hbm, 157, rfl⟩
abbrev main_call6_v12 : Ref sig .tc := ⟨.hbm, 158, rfl⟩
abbrev main_call6_v13 : Ref sig .tc := ⟨.hbm, 159, rfl⟩
abbrev main_call6_cst : Ref sig .tc := ⟨.hbm, 160, rfl⟩
abbrev main_call6_v14 : Ref sig .tc := ⟨.hbm, 161, rfl⟩
abbrev main_v68 : Ref sig .tc := ⟨.hbm, 162, rfl⟩
abbrev main_cst_11 : Ref sig .tc := ⟨.hbm, 163, rfl⟩
abbrev main_v69 : Ref sig .tc := ⟨.hbm, 164, rfl⟩
abbrev main_cst_12 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_cst_13 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_call7_cst : Ref sig .tc := ⟨.hbm, 177, rfl⟩
abbrev main_call7_v0 : Ref sig .tc := ⟨.hbm, 178, rfl⟩
abbrev main_call7_cst_0 : Ref sig .tc := ⟨.hbm, 179, rfl⟩
abbrev main_call7_v1 : Ref sig .tc := ⟨.hbm, 180, rfl⟩
abbrev main_call7_v2 : Ref sig .tc := ⟨.hbm, 181, rfl⟩
abbrev main_call7_v3 : Ref sig .tc := ⟨.hbm, 182, rfl⟩
abbrev main_call7_v4 : Ref sig .tc := ⟨.hbm, 183, rfl⟩
abbrev main_call7_v5 : Ref sig .tc := ⟨.hbm, 184, rfl⟩
abbrev main_call7_v6 : Ref sig .tc := ⟨.hbm, 185, rfl⟩
abbrev main_call7_cst_1 : Ref sig .tc := ⟨.hbm, 186, rfl⟩
abbrev main_call7_v7 : Ref sig .tc := ⟨.hbm, 187, rfl⟩
abbrev main_call7_v8 : Ref sig .tc := ⟨.hbm, 188, rfl⟩
abbrev main_call7_v9 : Ref sig .tc := ⟨.hbm, 189, rfl⟩
abbrev main_call7_v10 : Ref sig .tc := ⟨.hbm, 190, rfl⟩
abbrev main_v80 : Ref sig .tc := ⟨.hbm, 191, rfl⟩
abbrev main_c_14 : Ref sig .tc := ⟨.hbm, 192, rfl⟩
abbrev main_c_15 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_c_16 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_call8_cst : Ref sig .tc := ⟨.hbm, 202, rfl⟩
abbrev main_call8_cst_0 : Ref sig .tc := ⟨.hbm, 203, rfl⟩
abbrev main_call8_call0_v0 : Ref sig .tc := ⟨.hbm, 204, rfl⟩
abbrev main_call8_call0_v1 : Ref sig .tc := ⟨.hbm, 205, rfl⟩
abbrev main_call8_call0_v2 : Ref sig .tc := ⟨.hbm, 206, rfl⟩
abbrev main_call8_call0_v3 : Ref sig .tc := ⟨.hbm, 207, rfl⟩
abbrev main_call8_call0_v4 : Ref sig .tc := ⟨.hbm, 208, rfl⟩
abbrev main_call8_call0_v5 : Ref sig .tc := ⟨.hbm, 209, rfl⟩
abbrev main_call8_call0_v6 : Ref sig .tc := ⟨.hbm, 210, rfl⟩
abbrev main_call8_call0_v7 : Ref sig .tc := ⟨.hbm, 211, rfl⟩
abbrev main_call8_call0_v8 : Ref sig .tc := ⟨.hbm, 212, rfl⟩
abbrev main_call8_call0_c : Ref sig .tc := ⟨.hbm, 213, rfl⟩
abbrev main_call8_call0_v9 : Ref sig .tc := ⟨.hbm, 214, rfl⟩
abbrev main_call8_call0_v10 : Ref sig .tc := ⟨.hbm, 215, rfl⟩
abbrev main_call8_call0_c_0 : Ref sig .tc := ⟨.hbm, 216, rfl⟩
abbrev main_call8_call0_v11 : Ref sig .tc := ⟨.hbm, 217, rfl⟩
abbrev main_call8_call0_v12 : Ref sig .tc := ⟨.hbm, 218, rfl⟩
abbrev main_call8_call0_v13 : Ref sig .tc := ⟨.hbm, 219, rfl⟩
abbrev main_call8_call0_c_1 : Ref sig .tc := ⟨.hbm, 220, rfl⟩
abbrev main_call8_call0_v14 : Ref sig .tc := ⟨.hbm, 221, rfl⟩
abbrev main_call8_call0_v15 : Ref sig .tc := ⟨.hbm, 222, rfl⟩
abbrev main_call8_call0_v16 : Ref sig .tc := ⟨.hbm, 223, rfl⟩
abbrev main_call8_call0_v17 : Ref sig .tc := ⟨.hbm, 224, rfl⟩
abbrev main_call8_call0_call0_v0 : Ref sig .tc := ⟨.hbm, 225, rfl⟩
abbrev main_call8_call0_call0_c : Ref sig .tc := ⟨.hbm, 226, rfl⟩
abbrev main_call8_call0_call0_v1 : Ref sig .tc := ⟨.hbm, 227, rfl⟩
abbrev main_call8_call0_call0_v2 : Ref sig .tc := ⟨.hbm, 228, rfl⟩
abbrev main_call8_call0_call0_v3 : Ref sig .tc := ⟨.hbm, 229, rfl⟩
abbrev main_call8_call0_call0_v4 : Ref sig .tc := ⟨.hbm, 230, rfl⟩
abbrev main_call8_call0_call0_v5 : Ref sig .tc := ⟨.hbm, 231, rfl⟩
abbrev main_call8_call0_call0_v6 : Ref sig .tc := ⟨.hbm, 232, rfl⟩
abbrev main_call8_call0_call0_c_0 : Ref sig .tc := ⟨.hbm, 233, rfl⟩
abbrev main_call8_call0_call0_v7 : Ref sig .tc := ⟨.hbm, 234, rfl⟩
abbrev main_call8_call0_call0_v8 : Ref sig .tc := ⟨.hbm, 235, rfl⟩
abbrev main_call8_call0_call0_c_1 : Ref sig .tc := ⟨.hbm, 236, rfl⟩
abbrev main_call8_call0_call0_v9 : Ref sig .tc := ⟨.hbm, 237, rfl⟩
abbrev main_call8_call0_call0_v10 : Ref sig .tc := ⟨.hbm, 238, rfl⟩
abbrev main_call8_call0_call0_v11 : Ref sig .tc := ⟨.hbm, 239, rfl⟩
abbrev main_call8_call0_call0_v12 : Ref sig .tc := ⟨.hbm, 240, rfl⟩
abbrev main_call8_call0_call0_v13 : Ref sig .tc := ⟨.hbm, 241, rfl⟩
abbrev main_call8_call0_call0_c_2 : Ref sig .tc := ⟨.hbm, 242, rfl⟩
abbrev main_call8_call0_call0_v14 : Ref sig .tc := ⟨.hbm, 243, rfl⟩
abbrev main_call8_call0_call0_v15 : Ref sig .tc := ⟨.hbm, 244, rfl⟩
abbrev main_call8_call0_call0_c_3 : Ref sig .tc := ⟨.hbm, 245, rfl⟩
abbrev main_call8_call0_call0_v16 : Ref sig .tc := ⟨.hbm, 246, rfl⟩
abbrev main_call8_call0_call0_v17 : Ref sig .tc := ⟨.hbm, 247, rfl⟩
abbrev main_call8_call0_call0_v18 : Ref sig .tc := ⟨.hbm, 248, rfl⟩
abbrev main_call8_call0_call0_v19 : Ref sig .tc := ⟨.hbm, 249, rfl⟩
abbrev main_call8_call0_call0_v20 : Ref sig .tc := ⟨.hbm, 250, rfl⟩
abbrev main_call8_call0_call0_c_4 : Ref sig .tc := ⟨.hbm, 251, rfl⟩
abbrev main_call8_call0_call0_v21 : Ref sig .tc := ⟨.hbm, 252, rfl⟩
abbrev main_call8_call0_call0_v22 : Ref sig .tc := ⟨.hbm, 253, rfl⟩
abbrev main_call8_call0_call0_c_5 : Ref sig .tc := ⟨.hbm, 254, rfl⟩
abbrev main_call8_call0_call0_v23 : Ref sig .tc := ⟨.hbm, 255, rfl⟩
abbrev main_call8_call0_call0_v24 : Ref sig .tc := ⟨.hbm, 256, rfl⟩
abbrev main_call8_call0_call0_v25 : Ref sig .tc := ⟨.hbm, 257, rfl⟩
abbrev main_call8_call0_call0_v26 : Ref sig .tc := ⟨.hbm, 258, rfl⟩
abbrev main_call8_call0_call0_v27 : Ref sig .tc := ⟨.hbm, 259, rfl⟩
abbrev main_call8_call0_call0_c_6 : Ref sig .tc := ⟨.hbm, 260, rfl⟩
abbrev main_call8_call0_call0_v28 : Ref sig .tc := ⟨.hbm, 261, rfl⟩
abbrev main_call8_call0_call0_v29 : Ref sig .tc := ⟨.hbm, 262, rfl⟩
abbrev main_call8_call0_call0_c_7 : Ref sig .tc := ⟨.hbm, 263, rfl⟩
abbrev main_call8_call0_call0_v30 : Ref sig .tc := ⟨.hbm, 264, rfl⟩
abbrev main_call8_call0_call0_v31 : Ref sig .tc := ⟨.hbm, 265, rfl⟩
abbrev main_call8_call0_call0_v32 : Ref sig .tc := ⟨.hbm, 266, rfl⟩
abbrev main_call8_call0_call0_v33 : Ref sig .tc := ⟨.hbm, 267, rfl⟩
abbrev main_call8_call0_call0_v34 : Ref sig .tc := ⟨.hbm, 268, rfl⟩
abbrev main_call8_call0_call0_v35 : Ref sig .tc := ⟨.hbm, 269, rfl⟩
abbrev main_call8_call0_call0_v36 : Ref sig .tc := ⟨.hbm, 270, rfl⟩
abbrev main_call8_call0_call0_v37 : Ref sig .tc := ⟨.hbm, 271, rfl⟩
abbrev main_call8_call0_call0_c_8 : Ref sig .tc := ⟨.hbm, 272, rfl⟩
abbrev main_call8_call0_call0_v38 : Ref sig .tc := ⟨.hbm, 273, rfl⟩
abbrev main_call8_call0_call0_v39 : Ref sig .tc := ⟨.hbm, 274, rfl⟩
abbrev main_call8_call0_call0_v40 : Ref sig .tc := ⟨.hbm, 275, rfl⟩
abbrev main_call8_call0_call0_c_9 : Ref sig .tc := ⟨.hbm, 276, rfl⟩
abbrev main_call8_call0_call0_v41 : Ref sig .tc := ⟨.hbm, 277, rfl⟩
abbrev main_call8_call0_call0_v42 : Ref sig .tc := ⟨.hbm, 278, rfl⟩
abbrev main_call8_call0_call0_c_10 : Ref sig .tc := ⟨.hbm, 279, rfl⟩
abbrev main_call8_call0_call0_v43 : Ref sig .tc := ⟨.hbm, 280, rfl⟩
abbrev main_call8_call0_call0_v44 : Ref sig .tc := ⟨.hbm, 281, rfl⟩
abbrev main_call8_call0_call0_v45 : Ref sig .tc := ⟨.hbm, 282, rfl⟩
abbrev main_call8_call0_call0_v46 : Ref sig .tc := ⟨.hbm, 283, rfl⟩
abbrev main_call8_call0_call0_v47 : Ref sig .tc := ⟨.hbm, 284, rfl⟩
abbrev main_call8_call0_call0_c_11 : Ref sig .tc := ⟨.hbm, 285, rfl⟩
abbrev main_call8_call0_call0_v48 : Ref sig .tc := ⟨.hbm, 286, rfl⟩
abbrev main_call8_call0_call0_v49 : Ref sig .tc := ⟨.hbm, 287, rfl⟩
abbrev main_call8_call0_call0_c_12 : Ref sig .tc := ⟨.hbm, 288, rfl⟩
abbrev main_call8_call0_call0_v50 : Ref sig .tc := ⟨.hbm, 289, rfl⟩
abbrev main_call8_call0_call0_v51 : Ref sig .tc := ⟨.hbm, 290, rfl⟩
abbrev main_call8_call0_call0_v52 : Ref sig .tc := ⟨.hbm, 291, rfl⟩
abbrev main_call8_call0_call0_v53 : Ref sig .tc := ⟨.hbm, 292, rfl⟩
abbrev main_call8_call0_call0_v54 : Ref sig .tc := ⟨.hbm, 293, rfl⟩
abbrev main_call8_call0_call0_c_13 : Ref sig .tc := ⟨.hbm, 294, rfl⟩
abbrev main_call8_call0_call0_v55 : Ref sig .tc := ⟨.hbm, 295, rfl⟩
abbrev main_call8_call0_call0_v56 : Ref sig .tc := ⟨.hbm, 296, rfl⟩
abbrev main_call8_call0_call0_c_14 : Ref sig .tc := ⟨.hbm, 297, rfl⟩
abbrev main_call8_call0_call0_v57 : Ref sig .tc := ⟨.hbm, 298, rfl⟩
abbrev main_call8_call0_call0_v58 : Ref sig .tc := ⟨.hbm, 299, rfl⟩
abbrev main_call8_call0_call0_v59 : Ref sig .tc := ⟨.hbm, 300, rfl⟩
abbrev main_call8_call0_call0_v60 : Ref sig .tc := ⟨.hbm, 301, rfl⟩
abbrev main_call8_call0_call0_v61 : Ref sig .tc := ⟨.hbm, 302, rfl⟩
abbrev main_call8_call0_call0_c_15 : Ref sig .tc := ⟨.hbm, 303, rfl⟩
abbrev main_call8_call0_call0_v62 : Ref sig .tc := ⟨.hbm, 304, rfl⟩
abbrev main_call8_call0_call0_v63 : Ref sig .tc := ⟨.hbm, 305, rfl⟩
abbrev main_call8_call0_call0_c_16 : Ref sig .tc := ⟨.hbm, 306, rfl⟩
abbrev main_call8_call0_call0_v64 : Ref sig .tc := ⟨.hbm, 307, rfl⟩
abbrev main_call8_call0_call0_v65 : Ref sig .tc := ⟨.hbm, 308, rfl⟩
abbrev main_call8_call0_call0_v66 : Ref sig .tc := ⟨.hbm, 309, rfl⟩
abbrev main_call8_call0_call0_v67 : Ref sig .tc := ⟨.hbm, 310, rfl⟩
abbrev main_call8_call0_call0_v68 : Ref sig .tc := ⟨.hbm, 311, rfl⟩
abbrev main_call8_call0_call0_v69 : Ref sig .tc := ⟨.hbm, 312, rfl⟩
abbrev main_call8_call0_call0_v70 : Ref sig .tc := ⟨.hbm, 313, rfl⟩
abbrev main_call8_call0_call0_v71 : Ref sig .tc := ⟨.hbm, 314, rfl⟩
abbrev main_call8_call0_call0_c_17 : Ref sig .tc := ⟨.hbm, 315, rfl⟩
abbrev main_call8_call0_call0_v72 : Ref sig .tc := ⟨.hbm, 316, rfl⟩
abbrev main_call8_call0_call0_v73 : Ref sig .tc := ⟨.hbm, 317, rfl⟩
abbrev main_call8_call0_call0_v74 : Ref sig .tc := ⟨.hbm, 318, rfl⟩
abbrev main_call8_call0_call0_c_18 : Ref sig .tc := ⟨.hbm, 319, rfl⟩
abbrev main_call8_call0_call0_v75 : Ref sig .tc := ⟨.hbm, 320, rfl⟩
abbrev main_call8_call0_call0_v76 : Ref sig .tc := ⟨.hbm, 321, rfl⟩
abbrev main_call8_call0_call0_c_19 : Ref sig .tc := ⟨.hbm, 322, rfl⟩
abbrev main_call8_call0_call0_v77 : Ref sig .tc := ⟨.hbm, 323, rfl⟩
abbrev main_call8_call0_call0_v78 : Ref sig .tc := ⟨.hbm, 324, rfl⟩
abbrev main_call8_call0_call0_v79 : Ref sig .tc := ⟨.hbm, 325, rfl⟩
abbrev main_call8_call0_call0_v80 : Ref sig .tc := ⟨.hbm, 326, rfl⟩
abbrev main_call8_call0_call0_v81 : Ref sig .tc := ⟨.hbm, 327, rfl⟩
abbrev main_call8_call0_call0_c_20 : Ref sig .tc := ⟨.hbm, 328, rfl⟩
abbrev main_call8_call0_call0_v82 : Ref sig .tc := ⟨.hbm, 329, rfl⟩
abbrev main_call8_call0_call0_v83 : Ref sig .tc := ⟨.hbm, 330, rfl⟩
abbrev main_call8_call0_call0_c_21 : Ref sig .tc := ⟨.hbm, 331, rfl⟩
abbrev main_call8_call0_call0_v84 : Ref sig .tc := ⟨.hbm, 332, rfl⟩
abbrev main_call8_call0_call0_v85 : Ref sig .tc := ⟨.hbm, 333, rfl⟩
abbrev main_call8_call0_call0_v86 : Ref sig .tc := ⟨.hbm, 334, rfl⟩
abbrev main_call8_call0_call0_v87 : Ref sig .tc := ⟨.hbm, 335, rfl⟩
abbrev main_call8_call0_call0_v88 : Ref sig .tc := ⟨.hbm, 336, rfl⟩
abbrev main_call8_call0_call0_c_22 : Ref sig .tc := ⟨.hbm, 337, rfl⟩
abbrev main_call8_call0_call0_v89 : Ref sig .tc := ⟨.hbm, 338, rfl⟩
abbrev main_call8_call0_call0_v90 : Ref sig .tc := ⟨.hbm, 339, rfl⟩
abbrev main_call8_call0_call0_c_23 : Ref sig .tc := ⟨.hbm, 340, rfl⟩
abbrev main_call8_call0_call0_v91 : Ref sig .tc := ⟨.hbm, 341, rfl⟩
abbrev main_call8_call0_call0_v92 : Ref sig .tc := ⟨.hbm, 342, rfl⟩
abbrev main_call8_call0_call0_v93 : Ref sig .tc := ⟨.hbm, 343, rfl⟩
abbrev main_call8_call0_call0_v94 : Ref sig .tc := ⟨.hbm, 344, rfl⟩
abbrev main_call8_call0_call0_v95 : Ref sig .tc := ⟨.hbm, 345, rfl⟩
abbrev main_call8_call0_call0_c_24 : Ref sig .tc := ⟨.hbm, 346, rfl⟩
abbrev main_call8_call0_call0_v96 : Ref sig .tc := ⟨.hbm, 347, rfl⟩
abbrev main_call8_call0_call0_v97 : Ref sig .tc := ⟨.hbm, 348, rfl⟩
abbrev main_call8_call0_call0_c_25 : Ref sig .tc := ⟨.hbm, 349, rfl⟩
abbrev main_call8_call0_call0_v98 : Ref sig .tc := ⟨.hbm, 350, rfl⟩
abbrev main_call8_call0_call0_v99 : Ref sig .tc := ⟨.hbm, 351, rfl⟩
abbrev main_call8_call0_call0_v100 : Ref sig .tc := ⟨.hbm, 352, rfl⟩
abbrev main_call8_call0_call0_v101 : Ref sig .tc := ⟨.hbm, 353, rfl⟩
abbrev main_call8_call0_call0_v102 : Ref sig .tc := ⟨.hbm, 354, rfl⟩
abbrev main_call8_call0_call0_v103 : Ref sig .tc := ⟨.hbm, 355, rfl⟩
abbrev main_call8_call0_call0_v104 : Ref sig .tc := ⟨.hbm, 356, rfl⟩
abbrev main_call8_call0_call0_v105 : Ref sig .tc := ⟨.hbm, 357, rfl⟩
abbrev main_call8_call0_call0_c_26 : Ref sig .tc := ⟨.hbm, 358, rfl⟩
abbrev main_call8_call0_call0_v106 : Ref sig .tc := ⟨.hbm, 359, rfl⟩
abbrev main_call8_call0_call0_v107 : Ref sig .tc := ⟨.hbm, 360, rfl⟩
abbrev main_call8_call0_call0_v108 : Ref sig .tc := ⟨.hbm, 361, rfl⟩
abbrev main_call8_call0_call0_c_27 : Ref sig .tc := ⟨.hbm, 362, rfl⟩
abbrev main_call8_call0_call0_v109 : Ref sig .tc := ⟨.hbm, 363, rfl⟩
abbrev main_call8_call0_call0_v110 : Ref sig .tc := ⟨.hbm, 364, rfl⟩
abbrev main_call8_call0_call0_c_28 : Ref sig .tc := ⟨.hbm, 365, rfl⟩
abbrev main_call8_call0_call0_v111 : Ref sig .tc := ⟨.hbm, 366, rfl⟩
abbrev main_call8_call0_call0_v112 : Ref sig .tc := ⟨.hbm, 367, rfl⟩
abbrev main_call8_call0_call0_v113 : Ref sig .tc := ⟨.hbm, 368, rfl⟩
abbrev main_call8_call0_call0_v114 : Ref sig .tc := ⟨.hbm, 369, rfl⟩
abbrev main_call8_call0_call0_v115 : Ref sig .tc := ⟨.hbm, 370, rfl⟩
abbrev main_call8_call0_call0_c_29 : Ref sig .tc := ⟨.hbm, 371, rfl⟩
abbrev main_call8_call0_call0_v116 : Ref sig .tc := ⟨.hbm, 372, rfl⟩
abbrev main_call8_call0_call0_v117 : Ref sig .tc := ⟨.hbm, 373, rfl⟩
abbrev main_call8_call0_call0_c_30 : Ref sig .tc := ⟨.hbm, 374, rfl⟩
abbrev main_call8_call0_call0_v118 : Ref sig .tc := ⟨.hbm, 375, rfl⟩
abbrev main_call8_call0_call0_v119 : Ref sig .tc := ⟨.hbm, 376, rfl⟩
abbrev main_call8_call0_call0_v120 : Ref sig .tc := ⟨.hbm, 377, rfl⟩
abbrev main_call8_call0_call0_v121 : Ref sig .tc := ⟨.hbm, 378, rfl⟩
abbrev main_call8_call0_call0_v122 : Ref sig .tc := ⟨.hbm, 379, rfl⟩
abbrev main_call8_call0_call0_c_31 : Ref sig .tc := ⟨.hbm, 380, rfl⟩
abbrev main_call8_call0_call0_v123 : Ref sig .tc := ⟨.hbm, 381, rfl⟩
abbrev main_call8_call0_call0_v124 : Ref sig .tc := ⟨.hbm, 382, rfl⟩
abbrev main_call8_call0_call0_c_32 : Ref sig .tc := ⟨.hbm, 383, rfl⟩
abbrev main_call8_call0_call0_v125 : Ref sig .tc := ⟨.hbm, 384, rfl⟩
abbrev main_call8_call0_call0_v126 : Ref sig .tc := ⟨.hbm, 385, rfl⟩
abbrev main_call8_call0_call0_v127 : Ref sig .tc := ⟨.hbm, 386, rfl⟩
abbrev main_call8_call0_call0_v128 : Ref sig .tc := ⟨.hbm, 387, rfl⟩
abbrev main_call8_call0_call0_v129 : Ref sig .tc := ⟨.hbm, 388, rfl⟩
abbrev main_call8_call0_call0_c_33 : Ref sig .tc := ⟨.hbm, 389, rfl⟩
abbrev main_call8_call0_call0_v130 : Ref sig .tc := ⟨.hbm, 390, rfl⟩
abbrev main_call8_call0_call0_v131 : Ref sig .tc := ⟨.hbm, 391, rfl⟩
abbrev main_call8_call0_call0_c_34 : Ref sig .tc := ⟨.hbm, 392, rfl⟩
abbrev main_call8_call0_call0_v132 : Ref sig .tc := ⟨.hbm, 393, rfl⟩
abbrev main_call8_call0_call0_v133 : Ref sig .tc := ⟨.hbm, 394, rfl⟩
abbrev main_call8_call0_call0_v134 : Ref sig .tc := ⟨.hbm, 395, rfl⟩
abbrev main_call8_call0_call0_v135 : Ref sig .tc := ⟨.hbm, 396, rfl⟩
abbrev main_call8_call0_call0_v136 : Ref sig .tc := ⟨.hbm, 397, rfl⟩
abbrev main_call8_call0_call0_v137 : Ref sig .tc := ⟨.hbm, 398, rfl⟩
abbrev main_call8_call0_call0_v138 : Ref sig .tc := ⟨.hbm, 399, rfl⟩
abbrev main_call8_call0_call0_v139 : Ref sig .tc := ⟨.hbm, 400, rfl⟩
abbrev main_call8_call0_call0_c_35 : Ref sig .tc := ⟨.hbm, 401, rfl⟩
abbrev main_call8_call0_call0_v140 : Ref sig .tc := ⟨.hbm, 402, rfl⟩
abbrev main_call8_call0_call0_v141 : Ref sig .tc := ⟨.hbm, 403, rfl⟩
abbrev main_call8_call0_call0_v142 : Ref sig .tc := ⟨.hbm, 404, rfl⟩
abbrev main_call8_call0_call0_c_36 : Ref sig .tc := ⟨.hbm, 405, rfl⟩
abbrev main_call8_call0_call0_v143 : Ref sig .tc := ⟨.hbm, 406, rfl⟩
abbrev main_call8_call0_call0_v144 : Ref sig .tc := ⟨.hbm, 407, rfl⟩
abbrev main_call8_call0_call0_c_37 : Ref sig .tc := ⟨.hbm, 408, rfl⟩
abbrev main_call8_call0_call0_v145 : Ref sig .tc := ⟨.hbm, 409, rfl⟩
abbrev main_call8_call0_call0_v146 : Ref sig .tc := ⟨.hbm, 410, rfl⟩
abbrev main_call8_call0_call0_v147 : Ref sig .tc := ⟨.hbm, 411, rfl⟩
abbrev main_call8_call0_call0_v148 : Ref sig .tc := ⟨.hbm, 412, rfl⟩
abbrev main_call8_call0_call0_v149 : Ref sig .tc := ⟨.hbm, 413, rfl⟩
abbrev main_call8_call0_call0_c_38 : Ref sig .tc := ⟨.hbm, 414, rfl⟩
abbrev main_call8_call0_call0_v150 : Ref sig .tc := ⟨.hbm, 415, rfl⟩
abbrev main_call8_call0_call0_v151 : Ref sig .tc := ⟨.hbm, 416, rfl⟩
abbrev main_call8_call0_call0_c_39 : Ref sig .tc := ⟨.hbm, 417, rfl⟩
abbrev main_call8_call0_call0_v152 : Ref sig .tc := ⟨.hbm, 418, rfl⟩
abbrev main_call8_call0_call0_v153 : Ref sig .tc := ⟨.hbm, 419, rfl⟩
abbrev main_call8_call0_call0_v154 : Ref sig .tc := ⟨.hbm, 420, rfl⟩
abbrev main_call8_call0_call0_v155 : Ref sig .tc := ⟨.hbm, 421, rfl⟩
abbrev main_call8_call0_call0_v156 : Ref sig .tc := ⟨.hbm, 422, rfl⟩
abbrev main_call8_call0_call0_c_40 : Ref sig .tc := ⟨.hbm, 423, rfl⟩
abbrev main_call8_call0_call0_v157 : Ref sig .tc := ⟨.hbm, 424, rfl⟩
abbrev main_call8_call0_call0_v158 : Ref sig .tc := ⟨.hbm, 425, rfl⟩
abbrev main_call8_call0_call0_c_41 : Ref sig .tc := ⟨.hbm, 426, rfl⟩
abbrev main_call8_call0_call0_v159 : Ref sig .tc := ⟨.hbm, 427, rfl⟩
abbrev main_call8_call0_call0_v160 : Ref sig .tc := ⟨.hbm, 428, rfl⟩
abbrev main_call8_call0_call0_v161 : Ref sig .tc := ⟨.hbm, 429, rfl⟩
abbrev main_call8_call0_call0_v162 : Ref sig .tc := ⟨.hbm, 430, rfl⟩
abbrev main_call8_call0_call0_v163 : Ref sig .tc := ⟨.hbm, 431, rfl⟩
abbrev main_call8_call0_call0_c_42 : Ref sig .tc := ⟨.hbm, 432, rfl⟩
abbrev main_call8_call0_call0_v164 : Ref sig .tc := ⟨.hbm, 433, rfl⟩
abbrev main_call8_call0_call0_v165 : Ref sig .tc := ⟨.hbm, 434, rfl⟩
abbrev main_call8_call0_call0_c_43 : Ref sig .tc := ⟨.hbm, 435, rfl⟩
abbrev main_call8_call0_call0_v166 : Ref sig .tc := ⟨.hbm, 436, rfl⟩
abbrev main_call8_call0_call0_v167 : Ref sig .tc := ⟨.hbm, 437, rfl⟩
abbrev main_call8_call0_call0_v168 : Ref sig .tc := ⟨.hbm, 438, rfl⟩
abbrev main_call8_call0_call0_v169 : Ref sig .tc := ⟨.hbm, 439, rfl⟩
abbrev main_call8_call0_call0_v170 : Ref sig .tc := ⟨.hbm, 440, rfl⟩
abbrev main_call8_call0_v18_0 : Ref sig .tc := ⟨.hbm, 441, rfl⟩
abbrev main_call8_call0_call0_v172 : Ref sig .tc := ⟨.hbm, 442, rfl⟩
abbrev main_call8_call0_call0_v173 : Ref sig .tc := ⟨.hbm, 443, rfl⟩
abbrev main_call8_call0_call0_c_44 : Ref sig .tc := ⟨.hbm, 444, rfl⟩
abbrev main_call8_call0_call0_v174 : Ref sig .tc := ⟨.hbm, 445, rfl⟩
abbrev main_call8_call0_v18_1 : Ref sig .tc := ⟨.hbm, 446, rfl⟩
abbrev main_call8_call0_v19 : Ref sig .tc := ⟨.hbm, 447, rfl⟩
abbrev main_call8_call0_c_2 : Ref sig .tc := ⟨.hbm, 448, rfl⟩
abbrev main_call8_call0_v20 : Ref sig .tc := ⟨.hbm, 449, rfl⟩
abbrev main_call8_call0_v21 : Ref sig .tc := ⟨.hbm, 450, rfl⟩
abbrev main_call8_call0_c_3 : Ref sig .tc := ⟨.hbm, 451, rfl⟩
abbrev main_call8_call0_v22 : Ref sig .tc := ⟨.hbm, 452, rfl⟩
abbrev main_call8_call0_v23 : Ref sig .tc := ⟨.hbm, 453, rfl⟩
abbrev main_call8_call0_v24 : Ref sig .tc := ⟨.hbm, 454, rfl⟩
abbrev main_call8_call0_cst : Ref sig .tc := ⟨.hbm, 455, rfl⟩
abbrev main_call8_call0_v25 : Ref sig .tc := ⟨.hbm, 456, rfl⟩
abbrev main_call8_call0_v26 : Ref sig .tc := ⟨.hbm, 457, rfl⟩
abbrev main_call8_call0_v27 : Ref sig .tc := ⟨.hbm, 458, rfl⟩
abbrev main_call8_call0_v28 : Ref sig .tc := ⟨.hbm, 459, rfl⟩
abbrev main_call8_call0_v29 : Ref sig .tc := ⟨.hbm, 460, rfl⟩
abbrev main_call8_call0_v30 : Ref sig .tc := ⟨.hbm, 461, rfl⟩
abbrev main_call8_call0_v31 : Ref sig .tc := ⟨.hbm, 462, rfl⟩
abbrev main_call8_call0_v32 : Ref sig .tc := ⟨.hbm, 463, rfl⟩
abbrev main_call8_v0 : Ref sig .tc := ⟨.hbm, 464, rfl⟩
abbrev main_call8_v1 : Ref sig .tc := ⟨.hbm, 465, rfl⟩
abbrev main_call8_v2 : Ref sig .tc := ⟨.hbm, 466, rfl⟩
abbrev main_call8_v3 : Ref sig .tc := ⟨.hbm, 467, rfl⟩
abbrev main_v88 : Ref sig .tc := ⟨.hbm, 468, rfl⟩
abbrev main_v89 : Ref sig .tc := ⟨.hbm, 469, rfl⟩
abbrev main_call9_v0 : Ref sig .tc := ⟨.hbm, 470, rfl⟩
abbrev main_call9_cst : Ref sig .tc := ⟨.hbm, 471, rfl⟩
abbrev main_call9_c : Ref sig .tc := ⟨.hbm, 472, rfl⟩
abbrev main_call9_v1_0 : Ref sig .tc := ⟨.hbm, 473, rfl⟩
abbrev main_v90 : Ref sig .tc := ⟨.hbm, 474, rfl⟩

abbrev nD : Nat := 1
abbrev τ : Topo := Topo.v7x

variable {F : FTy → Type} [FloatOps F]
-- ==== Proof.Rel.lean ====
/-
  A kernel region stated relationally, and a host stretch, as segments between thread states of one shape: "every unscoped buffer is held at SOME
  valuation that meets a predicate". A region's exit predicate says which contents the region's write-backs may have left in each of its arrays,
  and that every other buffer is as it was.
-/
module

public import Idealize.ShloMosaic.Lib.Pipeline.RegionsForgetLinks
public import Idealize.ShloMosaic.Lib.Pipeline.FrameSuffix
public import Idealize.ShloMosaic.Lib.Pipeline.ArrRel
public import Idealize.ShloMosaic.Lib.Pipeline.Quiescent
public import Idealize.ShloMosaic.Lib.HostLoop.Lifted
public import Idealize.ShloMosaic.Lib.Pipeline.RegionArrays
public import Idealize.ShloMosaic.Lib.Pipeline.RegionArraysF

@[expose] public section

noncomputable section

namespace Cert.Proof.Rel

open Idealize.ShloMosaic Idealize.ShloMosaic.TcCoe
open Idealize.SL Idealize.SL.RA
open Idealize.SL.BI (sProp bigSep bigSep_congr)
open scoped Idealize.SL.BI
open Idealize.SL.BI.BIBase Idealize.SL.BI.Laws Idealize.SL.Sem Idealize.SL.ProofMode
open Idealize.ShloMosaic.Rounds
open Idealize.ShloMosaic.Pipeline Idealize.SL.RA.PCS

variable {nD : Nat} {τ : Topo} {sig : RefSig} {Val : EltTy → Type} {U : Type} [URA U]

local notation "𝕄" => MT nD τ sig Unit Val ℕ U ℕ

variable {Λ₀ : Labels} {P : Type} [Fintype P]

/-- What rides beside the buffers: the unscoped semaphores at zero, and a core that owes nothing. -/
def rest (c : Dev nD) : sProp 𝕄 := iprop(unscopedSems0 c ∗ ∃ W, owes (c.tc : Thread nD τ) (0 : CellTallies nD τ sig Unit) W)

/-- The thread state: every unscoped buffer at a valuation that meets `φ c`. -/
def St (φ : Dev nD → Valuation τ sig Val → Prop) (c : Dev nD) : sProp 𝕄 :=
  iprop(∃ W, ⌜φ c W⌝ ∗ StableHlo.held (c.tc : Thread nD τ) (ucRefs τ sig) W ∗ rest c)

/-- After a host stretch: the operations' result on a valuation that met `φ c`. -/
def hostP (ops : List (HloOp τ sig Val)) (φ : Dev nD → Valuation τ sig Val → Prop) (c : Dev nD) (W' : Valuation τ sig Val) : Prop :=
  ∃ W, φ c W ∧ W' = StableHlo.after ops W

section Region

variable (pcs : P → PCfg sig Λ₀ Val) (a : (p : P) → (pcs p).Adm)
  (rd : (p : P) → (c : Dev nD) → RDat τ Val Unit ℕ U ℕ (pin pcs a p) c)
  (defs₀ : Defs nD τ sig Val Λ₀) (𝒱₀ : Variants) (p : P)

abbrev L₀ : GSem nD τ sig → Finset Unit := fun _ => ∅
abbrev lv₀ : GSem nD τ sig → Unit → ℕ := fun _ _ => 0

/-- What a region leaves from the valuation `W`: its arrays at contents its write-backs may leave, every other buffer unchanged. -/
def exitP (c : Dev nD) (W W' : Valuation τ sig Val) : Prop :=
  (∀ w : Fin (pin pcs a p).W, (rd p c).ArrAt w (pin pcs a p).N (W' (Proc.devRef .tc (arrRef (pin pcs a p).spec w))))
    ∧ ∀ b : Ref sig .tc, b ∉ Finset.univ.image (arrRef (pin pcs a p).spec) → W' (Proc.devRef .tc b) = W (Proc.devRef .tc b)

omit [Fintype P] in
/-- The arrays after the region are at some contents its write-backs may leave. -/
theorem arraysAt_some [∀ e, Nonempty (Val e)] (c : Dev nD) (n : Nat) : ((rd p c).arraysAt n : sProp 𝕄)
    ⊢ iprop(∃ A : (w : Fin (pin pcs a p).W) → Buf Val (((pin pcs a p).win w).arr.view.loc (c.tc : Thread nD τ)),
      ⌜∀ w, (rd p c).ArrAt w n (A w)⌝ ∗ (rd p c).arrays A) := by
  unfold RDat.arraysAt RDat.arrays
  refine (BI.bigSep_exists_pi Finset.univ _).trans ?_
  iintro ⟨%A, H⟩
  ihave H' := (BI.bigSep_pure_sep Finset.univ (fun w => (rd p c).ArrAt w n (A w)) _) $$ H
  icases H' with ⟨%hA, H⟩
  iexists A
  isplitr
  · ipureintro; exact fun w => hA w (Finset.mem_univ w)
  iexact H

/-- The contents `A` of a region's arrays as a function on references: `W` elsewhere. -/
def contents {c : Dev nD} (W : Valuation τ sig Val)
    (A : (w : Fin (pin pcs a p).W) → Buf Val (((pin pcs a p).win w).arr.view.loc (c.tc : Thread nD τ)))
    (b : Ref sig .tc) : Buf Val ((c.tc : Thread nD τ).loc b) := by
  classical
  exact if h : ∃ w, arrRef (pin pcs a p).spec w = b then
    cast (congrArg (fun b : Ref sig .tc => Buf Val ((c.tc : Thread nD τ).loc b)) h.choose_spec) (A h.choose) else W (Proc.devRef .tc b)

omit [Fintype P] in
theorem contents_arr {c : Dev nD} (hinj : Function.Injective (arrRef (pin pcs a p).spec)) (W : Valuation τ sig Val)
    (A : (w : Fin (pin pcs a p).W) → Buf Val (((pin pcs a p).win w).arr.view.loc (c.tc : Thread nD τ))) (w : Fin (pin pcs a p).W) :
    contents pcs a p W A (arrRef (pin pcs a p).spec w) = A w := by
  unfold contents
  have h : ∃ w', arrRef (pin pcs a p).spec w' = arrRef (pin pcs a p).spec w := ⟨w, rfl⟩
  rw [dif_pos h]
  suffices ∀ (w' : Fin (pin pcs a p).W) (e : arrRef (pin pcs a p).spec w' = arrRef (pin pcs a p).spec w),
      cast (congrArg (fun b : Ref sig .tc => Buf Val ((c.tc : Thread nD τ).loc b)) e) (A w') = A w from this _ h.choose_spec
  intro w' e
  obtain rfl := hinj e
  rfl

/-- The record of a region run from the valuation `W`: entered with every unscoped buffer at `W`, left at some valuation meeting `exitP`. -/
def seg [∀ e, Nonempty (Val e)] (kit : PLaunchFacts (nD := nD) (τ := τ) pcs p) (hK : (pcs p).pre.K = 0)
    (W : Valuation τ sig Val)
    (hA : ∀ c w, (rd p c).A w = W (Proc.devRef .tc (arrRef (pin pcs a p).spec w)))
    (hq : ∀ c w, (rd p c).q w = fullShare) (howed : ∀ c t, (rd p c).owed t = 0) (hrec : ∀ c, (rd p c).recorded 0 = Set.univ)
    (hΦ : ∀ c t, (rd p c).Φ t = scopedRest (pin pcs a p).spec c)
    (hbody : ∀ c, (rd p c).BodyObligation defs₀ 𝒱₀ () Set.univ) :
    RDat.RegionSeg pcs a rd () defs₀ 𝒱₀ (L₀ : GSem nD τ sig → Finset Unit) lv₀ p where
  win := kit.win.to₀
  block_pos := kit.block_pos
  stage_whole := kit.stage_whole
  K := PEmpty
  osem k := k.elim
  ho := OwnSemFacts.none _
  hbody := hbody
  hwaits := RDat.hwaits_of_owed_zero pcs a rd () L₀ lv₀ p howed
  pre c := iprop(StableHlo.held (c.tc : Thread nD τ) (ucRefs τ sig) W ∗ rest c)
  post c := iprop(∃ W', ⌜exitP pcs a rd p c W W'⌝ ∗ StableHlo.held (c.tc : Thread nD τ) (ucRefs τ sig) W' ∗ rest c)
  X _ := BI.emp
  Y _ := BI.emp
  Z c := iprop(unscopedRest (Ix := Unit) (Name := ℕ) (U := U) (Lvl := ℕ) (pin pcs a p).spec c (fun b => W (Proc.devRef .tc b)) ∗ unscopedSems0 c)
  hentry c := by
    have hsh : ∀ w, (rd p c).share w = fullShare := fun w => by unfold RDat.share; rw [hq]; split <;> rfl
    have hsplit := RDat.arrays_of_unscopedBufs pcs a rd (p := p) kit.win kit.arr_whole c hsh (fun b => W (Proc.devRef .tc b)) (hA c)
    rw [ownSems0_none, prefHeld_of_none _ hK, ← unscopedBufs_held]
    unfold rest
    iintro ⟨⟨Hub, Hs, HO⟩, -, -⟩
    ihave H := hsplit $$ Hub
    icases H with ⟨Ha, Hrest⟩
    imodintro
    isplitl [Ha]; · iexact Ha
    isplitr; · iempintro
    isplitl [HO]
    · unfold RDat.owesAt owesWithin RDat.bound
      rw [howed c 0, hrec c]
      icases HO with ⟨%Wd, HO⟩; iexists Wd; isplitr; · ipureintro; exact fun _ _ => Or.inl trivial
      iexact HO
    isplitr; · iempintro
    isplitl [Hrest] <;> iassumption
  hin c := by
    rw [hΦ]
    iintro ⟨-, -, Hr⟩; iexact Hr
  hout c := by
    rw [ownSems0_none, hΦ]
    iintro Hr
    isplitr; · iempintro
    isplitr; · iempintro
    iexact Hr
  hexit c := by
    classical
    have hsh : ∀ w, (rd p c).share w = fullShare := fun w => by unfold RDat.share; rw [hq]; split <;> rfl
    iintro ⟨Ha, HO, -, Hrest, Hs⟩
    ihave Ha := (arraysAt_some pcs a rd p c _) $$ Ha
    icases Ha with ⟨%A, %hAt, Ha⟩
    let S := Finset.univ.image (arrRef (pin pcs a p).spec)
    let W' := withR W S c (contents pcs a p W A)
    have hF : ∀ w, A w = W' (Proc.devRef .tc (arrRef (pin pcs a p).spec w)) := fun w =>
      ((withR_of_mem W S c _ _ (Finset.mem_image.mpr ⟨w, Finset.mem_univ _, rfl⟩)).trans (contents_arr pcs a p kit.win.arr_inj W A w)).symm
    have hO : ∀ b : Ref sig .tc, b ∉ S → W' (Proc.devRef .tc b) = W (Proc.devRef .tc b) := fun b hb => withR_of_not_mem W S c _ b hb
    have hjoin := unscopedBufs_of_arrays (p := p) pcs a (Ix := Unit) (Name := ℕ) (U := U) (Lvl := ℕ) kit.win kit.arr_whole c
      (fun q c => (rd q c).withAfter fun _ _ => fun _ => Classical.arbitrary _) hsh (fun b => W (Proc.devRef .tc b)) (fun b => W' (Proc.devRef .tc b)) A hF hO
    rw [unscopedBufs_held] at hjoin
    imodintro
    iexists W'
    isplitr
    · ipureintro
      exact ⟨fun w => by rw [← hF w]; exact hAt w, hO⟩
    isplitl [Ha Hrest]
    · have he : (rd p c).arrays A = ((rd p c).withAfter fun _ _ => fun _ => Classical.arbitrary _).arrays A := rfl
      rw [← he] at hjoin
      iapply hjoin
      isplitl [Ha]; · iexact Ha
      iexact Hrest
    unfold rest
    isplitl [Hs]; · iexact Hs
    unfold RDat.owesAt owesWithin
    rw [howed c (Fin.last _)]
    icases HO with ⟨%Wd, -, HO⟩; iexists Wd; iexact HO

end Region

section Segs

variable (pcs : P → PCfg sig Λ₀ Val) (a : (p : P) → (pcs p).Adm)
  (phinj : Function.Injective (cellOf (nD := nD) (τ := τ) (pin pcs a)))
  (defs₀ : Defs nD τ sig Val Λ₀) (𝒱₀ : Variants)
  {nL : Nat} (loops : Fin nL → Prog (TpuEff nD τ sig Val (HostLoop.Sig (Sig Λ₀ P fun p => (pcs p).Adm) nL) .tc) PUnit)
  {J : Type} [DecidableEq J] (tk : J → Ticket (Ix := Unit) (Name := ℕ) (U := U) (Lvl := ℕ) (nD := nD) (τ := τ) pcs a)

/-- A host stretch, run from whichever valuation the state holds. -/
def hostSeg (ops : List (HloOp τ sig Val)) (hS : ∀ op ∈ ops, op.bufs ⊆ ucRefs τ sig) (hf : ∀ op ∈ ops, op.fresh = ∅)
    (φ : Dev nD → Valuation τ sig Val → Prop) : CSeg pcs a defs₀ 𝒱₀ (L₀ : GSem nD τ sig → Finset Unit) lv₀ loops tk :=
  CSeg.exSel (fun W c => φ c W) (fun W => CSeg.ofOps pcs a defs₀ 𝒱₀ L₀ lv₀ loops tk (ucRefs τ sig) ops hS hf (fun _ => W) rest)
    (StableHlo.seq ops) (fun _ => rfl) 0 (fun _ => le_rfl) ∅ (fun _ => rfl)

/-- The state after a host stretch: the operations' result. -/
theorem hostSeg_post (ops : List (HloOp τ sig Val)) (hS : ∀ op ∈ ops, op.bufs ⊆ ucRefs τ sig) (hf : ∀ op ∈ ops, op.fresh = ∅)
    (φ : Dev nD → Valuation τ sig Val → Prop) (c : Dev nD) :
    (hostSeg pcs a defs₀ 𝒱₀ loops tk ops hS hf φ).post c ⊢ (St (hostP ops φ) c : sProp 𝕄) := by
  refine exSel_elim (sel := fun W => φ c W) (A := fun W => iprop(StableHlo.held (c.tc : Thread nD τ) (ucRefs τ sig) (StableHlo.after ops W) ∗ rest c)) fun W hW => ?_
  show iprop(StableHlo.held (c.tc : Thread nD τ) (ucRefs τ sig) (StableHlo.after ops W) ∗ rest c) ⊢ _
  unfold St
  iintro H
  iexists _
  isplitr; swap; · iexact H
  ipureintro; exact ⟨W, hW, rfl⟩

/-- After a region: some valuation its run may leave from one that met `φ c`. -/
def regP (rd : Valuation τ sig Val → (p : P) → (c : Dev nD) → RDat τ Val Unit ℕ U ℕ (pin pcs a p) c) (p : P)
    (φ : Dev nD → Valuation τ sig Val → Prop) (c : Dev nD) (W' : Valuation τ sig Val) : Prop :=
  ∃ W, φ c W ∧ exitP pcs a (rd W) p c W W'

/-- A region, run from whichever valuation the state holds: `R W` its record from `W`. -/
def regSeg [∀ e, Nonempty (Val e)] (j : J) (rd : Valuation τ sig Val → (p : P) → (c : Dev nD) → RDat τ Val Unit ℕ U ℕ (pin pcs a p) c)
    (R : (W : Valuation τ sig Val) → RDat.RegionSeg pcs a (rd W) () defs₀ 𝒱₀ (L₀ : GSem nD τ sig → Finset Unit) lv₀ (tk j).p)
    (φ : Dev nD → Valuation τ sig Val → Prop) : CSeg pcs a defs₀ 𝒱₀ (L₀ : GSem nD τ sig → Finset Unit) lv₀ loops tk :=
  CSeg.regionFR pcs a () phinj defs₀ 𝒱₀ L₀ lv₀ loops tk j rd R (fun W c => φ c W)

/-- The state after a region, from what its records leave. -/
theorem regSeg_post [∀ e, Nonempty (Val e)] (j : J) (rd : Valuation τ sig Val → (p : P) → (c : Dev nD) → RDat τ Val Unit ℕ U ℕ (pin pcs a p) c)
    (R : (W : Valuation τ sig Val) → RDat.RegionSeg pcs a (rd W) () defs₀ 𝒱₀ (L₀ : GSem nD τ sig → Finset Unit) lv₀ (tk j).p)
    (hR : ∀ W c, (R W).post c = iprop(∃ W', ⌜exitP pcs a (rd W) (tk j).p c W W'⌝ ∗ StableHlo.held (c.tc : Thread nD τ) (ucRefs τ sig) W' ∗ rest c))
    (φ : Dev nD → Valuation τ sig Val → Prop) (c : Dev nD) :
    (regSeg pcs a phinj defs₀ 𝒱₀ loops tk j rd R φ).post c ⊢ (St (regP pcs a rd (tk j).p φ) c : sProp 𝕄) := by
  refine exSel_elim (sel := fun W => φ c W) (A := fun W => (R W).post c) fun W hW => ?_
  rw [hR]
  unfold St
  iintro ⟨%W', %h, H⟩
  iexists W'
  isplitr; · ipureintro; exact ⟨W, hW, h⟩
  iexact H

/-- The state before a region is what its records are entered from. -/
theorem regSeg_pre [∀ e, Nonempty (Val e)] (j : J) (rd : Valuation τ sig Val → (p : P) → (c : Dev nD) → RDat τ Val Unit ℕ U ℕ (pin pcs a p) c)
    (R : (W : Valuation τ sig Val) → RDat.RegionSeg pcs a (rd W) () defs₀ 𝒱₀ (L₀ : GSem nD τ sig → Finset Unit) lv₀ (tk j).p)
    (hR : ∀ W c, (R W).pre c = iprop(StableHlo.held (c.tc : Thread nD τ) (ucRefs τ sig) W ∗ rest c))
    (φ : Dev nD → Valuation τ sig Val → Prop) (c : Dev nD) :
    (St φ c : sProp 𝕄) ⊢ (regSeg pcs a phinj defs₀ 𝒱₀ loops tk j rd R φ).pre c := by
  show _ ⊢ iprop(∃ W, ⌜φ c W⌝ ∗ (R W).pre c)
  unfold St
  iintro ⟨%W, %h, H⟩
  iexists W
  isplitr; · ipureintro; exact h
  rw [hR]
  iexact H

end Segs

section Run

variable (pcs : P → PCfg sig Λ₀ Val) (a : (p : P) → (pcs p).Adm) [DecidableEq P]
  (phinj : Function.Injective (cellOf (nD := nD) (τ := τ) (pin pcs a)))
  (defs₀ : Defs nD τ sig Val Λ₀) (𝒱₀ : Variants)

/-- One copy of the pipeline library's algebra per pipeline. -/
abbrev UP (P : Type) (sig : RefSig) (nD : Nat) (τ : Topo) : Type := IProdConst P (UR sig nD τ) × Counters

/-- No proof data: a ticket's ghost state does not read it. -/
def noDat [∀ e, Nonempty (Val e)] {cfg : Cfg sig Λ₀} (c : Dev nD) : Dat τ Val Unit ℕ (UP P sig nD τ) ℕ cfg c where
  A _ := fun _ => Classical.arbitrary _
  after _ _ := fun _ => Classical.arbitrary _
  Φ _ := BI.emp
  q _ := fullShare
  owed _ := 0

/-- One ticket per pipeline. -/
def tkP [∀ e, Nonempty (Val e)] (p : P) : Ticket (Ix := Unit) (Name := ℕ) (U := UP P sig nD τ) (Lvl := ℕ) (nD := nD) (τ := τ) pcs a where
  p := p
  pdats _ c := noDat c
  EP := embAt p

omit [DecidableEq P] in
/-- One core's launch buffers, semaphores and obligation as its first state. -/
theorem init_core {U : Type} [URA U] (m : (ℓ : Loc nD τ sig) → Buf Val ℓ) (g : Dev nD → PrngReg) (L : GSem nD τ sig → Finset Unit) (lv : GSem nD τ sig → Unit → ℕ) (c : Dev nD) :
    iprop((unscopedBufs c (fun b => m ((c.tc : Thread nD τ).loc b)) ∗ unscopedSems0 c
          ∗ owes (c.tc : Thread nD τ) (0 : CellTallies nD τ sig Unit) ∅ ∗ launchCred (0 : Dev nD → CellTallies nD τ sig Unit) c ∗ prngReg c (g c) ∗ emp)
        ∗ levAts L lv)
      ⊢ (|={Set.univ}=> St (fun c W => W = fun b => m (c, b)) c : sProp (MT nD τ sig Unit Val ℕ U ℕ)) := by
  unfold St rest
  iintro ⟨⟨Hh, Hs, HO, -, -, -⟩, -⟩
  imodintro
  iexists (fun b => m (c, b))
  isplitr; · ipureintro; rfl
  isplitl [Hh]
  · iapply (Entails.of_eq (unscopedBufs_held c (fun b => m (c, b))))
    iexact Hh
  isplitl [Hs]; · iexact Hs
  iexists ∅; iexact HO

/-- The launch element of the users' algebra, as one copy of the pipeline library's launch element per pipeline. -/
theorem own_start (f : IProdConst P (UR sig nD τ)) (z : Counters) : (ownU (f, z) : sProp (MT nD τ sig Unit Val ℕ (UP P sig nD τ) ℕ))
    ⊢ |={Set.univ}=> iprop((bigSep Finset.univ fun j => BI.own (embAt (B := Counters) j (f j))) ∗ bigSep Finset.univ fun _ : Dev nD => BI.emp) := by
  iintro Hu
  ihave H := (ownU_pair f z) $$ Hu
  icases H with ⟨HP, -⟩
  ihave HP := (own_iprod f) $$ HP
  imodintro
  isplitl [HP]; · iexact HP
  rw [BI.bigSep_emp_const]
  iempintro

set_option backward.isDefEq.respectTransparency.types false in
include phinj in
/-- The whole run: a program whose lifting is a list of segments chaining from the launch valuation to `φ`. Every execution ends, with the
    unscoped buffers at a valuation that meets `φ` and every semaphore at zero. -/
theorem run [∀ e, Nonempty (Val e)] (m : (ℓ : Loc nD τ sig) → Buf Val ℓ) (g : Dev nD → PrngReg)
    (main : Dev nD → Prog (TpuEff nD τ sig Val (Sig Λ₀ P fun p => (pcs p).Adm) .tc) PUnit)
    (segs : List (CSeg pcs a defs₀ 𝒱₀ (L₀ : GSem nD τ sig → Finset Unit) lv₀ (fun l : Fin 0 => l.elim0) (tkP (nD := nD) (τ := τ) pcs a)))
    (hmain : ∀ c, HostLoop.liftProg (L := 0) (main c) = CSeg.runL segs)
    (hdis : segs.Pairwise fun s s' => Disjoint s.T s'.T)
    (φ : Dev nD → Valuation τ sig Val → Prop)
    (hch : CSeg.Chains (St fun c W => W = fun b => m (c, b)) segs (St φ)) :
    θ_run (Pipeline.defs pcs defs₀) (onTc (τ := τ) main) ⟨m, fun _ => 0, g⟩
      (fun r => (∀ c : Dev nD, ∃ W, φ c W ∧ ∀ b ∈ ucRefs τ sig, r.2.mem (c, b) = W b) ∧ r.2.sem = fun _ => 0) := by
  refine HostLoop.θ_run_of_lift (L := 0) (fun l => l.elim0) (Pipeline.defs pcs defs₀) main _ _ ?_
  refine θ_run_regions_loop_kit_sems pcs a phinj defs₀ 𝒱₀ L₀ lv₀ (fun l : Fin 0 => l.elim0) (tkP pcs a) m g _ segs
    (fun c Q => by rw [hmain]) hdis (O₀ := 0) (hL := fun _ _ => rfl) (G := fun _ => iprop(emp))
    (u₀ := ((fun _ => initOf (cells (pin pcs a) phinj) (launchToks (pin pcs a) phinj) : IProdConst P (UR sig nD τ)), 1))
    (hu₀ := own_start _ _)
    (T₀ := St fun c W => W = fun b => m (c, b)) (Tₙ := fun c => iprop(∃ W, ⌜φ c W⌝ ∗ StableHlo.held (c.tc : Thread nD τ) (ucRefs τ sig) W ∗ unscopedSems0 c))
    (hch := ?hch)
    (hinit := initEach L₀ lv₀ (init_core m g L₀ lv₀))
    (QY := fun c s => (∃ W, φ c W ∧ ∀ b ∈ ucRefs τ sig, s.mem (c, b) = W b)
      ∧ ∀ sm : SemLoc sig, sm.isScoped .tc = false → s.sem ((c.tc : Thread nD τ), sm) = 0)
    (hfin := fun c s' => by
      unfold StableHlo.held
      iintro ⟨⟨%W, %hW, Hh, Hs⟩, HSI⟩
      ihave %hs := (tcUnscoped_read c s') $$ [Hs HSI]
      · isplitl [Hs] <;> iassumption
      ihave Hp := (pointsTo_read_all (ucRefs τ sig) (fun b => (((c : Thread nD τ)).1, b)) W s') $$ [Hh HSI]
      · isplitl [Hh] <;> iassumption
      icases Hp with ⟨%hb, HSI⟩
      imodintro
      isplitr; · ipureintro; exact ⟨⟨W, hW, hb⟩, hs⟩
      iexact HSI)
    (hQ := fun s h hz => ⟨fun c => (h c).1, funext fun g' => ?sem⟩)
  case sem =>
    obtain ⟨⟨c, pr⟩, sm⟩ := g'
    by_cases hpr : pr = .tc
    · subst hpr
      by_cases hs : sm.isScoped .tc = true
      · exact hz _ (.inr hs)
      · exact (h c).2 sm (by simpa using hs)
    · exact hz _ (.inl hpr)
  case hch =>
    have hm : ∀ (l : List (CSeg pcs a defs₀ 𝒱₀ (L₀ : GSem nD τ sig → Finset Unit) lv₀ (fun l : Fin 0 => l.elim0) (tkP (nD := nD) (τ := τ) pcs a)))
        (A B B' : Dev nD → sProp (MT nD τ sig Unit Val ℕ (UP P sig nD τ) ℕ)), (∀ c, B c ⊢ B' c) → CSeg.Chains A l B → CSeg.Chains A l B' := by
      intro l
      induction l with
      | nil => intro A B B' h hc c; exact (hc c).trans (h c)
      | cons s l ih => intro A B B' h hc; exact ⟨hc.1, ih _ _ _ h hc.2⟩
    refine hm _ _ _ _ (fun c => ?_) hch
    unfold St rest
    iintro ⟨%W, %hW, Hh, Hs, HO⟩
    isplitr [HO]; swap; · iexact HO
    iexists W
    isplitr; · ipureintro; exact hW
    isplitl [Hh] <;> iassumption

end Run

end Cert.Proof.Rel

end
-- ==== Proof.Chain.lean ====
/-
  A list of segments chained one after another: a host stretch or a region put in front of a chain.
-/
module

public import proofs.«01_k».proof.Proof.Rel

@[expose] public section

noncomputable section

namespace Cert.Proof.Rel

open Idealize.ShloMosaic Idealize.ShloMosaic.TcCoe
open Idealize.SL Idealize.SL.RA
open Idealize.SL.BI (sProp bigSep bigSep_congr)
open scoped Idealize.SL.BI
open Idealize.SL.BI.BIBase Idealize.SL.BI.Laws Idealize.SL.Sem Idealize.SL.ProofMode
open Idealize.ShloMosaic.Rounds
open Idealize.ShloMosaic.Pipeline Idealize.SL.RA.PCS

variable {nD : Nat} {τ : Topo} {sig : RefSig} {Val : EltTy → Type} {U : Type} [URA U]

local notation "𝕄" => MT nD τ sig Unit Val ℕ U ℕ

variable {Λ₀ : Labels} {P : Type} [Fintype P]

variable (pcs : P → PCfg sig Λ₀ Val) (a : (p : P) → (pcs p).Adm)
  (phinj : Function.Injective (cellOf (nD := nD) (τ := τ) (pin pcs a)))
  (defs₀ : Defs nD τ sig Val Λ₀) (𝒱₀ : Variants)
  {nL : Nat} (loops : Fin nL → Prog (TpuEff nD τ sig Val (HostLoop.Sig (Sig Λ₀ P fun p => (pcs p).Adm) nL) .tc) PUnit)
  {J : Type} [DecidableEq J] (tk : J → Ticket (Ix := Unit) (Name := ℕ) (U := U) (Lvl := ℕ) (nD := nD) (τ := τ) pcs a)

variable {pcs a defs₀ 𝒱₀ loops tk}

/-- A chain may start from anything that gives its start. -/
theorem chains_from {l : List (CSeg pcs a defs₀ 𝒱₀ (L₀ : GSem nD τ sig → Finset Unit) lv₀ loops tk)}
    {A A' B : Dev nD → sProp 𝕄} (h : ∀ c, A c ⊢ A' c) (hc : CSeg.Chains A' l B) : CSeg.Chains A l B := by
  cases l with
  | nil => exact fun c => (h c).trans (hc c)
  | cons s l => exact ⟨fun c => (h c).trans (hc.1 c), hc.2⟩

/-- A host stretch in front of a chain. -/
theorem chains_host {l : List (CSeg pcs a defs₀ 𝒱₀ (L₀ : GSem nD τ sig → Finset Unit) lv₀ loops tk)} {B : Dev nD → sProp 𝕄}
    {ops : List (HloOp τ sig Val)} {hS : ∀ op ∈ ops, op.bufs ⊆ ucRefs τ sig} {hf : ∀ op ∈ ops, op.fresh = ∅}
    {φ : Dev nD → Valuation τ sig Val → Prop} (hc : CSeg.Chains (St (hostP ops φ)) l B) :
    CSeg.Chains (St φ) (hostSeg pcs a defs₀ 𝒱₀ loops tk ops hS hf φ :: l) B := by
  refine ⟨fun c => ?_, chains_from (fun c => hostSeg_post pcs a defs₀ 𝒱₀ loops tk ops hS hf φ c) hc⟩
  show _ ⊢ iprop(∃ W, ⌜φ c W⌝ ∗ StableHlo.held (c.tc : Thread nD τ) (ucRefs τ sig) W ∗ rest c)
  unfold St
  exact .rfl

/-- A region in front of a chain. -/
theorem chains_reg [∀ e, Nonempty (Val e)] {l : List (CSeg pcs a defs₀ 𝒱₀ (L₀ : GSem nD τ sig → Finset Unit) lv₀ loops tk)} {B : Dev nD → sProp 𝕄}
    {j : J} {rd : Valuation τ sig Val → (p : P) → (c : Dev nD) → RDat τ Val Unit ℕ U ℕ (pin pcs a p) c}
    {R : (W : Valuation τ sig Val) → RDat.RegionSeg pcs a (rd W) () defs₀ 𝒱₀ (L₀ : GSem nD τ sig → Finset Unit) lv₀ (tk j).p}
    {φ : Dev nD → Valuation τ sig Val → Prop}
    (hpre : ∀ W c, (R W).pre c = iprop(StableHlo.held (c.tc : Thread nD τ) (ucRefs τ sig) W ∗ rest c))
    (hpost : ∀ W c, (R W).post c = iprop(∃ W', ⌜exitP pcs a (rd W) (tk j).p c W W'⌝ ∗ StableHlo.held (c.tc : Thread nD τ) (ucRefs τ sig) W' ∗ rest c))
    (hc : CSeg.Chains (St (regP pcs a rd (tk j).p φ)) l B) :
    CSeg.Chains (St φ) (regSeg pcs a phinj defs₀ 𝒱₀ loops tk j rd R φ :: l) B :=
  ⟨fun c => regSeg_pre pcs a phinj defs₀ 𝒱₀ loops tk j rd R hpre φ c,
    chains_from (fun c => regSeg_post pcs a phinj defs₀ 𝒱₀ loops tk j rd R hpost φ c) hc⟩

end Cert.Proof.Rel

end
-- ==== Proof.KI.Bodies.lean ====
/-
  The four kernels' bodies, each run once on any whole buffers: what each leaves in the buffers it is handed, as a function of what they held.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Rel
public import Idealize.ShloMosaic.Lib.Tactic
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Rel

variable {F : FTy → Type} [FloatOps F] [Named F]

local notation "𝕄" => MT nD τ sig Unit (Elt F) ℕ (UP (Fin 4) sig nD τ) ℕ

/-- The logits block that the first kernel stores, from its grid point and the six blocks it reads. -/
def logitBlock (i : grid0.Coords) (X0 : Vec F S64x1024 .f32) (X1 : Vec F S2048x1024 .f32) (X2 : Vec F S64x50 .i32) (X3 X4 X5 : Vec F S64x1 .f32) :
    FVec F S64x2048 .f32 :=
  let v7 := k0_pay3 i
  let v107 := k0_pay6 v7 X2 (k0_pay4 (F := F) i X2) (k0_pay5 (F := F) i X2)
  let v163 := k0_pay8 v7 X2 v107 (k0_pay7 (F := F) X2)
  let v226 := k0_pay10 v7 X2 v163 (k0_pay9 v7 X2)
  let v289 := k0_pay13 v7 X2 v226 (k0_pay11 (F := F) X2) (k0_pay12 v7)
  k0_pay1 (k0_pay2 X0 X1) v7 X2 (k0_pay14 v7 X2 v289) (k0_pay15 (F := F) v7 X2) X3 X4 X5

/-- The last kernel's body: the fourth buffer is left at the probabilities of the block and the fifth at its log-probabilities. -/
theorem sound3 (c : Dev nD) (i : grid3.Coords)
    (M0 : Memref sig .tc .vmem S64x2048 .f32) (h0 : M0.IsWhole)
    (M1 : Memref sig .tc .vmem S64x1 .f32) (h1 : M1.IsWhole)
    (M2 : Memref sig .tc .vmem S64x1 .f32) (h2 : M2.IsWhole)
    (M3 : Memref sig .tc .vmem S64x2048 .f32) (h3 : M3.IsWhole)
    (M4 : Memref sig .tc .vmem S64x2048 .f32) (h4 : M4.IsWhole)
    (X0 : S64x2048.Idx → Elt F .f32)    (X1 : S64x1.Idx → Elt F .f32)    (X2 : S64x1.Idx → Elt F .f32)    (X3 : S64x2048.Idx → Elt F .f32)    (X4 : S64x2048.Idx → Elt F .f32)
    (K : PUnit → sProp 𝕄) :
    iprop((owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4)
          ∗ (iprop(owns (c : Thread nD τ) M0 fullShare X0 ∗ owns (c : Thread nD τ) M1 fullShare X1 ∗ owns (c : Thread nD τ) M2 fullShare X2 ∗ owns (c : Thread nD τ) M3 fullShare (k3_pay2 X0 X1 X2) ∗ owns (c : Thread nD τ) M4 fullShare (k3_pay1 X0 X1 X2)) -∗ K ⟨⟩))
      ⊢ wp frame (wpE (defs₀ (F := F)) Variants.none c none) Set.univ (cc3__probs_kernel i M0 h0 M1 h1 M2 h2 M3 h3 M4 h4) K := by
  simp only [cc3__probs_kernel_eq_skeleton]; unfold cc3__probs_kernel_skel
  unfold owns
  iintro ⟨⟨⟨%f0, %e0, H0⟩, ⟨%f1, %e1, H1⟩, ⟨%f2, %e2, H2⟩, ⟨%f3, %e3, H3⟩, ⟨%f4, %e4, H4⟩⟩, Hk⟩
  sl_exec
  sl_step
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists _; isplitr; swap; · iexact H3
    ipureintro
    refine (View.read_writes_full _ _ _ _ _).trans ?_; rw [View.readAt_full, View.readAt_full, View.readAt_full, e0, e1, e2]
  iexists _; isplitr; swap; · iexact H4
  ipureintro
  refine (View.read_writes_full _ _ _ _ _).trans ?_; rw [View.readAt_full, View.readAt_full, View.readAt_full, e0, e1, e2]

/-- The block-maximum kernel's body at the first point: the table starts at its fill. -/
theorem sound1a (c : Dev nD) (i : grid1.Coords)
    (M0 : Memref sig .tc .vmem S64x2048 .f32) (h0 : M0.IsWhole)
    (M1 : Memref sig .tc .vmem S64x49 .f32) (h1 : M1.IsWhole)
    (X0 : S64x2048.Idx → Elt F .f32)    (X1 : S64x49.Idx → Elt F .f32)
    (K : PUnit → sProp 𝕄)
    (hc : Scalar.cmpi .ne (Scalar.extui (Scalar.cmpi .eq (BitVec.ofNat 32 (i 0).val) 0#32)) 0#32 = 1#1) :
    iprop((owns (c : Thread nD τ) M0 fullShare X0 ∗ owns (c : Thread nD τ) M1 fullShare X1)
          ∗ (iprop(owns (c : Thread nD τ) M0 fullShare X0 ∗ owns (c : Thread nD τ) M1 fullShare (k1_pay2 i X0 (k1_pay1 (F := F)))) -∗ K ⟨⟩))
      ⊢ wp frame (wpE (defs₀ (F := F)) Variants.none c none) Set.univ (cc1__blockmax_kernel i M0 h0 M1 h1) K := by
  simp only [cc1__blockmax_kernel_eq_skeleton]; unfold cc1__blockmax_kernel_skel
  unfold owns
  iintro ⟨⟨⟨%f0, %e0, H0⟩, ⟨%f1, %e1, H1⟩⟩, Hk⟩
  sl_exec
  sl_step
  iapply Hk
  isplitl [H0]
  · iexists f0; isplitr; · ipureintro; exact e0
    iexact H0
  iexists _; isplitr; swap; · iexact H1
  ipureintro
  refine (View.read_writes_full _ _ _ _ _).trans ?_; rw [View.readAt_full, e0]; unfold sound1a.sl.v20; exact congrArg _ (View.readCov_full _ _ _ _ _)

/-- The block-maximum kernel's body at a later point: the table is updated. -/
theorem sound1b (c : Dev nD) (i : grid1.Coords)
    (M0 : Memref sig .tc .vmem S64x2048 .f32) (h0 : M0.IsWhole)
    (M1 : Memref sig .tc .vmem S64x49 .f32) (h1 : M1.IsWhole)
    (X0 : S64x2048.Idx → Elt F .f32)    (X1 : S64x49.Idx → Elt F .f32)
    (K : PUnit → sProp 𝕄)
    (hc : ¬ Scalar.cmpi .ne (Scalar.extui (Scalar.cmpi .eq (BitVec.ofNat 32 (i 0).val) 0#32)) 0#32 = 1#1) :
    iprop((owns (c : Thread nD τ) M0 fullShare X0 ∗ owns (c : Thread nD τ) M1 fullShare X1)
          ∗ (iprop(owns (c : Thread nD τ) M0 fullShare X0 ∗ owns (c : Thread nD τ) M1 fullShare (k1_pay2 i X0 X1)) -∗ K ⟨⟩))
      ⊢ wp frame (wpE (defs₀ (F := F)) Variants.none c none) Set.univ (cc1__blockmax_kernel i M0 h0 M1 h1) K := by
  simp only [cc1__blockmax_kernel_eq_skeleton]; unfold cc1__blockmax_kernel_skel
  unfold owns
  iintro ⟨⟨⟨%f0, %e0, H0⟩, ⟨%f1, %e1, H1⟩⟩, Hk⟩
  sl_exec
  sl_step
  iapply Hk
  isplitl [H0]
  · iexists f0; isplitr; · ipureintro; exact e0
    iexact H0
  iexists _; isplitr; swap; · iexact H1
  ipureintro
  refine (View.read_writes_full _ _ _ _ _).trans ?_; rw [View.readAt_full, View.readAt_full, e0, e1]

/-- The block-sum kernel's body at the first point: the table starts at its fill. -/
theorem sound2a (c : Dev nD) (i : grid2.Coords)
    (M0 : Memref sig .tc .vmem S64x2048 .f32) (h0 : M0.IsWhole)
    (M1 : Memref sig .tc .vmem S64x1 .f32) (h1 : M1.IsWhole)
    (M2 : Memref sig .tc .vmem S64x49 .f32) (h2 : M2.IsWhole)
    (X0 : S64x2048.Idx → Elt F .f32)    (X1 : S64x1.Idx → Elt F .f32)    (X2 : S64x49.Idx → Elt F .f32)
    (K : PUnit → sProp 𝕄)
    (hc : Scalar.cmpi .ne (Scalar.extui (Scalar.cmpi .eq (BitVec.ofNat 32 (i 0).val) 0#32)) 0#32 = 1#1) :
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1 ∗ owns (c : Thread nD τ) M2 fullShare (k2_pay2 i X0 X1 (k2_pay1 (F := F)))) -∗ K ⟨⟩))
      ⊢ wp frame (wpE (defs₀ (F := F)) Variants.none c none) Set.univ (cc2__blocksum_kernel i M0 h0 M1 h1 M2 h2) K := by
  simp only [cc2__blocksum_kernel_eq_skeleton]; unfold cc2__blocksum_kernel_skel
  unfold owns
  iintro ⟨⟨⟨%f0, %e0, H0⟩, ⟨%f1, %e1, H1⟩, ⟨%f2, %e2, H2⟩⟩, Hk⟩
  sl_exec
  sl_step
  iapply Hk
  isplitl [H0]
  · iexists f0; isplitr; · ipureintro; exact e0
    iexact H0
  isplitl [H1]
  · iexists f1; isplitr; · ipureintro; exact e1
    iexact H1
  iexists _; isplitr; swap; · iexact H2
  ipureintro
  refine (View.read_writes_full _ _ _ _ _).trans ?_; rw [View.readAt_full, View.readAt_full, e0, e1]; unfold sound2a.sl.v25; exact congrArg _ (View.readCov_full _ _ _ _ _)

/-- The block-sum kernel's body at a later point: the table is updated. -/
theorem sound2b (c : Dev nD) (i : grid2.Coords)
    (M0 : Memref sig .tc .vmem S64x2048 .f32) (h0 : M0.IsWhole)
    (M1 : Memref sig .tc .vmem S64x1 .f32) (h1 : M1.IsWhole)
    (M2 : Memref sig .tc .vmem S64x49 .f32) (h2 : M2.IsWhole)
    (X0 : S64x2048.Idx → Elt F .f32)    (X1 : S64x1.Idx → Elt F .f32)    (X2 : S64x49.Idx → Elt F .f32)
    (K : PUnit → sProp 𝕄)
    (hc : ¬ Scalar.cmpi .ne (Scalar.extui (Scalar.cmpi .eq (BitVec.ofNat 32 (i 0).val) 0#32)) 0#32 = 1#1) :
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1 ∗ owns (c : Thread nD τ) M2 fullShare (k2_pay2 i X0 X1 X2)) -∗ K ⟨⟩))
      ⊢ wp frame (wpE (defs₀ (F := F)) Variants.none c none) Set.univ (cc2__blocksum_kernel i M0 h0 M1 h1 M2 h2) K := by
  simp only [cc2__blocksum_kernel_eq_skeleton]; unfold cc2__blocksum_kernel_skel
  unfold owns
  iintro ⟨⟨⟨%f0, %e0, H0⟩, ⟨%f1, %e1, H1⟩, ⟨%f2, %e2, H2⟩⟩, Hk⟩
  sl_exec
  sl_step
  iapply Hk
  isplitl [H0]
  · iexists f0; isplitr; · ipureintro; exact e0
    iexact H0
  isplitl [H1]
  · iexists f1; isplitr; · ipureintro; exact e1
    iexact H1
  iexists _; isplitr; swap; · iexact H2
  ipureintro
  refine (View.read_writes_full _ _ _ _ _).trans ?_; rw [View.readAt_full, View.readAt_full, View.readAt_full, e0, e1, e2]

/-- The first kernel's body: the last buffer is left at the block of logits. -/
theorem sound0 (c : Dev nD) (i : grid0.Coords)
    (M0 : Memref sig .tc .vmem S64x1024 .f32) (h0 : M0.IsWhole)
    (M1 : Memref sig .tc .vmem S2048x1024 .f32) (h1 : M1.IsWhole)
    (M2 : Memref sig .tc .vmem S64x50 .i32) (h2 : M2.IsWhole)
    (M3 : Memref sig .tc .vmem S64x1 .f32) (h3 : M3.IsWhole)
    (M4 : Memref sig .tc .vmem S64x1 .f32) (h4 : M4.IsWhole)
    (M5 : Memref sig .tc .vmem S64x1 .f32) (h5 : M5.IsWhole)
    (M6 : Memref sig .tc .vmem S64x2048 .f32) (h6 : M6.IsWhole)
    (X0 : S64x1024.Idx → Elt F .f32)    (X1 : S2048x1024.Idx → Elt F .f32)    (X2 : S64x50.Idx → Elt F .i32)    (X3 : S64x1.Idx → Elt F .f32)    (X4 : S64x1.Idx → Elt F .f32)    (X5 : S64x1.Idx → Elt F .f32)    (X6 : S64x2048.Idx → Elt F .f32)
    (K : PUnit → sProp 𝕄) :
    iprop((owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6)
          ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (logitBlock i X0 X1 X2 X3 X4 X5)) -∗ K ⟨⟩))
      ⊢ wp frame (wpE (defs₀ (F := F)) Variants.none c none) Set.univ (cc0__logits_kernel i M0 h0 M1 h1 M2 h2 M3 h3 M4 h4 M5 h5 M6 h6) K := by
  simp only [cc0__logits_kernel_eq_skeleton]; unfold cc0__logits_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, Hk⟩
  sl_exec
  sl_step
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; isplitr; swap; · iexact H6
  ipureintro
  refine (View.read_writes_full _ _ _ _ _).trans ?_; rw [View.readAt_full, View.readAt_full, View.readAt_full, View.readAt_full, View.readAt_full, View.readAt_full, e0, e1, e2, e3, e4, e5]; rfl

end Cert.KernelIdeal.Hand

end
-- ==== Proof.KI.Regions.lean ====
/-
  The four kernel regions, each from any contents of the buffers: what a run of its body may leave in each staging buffer, and the region's record.
-/
module

public import proofs.«01_k».proof.Proof.KI.Bodies
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Proof.Rel

variable {F : FTy → Type} [FloatOps F] [Named F]

local notation "𝕄" => MT nD τ sig Unit (Elt F) ℕ (UP (Fin 4) sig nD τ) ℕ

/-- No pipeline takes a prefetched table. -/
abbrev adm : (p : Fin 4) → (pcfgs (F := F) p).Adm := fun p => (cfgs p).toPCfg_adm

/-- The first point of the grid of region 1 is the one the guard names. -/
theorem guard1 : ∀ t : Fin cfg1.N, (Scalar.cmpi .ne (Scalar.extui (Scalar.cmpi .eq (BitVec.ofNat 32 ((grid1.coords t) 0).val) 0#32)) 0#32 = 1#1) ↔ t.val = 0 := by
  show ∀ t : Fin grid1.N, _
  decide
/-- The first point of the grid of region 2 is the one the guard names. -/
theorem guard2 : ∀ t : Fin cfg2.N, (Scalar.cmpi .ne (Scalar.extui (Scalar.cmpi .eq (BitVec.ofNat 32 ((grid2.coords t) 0).val) 0#32)) 0#32 = 1#1) ↔ t.val = 0 := by
  show ∀ t : Fin grid2.N, _
  decide

/-- The arrays of region 0 at the contents `W`, and nothing said of what the body leaves. -/
def base0 (W : Valuation τ sig (Elt F)) (c : Dev nD) : RDat τ (Elt F) Unit ℕ (UP (Fin 4) sig nD τ) ℕ cfg0 c where
  A w := W (Proc.devRef .tc (Pipeline.arrRef spec0 w))
  after _ _ _ _ := True
  Φ _ := Pipeline.scopedRest (Ix := Unit) (Name := ℕ) (U := UP (Fin 4) sig nD τ) (Lvl := ℕ) (Val := Elt F) (Pipeline.pin (pcfgs (F := F)) adm 0).spec c
  q _ := fullShare
  owed _ := 0

/-- Region 0, logits block by block: the body leaves its operands' buffers as found, and each result's buffer at what it computes from the fetched blocks. -/
def rd0 (W : Valuation τ sig (Elt F)) (c : Dev nD) : RDat τ (Elt F) Unit ℕ (UP (Fin 4) sig nD τ) ℕ cfg0 c where
  A w := W (Proc.devRef .tc (Pipeline.arrRef spec0 w))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => ∃ d0 d1 d2 d3 d4 d5, X = logitBlock (grid0.coords t) ((base0 W c).fetched 0 t d0) ((base0 W c).fetched 1 t d1) ((base0 W c).fetched 2 t d2) ((base0 W c).fetched 3 t d3) ((base0 W c).fetched 4 t d4) ((base0 W c).fetched 5 t d5)
  Φ _ := Pipeline.scopedRest (Ix := Unit) (Name := ℕ) (U := UP (Fin 4) sig nD τ) (Lvl := ℕ) (Val := Elt F) (Pipeline.pin (pcfgs (F := F)) adm 0).spec c
  q _ := fullShare
  owed _ := 0

/-- Operand window 0 of region 0 holds its block of the array when the body runs. -/
theorem finds0_0 (W : Valuation τ sig (Elt F)) (c : Dev nD) (t : Fin cfg0.N) (Y) (h : (rd0 W c).Finds 0 t Y) : ∃ d, Y = (base0 W c).fetched 0 t d :=
  (rd0 W c).finds_in_eq_fetched 0 rfl (fun _ _ _ => rfl) (fun _ _ _ h => h) t Y h
/-- Operand window 1 of region 0 holds its block of the array when the body runs. -/
theorem finds0_1 (W : Valuation τ sig (Elt F)) (c : Dev nD) (t : Fin cfg0.N) (Y) (h : (rd0 W c).Finds 1 t Y) : ∃ d, Y = (base0 W c).fetched 1 t d :=
  ((rd0 W c).finds_of_fetch (fetch0_1 t) Y).mp h
/-- Operand window 2 of region 0 holds its block of the array when the body runs. -/
theorem finds0_2 (W : Valuation τ sig (Elt F)) (c : Dev nD) (t : Fin cfg0.N) (Y) (h : (rd0 W c).Finds 2 t Y) : ∃ d, Y = (base0 W c).fetched 2 t d :=
  (rd0 W c).finds_in_eq_fetched 2 rfl (fun _ _ _ => rfl) (fun _ _ _ h => h) t Y h
/-- Operand window 3 of region 0 holds its block of the array when the body runs. -/
theorem finds0_3 (W : Valuation τ sig (Elt F)) (c : Dev nD) (t : Fin cfg0.N) (Y) (h : (rd0 W c).Finds 3 t Y) : ∃ d, Y = (base0 W c).fetched 3 t d :=
  (rd0 W c).finds_in_eq_fetched 3 rfl (fun _ _ _ => rfl) (fun _ _ _ h => h) t Y h
/-- Operand window 4 of region 0 holds its block of the array when the body runs. -/
theorem finds0_4 (W : Valuation τ sig (Elt F)) (c : Dev nD) (t : Fin cfg0.N) (Y) (h : (rd0 W c).Finds 4 t Y) : ∃ d, Y = (base0 W c).fetched 4 t d :=
  (rd0 W c).finds_in_eq_fetched 4 rfl (fun _ _ _ => rfl) (fun _ _ _ h => h) t Y h
/-- Operand window 5 of region 0 holds its block of the array when the body runs. -/
theorem finds0_5 (W : Valuation τ sig (Elt F)) (c : Dev nD) (t : Fin cfg0.N) (Y) (h : (rd0 W c).Finds 5 t Y) : ∃ d, Y = (base0 W c).fetched 5 t d :=
  (rd0 W c).finds_in_eq_fetched 5 rfl (fun _ _ _ => rfl) (fun _ _ _ h => h) t Y h

/-- The body of region 0 on the buffers the pipeline hands it. -/
theorem body0 (W : Valuation τ sig (Elt F)) (c : Dev nD) : (rd0 W c).BodyObligation (defs₀ (F := F)) Variants.none () Set.univ := fun t Y hY => by
  obtain ⟨d0, e0⟩ := finds0_0 W c t (Y 0) (hY 0)
  obtain ⟨d1, e1⟩ := finds0_1 W c t (Y 1) (hY 1)
  obtain ⟨d2, e2⟩ := finds0_2 W c t (Y 2) (hY 2)
  obtain ⟨d3, e3⟩ := finds0_3 W c t (Y 3) (hY 3)
  obtain ⟨d4, e4⟩ := finds0_4 W c t (Y 4) (hY 4)
  obtain ⟨d5, e5⟩ := finds0_5 W c t (Y 5) (hY 5)
  rw [bigSep_W0, bigSep_W0]
  rw [show (rd0 W c).Φ t.castSucc = (rd0 W c).Φ t.succ from rfl, show (rd0 W c).owesAt () t.succ = (rd0 W c).owesAt () t.castSucc from rfl]
  rw [show defs₀ (F := F) .tc cfg0.body (cfg0.bodyArgs t (cfg0.slots t)) = bodyAt0 t from rfl]
  iintro ⟨HΦ, HO, H0, H1, H2, H3, H4, H5, H6⟩
  iapply (sound0 c (grid0.coords t) _ _ _ _ _ _ _ _ _ _ _ _ _ _ (Y 0) (Y 1) (Y 2) (Y 3) (Y 4) (Y 5) (Y 6) _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [HO]; · iexact HO
  isplitl [H0]
  · iexists _
    isplitr; swap; · iexact H0
    ipureintro
    rfl
  isplitl [H1]
  · iexists _
    isplitr; swap; · iexact H1
    ipureintro
    rfl
  isplitl [H2]
  · iexists _
    isplitr; swap; · iexact H2
    ipureintro
    rfl
  isplitl [H3]
  · iexists _
    isplitr; swap; · iexact H3
    ipureintro
    rfl
  isplitl [H4]
  · iexists _
    isplitr; swap; · iexact H4
    ipureintro
    rfl
  isplitl [H5]
  · iexists _
    isplitr; swap; · iexact H5
    ipureintro
    rfl
  iexists _
  isplitr; swap; · iexact H6
  ipureintro
  exact ⟨d0, d1, d2, d3, d4, d5, by rw [← e0, ← e1, ← e2, ← e3, ← e4, ← e5]⟩

/-- The arrays of region 1 at the contents `W`, and nothing said of what the body leaves. -/
def base1 (W : Valuation τ sig (Elt F)) (c : Dev nD) : RDat τ (Elt F) Unit ℕ (UP (Fin 4) sig nD τ) ℕ cfg1 c where
  A w := W (Proc.devRef .tc (Pipeline.arrRef spec1 w))
  after _ _ _ _ := True
  Φ _ := Pipeline.scopedRest (Ix := Unit) (Name := ℕ) (U := UP (Fin 4) sig nD τ) (Lvl := ℕ) (Val := Elt F) (Pipeline.pin (pcfgs (F := F)) adm 1).spec c
  q _ := fullShare
  owed _ := 0

/-- Region 1, row maxima of the blocks: the body leaves its operands' buffers as found, and each result's buffer at what it computes from the fetched blocks. -/
def rd1 (W : Valuation τ sig (Elt F)) (c : Dev nD) : RDat τ (Elt F) Unit ℕ (UP (Fin 4) sig nD τ) ℕ cfg1 c where
  A w := W (Proc.devRef .tc (Pipeline.arrRef spec1 w))
  after w t := match w with
    | ⟨0, _⟩ => fun Y X => X = Y
    | ⟨1, _⟩ => fun Y X => ∃ d0, X = k1_pay2 (grid1.coords t) ((base1 W c).fetched 0 t d0) (if t.val = 0 then k1_pay1 (F := F) else Y)
  Φ _ := Pipeline.scopedRest (Ix := Unit) (Name := ℕ) (U := UP (Fin 4) sig nD τ) (Lvl := ℕ) (Val := Elt F) (Pipeline.pin (pcfgs (F := F)) adm 1).spec c
  q _ := fullShare
  owed _ := 0

/-- Operand window 0 of region 1 holds its block of the array when the body runs. -/
theorem finds1_0 (W : Valuation τ sig (Elt F)) (c : Dev nD) (t : Fin cfg1.N) (Y) (h : (rd1 W c).Finds 0 t Y) : ∃ d, Y = (base1 W c).fetched 0 t d :=
  ((rd1 W c).finds_of_fetch (fetch1_0 t) Y).mp h

/-- The body of region 1 on the buffers the pipeline hands it. -/
theorem body1 (W : Valuation τ sig (Elt F)) (c : Dev nD) : (rd1 W c).BodyObligation (defs₀ (F := F)) Variants.none () Set.univ := fun t Y hY => by
  obtain ⟨d0, e0⟩ := finds1_0 W c t (Y 0) (hY 0)
  rw [bigSep_W1, bigSep_W1]
  rw [show (rd1 W c).Φ t.castSucc = (rd1 W c).Φ t.succ from rfl, show (rd1 W c).owesAt () t.succ = (rd1 W c).owesAt () t.castSucc from rfl]
  rw [show defs₀ (F := F) .tc cfg1.body (cfg1.bodyArgs t (cfg1.slots t)) = bodyAt1 t from rfl]
  by_cases ht : t.val = 0
  · iintro ⟨HΦ, HO, H0, H1⟩
    iapply (sound1a c (grid1.coords t) _ _ _ _ (Y 0) (Y 1) _ ((guard1 t).mpr ht))
    isplitl [H0 H1]
    · isplitl [H0]; · iexact H0
      iexact H1
    iintro ⟨H0, H1⟩
    isplitl [HΦ]; · iexact HΦ
    isplitl [HO]; · iexact HO
    isplitl [H0]
    · iexists _
      isplitr; swap; · iexact H0
      ipureintro
      rfl
    iexists _
    isplitr; swap; · iexact H1
    ipureintro
    exact ⟨d0, by rw [← e0, if_pos ht]⟩
  · iintro ⟨HΦ, HO, H0, H1⟩
    iapply (sound1b c (grid1.coords t) _ _ _ _ (Y 0) (Y 1) _ (fun h => ht ((guard1 t).mp h)))
    isplitl [H0 H1]
    · isplitl [H0]; · iexact H0
      iexact H1
    iintro ⟨H0, H1⟩
    isplitl [HΦ]; · iexact HΦ
    isplitl [HO]; · iexact HO
    isplitl [H0]
    · iexists _
      isplitr; swap; · iexact H0
      ipureintro
      rfl
    iexists _
    isplitr; swap; · iexact H1
    ipureintro
    exact ⟨d0, by rw [← e0, if_neg ht]⟩

/-- The arrays of region 2 at the contents `W`, and nothing said of what the body leaves. -/
def base2 (W : Valuation τ sig (Elt F)) (c : Dev nD) : RDat τ (Elt F) Unit ℕ (UP (Fin 4) sig nD τ) ℕ cfg2 c where
  A w := W (Proc.devRef .tc (Pipeline.arrRef spec2 w))
  after _ _ _ _ := True
  Φ _ := Pipeline.scopedRest (Ix := Unit) (Name := ℕ) (U := UP (Fin 4) sig nD τ) (Lvl := ℕ) (Val := Elt F) (Pipeline.pin (pcfgs (F := F)) adm 2).spec c
  q _ := fullShare
  owed _ := 0

/-- Region 2, row sums of the blocks: the body leaves its operands' buffers as found, and each result's buffer at what it computes from the fetched blocks. -/
def rd2 (W : Valuation τ sig (Elt F)) (c : Dev nD) : RDat τ (Elt F) Unit ℕ (UP (Fin 4) sig nD τ) ℕ cfg2 c where
  A w := W (Proc.devRef .tc (Pipeline.arrRef spec2 w))
  after w t := match w with
    | ⟨0, _⟩ => fun Y X => X = Y
    | ⟨1, _⟩ => fun Y X => X = Y
    | ⟨2, _⟩ => fun Y X => ∃ d0 d1, X = k2_pay2 (grid2.coords t) ((base2 W c).fetched 0 t d0) ((base2 W c).fetched 1 t d1) (if t.val = 0 then k2_pay1 (F := F) else Y)
  Φ _ := Pipeline.scopedRest (Ix := Unit) (Name := ℕ) (U := UP (Fin 4) sig nD τ) (Lvl := ℕ) (Val := Elt F) (Pipeline.pin (pcfgs (F := F)) adm 2).spec c
  q _ := fullShare
  owed _ := 0

/-- Operand window 0 of region 2 holds its block of the array when the body runs. -/
theorem finds2_0 (W : Valuation τ sig (Elt F)) (c : Dev nD) (t : Fin cfg2.N) (Y) (h : (rd2 W c).Finds 0 t Y) : ∃ d, Y = (base2 W c).fetched 0 t d :=
  ((rd2 W c).finds_of_fetch (fetch2_0 t) Y).mp h
/-- Operand window 1 of region 2 holds its block of the array when the body runs. -/
theorem finds2_1 (W : Valuation τ sig (Elt F)) (c : Dev nD) (t : Fin cfg2.N) (Y) (h : (rd2 W c).Finds 1 t Y) : ∃ d, Y = (base2 W c).fetched 1 t d :=
  (rd2 W c).finds_in_eq_fetched 1 rfl (fun _ _ _ => rfl) (fun _ _ _ h => h) t Y h

/-- The body of region 2 on the buffers the pipeline hands it. -/
theorem body2 (W : Valuation τ sig (Elt F)) (c : Dev nD) : (rd2 W c).BodyObligation (defs₀ (F := F)) Variants.none () Set.univ := fun t Y hY => by
  obtain ⟨d0, e0⟩ := finds2_0 W c t (Y 0) (hY 0)
  obtain ⟨d1, e1⟩ := finds2_1 W c t (Y 1) (hY 1)
  rw [bigSep_W2, bigSep_W2]
  rw [show (rd2 W c).Φ t.castSucc = (rd2 W c).Φ t.succ from rfl, show (rd2 W c).owesAt () t.succ = (rd2 W c).owesAt () t.castSucc from rfl]
  rw [show defs₀ (F := F) .tc cfg2.body (cfg2.bodyArgs t (cfg2.slots t)) = bodyAt2 t from rfl]
  by_cases ht : t.val = 0
  · iintro ⟨HΦ, HO, H0, H1, H2⟩
    iapply (sound2a c (grid2.coords t) _ _ _ _ _ _ (Y 0) (Y 1) (Y 2) _ ((guard2 t).mpr ht))
    isplitl [H0 H1 H2]
    · isplitl [H0]; · iexact H0
      isplitl [H1]; · iexact H1
      iexact H2
    iintro ⟨H0, H1, H2⟩
    isplitl [HΦ]; · iexact HΦ
    isplitl [HO]; · iexact HO
    isplitl [H0]
    · iexists _
      isplitr; swap; · iexact H0
      ipureintro
      rfl
    isplitl [H1]
    · iexists _
      isplitr; swap; · iexact H1
      ipureintro
      rfl
    iexists _
    isplitr; swap; · iexact H2
    ipureintro
    exact ⟨d0, d1, by rw [← e0, ← e1, if_pos ht]⟩
  · iintro ⟨HΦ, HO, H0, H1, H2⟩
    iapply (sound2b c (grid2.coords t) _ _ _ _ _ _ (Y 0) (Y 1) (Y 2) _ (fun h => ht ((guard2 t).mp h)))
    isplitl [H0 H1 H2]
    · isplitl [H0]; · iexact H0
      isplitl [H1]; · iexact H1
      iexact H2
    iintro ⟨H0, H1, H2⟩
    isplitl [HΦ]; · iexact HΦ
    isplitl [HO]; · iexact HO
    isplitl [H0]
    · iexists _
      isplitr; swap; · iexact H0
      ipureintro
      rfl
    isplitl [H1]
    · iexists _
      isplitr; swap; · iexact H1
      ipureintro
      rfl
    iexists _
    isplitr; swap; · iexact H2
    ipureintro
    exact ⟨d0, d1, by rw [← e0, ← e1, if_neg ht]⟩

/-- The arrays of region 3 at the contents `W`, and nothing said of what the body leaves. -/
def base3 (W : Valuation τ sig (Elt F)) (c : Dev nD) : RDat τ (Elt F) Unit ℕ (UP (Fin 4) sig nD τ) ℕ cfg3 c where
  A w := W (Proc.devRef .tc (Pipeline.arrRef spec3 w))
  after _ _ _ _ := True
  Φ _ := Pipeline.scopedRest (Ix := Unit) (Name := ℕ) (U := UP (Fin 4) sig nD τ) (Lvl := ℕ) (Val := Elt F) (Pipeline.pin (pcfgs (F := F)) adm 3).spec c
  q _ := fullShare
  owed _ := 0

/-- Region 3, probabilities and log-probabilities block by block: the body leaves its operands' buffers as found, and each result's buffer at what it computes from the fetched blocks. -/
def rd3 (W : Valuation τ sig (Elt F)) (c : Dev nD) : RDat τ (Elt F) Unit ℕ (UP (Fin 4) sig nD τ) ℕ cfg3 c where
  A w := W (Proc.devRef .tc (Pipeline.arrRef spec3 w))
  after w t := match w with
    | ⟨0, _⟩ => fun Y X => X = Y
    | ⟨1, _⟩ => fun Y X => X = Y
    | ⟨2, _⟩ => fun Y X => X = Y
    | ⟨3, _⟩ => fun Y X => ∃ d0 d1 d2, X = k3_pay2 ((base3 W c).fetched 0 t d0) ((base3 W c).fetched 1 t d1) ((base3 W c).fetched 2 t d2)
    | ⟨4, _⟩ => fun Y X => ∃ d0 d1 d2, X = k3_pay1 ((base3 W c).fetched 0 t d0) ((base3 W c).fetched 1 t d1) ((base3 W c).fetched 2 t d2)
  Φ _ := Pipeline.scopedRest (Ix := Unit) (Name := ℕ) (U := UP (Fin 4) sig nD τ) (Lvl := ℕ) (Val := Elt F) (Pipeline.pin (pcfgs (F := F)) adm 3).spec c
  q _ := fullShare
  owed _ := 0

/-- Operand window 0 of region 3 holds its block of the array when the body runs. -/
theorem finds3_0 (W : Valuation τ sig (Elt F)) (c : Dev nD) (t : Fin cfg3.N) (Y) (h : (rd3 W c).Finds 0 t Y) : ∃ d, Y = (base3 W c).fetched 0 t d :=
  ((rd3 W c).finds_of_fetch (fetch3_0 t) Y).mp h
/-- Operand window 1 of region 3 holds its block of the array when the body runs. -/
theorem finds3_1 (W : Valuation τ sig (Elt F)) (c : Dev nD) (t : Fin cfg3.N) (Y) (h : (rd3 W c).Finds 1 t Y) : ∃ d, Y = (base3 W c).fetched 1 t d :=
  (rd3 W c).finds_in_eq_fetched 1 rfl (fun _ _ _ => rfl) (fun _ _ _ h => h) t Y h
/-- Operand window 2 of region 3 holds its block of the array when the body runs. -/
theorem finds3_2 (W : Valuation τ sig (Elt F)) (c : Dev nD) (t : Fin cfg3.N) (Y) (h : (rd3 W c).Finds 2 t Y) : ∃ d, Y = (base3 W c).fetched 2 t d :=
  (rd3 W c).finds_in_eq_fetched 2 rfl (fun _ _ _ => rfl) (fun _ _ _ h => h) t Y h

/-- The body of region 3 on the buffers the pipeline hands it. -/
theorem body3 (W : Valuation τ sig (Elt F)) (c : Dev nD) : (rd3 W c).BodyObligation (defs₀ (F := F)) Variants.none () Set.univ := fun t Y hY => by
  obtain ⟨d0, e0⟩ := finds3_0 W c t (Y 0) (hY 0)
  obtain ⟨d1, e1⟩ := finds3_1 W c t (Y 1) (hY 1)
  obtain ⟨d2, e2⟩ := finds3_2 W c t (Y 2) (hY 2)
  rw [bigSep_W3, bigSep_W3]
  rw [show (rd3 W c).Φ t.castSucc = (rd3 W c).Φ t.succ from rfl, show (rd3 W c).owesAt () t.succ = (rd3 W c).owesAt () t.castSucc from rfl]
  rw [show defs₀ (F := F) .tc cfg3.body (cfg3.bodyArgs t (cfg3.slots t)) = bodyAt3 t from rfl]
  iintro ⟨HΦ, HO, H0, H1, H2, H3, H4⟩
  iapply (sound3 c (grid3.coords t) _ _ _ _ _ _ _ _ _ _ (Y 0) (Y 1) (Y 2) (Y 3) (Y 4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [HO]; · iexact HO
  isplitl [H0]
  · iexists _
    isplitr; swap; · iexact H0
    ipureintro
    rfl
  isplitl [H1]
  · iexists _
    isplitr; swap; · iexact H1
    ipureintro
    rfl
  isplitl [H2]
  · iexists _
    isplitr; swap; · iexact H2
    ipureintro
    rfl
  isplitl [H3]
  · iexists _
    isplitr; swap; · iexact H3
    ipureintro
    exact ⟨d0, d1, d2, by rw [← e0, ← e1, ← e2]⟩
  iexists _
  isplitr; swap; · iexact H4
  ipureintro
  exact ⟨d0, d1, d2, by rw [← e0, ← e1, ← e2]⟩

/-- The proof data of the four regions entered from the contents `W`. -/
def rds (W : Valuation τ sig (Elt F)) : (p : Fin 4) → (c : Dev nD) → RDat τ (Elt F) Unit ℕ (UP (Fin 4) sig nD τ) ℕ (Pipeline.pin (pcfgs (F := F)) adm p) c
  | ⟨0, _⟩ => fun c => rd0 W c
  | ⟨1, _⟩ => fun c => rd1 W c
  | ⟨2, _⟩ => fun c => rd2 W c
  | ⟨3, _⟩ => fun c => rd3 W c

end Cert.KernelIdeal.Hand

end
-- ==== Proof.KI.Records.lean ====
/-
  The records of the four kernel regions.
-/
module

public import proofs.«01_k».proof.Proof.KI.Regions

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Proof.Rel

variable {F : FTy → Type} [FloatOps F] [Named F]

local notation "𝕄" => MT nD τ sig Unit (Elt F) ℕ (UP (Fin 4) sig nD τ) ℕ

set_option maxHeartbeats 2000000 in
/-- The body obligation of region 0, in the family of the four. -/
theorem hbody0 (W : Valuation τ sig (Elt F)) : ∀ c, (rds W 0 c).BodyObligation (defs₀ (F := F)) Variants.none () Set.univ := fun c => body0 W c

/-- The invariant of region 0 between its points: the scoped buffers it does not stage. -/
theorem hrest0 (W : Valuation τ sig (Elt F)) (c : Dev nD) (t) : (rds W 0 c).Φ t
    = Pipeline.scopedRest (Ix := Unit) (Name := ℕ) (U := UP (Fin 4) sig nD τ) (Lvl := ℕ) (Val := Elt F) (Pipeline.pin (pcfgs (F := F)) adm 0).spec c := by
  unfold rds
  dsimp only
  unfold rd0
  dsimp only

set_option backward.isDefEq.respectTransparency.types false in
/-- The record of region 0. -/
def reg0 (W : Valuation τ sig (Elt F)) : RDat.RegionSeg (pcfgs (F := F)) adm (rds W) () defs₀ Variants.none (L₀ : GSem nD τ sig → Finset Unit) lv₀ 0 :=
  seg (pcfgs (F := F)) adm (rds W) defs₀ Variants.none 0 (Pipeline.LaunchFacts.toP launch0) rfl W (fun _ _ => rfl) (fun _ _ => rfl) (fun _ _ => rfl) (fun _ => rfl)
    (fun c t => hrest0 W c t) (hbody0 W)

set_option maxHeartbeats 2000000 in
/-- The body obligation of region 1, in the family of the four. -/
theorem hbody1 (W : Valuation τ sig (Elt F)) : ∀ c, (rds W 1 c).BodyObligation (defs₀ (F := F)) Variants.none () Set.univ := fun c => body1 W c

/-- The invariant of region 1 between its points: the scoped buffers it does not stage. -/
theorem hrest1 (W : Valuation τ sig (Elt F)) (c : Dev nD) (t) : (rds W 1 c).Φ t
    = Pipeline.scopedRest (Ix := Unit) (Name := ℕ) (U := UP (Fin 4) sig nD τ) (Lvl := ℕ) (Val := Elt F) (Pipeline.pin (pcfgs (F := F)) adm 1).spec c := by
  unfold rds
  dsimp only
  unfold rd1
  dsimp only

set_option backward.isDefEq.respectTransparency.types false in
/-- The record of region 1. -/
def reg1 (W : Valuation τ sig (Elt F)) : RDat.RegionSeg (pcfgs (F := F)) adm (rds W) () defs₀ Variants.none (L₀ : GSem nD τ sig → Finset Unit) lv₀ 1 :=
  seg (pcfgs (F := F)) adm (rds W) defs₀ Variants.none 1 (Pipeline.LaunchFacts.toP launch1) rfl W (fun _ _ => rfl) (fun _ _ => rfl) (fun _ _ => rfl) (fun _ => rfl)
    (fun c t => hrest1 W c t) (hbody1 W)

set_option maxHeartbeats 2000000 in
/-- The body obligation of region 2, in the family of the four. -/
theorem hbody2 (W : Valuation τ sig (Elt F)) : ∀ c, (rds W 2 c).BodyObligation (defs₀ (F := F)) Variants.none () Set.univ := fun c => body2 W c

/-- The invariant of region 2 between its points: the scoped buffers it does not stage. -/
theorem hrest2 (W : Valuation τ sig (Elt F)) (c : Dev nD) (t) : (rds W 2 c).Φ t
    = Pipeline.scopedRest (Ix := Unit) (Name := ℕ) (U := UP (Fin 4) sig nD τ) (Lvl := ℕ) (Val := Elt F) (Pipeline.pin (pcfgs (F := F)) adm 2).spec c := by
  unfold rds
  dsimp only
  unfold rd2
  dsimp only

set_option backward.isDefEq.respectTransparency.types false in
/-- The record of region 2. -/
def reg2 (W : Valuation τ sig (Elt F)) : RDat.RegionSeg (pcfgs (F := F)) adm (rds W) () defs₀ Variants.none (L₀ : GSem nD τ sig → Finset Unit) lv₀ 2 :=
  seg (pcfgs (F := F)) adm (rds W) defs₀ Variants.none 2 (Pipeline.LaunchFacts.toP launch2) rfl W (fun _ _ => rfl) (fun _ _ => rfl) (fun _ _ => rfl) (fun _ => rfl)
    (fun c t => hrest2 W c t) (hbody2 W)

set_option maxHeartbeats 2000000 in
/-- The body obligation of region 3, in the family of the four. -/
theorem hbody3 (W : Valuation τ sig (Elt F)) : ∀ c, (rds W 3 c).BodyObligation (defs₀ (F := F)) Variants.none () Set.univ := fun c => body3 W c

/-- The invariant of region 3 between its points: the scoped buffers it does not stage. -/
theorem hrest3 (W : Valuation τ sig (Elt F)) (c : Dev nD) (t) : (rds W 3 c).Φ t
    = Pipeline.scopedRest (Ix := Unit) (Name := ℕ) (U := UP (Fin 4) sig nD τ) (Lvl := ℕ) (Val := Elt F) (Pipeline.pin (pcfgs (F := F)) adm 3).spec c := by
  unfold rds
  dsimp only
  unfold rd3
  dsimp only

set_option backward.isDefEq.respectTransparency.types false in
/-- The record of region 3. -/
def reg3 (W : Valuation τ sig (Elt F)) : RDat.RegionSeg (pcfgs (F := F)) adm (rds W) () defs₀ Variants.none (L₀ : GSem nD τ sig → Finset Unit) lv₀ 3 :=
  seg (pcfgs (F := F)) adm (rds W) defs₀ Variants.none 3 (Pipeline.LaunchFacts.toP launch3) rfl W (fun _ _ => rfl) (fun _ _ => rfl) (fun _ _ => rfl) (fun _ => rfl)
    (fun c t => hrest3 W c t) (hbody3 W)

end Cert.KernelIdeal.Hand

end
-- ==== Proof.KI.Run.lean ====
/-
  The whole run: the host stretches and the four regions in order, and what the buffers hold at the end.
-/
module

public import proofs.«01_k».proof.Proof.KI.Records
public import proofs.«01_k».proof.Proof.Chain
public import proofs.«01_k».proof.Proof.Gen.KernelIdeal.Regions

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Proof.Rel

variable {F : FTy → Type} [FloatOps F] [Named F]

local notation "𝕄" => MT nD τ sig Unit (Elt F) ℕ (UP (Fin 4) sig nD τ) ℕ

open Idealize.ShloMosaic.Pipeline (CSeg)

section
variable (m : (ℓ : Loc nD τ sig) → Buf (Elt F) ℓ)

/-- At the launch. -/
def P0 (c : Dev nD) (W : Valuation τ sig (Elt F)) : Prop := W = fun b => m (c, b)
/-- After item 0, a host stretch. -/
def P1 : Dev nD → Valuation τ sig (Elt F) → Prop := hostP hostOps0 (P0 m)
/-- After item 1, a host stretch. -/
def P2 : Dev nD → Valuation τ sig (Elt F) → Prop := hostP hostOps0_1 (P1 m)
/-- After item 2, region 0. -/
def P3 : Dev nD → Valuation τ sig (Elt F) → Prop := regP (U := UP (Fin 4) sig nD τ) (pcfgs (F := F)) adm rds 0 (P2 m)
/-- After item 3, a host stretch. -/
def P4 : Dev nD → Valuation τ sig (Elt F) → Prop := hostP hostOps1 (P3 m)
/-- After item 4, a host stretch. -/
def P5 : Dev nD → Valuation τ sig (Elt F) → Prop := hostP hostOps1_1 (P4 m)
/-- After item 5, a host stretch. -/
def P6 : Dev nD → Valuation τ sig (Elt F) → Prop := hostP hostOps1_2 (P5 m)
/-- After item 6, a host stretch. -/
def P7 : Dev nD → Valuation τ sig (Elt F) → Prop := hostP hostOps1_3 (P6 m)
/-- After item 7, a host stretch. -/
def P8 : Dev nD → Valuation τ sig (Elt F) → Prop := hostP hostOps1_4 (P7 m)
/-- After item 8, a host stretch. -/
def P9 : Dev nD → Valuation τ sig (Elt F) → Prop := hostP hostOps1_5 (P8 m)
/-- After item 9, a host stretch. -/
def P10 : Dev nD → Valuation τ sig (Elt F) → Prop := hostP hostOps1_6 (P9 m)
/-- After item 10, a host stretch. -/
def P11 : Dev nD → Valuation τ sig (Elt F) → Prop := hostP hostOps1_7 (P10 m)
/-- After item 11, a host stretch. -/
def P12 : Dev nD → Valuation τ sig (Elt F) → Prop := hostP hostOps1_8 (P11 m)
/-- After item 12, region 1. -/
def P13 : Dev nD → Valuation τ sig (Elt F) → Prop := regP (U := UP (Fin 4) sig nD τ) (pcfgs (F := F)) adm rds 1 (P12 m)
/-- After item 13, a host stretch. -/
def P14 : Dev nD → Valuation τ sig (Elt F) → Prop := hostP hostOps2 (P13 m)
/-- After item 14, region 2. -/
def P15 : Dev nD → Valuation τ sig (Elt F) → Prop := regP (U := UP (Fin 4) sig nD τ) (pcfgs (F := F)) adm rds 2 (P14 m)
/-- After item 15, a host stretch. -/
def P16 : Dev nD → Valuation τ sig (Elt F) → Prop := hostP hostOps3 (P15 m)
/-- After item 16, region 3. -/
def P17 : Dev nD → Valuation τ sig (Elt F) → Prop := regP (U := UP (Fin 4) sig nD τ) (pcfgs (F := F)) adm rds 3 (P16 m)
/-- After item 17, a host stretch. -/
def P18 : Dev nD → Valuation τ sig (Elt F) → Prop := hostP hostOps4 (P17 m)
/-- After item 18, a host stretch. -/
def P19 : Dev nD → Valuation τ sig (Elt F) → Prop := hostP hostOps4_1 (P18 m)
/-- After item 19, a host stretch. -/
def P20 : Dev nD → Valuation τ sig (Elt F) → Prop := hostP hostOps4_2 (P19 m)
/-- After item 20, a host stretch. -/
def P21 : Dev nD → Valuation τ sig (Elt F) → Prop := hostP hostOps4_3 (P20 m)

/-- The segment of a host stretch. -/
abbrev hs (ops : List (HloOp τ sig (Elt F))) (hS : ops.Forall fun op => op.bufs ⊆ StableHlo.tcRefs τ sig) (hf : ops.Forall fun op => op.fresh = ∅)
    (φ : Dev nD → Valuation τ sig (Elt F) → Prop) :=
  hostSeg (U := UP (Fin 4) sig nD τ) (pcfgs (F := F)) adm defs₀ Variants.none (fun l : Fin 0 => l.elim0) (tkP (nD := nD) (τ := τ) (pcfgs (F := F)) adm) ops
    (fun op h => Pipeline.sub_ucRefs op ((List.forall_iff_forall_mem.mp hS) op h))
    (fun op h => (List.forall_iff_forall_mem.mp hf) op h) φ

/-- The segment of region 0. -/
abbrev rs0 (φ : Dev nD → Valuation τ sig (Elt F) → Prop) :=
  regSeg (U := UP (Fin 4) sig nD τ) (pcfgs (F := F)) adm cellOf_inj defs₀ Variants.none (fun l : Fin 0 => l.elim0) (tkP (nD := nD) (τ := τ) (pcfgs (F := F)) adm) (0 : Fin 4) rds reg0 φ

/-- The segment of region 1. -/
abbrev rs1 (φ : Dev nD → Valuation τ sig (Elt F) → Prop) :=
  regSeg (U := UP (Fin 4) sig nD τ) (pcfgs (F := F)) adm cellOf_inj defs₀ Variants.none (fun l : Fin 0 => l.elim0) (tkP (nD := nD) (τ := τ) (pcfgs (F := F)) adm) (1 : Fin 4) rds reg1 φ

/-- The segment of region 2. -/
abbrev rs2 (φ : Dev nD → Valuation τ sig (Elt F) → Prop) :=
  regSeg (U := UP (Fin 4) sig nD τ) (pcfgs (F := F)) adm cellOf_inj defs₀ Variants.none (fun l : Fin 0 => l.elim0) (tkP (nD := nD) (τ := τ) (pcfgs (F := F)) adm) (2 : Fin 4) rds reg2 φ

/-- The segment of region 3. -/
abbrev rs3 (φ : Dev nD → Valuation τ sig (Elt F) → Prop) :=
  regSeg (U := UP (Fin 4) sig nD τ) (pcfgs (F := F)) adm cellOf_inj defs₀ Variants.none (fun l : Fin 0 => l.elim0) (tkP (nD := nD) (τ := τ) (pcfgs (F := F)) adm) (3 : Fin 4) rds reg3 φ

/-- The program's segments, in order. -/
def segs : List (CSeg (pcfgs (F := F)) adm defs₀ Variants.none (L₀ : GSem nD τ sig → Finset Unit) lv₀ (fun l : Fin 0 => l.elim0) (tkP (nD := nD) (τ := τ) (pcfgs (F := F)) adm)) :=
  [ hs hostOps0 hostOps0_sub hostOps0_fresh (P0 m),
    hs hostOps0_1 hostOps0_1_sub hostOps0_1_fresh (P1 m),
    rs0 (P2 m),
    hs hostOps1 hostOps1_sub hostOps1_fresh (P3 m),
    hs hostOps1_1 hostOps1_1_sub hostOps1_1_fresh (P4 m),
    hs hostOps1_2 hostOps1_2_sub hostOps1_2_fresh (P5 m),
    hs hostOps1_3 hostOps1_3_sub hostOps1_3_fresh (P6 m),
    hs hostOps1_4 hostOps1_4_sub hostOps1_4_fresh (P7 m),
    hs hostOps1_5 hostOps1_5_sub hostOps1_5_fresh (P8 m),
    hs hostOps1_6 hostOps1_6_sub hostOps1_6_fresh (P9 m),
    hs hostOps1_7 hostOps1_7_sub hostOps1_7_fresh (P10 m),
    hs hostOps1_8 hostOps1_8_sub hostOps1_8_fresh (P11 m),
    rs1 (P12 m),
    hs hostOps2 hostOps2_sub hostOps2_fresh (P13 m),
    rs2 (P14 m),
    hs hostOps3 hostOps3_sub hostOps3_fresh (P15 m),
    rs3 (P16 m),
    hs hostOps4 hostOps4_sub hostOps4_fresh (P17 m),
    hs hostOps4_1 hostOps4_1_sub hostOps4_1_fresh (P18 m),
    hs hostOps4_2 hostOps4_2_sub hostOps4_2_fresh (P19 m),
    hs hostOps4_3 hostOps4_3_sub hostOps4_3_fresh (P20 m) ]

/-- The segments chain from the launch to the end. -/
theorem chained : CSeg.Chains (St (P0 m)) (segs m) (St (P21 m)) := by
  unfold segs
  refine chains_host <| chains_host <| chains_reg _ (fun _ _ => rfl) (fun _ _ => rfl) <| chains_host <| chains_host <| chains_host <| chains_host <| chains_host <| chains_host <| chains_host <| chains_host <| chains_host <| chains_reg _ (fun _ _ => rfl) (fun _ _ => rfl) <| chains_host <| chains_reg _ (fun _ _ => rfl) (fun _ _ => rfl) <| chains_host <| chains_reg _ (fun _ _ => rfl) (fun _ _ => rfl) <| chains_host <| chains_host <| chains_host <| chains_host <| ?_
  exact fun c => .rfl

/-- The program, lifted, is its segments in order. -/
theorem lifted (c : Dev nD) : HostLoop.liftProg (L := 0) (main (F := F) c) = CSeg.runL (segs m) := by
  rw [Gen.main_chain, HostLoop.liftProg_chain]
  simp only [List.map_cons, List.map_nil, HostLoop.liftProg_seq]
  rfl

/-- Each region consumes its own ticket. -/
theorem apart : (segs m).Pairwise fun s s' => Disjoint s.T s'.T := by
  have hT : (segs m).map CSeg.T = [∅, ∅, {0}, ∅, ∅, ∅, ∅, ∅, ∅, ∅, ∅, ∅, {1}, ∅, {2}, ∅, {3}, ∅, ∅, ∅, ∅] := rfl
  refine (List.pairwise_map (f := CSeg.T) (R := fun a b : Finset (Fin 4) => Disjoint a b)).mp ?_
  rw [hT]
  decide

/-- The run: it ends, with the unscoped buffers at contents that the last predicate admits, and every semaphore at zero. -/
theorem ran (g : Dev nD → PrngReg) : θ_run (defs (F := F)) (onTc (τ := τ) (main (F := F))) ⟨m, fun _ => 0, g⟩
    (fun r => (∀ c : Dev nD, ∃ W, P21 m c W ∧ ∀ b ∈ Pipeline.ucRefs τ sig, r.2.mem (c, b) = W b) ∧ r.2.sem = fun _ => 0) :=
  run (pcfgs (F := F)) adm cellOf_inj defs₀ Variants.none m g main (segs m) (lifted m) (apart m) (P21 m) (chained m)

end

end Cert.KernelIdeal.Hand

end
-- ==== Proof.KI.Frame.lean ====
/-
  No item of the program writes an argument: each ends as launched.
-/
module

public import proofs.«01_k».proof.Proof.KI.Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Proof.Rel

variable {F : FTy → Type} [FloatOps F] [Named F]

local notation "𝕄" => MT nD τ sig Unit (Elt F) ℕ (UP (Fin 4) sig nD τ) ℕ

/-- Region 0 changes its results' arrays only. -/
theorem keep0 (W W' : Valuation τ sig (Elt F)) (c : Dev nD) (h : exitP (U := UP (Fin 4) sig nD τ) (pcfgs (F := F)) adm (rds W) 0 c W W')
    (r : Ref sig .tc) (hr : r ∉ ([main_v4] : List (Ref sig .tc))) : W' (Proc.devRef .tc r) = W (Proc.devRef .tc r) := by
  have ho : ∀ w, (cfg0.win w).isOut = true → Pipeline.arrRef spec0 w ∈ ([main_v4] : List (Ref sig .tc)) := by decide
  by_cases hm : ∃ w, Pipeline.arrRef spec0 w = r
  · obtain ⟨w, rfl⟩ := hm
    have hw : (cfg0.win w).isOut = false := by
      cases hc : (cfg0.win w).isOut with
      | false => rfl
      | true => exact absurd (ho w hc) hr
    have := h.1 w
    have h2 : (rd0 W c).ArrAt w cfg0.N (W' (Proc.devRef .tc (Pipeline.arrRef spec0 w))) := this
    rw [(rd0 W c).ArrAt_in w hw] at h2
    exact h2
  · exact h.2 r fun hi => by
      obtain ⟨w, -, e⟩ := Finset.mem_image.mp hi
      exact hm ⟨w, e⟩

/-- Region 1 changes its results' arrays only. -/
theorem keep1 (W W' : Valuation τ sig (Elt F)) (c : Dev nD) (h : exitP (U := UP (Fin 4) sig nD τ) (pcfgs (F := F)) adm (rds W) 1 c W W')
    (r : Ref sig .tc) (hr : r ∉ ([main_v36] : List (Ref sig .tc))) : W' (Proc.devRef .tc r) = W (Proc.devRef .tc r) := by
  have ho : ∀ w, (cfg1.win w).isOut = true → Pipeline.arrRef spec1 w ∈ ([main_v36] : List (Ref sig .tc)) := by decide
  by_cases hm : ∃ w, Pipeline.arrRef spec1 w = r
  · obtain ⟨w, rfl⟩ := hm
    have hw : (cfg1.win w).isOut = false := by
      cases hc : (cfg1.win w).isOut with
      | false => rfl
      | true => exact absurd (ho w hc) hr
    have := h.1 w
    have h2 : (rd1 W c).ArrAt w cfg1.N (W' (Proc.devRef .tc (Pipeline.arrRef spec1 w))) := this
    rw [(rd1 W c).ArrAt_in w hw] at h2
    exact h2
  · exact h.2 r fun hi => by
      obtain ⟨w, -, e⟩ := Finset.mem_image.mp hi
      exact hm ⟨w, e⟩

/-- Region 2 changes its results' arrays only. -/
theorem keep2 (W W' : Valuation τ sig (Elt F)) (c : Dev nD) (h : exitP (U := UP (Fin 4) sig nD τ) (pcfgs (F := F)) adm (rds W) 2 c W W')
    (r : Ref sig .tc) (hr : r ∉ ([main_v39] : List (Ref sig .tc))) : W' (Proc.devRef .tc r) = W (Proc.devRef .tc r) := by
  have ho : ∀ w, (cfg2.win w).isOut = true → Pipeline.arrRef spec2 w ∈ ([main_v39] : List (Ref sig .tc)) := by decide
  by_cases hm : ∃ w, Pipeline.arrRef spec2 w = r
  · obtain ⟨w, rfl⟩ := hm
    have hw : (cfg2.win w).isOut = false := by
      cases hc : (cfg2.win w).isOut with
      | false => rfl
      | true => exact absurd (ho w hc) hr
    have := h.1 w
    have h2 : (rd2 W c).ArrAt w cfg2.N (W' (Proc.devRef .tc (Pipeline.arrRef spec2 w))) := this
    rw [(rd2 W c).ArrAt_in w hw] at h2
    exact h2
  · exact h.2 r fun hi => by
      obtain ⟨w, -, e⟩ := Finset.mem_image.mp hi
      exact hm ⟨w, e⟩

/-- Region 3 changes its results' arrays only. -/
theorem keep3 (W W' : Valuation τ sig (Elt F)) (c : Dev nD) (h : exitP (U := UP (Fin 4) sig nD τ) (pcfgs (F := F)) adm (rds W) 3 c W W')
    (r : Ref sig .tc) (hr : r ∉ ([main_v43_0, main_v43_1] : List (Ref sig .tc))) : W' (Proc.devRef .tc r) = W (Proc.devRef .tc r) := by
  have ho : ∀ w, (cfg3.win w).isOut = true → Pipeline.arrRef spec3 w ∈ ([main_v43_0, main_v43_1] : List (Ref sig .tc)) := by decide
  by_cases hm : ∃ w, Pipeline.arrRef spec3 w = r
  · obtain ⟨w, rfl⟩ := hm
    have hw : (cfg3.win w).isOut = false := by
      cases hc : (cfg3.win w).isOut with
      | false => rfl
      | true => exact absurd (ho w hc) hr
    have := h.1 w
    have h2 : (rd3 W c).ArrAt w cfg3.N (W' (Proc.devRef .tc (Pipeline.arrRef spec3 w))) := this
    rw [(rd3 W c).ArrAt_in w hw] at h2
    exact h2
  · exact h.2 r fun hi => by
      obtain ⟨w, -, e⟩ := Finset.mem_image.mp hi
      exact hm ⟨w, e⟩

variable (m : (ℓ : Loc nD τ sig) → Buf (Elt F) ℓ)

/-- A reference that no item writes is at the end as launched. -/
theorem kept (c : Dev nD) (W : Valuation τ sig (Elt F)) (h : P21 m c W) (r : Ref sig .tc)
    (h0 : r ∉ (hostOps0_W : List (Ref sig .tc)))
    (h1 : r ∉ (hostOps0_1_W : List (Ref sig .tc)))
    (h2 : r ∉ ([main_v4] : List (Ref sig .tc)))
    (h3 : r ∉ (hostOps1_W : List (Ref sig .tc)))
    (h4 : r ∉ (hostOps1_1_W : List (Ref sig .tc)))
    (h5 : r ∉ (hostOps1_2_W : List (Ref sig .tc)))
    (h6 : r ∉ (hostOps1_3_W : List (Ref sig .tc)))
    (h7 : r ∉ (hostOps1_4_W : List (Ref sig .tc)))
    (h8 : r ∉ (hostOps1_5_W : List (Ref sig .tc)))
    (h9 : r ∉ (hostOps1_6_W : List (Ref sig .tc)))
    (h10 : r ∉ (hostOps1_7_W : List (Ref sig .tc)))
    (h11 : r ∉ (hostOps1_8_W : List (Ref sig .tc)))
    (h12 : r ∉ ([main_v36] : List (Ref sig .tc)))
    (h13 : r ∉ (hostOps2_W : List (Ref sig .tc)))
    (h14 : r ∉ ([main_v39] : List (Ref sig .tc)))
    (h15 : r ∉ (hostOps3_W : List (Ref sig .tc)))
    (h16 : r ∉ ([main_v43_0, main_v43_1] : List (Ref sig .tc)))
    (h17 : r ∉ (hostOps4_W : List (Ref sig .tc)))
    (h18 : r ∉ (hostOps4_1_W : List (Ref sig .tc)))
    (h19 : r ∉ (hostOps4_2_W : List (Ref sig .tc)))
    (h20 : r ∉ (hostOps4_3_W : List (Ref sig .tc)))
    : W (Proc.devRef .tc r) = m ((c.tc : Thread nD τ).loc r) := by
  obtain ⟨W20, h, rfl⟩ := h
  rw [StableHlo.after_of_writes_sub hostOps4_3 _ hostOps4_3_writes h20]
  obtain ⟨W19, h, rfl⟩ := h
  rw [StableHlo.after_of_writes_sub hostOps4_2 _ hostOps4_2_writes h19]
  obtain ⟨W18, h, rfl⟩ := h
  rw [StableHlo.after_of_writes_sub hostOps4_1 _ hostOps4_1_writes h18]
  obtain ⟨W17, h, rfl⟩ := h
  rw [StableHlo.after_of_writes_sub hostOps4 _ hostOps4_writes h17]
  obtain ⟨W16, h, e⟩ := h
  rw [keep3 _ _ c e r h16]
  obtain ⟨W15, h, rfl⟩ := h
  rw [StableHlo.after_of_writes_sub hostOps3 _ hostOps3_writes h15]
  obtain ⟨W14, h, e⟩ := h
  rw [keep2 _ _ c e r h14]
  obtain ⟨W13, h, rfl⟩ := h
  rw [StableHlo.after_of_writes_sub hostOps2 _ hostOps2_writes h13]
  obtain ⟨W12, h, e⟩ := h
  rw [keep1 _ _ c e r h12]
  obtain ⟨W11, h, rfl⟩ := h
  rw [StableHlo.after_of_writes_sub hostOps1_8 _ hostOps1_8_writes h11]
  obtain ⟨W10, h, rfl⟩ := h
  rw [StableHlo.after_of_writes_sub hostOps1_7 _ hostOps1_7_writes h10]
  obtain ⟨W9, h, rfl⟩ := h
  rw [StableHlo.after_of_writes_sub hostOps1_6 _ hostOps1_6_writes h9]
  obtain ⟨W8, h, rfl⟩ := h
  rw [StableHlo.after_of_writes_sub hostOps1_5 _ hostOps1_5_writes h8]
  obtain ⟨W7, h, rfl⟩ := h
  rw [StableHlo.after_of_writes_sub hostOps1_4 _ hostOps1_4_writes h7]
  obtain ⟨W6, h, rfl⟩ := h
  rw [StableHlo.after_of_writes_sub hostOps1_3 _ hostOps1_3_writes h6]
  obtain ⟨W5, h, rfl⟩ := h
  rw [StableHlo.after_of_writes_sub hostOps1_2 _ hostOps1_2_writes h5]
  obtain ⟨W4, h, rfl⟩ := h
  rw [StableHlo.after_of_writes_sub hostOps1_1 _ hostOps1_1_writes h4]
  obtain ⟨W3, h, rfl⟩ := h
  rw [StableHlo.after_of_writes_sub hostOps1 _ hostOps1_writes h3]
  obtain ⟨W2, h, e⟩ := h
  rw [keep0 _ _ c e r h2]
  obtain ⟨W1, h, rfl⟩ := h
  rw [StableHlo.after_of_writes_sub hostOps0_1 _ hostOps0_1_writes h1]
  obtain ⟨W0, h, rfl⟩ := h
  rw [StableHlo.after_of_writes_sub hostOps0 _ hostOps0_writes h0]
  rw [h]

/-- The arguments as launched, at the end of the run. -/
theorem args_kept (c : Dev nD) (W : Valuation τ sig (Elt F)) (h : P21 m c W) :
    W (Proc.devRef .tc main_arg0) = m ((c.tc : Thread nD τ).loc main_arg0)
    ∧ W (Proc.devRef .tc main_arg1) = m ((c.tc : Thread nD τ).loc main_arg1)
    ∧ W (Proc.devRef .tc main_arg2) = m ((c.tc : Thread nD τ).loc main_arg2)
    ∧ W (Proc.devRef .tc main_arg3) = m ((c.tc : Thread nD τ).loc main_arg3)
    ∧ W (Proc.devRef .tc main_arg4) = m ((c.tc : Thread nD τ).loc main_arg4)
    ∧ W (Proc.devRef .tc main_arg5) = m ((c.tc : Thread nD τ).loc main_arg5)
    ∧ W (Proc.devRef .tc main_arg6) = m ((c.tc : Thread nD τ).loc main_arg6)
    ∧ W (Proc.devRef .tc main_arg7) = m ((c.tc : Thread nD τ).loc main_arg7)
    ∧ W (Proc.devRef .tc main_arg8) = m ((c.tc : Thread nD τ).loc main_arg8) :=
  ⟨kept m c W h main_arg0 (by decide) (by decide) (by decide) (by decide) (by decide) (by decide) (by decide) (by decide) (by decide) (by decide) (by decide) (by decide) (by decide) (by decide) (by decide) (by decide) (by decide) (by decide) (by decide) (by decide) (by decide),
    kept m c W h main_arg1 (by decide) (by decide) (by decide) (by decide) (by decide) (by decide) (by decide) (by decide) (by decide) (by decide) (by decide) (by decide) (by decide) (by decide) (by decide) (by decide) (by decide) (by decide) (by decide) (by decide) (by decide),
    kept m c W h main_arg2 (by decide) (by decide) (by decide) (by decide) (by decide) (by decide) (by decide) (by decide) (by decide) (by decide) (by decide) (by decide) (by decide) (by decide) (by decide) (by decide) (by decide) (by decide) (by decide) (by decide) (by decide),
    kept m c W h main_arg3 (by decide) (by decide) (by decide) (by decide) (by decide) (by decide) (by decide) (by decide) (by decide) (by decide) (by decide) (by decide) (by decide) (by decide) (by decide) (by decide) (by decide) (by decide) (by decide) (by decide) (by decide),
    kept m c W h main_arg4 (by decide) (by decide) (by decide) (by decide) (by decide) (by decide) (by decide) (by decide) (by decide) (by decide) (by decide) (by decide) (by decide) (by decide) (by decide) (by decide) (by decide) (by decide) (by decide) (by decide) (by decide),
    kept m c W h main_arg5 (by decide) (by decide) (by decide) (by decide) (by decide) (by decide) (by decide) (by decide) (by decide) (by decide) (by decide) (by decide) (by decide) (by decide) (by decide) (by decide) (by decide) (by decide) (by decide) (by decide) (by decide),
    kept m c W h main_arg6 (by decide) (by decide) (by decide) (by decide) (by decide) (by decide) (by decide) (by decide) (by decide) (by decide) (by decide) (by decide) (by decide) (by decide) (by decide) (by decide) (by decide) (by decide) (by decide) (by decide) (by decide),
    kept m c W h main_arg7 (by decide) (by decide) (by decide) (by decide) (by decide) (by decide) (by decide) (by decide) (by decide) (by decide) (by decide) (by decide) (by decide) (by decide) (by decide) (by decide) (by decide) (by decide) (by decide) (by decide) (by decide),
    kept m c W h main_arg8 (by decide) (by decide) (by decide) (by decide) (by decide) (by decide) (by decide) (by decide) (by decide) (by decide) (by decide) (by decide) (by decide) (by decide) (by decide) (by decide) (by decide) (by decide) (by decide) (by decide) (by decide)⟩

/-- An unscoped reference is among those the run's end speaks of. -/
theorem mem_uc (r : Ref sig .tc) (h : ¬ (Proc.devRef .tc r : DevRef τ sig).isScoped = true) : (Proc.devRef .tc r : DevRef τ sig) ∈ Pipeline.ucRefs τ sig :=
  Finset.mem_filter.mpr ⟨StableHlo.devRef_mem_tcRefs r, h⟩

/-- The frame: the program runs, every argument ends as launched and every semaphore at zero. -/
theorem framed (g : Dev nD → PrngReg) : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run (defs (F := F)) (onTc (τ := τ) (main (F := F))) ⟨m, fun _ => 0, g⟩).mono (fun r hr => ⟨fun c => ?_, hr.2⟩) (ran m g)
  obtain ⟨W, hW, hb⟩ := hr.1 c
  obtain ⟨a0, a1, a2, a3, a4, a5, a6, a7, a8⟩ := args_kept m c W hW
  exact ⟨(hb _ (mem_uc main_arg0 (by decide))).trans a0,
    (hb _ (mem_uc main_arg1 (by decide))).trans a1,
    (hb _ (mem_uc main_arg2 (by decide))).trans a2,
    (hb _ (mem_uc main_arg3 (by decide))).trans a3,
    (hb _ (mem_uc main_arg4 (by decide))).trans a4,
    (hb _ (mem_uc main_arg5 (by decide))).trans a5,
    (hb _ (mem_uc main_arg6 (by decide))).trans a6,
    (hb _ (mem_uc main_arg7 (by decide))).trans a7,
    (hb _ (mem_uc main_arg8 (by decide))).trans a8⟩

end Cert.KernelIdeal.Hand

end
-- ==== Proof.R.Ops.lean ====
/-
  The reference's host operations, stretch by stretch: a module-local function called by the program is a stretch of its own.
-/
module

public import proofs.«01_k».proof.Proof.Gen.ReferenceIdeal
public import Idealize.ShloMosaic.Lib.Pipeline.Kit
public import Idealize.ShloMosaic.Lib.Pipeline.Regions
public import Idealize.ShloMosaic.Lib.Pipeline.Quiescent

@[expose] public section

set_option maxRecDepth 4408

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

/-- 23 host operations of @take, in order. -/
abbrev ops0 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S64, .i32⟩) (broadcastInDim S64 ![] bcast_S_S64),
    StableHlo.TRef.binary (.of main_arg2 : StableHlo.TRef sig ⟨S64, .i32⟩) (.of main_call0_v0 : StableHlo.TRef sig ⟨S64, .i32⟩) (.of main_call0_v1 : StableHlo.TRef sig ⟨S64, .i1⟩) (cmpi .slt),
    StableHlo.TRef.nullary (.of main_call0_c_0 : StableHlo.TRef sig ⟨S_, .i32⟩) (constantI S_ 32 512#32),
    StableHlo.TRef.unary (.of main_call0_c_0 : StableHlo.TRef sig ⟨S_, .i32⟩) (.of main_call0_v2 : StableHlo.TRef sig ⟨S64, .i32⟩) (broadcastInDim S64 ![] bcast_S_S64),
    StableHlo.TRef.binary (.of main_arg2 : StableHlo.TRef sig ⟨S64, .i32⟩) (.of main_call0_v2 : StableHlo.TRef sig ⟨S64, .i32⟩) (.of main_call0_v3 : StableHlo.TRef sig ⟨S64, .i32⟩) addi,
    StableHlo.TRef.ternary (.of main_call0_v1 : StableHlo.TRef sig ⟨S64, .i1⟩) (.of main_call0_v3 : StableHlo.TRef sig ⟨S64, .i32⟩) (.of main_arg2 : StableHlo.TRef sig ⟨S64, .i32⟩) (.of main_call0_v4 : StableHlo.TRef sig ⟨S64, .i32⟩) select,
    StableHlo.TRef.unary (.of main_call0_v4 : StableHlo.TRef sig ⟨S64, .i32⟩) (.of main_call0_v5 : StableHlo.TRef sig ⟨S64x1, .i32⟩) (broadcastInDim S64x1 ![0] bcast_S64_S64x1_0),
    StableHlo.TRef.nullary (.of main_call0_c_1 : StableHlo.TRef sig ⟨S1, .i32⟩) (constantI S1 32 511#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S64x1, .i32⟩) (broadcastInDim S64x1 ![] bcast_S_S64x1),
    StableHlo.TRef.binary (.of main_call0_v5 : StableHlo.TRef sig ⟨S64x1, .i32⟩) (.of main_call0_v6 : StableHlo.TRef sig ⟨S64x1, .i32⟩) (.of main_call0_v7 : StableHlo.TRef sig ⟨S64x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S64x1, .i32⟩) (broadcastInDim S64x1 ![0, 1] bcast_S1x1_S64x1_0_1),
    StableHlo.TRef.binary (.of main_call0_v5 : StableHlo.TRef sig ⟨S64x1, .i32⟩) (.of main_call0_v9 : StableHlo.TRef sig ⟨S64x1, .i32⟩) (.of main_call0_v10 : StableHlo.TRef sig ⟨S64x1, .i1⟩) (cmpi .sle),
    StableHlo.TRef.binary (.of main_call0_v7 : StableHlo.TRef sig ⟨S64x1, .i1⟩) (.of main_call0_v10 : StableHlo.TRef sig ⟨S64x1, .i1⟩) (.of main_call0_v11 : StableHlo.TRef sig ⟨S64x1, .i1⟩) andi,
    StableHlo.TRef.nullary (.of main_call0_c_3 : StableHlo.TRef sig ⟨S_, .i1⟩) (constantI S_ 1 1#1),
    StableHlo.TRef.binary (.of main_call0_v11 : StableHlo.TRef sig ⟨S64x1, .i1⟩) (.of main_call0_c_3 : StableHlo.TRef sig ⟨S_, .i1⟩) (.of main_call0_v12 : StableHlo.TRef sig ⟨S64, .i1⟩) (fun x v => Host.reduce IntOp.andi x v reducesTo_S64x1_S64_d1 h_S_),
    StableHlo.TRef.binary (.of main_arg1 : StableHlo.TRef sig ⟨S512x1024, .f32⟩) (.of main_call0_v5 : StableHlo.TRef sig ⟨S64x1, .i32⟩) (.of main_call0_v13 : StableHlo.TRef sig ⟨S64x1024, .f32⟩) (fun x i => Host.gather gather_S512x1024_S64x1_S64x1024_1_0_n_n_0_1_11024 x i),
    StableHlo.TRef.unary (.of main_call0_v12 : StableHlo.TRef sig ⟨S64, .i1⟩) (.of main_call0_v14 : StableHlo.TRef sig ⟨S64x1024, .i1⟩) (broadcastInDim S64x1024 ![0] bcast_S64_S64x1024_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S64x1024, .f32⟩) (broadcastInDim S64x1024 ![] bcast_S_S64x1024),
    StableHlo.TRef.ternary (.of main_call0_v14 : StableHlo.TRef sig ⟨S64x1024, .i1⟩) (.of main_call0_v13 : StableHlo.TRef sig ⟨S64x1024, .f32⟩) (.of main_call0_v15 : StableHlo.TRef sig ⟨S64x1024, .f32⟩) (.of main_v0 : StableHlo.TRef sig ⟨S64x1024, .f32⟩) select ]
/-- Each touches TensorCore references only. -/
theorem ops0_sub : (ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- Each determines its results. -/
theorem ops0_fresh : (ops0 : List (HloOp τ sig (Elt F))).Forall fun op => op.fresh = ∅ := by
  simp only [List.Forall]; repeat' constructor
/-- The references written, in order. -/
abbrev ops0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
/-- Nothing else is written. -/
theorem ops0_writes : (ops0 : List (HloOp τ sig (Elt F))).Forall fun op => op.writes ⊆ (ops0_W.map (Proc.devRef (τ := τ) .tc)).toFinset :=
  StableHlo.forall_writes_sub_of_map rfl

/-- 46 host operations of @main, in order. -/
abbrev ops1 : List (HloOp τ sig (Elt F)) :=
  [ StableHlo.unary main_arg0 main_v1 ((transpose S1024x100000 [1, 0] · transposes_S100000x1024_S1024x100000_1_0) : (⟨S100000x1024, .f32⟩ : BufTy).Contents (Elt F) → (⟨S1024x100000, .f32⟩ : BufTy).Contents (Elt F)),
    StableHlo.binary main_v0 main_v1 main_v2 ((fun l r => Host.dotGeneral dot_S64x1024_S1024x100000_S64x100000_1_0_0_1_n_n none l r) : (⟨S64x1024, .f32⟩ : BufTy).Contents (Elt F) → (⟨S1024x100000, .f32⟩ : BufTy).Contents (Elt F) → (⟨S64x100000, .f32⟩ : BufTy).Contents (Elt F)),
    StableHlo.nullary main_cst (constant S_ .f32 0x00000000#32),
    StableHlo.unary main_cst main_v3 (broadcastInDim S64x100000 ![] bcast_S_S64x100000 : (⟨S_, .f32⟩ : BufTy).Contents (Elt F) → (⟨S64x100000, .f32⟩ : BufTy).Contents (Elt F)),
    StableHlo.nullary main_v4 (iotaInDim S64 32 0),
    StableHlo.unary main_v4 main_v5 (broadcastInDim S64x1 ![0] bcast_S64_S64x1_0 : (⟨S64, .i32⟩ : BufTy).Contents (Elt F) → (⟨S64x1, .i32⟩ : BufTy).Contents (Elt F)),
    StableHlo.nullary main_c (constantI S_ 32 0#32),
    StableHlo.unary main_c main_v6 (broadcastInDim S64x1 ![] bcast_S_S64x1 : (⟨S_, .i32⟩ : BufTy).Contents (Elt F) → (⟨S64x1, .i32⟩ : BufTy).Contents (Elt F)),
    StableHlo.binary main_v5 main_v6 main_v7 (cmpi .slt : (⟨S64x1, .i32⟩ : BufTy).Contents (Elt F) → (⟨S64x1, .i32⟩ : BufTy).Contents (Elt F) → (⟨S64x1, .i1⟩ : BufTy).Contents (Elt F)),
    StableHlo.nullary main_c_0 (constantI S_ 32 64#32),
    StableHlo.unary main_c_0 main_v8 (broadcastInDim S64x1 ![] bcast_S_S64x1 : (⟨S_, .i32⟩ : BufTy).Contents (Elt F) → (⟨S64x1, .i32⟩ : BufTy).Contents (Elt F)),
    StableHlo.binary main_v5 main_v8 main_v9 (addi : (⟨S64x1, .i32⟩ : BufTy).Contents (Elt F) → (⟨S64x1, .i32⟩ : BufTy).Contents (Elt F) → (⟨S64x1, .i32⟩ : BufTy).Contents (Elt F)),
    StableHlo.ternary main_v7 main_v9 main_v5 main_v10 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    StableHlo.nullary main_c_1 (constantI S_ 32 0#32),
    StableHlo.unary main_c_1 main_v11 (broadcastInDim S64x50 ![] bcast_S_S64x50 : (⟨S_, .i32⟩ : BufTy).Contents (Elt F) → (⟨S64x50, .i32⟩ : BufTy).Contents (Elt F)),
    StableHlo.binary main_arg3 main_v11 main_v12 (cmpi .slt : (⟨S64x50, .i32⟩ : BufTy).Contents (Elt F) → (⟨S64x50, .i32⟩ : BufTy).Contents (Elt F) → (⟨S64x50, .i1⟩ : BufTy).Contents (Elt F)),
    StableHlo.nullary main_c_2 (constantI S_ 32 100000#32),
    StableHlo.unary main_c_2 main_v13 (broadcastInDim S64x50 ![] bcast_S_S64x50 : (⟨S_, .i32⟩ : BufTy).Contents (Elt F) → (⟨S64x50, .i32⟩ : BufTy).Contents (Elt F)),
    StableHlo.binary main_arg3 main_v13 main_v14 (addi : (⟨S64x50, .i32⟩ : BufTy).Contents (Elt F) → (⟨S64x50, .i32⟩ : BufTy).Contents (Elt F) → (⟨S64x50, .i32⟩ : BufTy).Contents (Elt F)),
    StableHlo.ternary main_v12 main_v14 main_arg3 main_v15 (select : (⟨S64x50, .i1⟩ : BufTy).Contents (Elt F) → (⟨S64x50, .i32⟩ : BufTy).Contents (Elt F) → (⟨S64x50, .i32⟩ : BufTy).Contents (Elt F) → (⟨S64x50, .i32⟩ : BufTy).Contents (Elt F)),
    StableHlo.unary main_v10 main_v16 (broadcastInDim S64x50 ![0, 1] bcast_S64x1_S64x50_0_1 : (⟨S64x1, .i32⟩ : BufTy).Contents (Elt F) → (⟨S64x50, .i32⟩ : BufTy).Contents (Elt F)),
    StableHlo.unary main_v16 main_v17 (broadcastInDim S64x50x1 ![0, 1] bcast_S64x50_S64x50x1_0_1 : (⟨S64x50, .i32⟩ : BufTy).Contents (Elt F) → (⟨S64x50x1, .i32⟩ : BufTy).Contents (Elt F)),
    StableHlo.unary main_v15 main_v18 (broadcastInDim S64x50x1 ![0, 1] bcast_S64x50_S64x50x1_0_1 : (⟨S64x50, .i32⟩ : BufTy).Contents (Elt F) → (⟨S64x50x1, .i32⟩ : BufTy).Contents (Elt F)),
    StableHlo.binary main_v17 main_v18 main_v19 ((fun a b => concatenate S64x50x2 2 [⟨S64x50x1, a⟩, ⟨S64x50x1, b⟩] concatenates_S64x50x1_S64x50x1_S64x50x2_d2) : (⟨S64x50x1, .i32⟩ : BufTy).Contents (Elt F) → (⟨S64x50x1, .i32⟩ : BufTy).Contents (Elt F) → (⟨S64x50x2, .i32⟩ : BufTy).Contents (Elt F)),
    StableHlo.nullary main_cst_3 (constant S_ .f32 0x3F800000#32),
    StableHlo.unary main_cst_3 main_v20 (broadcastInDim S64x50 ![] bcast_S_S64x50 : (⟨S_, .f32⟩ : BufTy).Contents (Elt F) → (⟨S64x50, .f32⟩ : BufTy).Contents (Elt F)),
    StableHlo.ternary main_v3 main_v19 main_v20 main_v21 ((fun x i u => Host.scatterAdd scatter_S64x100000_S64x50x2_S64x50_n_01_01_2 x i u) : (⟨S64x100000, .f32⟩ : BufTy).Contents (Elt F) → (⟨S64x50x2, .i32⟩ : BufTy).Contents (Elt F) → (⟨S64x50, .f32⟩ : BufTy).Contents (Elt F) → (⟨S64x100000, .f32⟩ : BufTy).Contents (Elt F)),
    StableHlo.unary main_arg5 main_v22 (broadcastInDim S64x1 ![0] bcast_S64_S64x1_0 : (⟨S64, .f32⟩ : BufTy).Contents (Elt F) → (⟨S64x1, .f32⟩ : BufTy).Contents (Elt F)),
    StableHlo.unary main_v22 main_v23 (broadcastInDim S64x100000 ![0, 1] bcast_S64x1_S64x100000_0_1 : (⟨S64x1, .f32⟩ : BufTy).Contents (Elt F) → (⟨S64x100000, .f32⟩ : BufTy).Contents (Elt F)),
    StableHlo.binary main_v23 main_v21 main_v24 (mulf : (⟨S64x100000, .f32⟩ : BufTy).Contents (Elt F) → (⟨S64x100000, .f32⟩ : BufTy).Contents (Elt F) → (⟨S64x100000, .f32⟩ : BufTy).Contents (Elt F)),
    StableHlo.binary main_v2 main_v24 main_v25 (subf : (⟨S64x100000, .f32⟩ : BufTy).Contents (Elt F) → (⟨S64x100000, .f32⟩ : BufTy).Contents (Elt F) → (⟨S64x100000, .f32⟩ : BufTy).Contents (Elt F)),
    StableHlo.unary main_arg4 main_v26 (broadcastInDim S64x1 ![0] bcast_S64_S64x1_0 : (⟨S64, .f32⟩ : BufTy).Contents (Elt F) → (⟨S64x1, .f32⟩ : BufTy).Contents (Elt F)),
    StableHlo.nullary main_cst_4 (constant S_ .f32 0x00000000#32),
    StableHlo.unary main_cst_4 main_v27 (broadcastInDim S64x100000 ![] bcast_S_S64x100000 : (⟨S_, .f32⟩ : BufTy).Contents (Elt F) → (⟨S64x100000, .f32⟩ : BufTy).Contents (Elt F)),
    StableHlo.binary main_v21 main_v27 main_v28 (cmpf .ogt : (⟨S64x100000, .f32⟩ : BufTy).Contents (Elt F) → (⟨S64x100000, .f32⟩ : BufTy).Contents (Elt F) → (⟨S64x100000, .i1⟩ : BufTy).Contents (Elt F)),
    StableHlo.unary main_v28 main_v29 (uitofp .f32 : (⟨S64x100000, .i1⟩ : BufTy).Contents (Elt F) → (⟨S64x100000, .f32⟩ : BufTy).Contents (Elt F)),
    StableHlo.unary main_v26 main_v30 (broadcastInDim S64x100000 ![0, 1] bcast_S64x1_S64x100000_0_1 : (⟨S64x1, .f32⟩ : BufTy).Contents (Elt F) → (⟨S64x100000, .f32⟩ : BufTy).Contents (Elt F)),
    StableHlo.binary main_v30 main_v29 main_v31 (mulf : (⟨S64x100000, .f32⟩ : BufTy).Contents (Elt F) → (⟨S64x100000, .f32⟩ : BufTy).Contents (Elt F) → (⟨S64x100000, .f32⟩ : BufTy).Contents (Elt F)),
    StableHlo.binary main_v25 main_v31 main_v32 (subf : (⟨S64x100000, .f32⟩ : BufTy).Contents (Elt F) → (⟨S64x100000, .f32⟩ : BufTy).Contents (Elt F) → (⟨S64x100000, .f32⟩ : BufTy).Contents (Elt F)),
    StableHlo.nullary main_cst_5 (constant S_ .f32 0x3A83126F#32),
    StableHlo.unary main_cst_5 main_v33 (broadcastInDim S64 ![] bcast_S_S64 : (⟨S_, .f32⟩ : BufTy).Contents (Elt F) → (⟨S64, .f32⟩ : BufTy).Contents (Elt F)),
    StableHlo.binary main_arg6 main_v33 main_v34 (maximumf : (⟨S64, .f32⟩ : BufTy).Contents (Elt F) → (⟨S64, .f32⟩ : BufTy).Contents (Elt F) → (⟨S64, .f32⟩ : BufTy).Contents (Elt F)),
    StableHlo.unary main_v34 main_v35 (broadcastInDim S64x1 ![0] bcast_S64_S64x1_0 : (⟨S64, .f32⟩ : BufTy).Contents (Elt F) → (⟨S64x1, .f32⟩ : BufTy).Contents (Elt F)),
    StableHlo.unary main_v35 main_v36 (broadcastInDim S64x100000 ![0, 1] bcast_S64x1_S64x100000_0_1 : (⟨S64x1, .f32⟩ : BufTy).Contents (Elt F) → (⟨S64x100000, .f32⟩ : BufTy).Contents (Elt F)),
    StableHlo.binary main_v32 main_v36 main_v37 (Host.divf : (⟨S64x100000, .f32⟩ : BufTy).Contents (Elt F) → (⟨S64x100000, .f32⟩ : BufTy).Contents (Elt F) → (⟨S64x100000, .f32⟩ : BufTy).Contents (Elt F)),
    StableHlo.unary main_v37 main_v38 (Host.negf : (⟨S64x100000, .f32⟩ : BufTy).Contents (Elt F) → (⟨S64x100000, .f32⟩ : BufTy).Contents (Elt F)) ]
/-- Each touches TensorCore references only. -/
theorem ops1_sub : (ops1 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.nullary_bufs_sub .., StableHlo.unary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub ..⟩
/-- Each determines its results. -/
theorem ops1_fresh : (ops1 : List (HloOp τ sig (Elt F))).Forall fun op => op.fresh = ∅ := by
  simp only [List.Forall]; repeat' constructor
/-- The references written, in order. -/
abbrev ops1_W : List (Ref sig .tc) := [main_v1, main_v2, main_cst, main_v3, main_v4, main_v5, main_c, main_v6, main_v7, main_c_0, main_v8, main_v9, main_v10, main_c_1, main_v11, main_v12, main_c_2, main_v13, main_v14, main_v15, main_v16, main_v17, main_v18, main_v19, main_cst_3, main_v20, main_v21, main_v22, main_v23, main_v24, main_v25, main_v26, main_cst_4, main_v27, main_v28, main_v29, main_v30, main_v31, main_v32, main_cst_5, main_v33, main_v34, main_v35, main_v36, main_v37, main_v38]
/-- Nothing else is written. -/
theorem ops1_writes : (ops1 : List (HloOp τ sig (Elt F))).Forall fun op => op.writes ⊆ (ops1_W.map (Proc.devRef (τ := τ) .tc)).toFinset :=
  StableHlo.forall_writes_sub_of_map rfl

/-- 3 host operations of @argsort, in order. -/
abbrev ops2 : List (HloOp τ sig (Elt F)) :=
  [ StableHlo.TRef.nullary (.of main_call1_v0 : StableHlo.TRef sig ⟨S64x100000, .i32⟩) (iotaInDim S64x100000 32 1),
    StableHlo.TRef.binary (.of main_v38 : StableHlo.TRef sig ⟨S64x100000, .f32⟩) (.of main_call1_v0 : StableHlo.TRef sig ⟨S64x100000, .i32⟩) (.of main_call1_v1_0 : StableHlo.TRef sig ⟨S64x100000, .f32⟩) (fun x y => (Host.sort2 S64x100000 1 comparator_f32_i32_d1 x y).1),
    StableHlo.TRef.binary (.of main_v38 : StableHlo.TRef sig ⟨S64x100000, .f32⟩) (.of main_call1_v0 : StableHlo.TRef sig ⟨S64x100000, .i32⟩) (.of main_v39 : StableHlo.TRef sig ⟨S64x100000, .i32⟩) (fun x y => (Host.sort2 S64x100000 1 comparator_f32_i32_d1 x y).2) ]
/-- Each touches TensorCore references only. -/
theorem ops2_sub : (ops2 : List (HloOp τ sig (Elt F))).Forall fun op => op.bufs ⊆ StableHlo.tcRefs τ sig :=
  ⟨StableHlo.nullary_bufs_sub .., StableHlo.binary_bufs_sub .., StableHlo.binary_bufs_sub ..⟩
/-- Each determines its results. -/
theorem ops2_fresh : (ops2 : List (HloOp τ sig (Elt F))).Forall fun op => op.fresh = ∅ := by
  simp only [List.Forall]; repeat' constructor
/-- The references written, in order. -/
abbrev ops2_W : List (Ref sig .tc) := [main_call1_v0, main_call1_v1_0, main_v39]
/-- Nothing else is written. -/
theorem ops2_writes : (ops2 : List (HloOp τ sig (Elt F))).Forall fun op => op.writes ⊆ (ops2_W.map (Proc.devRef (τ := τ) .tc)).toFinset :=
  StableHlo.forall_writes_sub_of_map rfl

/-- 22 host operations of @take_along_axis, in order. -/
abbrev ops3 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S64x100000, .i32⟩) (broadcastInDim S64x100000 ![] bcast_S_S64x100000),
    StableHlo.TRef.binary (.of main_v39 : StableHlo.TRef sig ⟨S64x100000, .i32⟩) (.of main_call2_v0 : StableHlo.TRef sig ⟨S64x100000, .i32⟩) (.of main_call2_v1 : StableHlo.TRef sig ⟨S64x100000, .i1⟩) (cmpi .slt),
    StableHlo.TRef.nullary (.of main_call2_c_0 : StableHlo.TRef sig ⟨S_, .i32⟩) (constantI S_ 32 100000#32),
    StableHlo.TRef.unary (.of main_call2_c_0 : StableHlo.TRef sig ⟨S_, .i32⟩) (.of main_call2_v2 : StableHlo.TRef sig ⟨S64x100000, .i32⟩) (broadcastInDim S64x100000 ![] bcast_S_S64x100000),
    StableHlo.TRef.binary (.of main_v39 : StableHlo.TRef sig ⟨S64x100000, .i32⟩) (.of main_call2_v2 : StableHlo.TRef sig ⟨S64x100000, .i32⟩) (.of main_call2_v3 : StableHlo.TRef sig ⟨S64x100000, .i32⟩) addi,
    StableHlo.TRef.ternary (.of main_call2_v1 : StableHlo.TRef sig ⟨S64x100000, .i1⟩) (.of main_call2_v3 : StableHlo.TRef sig ⟨S64x100000, .i32⟩) (.of main_v39 : StableHlo.TRef sig ⟨S64x100000, .i32⟩) (.of main_call2_v4 : StableHlo.TRef sig ⟨S64x100000, .i32⟩) select,
    StableHlo.TRef.reshape (.of main_call2_v4 : StableHlo.TRef sig ⟨S64x100000, .i32⟩) (.of main_call2_v5 : StableHlo.TRef sig ⟨S64x100000x1, .i32⟩) (rfl : (.i32 : EltTy) = .i32) shapeCasts_S64x100000_S64x100000x1,
    StableHlo.TRef.nullary (.of main_call2_c_1 : StableHlo.TRef sig ⟨S1, .i32⟩) (constantI S1 32 99999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S64x100000x1, .i32⟩) (broadcastInDim S64x100000x1 ![] bcast_S_S64x100000x1),
    StableHlo.TRef.binary (.of main_call2_v5 : StableHlo.TRef sig ⟨S64x100000x1, .i32⟩) (.of main_call2_v6 : StableHlo.TRef sig ⟨S64x100000x1, .i32⟩) (.of main_call2_v7 : StableHlo.TRef sig ⟨S64x100000x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S64x100000x1, .i32⟩) (broadcastInDim S64x100000x1 ![0, 1, 2] bcast_S1x1x1_S64x100000x1_0_1_2),
    StableHlo.TRef.binary (.of main_call2_v5 : StableHlo.TRef sig ⟨S64x100000x1, .i32⟩) (.of main_call2_v9 : StableHlo.TRef sig ⟨S64x100000x1, .i32⟩) (.of main_call2_v10 : StableHlo.TRef sig ⟨S64x100000x1, .i1⟩) (cmpi .sle),
    StableHlo.TRef.binary (.of main_call2_v7 : StableHlo.TRef sig ⟨S64x100000x1, .i1⟩) (.of main_call2_v10 : StableHlo.TRef sig ⟨S64x100000x1, .i1⟩) (.of main_call2_v11 : StableHlo.TRef sig ⟨S64x100000x1, .i1⟩) andi,
    StableHlo.TRef.nullary (.of main_call2_c_3 : StableHlo.TRef sig ⟨S_, .i1⟩) (constantI S_ 1 1#1),
    StableHlo.TRef.binary (.of main_call2_v11 : StableHlo.TRef sig ⟨S64x100000x1, .i1⟩) (.of main_call2_c_3 : StableHlo.TRef sig ⟨S_, .i1⟩) (.of main_call2_v12 : StableHlo.TRef sig ⟨S64x100000, .i1⟩) (fun x v => Host.reduce IntOp.andi x v reducesTo_S64x100000x1_S64x100000_d2 h_S_),
    StableHlo.TRef.binary (.of main_v37 : StableHlo.TRef sig ⟨S64x100000, .f32⟩) (.of main_call2_v5 : StableHlo.TRef sig ⟨S64x100000x1, .i32⟩) (.of main_call2_v13 : StableHlo.TRef sig ⟨S64x100000, .f32⟩) (fun x i => Host.gather gather_S64x100000_S64x100000x1_S64x100000_n_1_0_0_1_2_11 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S64x100000, .f32⟩) (broadcastInDim S64x100000 ![] bcast_S_S64x100000),
    StableHlo.TRef.ternary (.of main_call2_v12 : StableHlo.TRef sig ⟨S64x100000, .i1⟩) (.of main_call2_v13 : StableHlo.TRef sig ⟨S64x100000, .f32⟩) (.of main_call2_v14 : StableHlo.TRef sig ⟨S64x100000, .f32⟩) (.of main_v40 : StableHlo.TRef sig ⟨S64x100000, .f32⟩) select ]
/-- Each touches TensorCore references only. -/
theorem ops3_sub : (ops3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- Each determines its results. -/
theorem ops3_fresh : (ops3 : List (HloOp τ sig (Elt F))).Forall fun op => op.fresh = ∅ := by
  simp only [List.Forall]; repeat' constructor
/-- The references written, in order. -/
abbrev ops3_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v40]
/-- Nothing else is written. -/
theorem ops3_writes : (ops3 : List (HloOp τ sig (Elt F))).Forall fun op => op.writes ⊆ (ops3_W.map (Proc.devRef (τ := τ) .tc)).toFinset :=
  StableHlo.forall_writes_sub_of_map rfl

/-- 11 host operations of @main, in order. -/
abbrev ops4 : List (HloOp τ sig (Elt F)) :=
  [ StableHlo.nullary main_cst_6 (constant S_ .f32 0xFF800000#32),
    StableHlo.binary main_v40 main_cst_6 main_v41 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    StableHlo.nullary main_cst_7 (constant S_ .f32 0xFF800000#32),
    StableHlo.unary main_cst_7 main_v42 (broadcastInDim S64 ![] bcast_S_S64 : (⟨S_, .f32⟩ : BufTy).Contents (Elt F) → (⟨S64, .f32⟩ : BufTy).Contents (Elt F)),
    StableHlo.binary main_v42 main_v41 main_v43 (maximumf : (⟨S64, .f32⟩ : BufTy).Contents (Elt F) → (⟨S64, .f32⟩ : BufTy).Contents (Elt F) → (⟨S64, .f32⟩ : BufTy).Contents (Elt F)),
    StableHlo.unary main_v43 main_v44 (broadcastInDim S64x1 ![0] bcast_S64_S64x1_0 : (⟨S64, .f32⟩ : BufTy).Contents (Elt F) → (⟨S64x1, .f32⟩ : BufTy).Contents (Elt F)),
    StableHlo.unary main_v44 main_v45 (broadcastInDim S64x100000 ![0, 1] bcast_S64x1_S64x100000_0_1 : (⟨S64x1, .f32⟩ : BufTy).Contents (Elt F) → (⟨S64x100000, .f32⟩ : BufTy).Contents (Elt F)),
    StableHlo.binary main_v40 main_v45 main_v46 (subf : (⟨S64x100000, .f32⟩ : BufTy).Contents (Elt F) → (⟨S64x100000, .f32⟩ : BufTy).Contents (Elt F) → (⟨S64x100000, .f32⟩ : BufTy).Contents (Elt F)),
    StableHlo.unary main_v46 main_v47 (Host.exp : (⟨S64x100000, .f32⟩ : BufTy).Contents (Elt F) → (⟨S64x100000, .f32⟩ : BufTy).Contents (Elt F)),
    StableHlo.nullary main_cst_8 (constant S_ .f32 0x00000000#32),
    StableHlo.binary main_v47 main_cst_8 main_v48 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)) ]
/-- Each touches TensorCore references only. -/
theorem ops4_sub : (ops4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub ..⟩
/-- Each determines its results. -/
theorem ops4_fresh : (ops4 : List (HloOp τ sig (Elt F))).Forall fun op => op.fresh = ∅ := by
  simp only [List.Forall]; repeat' constructor
/-- The references written, in order. -/
abbrev ops4_W : List (Ref sig .tc) := [main_cst_6, main_v41, main_cst_7, main_v42, main_v43, main_v44, main_v45, main_v46, main_v47, main_cst_8, main_v48]
/-- Nothing else is written. -/
theorem ops4_writes : (ops4 : List (HloOp τ sig (Elt F))).Forall fun op => op.writes ⊆ (ops4_W.map (Proc.devRef (τ := τ) .tc)).toFinset :=
  StableHlo.forall_writes_sub_of_map rfl

/-- 3 host operations of @main, in order. -/
abbrev ops5 : List (HloOp τ sig (Elt F)) :=
  [ StableHlo.unary main_v48 main_v49 (broadcastInDim S64x1 ![0] bcast_S64_S64x1_0 : (⟨S64, .f32⟩ : BufTy).Contents (Elt F) → (⟨S64x1, .f32⟩ : BufTy).Contents (Elt F)),
    StableHlo.unary main_v49 main_v50 (broadcastInDim S64x100000 ![0, 1] bcast_S64x1_S64x100000_0_1 : (⟨S64x1, .f32⟩ : BufTy).Contents (Elt F) → (⟨S64x100000, .f32⟩ : BufTy).Contents (Elt F)),
    StableHlo.binary main_v47 main_v50 main_v51 (Host.divf : (⟨S64x100000, .f32⟩ : BufTy).Contents (Elt F) → (⟨S64x100000, .f32⟩ : BufTy).Contents (Elt F) → (⟨S64x100000, .f32⟩ : BufTy).Contents (Elt F)) ]
/-- Each touches TensorCore references only. -/
theorem ops5_sub : (ops5 : List (HloOp τ sig (Elt F))).Forall fun op => op.bufs ⊆ StableHlo.tcRefs τ sig :=
  ⟨StableHlo.unary_bufs_sub .., StableHlo.unary_bufs_sub .., StableHlo.binary_bufs_sub ..⟩
/-- Each determines its results. -/
theorem ops5_fresh : (ops5 : List (HloOp τ sig (Elt F))).Forall fun op => op.fresh = ∅ := by
  simp only [List.Forall]; repeat' constructor
/-- The references written, in order. -/
abbrev ops5_W : List (Ref sig .tc) := [main_v49, main_v50, main_v51]
/-- Nothing else is written. -/
theorem ops5_writes : (ops5 : List (HloOp τ sig (Elt F))).Forall fun op => op.writes ⊆ (ops5_W.map (Proc.devRef (τ := τ) .tc)).toFinset :=
  StableHlo.forall_writes_sub_of_map rfl

/-- 3 host operations of @cumsum, in order. -/
abbrev ops6 : List (HloOp τ sig (Elt F)) :=
  [ StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_v0 : StableHlo.TRef sig ⟨S_, .f32⟩) (broadcastInDim S_ ![] bcast_S_S_),
    StableHlo.TRef.binary (.of main_v51 : StableHlo.TRef sig ⟨S64x100000, .f32⟩) (.of main_call3_call0_v0 : StableHlo.TRef sig ⟨S_, .f32⟩) (.of main_v52 : StableHlo.TRef sig ⟨S64x100000, .f32⟩) (fun x v => Host.reduceWindowAdd ![1, 100000] ![1, 1] ![0, 99999] ![0, 0] x v reduceWindows_S64x100000_S64x100000_w1s1p0_0_w100000s1p99999_0 h_S_) ]
/-- Each touches TensorCore references only. -/
theorem ops6_sub : (ops6 : List (HloOp τ sig (Elt F))).Forall fun op => op.bufs ⊆ StableHlo.tcRefs τ sig :=
  ⟨StableHlo.nullary_bufs_sub .., StableHlo.unary_bufs_sub .., StableHlo.binary_bufs_sub ..⟩
/-- Each determines its results. -/
theorem ops6_fresh : (ops6 : List (HloOp τ sig (Elt F))).Forall fun op => op.fresh = ∅ := by
  simp only [List.Forall]; repeat' constructor
/-- The references written, in order. -/
abbrev ops6_W : List (Ref sig .tc) := [main_call3_call0_cst, main_call3_call0_v0, main_v52]
/-- Nothing else is written. -/
theorem ops6_writes : (ops6 : List (HloOp τ sig (Elt F))).Forall fun op => op.writes ⊆ (ops6_W.map (Proc.devRef (τ := τ) .tc)).toFinset :=
  StableHlo.forall_writes_sub_of_map rfl

/-- 15 host operations of @main, in order. -/
abbrev ops7 : List (HloOp τ sig (Elt F)) :=
  [ StableHlo.binary main_v52 main_v51 main_v53 (subf : (⟨S64x100000, .f32⟩ : BufTy).Contents (Elt F) → (⟨S64x100000, .f32⟩ : BufTy).Contents (Elt F) → (⟨S64x100000, .f32⟩ : BufTy).Contents (Elt F)),
    StableHlo.unary main_arg7 main_v54 (broadcastInDim S64x1 ![0] bcast_S64_S64x1_0 : (⟨S64, .f32⟩ : BufTy).Contents (Elt F) → (⟨S64x1, .f32⟩ : BufTy).Contents (Elt F)),
    StableHlo.unary main_v54 main_v55 (broadcastInDim S64x100000 ![0, 1] bcast_S64x1_S64x100000_0_1 : (⟨S64x1, .f32⟩ : BufTy).Contents (Elt F) → (⟨S64x100000, .f32⟩ : BufTy).Contents (Elt F)),
    StableHlo.binary main_v53 main_v55 main_v56 (cmpf .ogt : (⟨S64x100000, .f32⟩ : BufTy).Contents (Elt F) → (⟨S64x100000, .f32⟩ : BufTy).Contents (Elt F) → (⟨S64x100000, .i1⟩ : BufTy).Contents (Elt F)),
    StableHlo.nullary main_c_9 (constantI S_ 32 1#32),
    StableHlo.unary main_c_9 main_v57 (broadcastInDim S64 ![] bcast_S_S64 : (⟨S_, .i32⟩ : BufTy).Contents (Elt F) → (⟨S64, .i32⟩ : BufTy).Contents (Elt F)),
    StableHlo.binary main_arg8 main_v57 main_v58 (maxsi : (⟨S64, .i32⟩ : BufTy).Contents (Elt F) → (⟨S64, .i32⟩ : BufTy).Contents (Elt F) → (⟨S64, .i32⟩ : BufTy).Contents (Elt F)),
    StableHlo.nullary main_v59 (iotaInDim S100000 32 0),
    StableHlo.unary main_v59 main_v60 (broadcastInDim S1x100000 ![1] bcast_S100000_S1x100000_1 : (⟨S100000, .i32⟩ : BufTy).Contents (Elt F) → (⟨S1x100000, .i32⟩ : BufTy).Contents (Elt F)),
    StableHlo.unary main_v58 main_v61 (broadcastInDim S64x1 ![0] bcast_S64_S64x1_0 : (⟨S64, .i32⟩ : BufTy).Contents (Elt F) → (⟨S64x1, .i32⟩ : BufTy).Contents (Elt F)),
    StableHlo.unary main_v60 main_v62 (broadcastInDim S64x100000 ![0, 1] bcast_S1x100000_S64x100000_0_1 : (⟨S1x100000, .i32⟩ : BufTy).Contents (Elt F) → (⟨S64x100000, .i32⟩ : BufTy).Contents (Elt F)),
    StableHlo.unary main_v61 main_v63 (broadcastInDim S64x100000 ![0, 1] bcast_S64x1_S64x100000_0_1 : (⟨S64x1, .i32⟩ : BufTy).Contents (Elt F) → (⟨S64x100000, .i32⟩ : BufTy).Contents (Elt F)),
    StableHlo.binary main_v62 main_v63 main_v64 (cmpi .sge : (⟨S64x100000, .i32⟩ : BufTy).Contents (Elt F) → (⟨S64x100000, .i32⟩ : BufTy).Contents (Elt F) → (⟨S64x100000, .i1⟩ : BufTy).Contents (Elt F)),
    StableHlo.binary main_v56 main_v64 main_v65 (ori : (⟨S64x100000, .i1⟩ : BufTy).Contents (Elt F) → (⟨S64x100000, .i1⟩ : BufTy).Contents (Elt F) → (⟨S64x100000, .i1⟩ : BufTy).Contents (Elt F)),
    StableHlo.nullary main_cst_10 (constant S_ .f32 0xCE6E6B28#32) ]
/-- Each touches TensorCore references only. -/
theorem ops7_sub : (ops7 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩
/-- Each determines its results. -/
theorem ops7_fresh : (ops7 : List (HloOp τ sig (Elt F))).Forall fun op => op.fresh = ∅ := by
  simp only [List.Forall]; repeat' constructor
/-- The references written, in order. -/
abbrev ops7_W : List (Ref sig .tc) := [main_v53, main_v54, main_v55, main_v56, main_c_9, main_v57, main_v58, main_v59, main_v60, main_v61, main_v62, main_v63, main_v64, main_v65, main_cst_10]
/-- Nothing else is written. -/
theorem ops7_writes : (ops7 : List (HloOp τ sig (Elt F))).Forall fun op => op.writes ⊆ (ops7_W.map (Proc.devRef (τ := τ) .tc)).toFinset :=
  StableHlo.forall_writes_sub_of_map rfl

/-- 3 host operations of @where_1, in order. -/
abbrev ops8 : List (HloOp τ sig (Elt F)) :=
  [ StableHlo.TRef.unary (.of main_cst_10 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S64x100000, .f32⟩) (broadcastInDim S64x100000 ![] bcast_S_S64x100000),
    StableHlo.TRef.ternary (.of main_v65 : StableHlo.TRef sig ⟨S64x100000, .i1⟩) (.of main_call4_v1 : StableHlo.TRef sig ⟨S64x100000, .f32⟩) (.of main_v40 : StableHlo.TRef sig ⟨S64x100000, .f32⟩) (.of main_v66 : StableHlo.TRef sig ⟨S64x100000, .f32⟩) select ]
/-- Each touches TensorCore references only. -/
theorem ops8_sub : (ops8 : List (HloOp τ sig (Elt F))).Forall fun op => op.bufs ⊆ StableHlo.tcRefs τ sig :=
  ⟨StableHlo.unary_bufs_sub .., StableHlo.unary_bufs_sub .., StableHlo.ternary_bufs_sub ..⟩
/-- Each determines its results. -/
theorem ops8_fresh : (ops8 : List (HloOp τ sig (Elt F))).Forall fun op => op.fresh = ∅ := by
  simp only [List.Forall]; repeat' constructor
/-- The references written, in order. -/
abbrev ops8_W : List (Ref sig .tc) := [main_call4_v0, main_call4_v1, main_v66]
/-- Nothing else is written. -/
theorem ops8_writes : (ops8 : List (HloOp τ sig (Elt F))).Forall fun op => op.writes ⊆ (ops8_W.map (Proc.devRef (τ := τ) .tc)).toFinset :=
  StableHlo.forall_writes_sub_of_map rfl

/-- 3 host operations of @argsort_2, in order. -/
abbrev ops9 : List (HloOp τ sig (Elt F)) :=
  [ StableHlo.TRef.nullary (.of main_call5_v0 : StableHlo.TRef sig ⟨S64x100000, .i32⟩) (iotaInDim S64x100000 32 1),
    StableHlo.TRef.binary (.of main_v39 : StableHlo.TRef sig ⟨S64x100000, .i32⟩) (.of main_call5_v0 : StableHlo.TRef sig ⟨S64x100000, .i32⟩) (.of main_call5_v1_0 : StableHlo.TRef sig ⟨S64x100000, .i32⟩) (fun x y => (Host.sort2 S64x100000 1 comparator_i32_i32_d1 x y).1),
    StableHlo.TRef.binary (.of main_v39 : StableHlo.TRef sig ⟨S64x100000, .i32⟩) (.of main_call5_v0 : StableHlo.TRef sig ⟨S64x100000, .i32⟩) (.of main_v67 : StableHlo.TRef sig ⟨S64x100000, .i32⟩) (fun x y => (Host.sort2 S64x100000 1 comparator_i32_i32_d1 x y).2) ]
/-- Each touches TensorCore references only. -/
theorem ops9_sub : (ops9 : List (HloOp τ sig (Elt F))).Forall fun op => op.bufs ⊆ StableHlo.tcRefs τ sig :=
  ⟨StableHlo.nullary_bufs_sub .., StableHlo.binary_bufs_sub .., StableHlo.binary_bufs_sub ..⟩
/-- Each determines its results. -/
theorem ops9_fresh : (ops9 : List (HloOp τ sig (Elt F))).Forall fun op => op.fresh = ∅ := by
  simp only [List.Forall]; repeat' constructor
/-- The references written, in order. -/
abbrev ops9_W : List (Ref sig .tc) := [main_call5_v0, main_call5_v1_0, main_v67]
/-- Nothing else is written. -/
theorem ops9_writes : (ops9 : List (HloOp τ sig (Elt F))).Forall fun op => op.writes ⊆ (ops9_W.map (Proc.devRef (τ := τ) .tc)).toFinset :=
  StableHlo.forall_writes_sub_of_map rfl

/-- 22 host operations of @take_along_axis, in order. -/
abbrev ops10 : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S64x100000, .i32⟩) (broadcastInDim S64x100000 ![] bcast_S_S64x100000),
    StableHlo.TRef.binary (.of main_v67 : StableHlo.TRef sig ⟨S64x100000, .i32⟩) (.of main_call6_v0 : StableHlo.TRef sig ⟨S64x100000, .i32⟩) (.of main_call6_v1 : StableHlo.TRef sig ⟨S64x100000, .i1⟩) (cmpi .slt),
    StableHlo.TRef.nullary (.of main_call6_c_0 : StableHlo.TRef sig ⟨S_, .i32⟩) (constantI S_ 32 100000#32),
    StableHlo.TRef.unary (.of main_call6_c_0 : StableHlo.TRef sig ⟨S_, .i32⟩) (.of main_call6_v2 : StableHlo.TRef sig ⟨S64x100000, .i32⟩) (broadcastInDim S64x100000 ![] bcast_S_S64x100000),
    StableHlo.TRef.binary (.of main_v67 : StableHlo.TRef sig ⟨S64x100000, .i32⟩) (.of main_call6_v2 : StableHlo.TRef sig ⟨S64x100000, .i32⟩) (.of main_call6_v3 : StableHlo.TRef sig ⟨S64x100000, .i32⟩) addi,
    StableHlo.TRef.ternary (.of main_call6_v1 : StableHlo.TRef sig ⟨S64x100000, .i1⟩) (.of main_call6_v3 : StableHlo.TRef sig ⟨S64x100000, .i32⟩) (.of main_v67 : StableHlo.TRef sig ⟨S64x100000, .i32⟩) (.of main_call6_v4 : StableHlo.TRef sig ⟨S64x100000, .i32⟩) select,
    StableHlo.TRef.reshape (.of main_call6_v4 : StableHlo.TRef sig ⟨S64x100000, .i32⟩) (.of main_call6_v5 : StableHlo.TRef sig ⟨S64x100000x1, .i32⟩) (rfl : (.i32 : EltTy) = .i32) shapeCasts_S64x100000_S64x100000x1,
    StableHlo.TRef.nullary (.of main_call6_c_1 : StableHlo.TRef sig ⟨S1, .i32⟩) (constantI S1 32 99999#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S64x100000x1, .i32⟩) (broadcastInDim S64x100000x1 ![] bcast_S_S64x100000x1),
    StableHlo.TRef.binary (.of main_call6_v5 : StableHlo.TRef sig ⟨S64x100000x1, .i32⟩) (.of main_call6_v6 : StableHlo.TRef sig ⟨S64x100000x1, .i32⟩) (.of main_call6_v7 : StableHlo.TRef sig ⟨S64x100000x1, .i1⟩) (cmpi .sge),
    StableHlo.TRef.unary (.of main_call6_c_1 : StableHlo.TRef sig ⟨S1, .i32⟩) (.of main_call6_v8 : StableHlo.TRef sig ⟨S1x1x1, .i32⟩) (broadcastInDim S1x1x1 ![2] bcast_S1_S1x1x1_2),
    StableHlo.TRef.unary (.of main_call6_v8 : StableHlo.TRef sig ⟨S1x1x1, .i32⟩) (.of main_call6_v9 : StableHlo.TRef sig ⟨S64x100000x1, .i32⟩) (broadcastInDim S64x100000x1 ![0, 1, 2] bcast_S1x1x1_S64x100000x1_0_1_2),
    StableHlo.TRef.binary (.of main_call6_v5 : StableHlo.TRef sig ⟨S64x100000x1, .i32⟩) (.of main_call6_v9 : StableHlo.TRef sig ⟨S64x100000x1, .i32⟩) (.of main_call6_v10 : StableHlo.TRef sig ⟨S64x100000x1, .i1⟩) (cmpi .sle),
    StableHlo.TRef.binary (.of main_call6_v7 : StableHlo.TRef sig ⟨S64x100000x1, .i1⟩) (.of main_call6_v10 : StableHlo.TRef sig ⟨S64x100000x1, .i1⟩) (.of main_call6_v11 : StableHlo.TRef sig ⟨S64x100000x1, .i1⟩) andi,
    StableHlo.TRef.nullary (.of main_call6_c_3 : StableHlo.TRef sig ⟨S_, .i1⟩) (constantI S_ 1 1#1),
    StableHlo.TRef.binary (.of main_call6_v11 : StableHlo.TRef sig ⟨S64x100000x1, .i1⟩) (.of main_call6_c_3 : StableHlo.TRef sig ⟨S_, .i1⟩) (.of main_call6_v12 : StableHlo.TRef sig ⟨S64x100000, .i1⟩) (fun x v => Host.reduce IntOp.andi x v reducesTo_S64x100000x1_S64x100000_d2 h_S_),
    StableHlo.TRef.binary (.of main_v66 : StableHlo.TRef sig ⟨S64x100000, .f32⟩) (.of main_call6_v5 : StableHlo.TRef sig ⟨S64x100000x1, .i32⟩) (.of main_call6_v13 : StableHlo.TRef sig ⟨S64x100000, .f32⟩) (fun x i => Host.gather gather_S64x100000_S64x100000x1_S64x100000_n_1_0_0_1_2_11 x i),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S64x100000, .f32⟩) (broadcastInDim S64x100000 ![] bcast_S_S64x100000),
    StableHlo.TRef.ternary (.of main_call6_v12 : StableHlo.TRef sig ⟨S64x100000, .i1⟩) (.of main_call6_v13 : StableHlo.TRef sig ⟨S64x100000, .f32⟩) (.of main_call6_v14 : StableHlo.TRef sig ⟨S64x100000, .f32⟩) (.of main_v68 : StableHlo.TRef sig ⟨S64x100000, .f32⟩) select ]
/-- Each touches TensorCore references only. -/
theorem ops10_sub : (ops10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- Each determines its results. -/
theorem ops10_fresh : (ops10 : List (HloOp τ sig (Elt F))).Forall fun op => op.fresh = ∅ := by
  simp only [List.Forall]; repeat' constructor
/-- The references written, in order. -/
abbrev ops10_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v68]
/-- Nothing else is written. -/
theorem ops10_writes : (ops10 : List (HloOp τ sig (Elt F))).Forall fun op => op.writes ⊆ (ops10_W.map (Proc.devRef (τ := τ) .tc)).toFinset :=
  StableHlo.forall_writes_sub_of_map rfl

/-- 14 host operations of @main, in order. -/
abbrev ops11 : List (HloOp τ sig (Elt F)) :=
  [ StableHlo.nullary main_cst_11 (constant S_ .f32 0xFF800000#32),
    StableHlo.binary main_v68 main_cst_11 main_v69 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    StableHlo.nullary main_cst_12 (constant S_ .f32 0xFF800000#32),
    StableHlo.unary main_cst_12 main_v70 (broadcastInDim S64 ![] bcast_S_S64 : (⟨S_, .f32⟩ : BufTy).Contents (Elt F) → (⟨S64, .f32⟩ : BufTy).Contents (Elt F)),
    StableHlo.binary main_v70 main_v69 main_v71 (maximumf : (⟨S64, .f32⟩ : BufTy).Contents (Elt F) → (⟨S64, .f32⟩ : BufTy).Contents (Elt F) → (⟨S64, .f32⟩ : BufTy).Contents (Elt F)),
    StableHlo.unary main_v71 main_v72 (broadcastInDim S64x1 ![0] bcast_S64_S64x1_0 : (⟨S64, .f32⟩ : BufTy).Contents (Elt F) → (⟨S64x1, .f32⟩ : BufTy).Contents (Elt F)),
    StableHlo.unary main_v72 main_v73 (broadcastInDim S64x100000 ![0, 1] bcast_S64x1_S64x100000_0_1 : (⟨S64x1, .f32⟩ : BufTy).Contents (Elt F) → (⟨S64x100000, .f32⟩ : BufTy).Contents (Elt F)),
    StableHlo.binary main_v68 main_v73 main_v74 (subf : (⟨S64x100000, .f32⟩ : BufTy).Contents (Elt F) → (⟨S64x100000, .f32⟩ : BufTy).Contents (Elt F) → (⟨S64x100000, .f32⟩ : BufTy).Contents (Elt F)),
    StableHlo.unary main_v74 main_v75 (Host.exp : (⟨S64x100000, .f32⟩ : BufTy).Contents (Elt F) → (⟨S64x100000, .f32⟩ : BufTy).Contents (Elt F)),
    StableHlo.nullary main_cst_13 (constant S_ .f32 0x00000000#32),
    StableHlo.binary main_v75 main_cst_13 main_v76 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    StableHlo.unary main_v76 main_v77 (broadcastInDim S64x1 ![0] bcast_S64_S64x1_0 : (⟨S64, .f32⟩ : BufTy).Contents (Elt F) → (⟨S64x1, .f32⟩ : BufTy).Contents (Elt F)),
    StableHlo.unary main_v77 main_v78 (broadcastInDim S64x100000 ![0, 1] bcast_S64x1_S64x100000_0_1 : (⟨S64x1, .f32⟩ : BufTy).Contents (Elt F) → (⟨S64x100000, .f32⟩ : BufTy).Contents (Elt F)),
    StableHlo.binary main_v75 main_v78 main_v79 (Host.divf : (⟨S64x100000, .f32⟩ : BufTy).Contents (Elt F) → (⟨S64x100000, .f32⟩ : BufTy).Contents (Elt F) → (⟨S64x100000, .f32⟩ : BufTy).Contents (Elt F)) ]
/-- Each touches TensorCore references only. -/
theorem ops11_sub : (ops11 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- Each determines its results. -/
theorem ops11_fresh : (ops11 : List (HloOp τ sig (Elt F))).Forall fun op => op.fresh = ∅ := by
  simp only [List.Forall]; repeat' constructor
/-- The references written, in order. -/
abbrev ops11_W : List (Ref sig .tc) := [main_cst_11, main_v69, main_cst_12, main_v70, main_v71, main_v72, main_v73, main_v74, main_v75, main_cst_13, main_v76, main_v77, main_v78, main_v79]
/-- Nothing else is written. -/
theorem ops11_writes : (ops11 : List (HloOp τ sig (Elt F))).Forall fun op => op.writes ⊆ (ops11_W.map (Proc.devRef (τ := τ) .tc)).toFinset :=
  StableHlo.forall_writes_sub_of_map rfl

/-- 15 host operations of @log_softmax, in order. -/
abbrev ops12 : List (HloOp τ sig (Elt F)) :=
  [ StableHlo.TRef.nullary (.of main_call7_cst : StableHlo.TRef sig ⟨S_, .f32⟩) (constant S_ .f32 0xFF800000#32),
    StableHlo.TRef.binary (.of main_v68 : StableHlo.TRef sig ⟨S64x100000, .f32⟩) (.of main_call7_cst : StableHlo.TRef sig ⟨S_, .f32⟩) (.of main_call7_v0 : StableHlo.TRef sig ⟨S64, .f32⟩) (fun x v => Host.reduce FloatOps.maximumf x v reducesTo_S64x100000_S64_d1 h_S_),
    StableHlo.TRef.nullary (.of main_call7_cst_0 : StableHlo.TRef sig ⟨S_, .f32⟩) (constant S_ .f32 0xFF800000#32),
    StableHlo.TRef.unary (.of main_call7_cst_0 : StableHlo.TRef sig ⟨S_, .f32⟩) (.of main_call7_v1 : StableHlo.TRef sig ⟨S64, .f32⟩) (broadcastInDim S64 ![] bcast_S_S64),
    StableHlo.TRef.binary (.of main_call7_v1 : StableHlo.TRef sig ⟨S64, .f32⟩) (.of main_call7_v0 : StableHlo.TRef sig ⟨S64, .f32⟩) (.of main_call7_v2 : StableHlo.TRef sig ⟨S64, .f32⟩) maximumf,
    StableHlo.TRef.unary (.of main_call7_v2 : StableHlo.TRef sig ⟨S64, .f32⟩) (.of main_call7_v3 : StableHlo.TRef sig ⟨S64x1, .f32⟩) (broadcastInDim S64x1 ![0] bcast_S64_S64x1_0),
    StableHlo.TRef.unary (.of main_call7_v3 : StableHlo.TRef sig ⟨S64x1, .f32⟩) (.of main_call7_v4 : StableHlo.TRef sig ⟨S64x100000, .f32⟩) (broadcastInDim S64x100000 ![0, 1] bcast_S64x1_S64x100000_0_1),
    StableHlo.TRef.binary (.of main_v68 : StableHlo.TRef sig ⟨S64x100000, .f32⟩) (.of main_call7_v4 : StableHlo.TRef sig ⟨S64x100000, .f32⟩) (.of main_call7_v5 : StableHlo.TRef sig ⟨S64x100000, .f32⟩) subf,
    StableHlo.TRef.unary (.of main_call7_v5 : StableHlo.TRef sig ⟨S64x100000, .f32⟩) (.of main_call7_v6 : StableHlo.TRef sig ⟨S64x100000, .f32⟩) Host.exp,
    StableHlo.TRef.nullary (.of main_call7_cst_1 : StableHlo.TRef sig ⟨S_, .f32⟩) (constant S_ .f32 0x00000000#32),
    StableHlo.TRef.binary (.of main_call7_v6 : StableHlo.TRef sig ⟨S64x100000, .f32⟩) (.of main_call7_cst_1 : StableHlo.TRef sig ⟨S_, .f32⟩) (.of main_call7_v7 : StableHlo.TRef sig ⟨S64, .f32⟩) (fun x v => Host.reduceAdd x v reducesTo_S64x100000_S64_d1 h_S_),
    StableHlo.TRef.unary (.of main_call7_v7 : StableHlo.TRef sig ⟨S64, .f32⟩) (.of main_call7_v8 : StableHlo.TRef sig ⟨S64x1, .f32⟩) (broadcastInDim S64x1 ![0] bcast_S64_S64x1_0),
    StableHlo.TRef.unary (.of main_call7_v8 : StableHlo.TRef sig ⟨S64x1, .f32⟩) (.of main_call7_v9 : StableHlo.TRef sig ⟨S64x1, .f32⟩) Host.log,
    StableHlo.TRef.unary (.of main_call7_v9 : StableHlo.TRef sig ⟨S64x1, .f32⟩) (.of main_call7_v10 : StableHlo.TRef sig ⟨S64x100000, .f32⟩) (broadcastInDim S64x100000 ![0, 1] bcast_S64x1_S64x100000_0_1),
    StableHlo.TRef.binary (.of main_call7_v5 : StableHlo.TRef sig ⟨S64x100000, .f32⟩) (.of main_call7_v10 : StableHlo.TRef sig ⟨S64x100000, .f32⟩) (.of main_v80 : StableHlo.TRef sig ⟨S64x100000, .f32⟩) subf ]
/-- Each touches TensorCore references only. -/
theorem ops12_sub : (ops12 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
/-- Each determines its results. -/
theorem ops12_fresh : (ops12 : List (HloOp τ sig (Elt F))).Forall fun op => op.fresh = ∅ := by
  simp only [List.Forall]; repeat' constructor
/-- The references written, in order. -/
abbrev ops12_W : List (Ref sig .tc) := [main_call7_cst, main_call7_v0, main_call7_cst_0, main_call7_v1, main_call7_v2, main_call7_v3, main_call7_v4, main_call7_v5, main_call7_v6, main_call7_cst_1, main_call7_v7, main_call7_v8, main_call7_v9, main_call7_v10, main_v80]
/-- Nothing else is written. -/
theorem ops12_writes : (ops12 : List (HloOp τ sig (Elt F))).Forall fun op => op.writes ⊆ (ops12_W.map (Proc.devRef (τ := τ) .tc)).toFinset :=
  StableHlo.forall_writes_sub_of_map rfl

/-- 10 host operations of @main, in order. -/
abbrev ops13 : List (HloOp τ sig (Elt F)) :=
  [ StableHlo.nullary main_c_14 (constantI S_ 32 42#32),
    StableHlo.nullary main_c_15 (constantI S_ 32 32#32),
    StableHlo.binary main_c_14 main_c_15 main_v81 (Host.shrui : (⟨S_, .i32⟩ : BufTy).Contents (Elt F) → (⟨S_, .i32⟩ : BufTy).Contents (Elt F) → (⟨S_, .i32⟩ : BufTy).Contents (Elt F)),
    StableHlo.unary main_v81 main_v82 (id : (⟨S_, .i32⟩ : BufTy).Contents (Elt F) → (⟨S_, .i32⟩ : BufTy).Contents (Elt F)),
    StableHlo.unary main_v82 main_v83 (broadcastInDim S1 ![] bcast_S_S1 : (⟨S_, .i32⟩ : BufTy).Contents (Elt F) → (⟨S1, .i32⟩ : BufTy).Contents (Elt F)),
    StableHlo.nullary main_c_16 (constantI S_ 32 4294967295#32),
    StableHlo.binary main_c_14 main_c_16 main_v84 (andi : (⟨S_, .i32⟩ : BufTy).Contents (Elt F) → (⟨S_, .i32⟩ : BufTy).Contents (Elt F) → (⟨S_, .i32⟩ : BufTy).Contents (Elt F)),
    StableHlo.unary main_v84 main_v85 (id : (⟨S_, .i32⟩ : BufTy).Contents (Elt F) → (⟨S_, .i32⟩ : BufTy).Contents (Elt F)),
    StableHlo.unary main_v85 main_v86 (broadcastInDim S1 ![] bcast_S_S1 : (⟨S_, .i32⟩ : BufTy).Contents (Elt F) → (⟨S1, .i32⟩ : BufTy).Contents (Elt F)),
    StableHlo.binary main_v83 main_v86 main_v87 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]
/-- Each touches TensorCore references only. -/
theorem ops13_sub : (ops13 : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub ..⟩
/-- Each determines its results. -/
theorem ops13_fresh : (ops13 : List (HloOp τ sig (Elt F))).Forall fun op => op.fresh = ∅ := by
  simp only [List.Forall]; repeat' constructor
/-- The references written, in order. -/
abbrev ops13_W : List (Ref sig .tc) := [main_c_14, main_c_15, main_v81, main_v82, main_v83, main_c_16, main_v84, main_v85, main_v86, main_v87]
/-- Nothing else is written. -/
theorem ops13_writes : (ops13 : List (HloOp τ sig (Elt F))).Forall fun op => op.writes ⊆ (ops13_W.map (Proc.devRef (τ := τ) .tc)).toFinset :=
  StableHlo.forall_writes_sub_of_map rfl

set_option maxHeartbeats 40000000 in
/-- 267 host operations of @gumbel, in order. -/
abbrev ops14 : List (HloOp τ sig (Elt F)) :=
  ( StableHlo.TRef.nullary (.of main_call8_cst : StableHlo.TRef sig ⟨S_, .f32⟩) (constant S_ .f32 0x3F800000#32)
  :: StableHlo.TRef.nullary (.of main_call8_cst_0 : StableHlo.TRef sig ⟨S_, .f32⟩) (constant S_ .f32 0x00800000#32)
  :: StableHlo.TRef.unary (.of main_call8_cst : StableHlo.TRef sig ⟨S_, .f32⟩) (.of main_call8_call0_v0 : StableHlo.TRef sig ⟨S_, .f32⟩) id
  :: StableHlo.TRef.unary (.of main_call8_cst_0 : StableHlo.TRef sig ⟨S_, .f32⟩) (.of main_call8_call0_v1 : StableHlo.TRef sig ⟨S1x1, .f32⟩) (broadcastInDim S1x1 ![] bcast_S_S1x1)
  :: StableHlo.TRef.unary (.of main_call8_call0_v0 : StableHlo.TRef sig ⟨S_, .f32⟩) (.of main_call8_call0_v2 : StableHlo.TRef sig ⟨S1x1, .f32⟩) (broadcastInDim S1x1 ![] bcast_S_S1x1)
  :: StableHlo.TRef.unary (.of main_v87 : StableHlo.TRef sig ⟨S2, .i32⟩) (.of main_call8_call0_v3 : StableHlo.TRef sig ⟨S1, .i32⟩) (extractStridedSlice S1 ![0] · slices_S2_S1_0)
  :: StableHlo.TRef.reshape (.of main_call8_call0_v3 : StableHlo.TRef sig ⟨S1, .i32⟩) (.of main_call8_call0_v4 : StableHlo.TRef sig ⟨S_, .i32⟩) (rfl : (.i32 : EltTy) = .i32) shapeCasts_S1_S_
  :: StableHlo.TRef.unary (.of main_v87 : StableHlo.TRef sig ⟨S2, .i32⟩) (.of main_call8_call0_v5 : StableHlo.TRef sig ⟨S1, .i32⟩) (extractStridedSlice S1 ![1] · slices_S2_S1_1)
  :: StableHlo.TRef.reshape (.of main_call8_call0_v5 : StableHlo.TRef sig ⟨S1, .i32⟩) (.of main_call8_call0_v6 : StableHlo.TRef sig ⟨S_, .i32⟩) (rfl : (.i32 : EltTy) = .i32) shapeCasts_S1_S_
  :: StableHlo.TRef.nullary (.of main_call8_call0_v7 : StableHlo.TRef sig ⟨S64x100000, .i64⟩) (iotaInDim S64x100000 64 0)
  :: StableHlo.TRef.nullary (.of main_call8_call0_v8 : StableHlo.TRef sig ⟨S64x100000, .i64⟩) (iotaInDim S64x100000 64 1)
  :: StableHlo.TRef.nullary (.of main_call8_call0_c : StableHlo.TRef sig ⟨S_, .i64⟩) (constantI S_ 64 100000#64)
  :: StableHlo.TRef.unary (.of main_call8_call0_c : StableHlo.TRef sig ⟨S_, .i64⟩) (.of main_call8_call0_v9 : StableHlo.TRef sig ⟨S64x100000, .i64⟩) (broadcastInDim S64x100000 ![] bcast_S_S64x100000)
  :: StableHlo.TRef.binary (.of main_call8_call0_v9 : StableHlo.TRef sig ⟨S64x100000, .i64⟩) (.of main_call8_call0_v7 : StableHlo.TRef sig ⟨S64x100000, .i64⟩) (.of main_call8_call0_v10 : StableHlo.TRef sig ⟨S64x100000, .i64⟩) muli
  :: StableHlo.TRef.nullary (.of main_call8_call0_c_0 : StableHlo.TRef sig ⟨S_, .i64⟩) (constantI S_ 64 1#64)
  :: StableHlo.TRef.unary (.of main_call8_call0_c_0 : StableHlo.TRef sig ⟨S_, .i64⟩) (.of main_call8_call0_v11 : StableHlo.TRef sig ⟨S64x100000, .i64⟩) (broadcastInDim S64x100000 ![] bcast_S_S64x100000)
  :: StableHlo.TRef.binary (.of main_call8_call0_v11 : StableHlo.TRef sig ⟨S64x100000, .i64⟩) (.of main_call8_call0_v8 : StableHlo.TRef sig ⟨S64x100000, .i64⟩) (.of main_call8_call0_v12 : StableHlo.TRef sig ⟨S64x100000, .i64⟩) muli
  :: StableHlo.TRef.binary (.of main_call8_call0_v10 : StableHlo.TRef sig ⟨S64x100000, .i64⟩) (.of main_call8_call0_v12 : StableHlo.TRef sig ⟨S64x100000, .i64⟩) (.of main_call8_call0_v13 : StableHlo.TRef sig ⟨S64x100000, .i64⟩) addi
  :: StableHlo.TRef.nullary (.of main_call8_call0_c_1 : StableHlo.TRef sig ⟨S_, .i64⟩) (constantI S_ 64 32#64)
  :: StableHlo.TRef.unary (.of main_call8_call0_c_1 : StableHlo.TRef sig ⟨S_, .i64⟩) (.of main_call8_call0_v14 : StableHlo.TRef sig ⟨S64x100000, .i64⟩) (broadcastInDim S64x100000 ![] bcast_S_S64x100000)
  :: StableHlo.TRef.binary (.of main_call8_call0_v13 : StableHlo.TRef sig ⟨S64x100000, .i64⟩) (.of main_call8_call0_v14 : StableHlo.TRef sig ⟨S64x100000, .i64⟩) (.of main_call8_call0_v15 : StableHlo.TRef sig ⟨S64x100000, .i64⟩) Host.shrui
  :: StableHlo.TRef.unary (.of main_call8_call0_v13 : StableHlo.TRef sig ⟨S64x100000, .i64⟩) (.of main_call8_call0_v16 : StableHlo.TRef sig ⟨S64x100000, .i32⟩) (trunci 32 · natLt_32_64)
  :: StableHlo.TRef.unary (.of main_call8_call0_v15 : StableHlo.TRef sig ⟨S64x100000, .i64⟩) (.of main_call8_call0_v17 : StableHlo.TRef sig ⟨S64x100000, .i32⟩) (trunci 32 · natLt_32_64)
  :: StableHlo.TRef.binary (.of main_call8_call0_v4 : StableHlo.TRef sig ⟨S_, .i32⟩) (.of main_call8_call0_v6 : StableHlo.TRef sig ⟨S_, .i32⟩) (.of main_call8_call0_call0_v0 : StableHlo.TRef sig ⟨S_, .i32⟩) xori
  :: StableHlo.TRef.nullary (.of main_call8_call0_call0_c : StableHlo.TRef sig ⟨S_, .i32⟩) (constantI S_ 32 466688986#32)
  :: StableHlo.TRef.binary (.of main_call8_call0_call0_v0 : StableHlo.TRef sig ⟨S_, .i32⟩) (.of main_call8_call0_call0_c : StableHlo.TRef sig ⟨S_, .i32⟩) (.of main_call8_call0_call0_v1 : StableHlo.TRef sig ⟨S_, .i32⟩) xori
  :: StableHlo.TRef.unary (.of main_call8_call0_v4 : StableHlo.TRef sig ⟨S_, .i32⟩) (.of main_call8_call0_call0_v2 : StableHlo.TRef sig ⟨S64x100000, .i32⟩) (broadcastInDim S64x100000 ![] bcast_S_S64x100000)
  :: StableHlo.TRef.binary (.of main_call8_call0_v17 : StableHlo.TRef sig ⟨S64x100000, .i32⟩) (.of main_call8_call0_call0_v2 : StableHlo.TRef sig ⟨S64x100000, .i32⟩) (.of main_call8_call0_call0_v3 : StableHlo.TRef sig ⟨S64x100000, .i32⟩) addi
  :: StableHlo.TRef.unary (.of main_call8_call0_v6 : StableHlo.TRef sig ⟨S_, .i32⟩) (.of main_call8_call0_call0_v4 : StableHlo.TRef sig ⟨S64x100000, .i32⟩) (broadcastInDim S64x100000 ![] bcast_S_S64x100000)
  :: StableHlo.TRef.binary (.of main_call8_call0_v16 : StableHlo.TRef sig ⟨S64x100000, .i32⟩) (.of main_call8_call0_call0_v4 : StableHlo.TRef sig ⟨S64x100000, .i32⟩) (.of main_call8_call0_call0_v5 : StableHlo.TRef sig ⟨S64x100000, .i32⟩) addi
  :: StableHlo.TRef.binary (.of main_call8_call0_call0_v3 : StableHlo.TRef sig ⟨S64x100000, .i32⟩) (.of main_call8_call0_call0_v5 : StableHlo.TRef sig ⟨S64x100000, .i32⟩) (.of main_call8_call0_call0_v6 : StableHlo.TRef sig ⟨S64x100000, .i32⟩) addi
  :: StableHlo.TRef.nullary (.of main_call8_call0_call0_c_0 : StableHlo.TRef sig ⟨S_, .i32⟩) (constantI S_ 32 13#32)
  :: StableHlo.TRef.unary (.of main_call8_call0_call0_c_0 : StableHlo.TRef sig ⟨S_, .i32⟩) (.of main_call8_call0_call0_v7 : StableHlo.TRef sig ⟨S64x100000, .i32⟩) (broadcastInDim S64x100000 ![] bcast_S_S64x100000)
  :: StableHlo.TRef.binary (.of main_call8_call0_call0_v5 : StableHlo.TRef sig ⟨S64x100000, .i32⟩) (.of main_call8_call0_call0_v7 : StableHlo.TRef sig ⟨S64x100000, .i32⟩) (.of main_call8_call0_call0_v8 : StableHlo.TRef sig ⟨S64x100000, .i32⟩) Host.shli
  :: StableHlo.TRef.nullary (.of main_call8_call0_call0_c_1 : StableHlo.TRef sig ⟨S_, .i32⟩) (constantI S_ 32 19#32)
  :: StableHlo.TRef.unary (.of main_call8_call0_call0_c_1 : StableHlo.TRef sig ⟨S_, .i32⟩) (.of main_call8_call0_call0_v9 : StableHlo.TRef sig ⟨S64x100000, .i32⟩) (broadcastInDim S64x100000 ![] bcast_S_S64x100000)
  :: StableHlo.TRef.binary (.of main_call8_call0_call0_v5 : StableHlo.TRef sig ⟨S64x100000, .i32⟩) (.of main_call8_call0_call0_v9 : StableHlo.TRef sig ⟨S64x100000, .i32⟩) (.of main_call8_call0_call0_v10 : StableHlo.TRef sig ⟨S64x100000, .i32⟩) Host.shrui
  :: StableHlo.TRef.binary (.of main_call8_call0_call0_v8 : StableHlo.TRef sig ⟨S64x100000, .i32⟩) (.of main_call8_call0_call0_v10 : StableHlo.TRef sig ⟨S64x100000, .i32⟩) (.of main_call8_call0_call0_v11 : StableHlo.TRef sig ⟨S64x100000, .i32⟩) ori
  :: StableHlo.TRef.binary (.of main_call8_call0_call0_v6 : StableHlo.TRef sig ⟨S64x100000, .i32⟩) (.of main_call8_call0_call0_v11 : StableHlo.TRef sig ⟨S64x100000, .i32⟩) (.of main_call8_call0_call0_v12 : StableHlo.TRef sig ⟨S64x100000, .i32⟩) xori
  :: StableHlo.TRef.binary (.of main_call8_call0_call0_v6 : StableHlo.TRef sig ⟨S64x100000, .i32⟩) (.of main_call8_call0_call0_v12 : StableHlo.TRef sig ⟨S64x100000, .i32⟩) (.of main_call8_call0_call0_v13 : StableHlo.TRef sig ⟨S64x100000, .i32⟩) addi
  :: StableHlo.TRef.nullary (.of main_call8_call0_call0_c_2 : StableHlo.TRef sig ⟨S_, .i32⟩) (constantI S_ 32 15#32)
  :: StableHlo.TRef.unary (.of main_call8_call0_call0_c_2 : StableHlo.TRef sig ⟨S_, .i32⟩) (.of main_call8_call0_call0_v14 : StableHlo.TRef sig ⟨S64x100000, .i32⟩) (broadcastInDim S64x100000 ![] bcast_S_S64x100000)
  :: StableHlo.TRef.binary (.of main_call8_call0_call0_v12 : StableHlo.TRef sig ⟨S64x100000, .i32⟩) (.of main_call8_call0_call0_v14 : StableHlo.TRef sig ⟨S64x100000, .i32⟩) (.of main_call8_call0_call0_v15 : StableHlo.TRef sig ⟨S64x100000, .i32⟩) Host.shli
  :: StableHlo.TRef.nullary (.of main_call8_call0_call0_c_3 : StableHlo.TRef sig ⟨S_, .i32⟩) (constantI S_ 32 17#32)
  :: StableHlo.TRef.unary (.of main_call8_call0_call0_c_3 : StableHlo.TRef sig ⟨S_, .i32⟩) (.of main_call8_call0_call0_v16 : StableHlo.TRef sig ⟨S64x100000, .i32⟩) (broadcastInDim S64x100000 ![] bcast_S_S64x100000)
  :: StableHlo.TRef.binary (.of main_call8_call0_call0_v12 : StableHlo.TRef sig ⟨S64x100000, .i32⟩) (.of main_call8_call0_call0_v16 : StableHlo.TRef sig ⟨S64x100000, .i32⟩) (.of main_call8_call0_call0_v17 : StableHlo.TRef sig ⟨S64x100000, .i32⟩) Host.shrui
  :: StableHlo.TRef.binary (.of main_call8_call0_call0_v15 : StableHlo.TRef sig ⟨S64x100000, .i32⟩) (.of main_call8_call0_call0_v17 : StableHlo.TRef sig ⟨S64x100000, .i32⟩) (.of main_call8_call0_call0_v18 : StableHlo.TRef sig ⟨S64x100000, .i32⟩) ori
  :: StableHlo.TRef.binary (.of main_call8_call0_call0_v13 : StableHlo.TRef sig ⟨S64x100000, .i32⟩) (.of main_call8_call0_call0_v18 : StableHlo.TRef sig ⟨S64x100000, .i32⟩) (.of main_call8_call0_call0_v19 : StableHlo.TRef sig ⟨S64x100000, .i32⟩) xori
  :: StableHlo.TRef.binary (.of main_call8_call0_call0_v13 : StableHlo.TRef sig ⟨S64x100000, .i32⟩) (.of main_call8_call0_call0_v19 : StableHlo.TRef sig ⟨S64x100000, .i32⟩) (.of main_call8_call0_call0_v20 : StableHlo.TRef sig ⟨S64x100000, .i32⟩) addi
  :: StableHlo.TRef.nullary (.of main_call8_call0_call0_c_4 : StableHlo.TRef sig ⟨S_, .i32⟩) (constantI S_ 32 26#32)
  :: StableHlo.TRef.unary (.of main_call8_call0_call0_c_4 : StableHlo.TRef sig ⟨S_, .i32⟩) (.of main_call8_call0_call0_v21 : StableHlo.TRef sig ⟨S64x100000, .i32⟩) (broadcastInDim S64x100000 ![] bcast_S_S64x100000)
  :: StableHlo.TRef.binary (.of main_call8_call0_call0_v19 : StableHlo.TRef sig ⟨S64x100000, .i32⟩) (.of main_call8_call0_call0_v21 : StableHlo.TRef sig ⟨S64x100000, .i32⟩) (.of main_call8_call0_call0_v22 : StableHlo.TRef sig ⟨S64x100000, .i32⟩) Host.shli
  :: StableHlo.TRef.nullary (.of main_call8_call0_call0_c_5 : StableHlo.TRef sig ⟨S_, .i32⟩) (constantI S_ 32 6#32)
  :: StableHlo.TRef.unary (.of main_call8_call0_call0_c_5 : StableHlo.TRef sig ⟨S_, .i32⟩) (.of main_call8_call0_call0_v23 : StableHlo.TRef sig ⟨S64x100000, .i32⟩) (broadcastInDim S64x100000 ![] bcast_S_S64x100000)
  :: StableHlo.TRef.binary (.of main_call8_call0_call0_v19 : StableHlo.TRef sig ⟨S64x100000, .i32⟩) (.of main_call8_call0_call0_v23 : StableHlo.TRef sig ⟨S64x100000, .i32⟩) (.of main_call8_call0_call0_v24 : StableHlo.TRef sig ⟨S64x100000, .i32⟩) Host.shrui
  :: StableHlo.TRef.binary (.of main_call8_call0_call0_v22 : StableHlo.TRef sig ⟨S64x100000, .i32⟩) (.of main_call8_call0_call0_v24 : StableHlo.TRef sig ⟨S64x100000, .i32⟩) (.of main_call8_call0_call0_v25 : StableHlo.TRef sig ⟨S64x100000, .i32⟩) ori
  :: StableHlo.TRef.binary (.of main_call8_call0_call0_v20 : StableHlo.TRef sig ⟨S64x100000, .i32⟩) (.of main_call8_call0_call0_v25 : StableHlo.TRef sig ⟨S64x100000, .i32⟩) (.of main_call8_call0_call0_v26 : StableHlo.TRef sig ⟨S64x100000, .i32⟩) xori
  :: StableHlo.TRef.binary (.of main_call8_call0_call0_v20 : StableHlo.TRef sig ⟨S64x100000, .i32⟩) (.of main_call8_call0_call0_v26 : StableHlo.TRef sig ⟨S64x100000, .i32⟩) (.of main_call8_call0_call0_v27 : StableHlo.TRef sig ⟨S64x100000, .i32⟩) addi
  :: StableHlo.TRef.nullary (.of main_call8_call0_call0_c_6 : StableHlo.TRef sig ⟨S_, .i32⟩) (constantI S_ 32 6#32)
  :: StableHlo.TRef.unary (.of main_call8_call0_call0_c_6 : StableHlo.TRef sig ⟨S_, .i32⟩) (.of main_call8_call0_call0_v28 : StableHlo.TRef sig ⟨S64x100000, .i32⟩) (broadcastInDim S64x100000 ![] bcast_S_S64x100000)
  :: StableHlo.TRef.binary (.of main_call8_call0_call0_v26 : StableHlo.TRef sig ⟨S64x100000, .i32⟩) (.of main_call8_call0_call0_v28 : StableHlo.TRef sig ⟨S64x100000, .i32⟩) (.of main_call8_call0_call0_v29 : StableHlo.TRef sig ⟨S64x100000, .i32⟩) Host.shli
  :: StableHlo.TRef.nullary (.of main_call8_call0_call0_c_7 : StableHlo.TRef sig ⟨S_, .i32⟩) (constantI S_ 32 26#32)
  :: StableHlo.TRef.unary (.of main_call8_call0_call0_c_7 : StableHlo.TRef sig ⟨S_, .i32⟩) (.of main_call8_call0_call0_v30 : StableHlo.TRef sig ⟨S64x100000, .i32⟩) (broadcastInDim S64x100000 ![] bcast_S_S64x100000)
  :: StableHlo.TRef.binary (.of main_call8_call0_call0_v26 : StableHlo.TRef sig ⟨S64x100000, .i32⟩) (.of main_call8_call0_call0_v30 : StableHlo.TRef sig ⟨S64x100000, .i32⟩) (.of main_call8_call0_call0_v31 : StableHlo.TRef sig ⟨S64x100000, .i32⟩) Host.shrui
  :: StableHlo.TRef.binary (.of main_call8_call0_call0_v29 : StableHlo.TRef sig ⟨S64x100000, .i32⟩) (.of main_call8_call0_call0_v31 : StableHlo.TRef sig ⟨S64x100000, .i32⟩) (.of main_call8_call0_call0_v32 : StableHlo.TRef sig ⟨S64x100000, .i32⟩) ori
  :: StableHlo.TRef.binary (.of main_call8_call0_call0_v27 : StableHlo.TRef sig ⟨S64x100000, .i32⟩) (.of main_call8_call0_call0_v32 : StableHlo.TRef sig ⟨S64x100000, .i32⟩) (.of main_call8_call0_call0_v33 : StableHlo.TRef sig ⟨S64x100000, .i32⟩) xori
  :: StableHlo.TRef.unary (.of main_call8_call0_v6 : StableHlo.TRef sig ⟨S_, .i32⟩) (.of main_call8_call0_call0_v34 : StableHlo.TRef sig ⟨S64x100000, .i32⟩) (broadcastInDim S64x100000 ![] bcast_S_S64x100000)
  :: StableHlo.TRef.binary (.of main_call8_call0_call0_v27 : StableHlo.TRef sig ⟨S64x100000, .i32⟩) (.of main_call8_call0_call0_v34 : StableHlo.TRef sig ⟨S64x100000, .i32⟩) (.of main_call8_call0_call0_v35 : StableHlo.TRef sig ⟨S64x100000, .i32⟩) addi
  :: StableHlo.TRef.unary (.of main_call8_call0_call0_v1 : StableHlo.TRef sig ⟨S_, .i32⟩) (.of main_call8_call0_call0_v36 : StableHlo.TRef sig ⟨S64x100000, .i32⟩) (broadcastInDim S64x100000 ![] bcast_S_S64x100000)
  :: StableHlo.TRef.binary (.of main_call8_call0_call0_v33 : StableHlo.TRef sig ⟨S64x100000, .i32⟩) (.of main_call8_call0_call0_v36 : StableHlo.TRef sig ⟨S64x100000, .i32⟩) (.of main_call8_call0_call0_v37 : StableHlo.TRef sig ⟨S64x100000, .i32⟩) addi
  :: StableHlo.TRef.nullary (.of main_call8_call0_call0_c_8 : StableHlo.TRef sig ⟨S_, .i32⟩) (constantI S_ 32 1#32)
  :: StableHlo.TRef.unary (.of main_call8_call0_call0_c_8 : StableHlo.TRef sig ⟨S_, .i32⟩) (.of main_call8_call0_call0_v38 : StableHlo.TRef sig ⟨S64x100000, .i32⟩) (broadcastInDim S64x100000 ![] bcast_S_S64x100000)
  :: StableHlo.TRef.binary (.of main_call8_call0_call0_v37 : StableHlo.TRef sig ⟨S64x100000, .i32⟩) (.of main_call8_call0_call0_v38 : StableHlo.TRef sig ⟨S64x100000, .i32⟩) (.of main_call8_call0_call0_v39 : StableHlo.TRef sig ⟨S64x100000, .i32⟩) addi
  :: StableHlo.TRef.binary (.of main_call8_call0_call0_v35 : StableHlo.TRef sig ⟨S64x100000, .i32⟩) (.of main_call8_call0_call0_v39 : StableHlo.TRef sig ⟨S64x100000, .i32⟩) (.of main_call8_call0_call0_v40 : StableHlo.TRef sig ⟨S64x100000, .i32⟩) addi
  :: StableHlo.TRef.nullary (.of main_call8_call0_call0_c_9 : StableHlo.TRef sig ⟨S_, .i32⟩) (constantI S_ 32 17#32)
  :: StableHlo.TRef.unary (.of main_call8_call0_call0_c_9 : StableHlo.TRef sig ⟨S_, .i32⟩) (.of main_call8_call0_call0_v41 : StableHlo.TRef sig ⟨S64x100000, .i32⟩) (broadcastInDim S64x100000 ![] bcast_S_S64x100000)
  :: StableHlo.TRef.binary (.of main_call8_call0_call0_v39 : StableHlo.TRef sig ⟨S64x100000, .i32⟩) (.of main_call8_call0_call0_v41 : StableHlo.TRef sig ⟨S64x100000, .i32⟩) (.of main_call8_call0_call0_v42 : StableHlo.TRef sig ⟨S64x100000, .i32⟩) Host.shli
  :: StableHlo.TRef.nullary (.of main_call8_call0_call0_c_10 : StableHlo.TRef sig ⟨S_, .i32⟩) (constantI S_ 32 15#32)
  :: StableHlo.TRef.unary (.of main_call8_call0_call0_c_10 : StableHlo.TRef sig ⟨S_, .i32⟩) (.of main_call8_call0_call0_v43 : StableHlo.TRef sig ⟨S64x100000, .i32⟩) (broadcastInDim S64x100000 ![] bcast_S_S64x100000)
  :: StableHlo.TRef.binary (.of main_call8_call0_call0_v39 : StableHlo.TRef sig ⟨S64x100000, .i32⟩) (.of main_call8_call0_call0_v43 : StableHlo.TRef sig ⟨S64x100000, .i32⟩) (.of main_call8_call0_call0_v44 : StableHlo.TRef sig ⟨S64x100000, .i32⟩) Host.shrui
  :: StableHlo.TRef.binary (.of main_call8_call0_call0_v42 : StableHlo.TRef sig ⟨S64x100000, .i32⟩) (.of main_call8_call0_call0_v44 : StableHlo.TRef sig ⟨S64x100000, .i32⟩) (.of main_call8_call0_call0_v45 : StableHlo.TRef sig ⟨S64x100000, .i32⟩) ori
  :: StableHlo.TRef.binary (.of main_call8_call0_call0_v40 : StableHlo.TRef sig ⟨S64x100000, .i32⟩) (.of main_call8_call0_call0_v45 : StableHlo.TRef sig ⟨S64x100000, .i32⟩) (.of main_call8_call0_call0_v46 : StableHlo.TRef sig ⟨S64x100000, .i32⟩) xori
  :: StableHlo.TRef.binary (.of main_call8_call0_call0_v40 : StableHlo.TRef sig ⟨S64x100000, .i32⟩) (.of main_call8_call0_call0_v46 : StableHlo.TRef sig ⟨S64x100000, .i32⟩) (.of main_call8_call0_call0_v47 : StableHlo.TRef sig ⟨S64x100000, .i32⟩) addi
  :: StableHlo.TRef.nullary (.of main_call8_call0_call0_c_11 : StableHlo.TRef sig ⟨S_, .i32⟩) (constantI S_ 32 29#32)
  :: StableHlo.TRef.unary (.of main_call8_call0_call0_c_11 : StableHlo.TRef sig ⟨S_, .i32⟩) (.of main_call8_call0_call0_v48 : StableHlo.TRef sig ⟨S64x100000, .i32⟩) (broadcastInDim S64x100000 ![] bcast_S_S64x100000)
  :: StableHlo.TRef.binary (.of main_call8_call0_call0_v46 : StableHlo.TRef sig ⟨S64x100000, .i32⟩) (.of main_call8_call0_call0_v48 : StableHlo.TRef sig ⟨S64x100000, .i32⟩) (.of main_call8_call0_call0_v49 : StableHlo.TRef sig ⟨S64x100000, .i32⟩) Host.shli
  :: StableHlo.TRef.nullary (.of main_call8_call0_call0_c_12 : StableHlo.TRef sig ⟨S_, .i32⟩) (constantI S_ 32 3#32)
  :: StableHlo.TRef.unary (.of main_call8_call0_call0_c_12 : StableHlo.TRef sig ⟨S_, .i32⟩) (.of main_call8_call0_call0_v50 : StableHlo.TRef sig ⟨S64x100000, .i32⟩) (broadcastInDim S64x100000 ![] bcast_S_S64x100000)
  :: StableHlo.TRef.binary (.of main_call8_call0_call0_v46 : StableHlo.TRef sig ⟨S64x100000, .i32⟩) (.of main_call8_call0_call0_v50 : StableHlo.TRef sig ⟨S64x100000, .i32⟩) (.of main_call8_call0_call0_v51 : StableHlo.TRef sig ⟨S64x100000, .i32⟩) Host.shrui
  :: StableHlo.TRef.binary (.of main_call8_call0_call0_v49 : StableHlo.TRef sig ⟨S64x100000, .i32⟩) (.of main_call8_call0_call0_v51 : StableHlo.TRef sig ⟨S64x100000, .i32⟩) (.of main_call8_call0_call0_v52 : StableHlo.TRef sig ⟨S64x100000, .i32⟩) ori
  :: StableHlo.TRef.binary (.of main_call8_call0_call0_v47 : StableHlo.TRef sig ⟨S64x100000, .i32⟩) (.of main_call8_call0_call0_v52 : StableHlo.TRef sig ⟨S64x100000, .i32⟩) (.of main_call8_call0_call0_v53 : StableHlo.TRef sig ⟨S64x100000, .i32⟩) xori
  :: StableHlo.TRef.binary (.of main_call8_call0_call0_v47 : StableHlo.TRef sig ⟨S64x100000, .i32⟩) (.of main_call8_call0_call0_v53 : StableHlo.TRef sig ⟨S64x100000, .i32⟩) (.of main_call8_call0_call0_v54 : StableHlo.TRef sig ⟨S64x100000, .i32⟩) addi
  :: StableHlo.TRef.nullary (.of main_call8_call0_call0_c_13 : StableHlo.TRef sig ⟨S_, .i32⟩) (constantI S_ 32 16#32)
  :: StableHlo.TRef.unary (.of main_call8_call0_call0_c_13 : StableHlo.TRef sig ⟨S_, .i32⟩) (.of main_call8_call0_call0_v55 : StableHlo.TRef sig ⟨S64x100000, .i32⟩) (broadcastInDim S64x100000 ![] bcast_S_S64x100000)
  :: StableHlo.TRef.binary (.of main_call8_call0_call0_v53 : StableHlo.TRef sig ⟨S64x100000, .i32⟩) (.of main_call8_call0_call0_v55 : StableHlo.TRef sig ⟨S64x100000, .i32⟩) (.of main_call8_call0_call0_v56 : StableHlo.TRef sig ⟨S64x100000, .i32⟩) Host.shli
  :: StableHlo.TRef.nullary (.of main_call8_call0_call0_c_14 : StableHlo.TRef sig ⟨S_, .i32⟩) (constantI S_ 32 16#32)
  :: StableHlo.TRef.unary (.of main_call8_call0_call0_c_14 : StableHlo.TRef sig ⟨S_, .i32⟩) (.of main_call8_call0_call0_v57 : StableHlo.TRef sig ⟨S64x100000, .i32⟩) (broadcastInDim S64x100000 ![] bcast_S_S64x100000)
  :: StableHlo.TRef.binary (.of main_call8_call0_call0_v53 : StableHlo.TRef sig ⟨S64x100000, .i32⟩) (.of main_call8_call0_call0_v57 : StableHlo.TRef sig ⟨S64x100000, .i32⟩) (.of main_call8_call0_call0_v58 : StableHlo.TRef sig ⟨S64x100000, .i32⟩) Host.shrui
  :: StableHlo.TRef.binary (.of main_call8_call0_call0_v56 : StableHlo.TRef sig ⟨S64x100000, .i32⟩) (.of main_call8_call0_call0_v58 : StableHlo.TRef sig ⟨S64x100000, .i32⟩) (.of main_call8_call0_call0_v59 : StableHlo.TRef sig ⟨S64x100000, .i32⟩) ori
  :: StableHlo.TRef.binary (.of main_call8_call0_call0_v54 : StableHlo.TRef sig ⟨S64x100000, .i32⟩) (.of main_call8_call0_call0_v59 : StableHlo.TRef sig ⟨S64x100000, .i32⟩) (.of main_call8_call0_call0_v60 : StableHlo.TRef sig ⟨S64x100000, .i32⟩) xori
  :: StableHlo.TRef.binary (.of main_call8_call0_call0_v54 : StableHlo.TRef sig ⟨S64x100000, .i32⟩) (.of main_call8_call0_call0_v60 : StableHlo.TRef sig ⟨S64x100000, .i32⟩) (.of main_call8_call0_call0_v61 : StableHlo.TRef sig ⟨S64x100000, .i32⟩) addi
  :: StableHlo.TRef.nullary (.of main_call8_call0_call0_c_15 : StableHlo.TRef sig ⟨S_, .i32⟩) (constantI S_ 32 24#32)
  :: StableHlo.TRef.unary (.of main_call8_call0_call0_c_15 : StableHlo.TRef sig ⟨S_, .i32⟩) (.of main_call8_call0_call0_v62 : StableHlo.TRef sig ⟨S64x100000, .i32⟩) (broadcastInDim S64x100000 ![] bcast_S_S64x100000)
  :: StableHlo.TRef.binary (.of main_call8_call0_call0_v60 : StableHlo.TRef sig ⟨S64x100000, .i32⟩) (.of main_call8_call0_call0_v62 : StableHlo.TRef sig ⟨S64x100000, .i32⟩) (.of main_call8_call0_call0_v63 : StableHlo.TRef sig ⟨S64x100000, .i32⟩) Host.shli
  :: StableHlo.TRef.nullary (.of main_call8_call0_call0_c_16 : StableHlo.TRef sig ⟨S_, .i32⟩) (constantI S_ 32 8#32)
  :: StableHlo.TRef.unary (.of main_call8_call0_call0_c_16 : StableHlo.TRef sig ⟨S_, .i32⟩) (.of main_call8_call0_call0_v64 : StableHlo.TRef sig ⟨S64x100000, .i32⟩) (broadcastInDim S64x100000 ![] bcast_S_S64x100000)
  :: StableHlo.TRef.binary (.of main_call8_call0_call0_v60 : StableHlo.TRef sig ⟨S64x100000, .i32⟩) (.of main_call8_call0_call0_v64 : StableHlo.TRef sig ⟨S64x100000, .i32⟩) (.of main_call8_call0_call0_v65 : StableHlo.TRef sig ⟨S64x100000, .i32⟩) Host.shrui
  :: StableHlo.TRef.binary (.of main_call8_call0_call0_v63 : StableHlo.TRef sig ⟨S64x100000, .i32⟩) (.of main_call8_call0_call0_v65 : StableHlo.TRef sig ⟨S64x100000, .i32⟩) (.of main_call8_call0_call0_v66 : StableHlo.TRef sig ⟨S64x100000, .i32⟩) ori
  :: StableHlo.TRef.binary (.of main_call8_call0_call0_v61 : StableHlo.TRef sig ⟨S64x100000, .i32⟩) (.of main_call8_call0_call0_v66 : StableHlo.TRef sig ⟨S64x100000, .i32⟩) (.of main_call8_call0_call0_v67 : StableHlo.TRef sig ⟨S64x100000, .i32⟩) xori
  :: StableHlo.TRef.unary (.of main_call8_call0_call0_v1 : StableHlo.TRef sig ⟨S_, .i32⟩) (.of main_call8_call0_call0_v68 : StableHlo.TRef sig ⟨S64x100000, .i32⟩) (broadcastInDim S64x100000 ![] bcast_S_S64x100000)
  :: StableHlo.TRef.binary (.of main_call8_call0_call0_v61 : StableHlo.TRef sig ⟨S64x100000, .i32⟩) (.of main_call8_call0_call0_v68 : StableHlo.TRef sig ⟨S64x100000, .i32⟩) (.of main_call8_call0_call0_v69 : StableHlo.TRef sig ⟨S64x100000, .i32⟩) addi
  :: StableHlo.TRef.unary (.of main_call8_call0_v4 : StableHlo.TRef sig ⟨S_, .i32⟩) (.of main_call8_call0_call0_v70 : StableHlo.TRef sig ⟨S64x100000, .i32⟩) (broadcastInDim S64x100000 ![] bcast_S_S64x100000)
  :: StableHlo.TRef.binary (.of main_call8_call0_call0_v67 : StableHlo.TRef sig ⟨S64x100000, .i32⟩) (.of main_call8_call0_call0_v70 : StableHlo.TRef sig ⟨S64x100000, .i32⟩) (.of main_call8_call0_call0_v71 : StableHlo.TRef sig ⟨S64x100000, .i32⟩) addi
  :: StableHlo.TRef.nullary (.of main_call8_call0_call0_c_17 : StableHlo.TRef sig ⟨S_, .i32⟩) (constantI S_ 32 2#32)
  :: StableHlo.TRef.unary (.of main_call8_call0_call0_c_17 : StableHlo.TRef sig ⟨S_, .i32⟩) (.of main_call8_call0_call0_v72 : StableHlo.TRef sig ⟨S64x100000, .i32⟩) (broadcastInDim S64x100000 ![] bcast_S_S64x100000)
  :: StableHlo.TRef.binary (.of main_call8_call0_call0_v71 : StableHlo.TRef sig ⟨S64x100000, .i32⟩) (.of main_call8_call0_call0_v72 : StableHlo.TRef sig ⟨S64x100000, .i32⟩) (.of main_call8_call0_call0_v73 : StableHlo.TRef sig ⟨S64x100000, .i32⟩) addi
  :: StableHlo.TRef.binary (.of main_call8_call0_call0_v69 : StableHlo.TRef sig ⟨S64x100000, .i32⟩) (.of main_call8_call0_call0_v73 : StableHlo.TRef sig ⟨S64x100000, .i32⟩) (.of main_call8_call0_call0_v74 : StableHlo.TRef sig ⟨S64x100000, .i32⟩) addi
  :: StableHlo.TRef.nullary (.of main_call8_call0_call0_c_18 : StableHlo.TRef sig ⟨S_, .i32⟩) (constantI S_ 32 13#32)
  :: StableHlo.TRef.unary (.of main_call8_call0_call0_c_18 : StableHlo.TRef sig ⟨S_, .i32⟩) (.of main_call8_call0_call0_v75 : StableHlo.TRef sig ⟨S64x100000, .i32⟩) (broadcastInDim S64x100000 ![] bcast_S_S64x100000)
  :: StableHlo.TRef.binary (.of main_call8_call0_call0_v73 : StableHlo.TRef sig ⟨S64x100000, .i32⟩) (.of main_call8_call0_call0_v75 : StableHlo.TRef sig ⟨S64x100000, .i32⟩) (.of main_call8_call0_call0_v76 : StableHlo.TRef sig ⟨S64x100000, .i32⟩) Host.shli
  :: StableHlo.TRef.nullary (.of main_call8_call0_call0_c_19 : StableHlo.TRef sig ⟨S_, .i32⟩) (constantI S_ 32 19#32)
  :: StableHlo.TRef.unary (.of main_call8_call0_call0_c_19 : StableHlo.TRef sig ⟨S_, .i32⟩) (.of main_call8_call0_call0_v77 : StableHlo.TRef sig ⟨S64x100000, .i32⟩) (broadcastInDim S64x100000 ![] bcast_S_S64x100000)
  :: StableHlo.TRef.binary (.of main_call8_call0_call0_v73 : StableHlo.TRef sig ⟨S64x100000, .i32⟩) (.of main_call8_call0_call0_v77 : StableHlo.TRef sig ⟨S64x100000, .i32⟩) (.of main_call8_call0_call0_v78 : StableHlo.TRef sig ⟨S64x100000, .i32⟩) Host.shrui
  :: StableHlo.TRef.binary (.of main_call8_call0_call0_v76 : StableHlo.TRef sig ⟨S64x100000, .i32⟩) (.of main_call8_call0_call0_v78 : StableHlo.TRef sig ⟨S64x100000, .i32⟩) (.of main_call8_call0_call0_v79 : StableHlo.TRef sig ⟨S64x100000, .i32⟩) ori
  :: StableHlo.TRef.binary (.of main_call8_call0_call0_v74 : StableHlo.TRef sig ⟨S64x100000, .i32⟩) (.of main_call8_call0_call0_v79 : StableHlo.TRef sig ⟨S64x100000, .i32⟩) (.of main_call8_call0_call0_v80 : StableHlo.TRef sig ⟨S64x100000, .i32⟩) xori
  :: StableHlo.TRef.binary (.of main_call8_call0_call0_v74 : StableHlo.TRef sig ⟨S64x100000, .i32⟩) (.of main_call8_call0_call0_v80 : StableHlo.TRef sig ⟨S64x100000, .i32⟩) (.of main_call8_call0_call0_v81 : StableHlo.TRef sig ⟨S64x100000, .i32⟩) addi
  :: StableHlo.TRef.nullary (.of main_call8_call0_call0_c_20 : StableHlo.TRef sig ⟨S_, .i32⟩) (constantI S_ 32 15#32)
  :: StableHlo.TRef.unary (.of main_call8_call0_call0_c_20 : StableHlo.TRef sig ⟨S_, .i32⟩) (.of main_call8_call0_call0_v82 : StableHlo.TRef sig ⟨S64x100000, .i32⟩) (broadcastInDim S64x100000 ![] bcast_S_S64x100000)
  :: StableHlo.TRef.binary (.of main_call8_call0_call0_v80 : StableHlo.TRef sig ⟨S64x100000, .i32⟩) (.of main_call8_call0_call0_v82 : StableHlo.TRef sig ⟨S64x100000, .i32⟩) (.of main_call8_call0_call0_v83 : StableHlo.TRef sig ⟨S64x100000, .i32⟩) Host.shli
  :: StableHlo.TRef.nullary (.of main_call8_call0_call0_c_21 : StableHlo.TRef sig ⟨S_, .i32⟩) (constantI S_ 32 17#32)
  :: StableHlo.TRef.unary (.of main_call8_call0_call0_c_21 : StableHlo.TRef sig ⟨S_, .i32⟩) (.of main_call8_call0_call0_v84 : StableHlo.TRef sig ⟨S64x100000, .i32⟩) (broadcastInDim S64x100000 ![] bcast_S_S64x100000)
  :: StableHlo.TRef.binary (.of main_call8_call0_call0_v80 : StableHlo.TRef sig ⟨S64x100000, .i32⟩) (.of main_call8_call0_call0_v84 : StableHlo.TRef sig ⟨S64x100000, .i32⟩) (.of main_call8_call0_call0_v85 : StableHlo.TRef sig ⟨S64x100000, .i32⟩) Host.shrui
  :: StableHlo.TRef.binary (.of main_call8_call0_call0_v83 : StableHlo.TRef sig ⟨S64x100000, .i32⟩) (.of main_call8_call0_call0_v85 : StableHlo.TRef sig ⟨S64x100000, .i32⟩) (.of main_call8_call0_call0_v86 : StableHlo.TRef sig ⟨S64x100000, .i32⟩) ori
  :: StableHlo.TRef.binary (.of main_call8_call0_call0_v81 : StableHlo.TRef sig ⟨S64x100000, .i32⟩) (.of main_call8_call0_call0_v86 : StableHlo.TRef sig ⟨S64x100000, .i32⟩) (.of main_call8_call0_call0_v87 : StableHlo.TRef sig ⟨S64x100000, .i32⟩) xori
  :: StableHlo.TRef.binary (.of main_call8_call0_call0_v81 : StableHlo.TRef sig ⟨S64x100000, .i32⟩) (.of main_call8_call0_call0_v87 : StableHlo.TRef sig ⟨S64x100000, .i32⟩) (.of main_call8_call0_call0_v88 : StableHlo.TRef sig ⟨S64x100000, .i32⟩) addi
  :: StableHlo.TRef.nullary (.of main_call8_call0_call0_c_22 : StableHlo.TRef sig ⟨S_, .i32⟩) (constantI S_ 32 26#32)
  :: StableHlo.TRef.unary (.of main_call8_call0_call0_c_22 : StableHlo.TRef sig ⟨S_, .i32⟩) (.of main_call8_call0_call0_v89 : StableHlo.TRef sig ⟨S64x100000, .i32⟩) (broadcastInDim S64x100000 ![] bcast_S_S64x100000)
  :: StableHlo.TRef.binary (.of main_call8_call0_call0_v87 : StableHlo.TRef sig ⟨S64x100000, .i32⟩) (.of main_call8_call0_call0_v89 : StableHlo.TRef sig ⟨S64x100000, .i32⟩) (.of main_call8_call0_call0_v90 : StableHlo.TRef sig ⟨S64x100000, .i32⟩) Host.shli
  :: StableHlo.TRef.nullary (.of main_call8_call0_call0_c_23 : StableHlo.TRef sig ⟨S_, .i32⟩) (constantI S_ 32 6#32)
  :: StableHlo.TRef.unary (.of main_call8_call0_call0_c_23 : StableHlo.TRef sig ⟨S_, .i32⟩) (.of main_call8_call0_call0_v91 : StableHlo.TRef sig ⟨S64x100000, .i32⟩) (broadcastInDim S64x100000 ![] bcast_S_S64x100000)
  :: StableHlo.TRef.binary (.of main_call8_call0_call0_v87 : StableHlo.TRef sig ⟨S64x100000, .i32⟩) (.of main_call8_call0_call0_v91 : StableHlo.TRef sig ⟨S64x100000, .i32⟩) (.of main_call8_call0_call0_v92 : StableHlo.TRef sig ⟨S64x100000, .i32⟩) Host.shrui
  :: StableHlo.TRef.binary (.of main_call8_call0_call0_v90 : StableHlo.TRef sig ⟨S64x100000, .i32⟩) (.of main_call8_call0_call0_v92 : StableHlo.TRef sig ⟨S64x100000, .i32⟩) (.of main_call8_call0_call0_v93 : StableHlo.TRef sig ⟨S64x100000, .i32⟩) ori
  :: StableHlo.TRef.binary (.of main_call8_call0_call0_v88 : StableHlo.TRef sig ⟨S64x100000, .i32⟩) (.of main_call8_call0_call0_v93 : StableHlo.TRef sig ⟨S64x100000, .i32⟩) (.of main_call8_call0_call0_v94 : StableHlo.TRef sig ⟨S64x100000, .i32⟩) xori
  :: StableHlo.TRef.binary (.of main_call8_call0_call0_v88 : StableHlo.TRef sig ⟨S64x100000, .i32⟩) (.of main_call8_call0_call0_v94 : StableHlo.TRef sig ⟨S64x100000, .i32⟩) (.of main_call8_call0_call0_v95 : StableHlo.TRef sig ⟨S64x100000, .i32⟩) addi
  :: StableHlo.TRef.nullary (.of main_call8_call0_call0_c_24 : StableHlo.TRef sig ⟨S_, .i32⟩) (constantI S_ 32 6#32)
  :: StableHlo.TRef.unary (.of main_call8_call0_call0_c_24 : StableHlo.TRef sig ⟨S_, .i32⟩) (.of main_call8_call0_call0_v96 : StableHlo.TRef sig ⟨S64x100000, .i32⟩) (broadcastInDim S64x100000 ![] bcast_S_S64x100000)
  :: StableHlo.TRef.binary (.of main_call8_call0_call0_v94 : StableHlo.TRef sig ⟨S64x100000, .i32⟩) (.of main_call8_call0_call0_v96 : StableHlo.TRef sig ⟨S64x100000, .i32⟩) (.of main_call8_call0_call0_v97 : StableHlo.TRef sig ⟨S64x100000, .i32⟩) Host.shli
  :: StableHlo.TRef.nullary (.of main_call8_call0_call0_c_25 : StableHlo.TRef sig ⟨S_, .i32⟩) (constantI S_ 32 26#32)
  :: StableHlo.TRef.unary (.of main_call8_call0_call0_c_25 : StableHlo.TRef sig ⟨S_, .i32⟩) (.of main_call8_call0_call0_v98 : StableHlo.TRef sig ⟨S64x100000, .i32⟩) (broadcastInDim S64x100000 ![] bcast_S_S64x100000)
  :: StableHlo.TRef.binary (.of main_call8_call0_call0_v94 : StableHlo.TRef sig ⟨S64x100000, .i32⟩) (.of main_call8_call0_call0_v98 : StableHlo.TRef sig ⟨S64x100000, .i32⟩) (.of main_call8_call0_call0_v99 : StableHlo.TRef sig ⟨S64x100000, .i32⟩) Host.shrui
  :: StableHlo.TRef.binary (.of main_call8_call0_call0_v97 : StableHlo.TRef sig ⟨S64x100000, .i32⟩) (.of main_call8_call0_call0_v99 : StableHlo.TRef sig ⟨S64x100000, .i32⟩) (.of main_call8_call0_call0_v100 : StableHlo.TRef sig ⟨S64x100000, .i32⟩) ori
  :: StableHlo.TRef.binary (.of main_call8_call0_call0_v95 : StableHlo.TRef sig ⟨S64x100000, .i32⟩) (.of main_call8_call0_call0_v100 : StableHlo.TRef sig ⟨S64x100000, .i32⟩) (.of main_call8_call0_call0_v101 : StableHlo.TRef sig ⟨S64x100000, .i32⟩) xori
  :: StableHlo.TRef.unary (.of main_call8_call0_v4 : StableHlo.TRef sig ⟨S_, .i32⟩) (.of main_call8_call0_call0_v102 : StableHlo.TRef sig ⟨S64x100000, .i32⟩) (broadcastInDim S64x100000 ![] bcast_S_S64x100000)
  :: StableHlo.TRef.binary (.of main_call8_call0_call0_v95 : StableHlo.TRef sig ⟨S64x100000, .i32⟩) (.of main_call8_call0_call0_v102 : StableHlo.TRef sig ⟨S64x100000, .i32⟩) (.of main_call8_call0_call0_v103 : StableHlo.TRef sig ⟨S64x100000, .i32⟩) addi
  :: StableHlo.TRef.unary (.of main_call8_call0_v6 : StableHlo.TRef sig ⟨S_, .i32⟩) (.of main_call8_call0_call0_v104 : StableHlo.TRef sig ⟨S64x100000, .i32⟩) (broadcastInDim S64x100000 ![] bcast_S_S64x100000)
  :: StableHlo.TRef.binary (.of main_call8_call0_call0_v101 : StableHlo.TRef sig ⟨S64x100000, .i32⟩) (.of main_call8_call0_call0_v104 : StableHlo.TRef sig ⟨S64x100000, .i32⟩) (.of main_call8_call0_call0_v105 : StableHlo.TRef sig ⟨S64x100000, .i32⟩) addi
  :: StableHlo.TRef.nullary (.of main_call8_call0_call0_c_26 : StableHlo.TRef sig ⟨S_, .i32⟩) (constantI S_ 32 3#32)
  :: StableHlo.TRef.unary (.of main_call8_call0_call0_c_26 : StableHlo.TRef sig ⟨S_, .i32⟩) (.of main_call8_call0_call0_v106 : StableHlo.TRef sig ⟨S64x100000, .i32⟩) (broadcastInDim S64x100000 ![] bcast_S_S64x100000)
  :: StableHlo.TRef.binary (.of main_call8_call0_call0_v105 : StableHlo.TRef sig ⟨S64x100000, .i32⟩) (.of main_call8_call0_call0_v106 : StableHlo.TRef sig ⟨S64x100000, .i32⟩) (.of main_call8_call0_call0_v107 : StableHlo.TRef sig ⟨S64x100000, .i32⟩) addi
  :: StableHlo.TRef.binary (.of main_call8_call0_call0_v103 : StableHlo.TRef sig ⟨S64x100000, .i32⟩) (.of main_call8_call0_call0_v107 : StableHlo.TRef sig ⟨S64x100000, .i32⟩) (.of main_call8_call0_call0_v108 : StableHlo.TRef sig ⟨S64x100000, .i32⟩) addi
  :: StableHlo.TRef.nullary (.of main_call8_call0_call0_c_27 : StableHlo.TRef sig ⟨S_, .i32⟩) (constantI S_ 32 17#32)
  :: StableHlo.TRef.unary (.of main_call8_call0_call0_c_27 : StableHlo.TRef sig ⟨S_, .i32⟩) (.of main_call8_call0_call0_v109 : StableHlo.TRef sig ⟨S64x100000, .i32⟩) (broadcastInDim S64x100000 ![] bcast_S_S64x100000)
  :: StableHlo.TRef.binary (.of main_call8_call0_call0_v107 : StableHlo.TRef sig ⟨S64x100000, .i32⟩) (.of main_call8_call0_call0_v109 : StableHlo.TRef sig ⟨S64x100000, .i32⟩) (.of main_call8_call0_call0_v110 : StableHlo.TRef sig ⟨S64x100000, .i32⟩) Host.shli
  :: StableHlo.TRef.nullary (.of main_call8_call0_call0_c_28 : StableHlo.TRef sig ⟨S_, .i32⟩) (constantI S_ 32 15#32)
  :: StableHlo.TRef.unary (.of main_call8_call0_call0_c_28 : StableHlo.TRef sig ⟨S_, .i32⟩) (.of main_call8_call0_call0_v111 : StableHlo.TRef sig ⟨S64x100000, .i32⟩) (broadcastInDim S64x100000 ![] bcast_S_S64x100000)
  :: StableHlo.TRef.binary (.of main_call8_call0_call0_v107 : StableHlo.TRef sig ⟨S64x100000, .i32⟩) (.of main_call8_call0_call0_v111 : StableHlo.TRef sig ⟨S64x100000, .i32⟩) (.of main_call8_call0_call0_v112 : StableHlo.TRef sig ⟨S64x100000, .i32⟩) Host.shrui
  :: StableHlo.TRef.binary (.of main_call8_call0_call0_v110 : StableHlo.TRef sig ⟨S64x100000, .i32⟩) (.of main_call8_call0_call0_v112 : StableHlo.TRef sig ⟨S64x100000, .i32⟩) (.of main_call8_call0_call0_v113 : StableHlo.TRef sig ⟨S64x100000, .i32⟩) ori
  :: StableHlo.TRef.binary (.of main_call8_call0_call0_v108 : StableHlo.TRef sig ⟨S64x100000, .i32⟩) (.of main_call8_call0_call0_v113 : StableHlo.TRef sig ⟨S64x100000, .i32⟩) (.of main_call8_call0_call0_v114 : StableHlo.TRef sig ⟨S64x100000, .i32⟩) xori
  :: StableHlo.TRef.binary (.of main_call8_call0_call0_v108 : StableHlo.TRef sig ⟨S64x100000, .i32⟩) (.of main_call8_call0_call0_v114 : StableHlo.TRef sig ⟨S64x100000, .i32⟩) (.of main_call8_call0_call0_v115 : StableHlo.TRef sig ⟨S64x100000, .i32⟩) addi
  :: StableHlo.TRef.nullary (.of main_call8_call0_call0_c_29 : StableHlo.TRef sig ⟨S_, .i32⟩) (constantI S_ 32 29#32)
  :: StableHlo.TRef.unary (.of main_call8_call0_call0_c_29 : StableHlo.TRef sig ⟨S_, .i32⟩) (.of main_call8_call0_call0_v116 : StableHlo.TRef sig ⟨S64x100000, .i32⟩) (broadcastInDim S64x100000 ![] bcast_S_S64x100000)
  :: StableHlo.TRef.binary (.of main_call8_call0_call0_v114 : StableHlo.TRef sig ⟨S64x100000, .i32⟩) (.of main_call8_call0_call0_v116 : StableHlo.TRef sig ⟨S64x100000, .i32⟩) (.of main_call8_call0_call0_v117 : StableHlo.TRef sig ⟨S64x100000, .i32⟩) Host.shli
  :: StableHlo.TRef.nullary (.of main_call8_call0_call0_c_30 : StableHlo.TRef sig ⟨S_, .i32⟩) (constantI S_ 32 3#32)
  :: StableHlo.TRef.unary (.of main_call8_call0_call0_c_30 : StableHlo.TRef sig ⟨S_, .i32⟩) (.of main_call8_call0_call0_v118 : StableHlo.TRef sig ⟨S64x100000, .i32⟩) (broadcastInDim S64x100000 ![] bcast_S_S64x100000)
  :: StableHlo.TRef.binary (.of main_call8_call0_call0_v114 : StableHlo.TRef sig ⟨S64x100000, .i32⟩) (.of main_call8_call0_call0_v118 : StableHlo.TRef sig ⟨S64x100000, .i32⟩) (.of main_call8_call0_call0_v119 : StableHlo.TRef sig ⟨S64x100000, .i32⟩) Host.shrui
  :: StableHlo.TRef.binary (.of main_call8_call0_call0_v117 : StableHlo.TRef sig ⟨S64x100000, .i32⟩) (.of main_call8_call0_call0_v119 : StableHlo.TRef sig ⟨S64x100000, .i32⟩) (.of main_call8_call0_call0_v120 : StableHlo.TRef sig ⟨S64x100000, .i32⟩) ori
  :: StableHlo.TRef.binary (.of main_call8_call0_call0_v115 : StableHlo.TRef sig ⟨S64x100000, .i32⟩) (.of main_call8_call0_call0_v120 : StableHlo.TRef sig ⟨S64x100000, .i32⟩) (.of main_call8_call0_call0_v121 : StableHlo.TRef sig ⟨S64x100000, .i32⟩) xori
  :: StableHlo.TRef.binary (.of main_call8_call0_call0_v115 : StableHlo.TRef sig ⟨S64x100000, .i32⟩) (.of main_call8_call0_call0_v121 : StableHlo.TRef sig ⟨S64x100000, .i32⟩) (.of main_call8_call0_call0_v122 : StableHlo.TRef sig ⟨S64x100000, .i32⟩) addi
  :: StableHlo.TRef.nullary (.of main_call8_call0_call0_c_31 : StableHlo.TRef sig ⟨S_, .i32⟩) (constantI S_ 32 16#32)
  :: StableHlo.TRef.unary (.of main_call8_call0_call0_c_31 : StableHlo.TRef sig ⟨S_, .i32⟩) (.of main_call8_call0_call0_v123 : StableHlo.TRef sig ⟨S64x100000, .i32⟩) (broadcastInDim S64x100000 ![] bcast_S_S64x100000)
  :: StableHlo.TRef.binary (.of main_call8_call0_call0_v121 : StableHlo.TRef sig ⟨S64x100000, .i32⟩) (.of main_call8_call0_call0_v123 : StableHlo.TRef sig ⟨S64x100000, .i32⟩) (.of main_call8_call0_call0_v124 : StableHlo.TRef sig ⟨S64x100000, .i32⟩) Host.shli
  :: StableHlo.TRef.nullary (.of main_call8_call0_call0_c_32 : StableHlo.TRef sig ⟨S_, .i32⟩) (constantI S_ 32 16#32)
  :: StableHlo.TRef.unary (.of main_call8_call0_call0_c_32 : StableHlo.TRef sig ⟨S_, .i32⟩) (.of main_call8_call0_call0_v125 : StableHlo.TRef sig ⟨S64x100000, .i32⟩) (broadcastInDim S64x100000 ![] bcast_S_S64x100000)
  :: StableHlo.TRef.binary (.of main_call8_call0_call0_v121 : StableHlo.TRef sig ⟨S64x100000, .i32⟩) (.of main_call8_call0_call0_v125 : StableHlo.TRef sig ⟨S64x100000, .i32⟩) (.of main_call8_call0_call0_v126 : StableHlo.TRef sig ⟨S64x100000, .i32⟩) Host.shrui
  :: StableHlo.TRef.binary (.of main_call8_call0_call0_v124 : StableHlo.TRef sig ⟨S64x100000, .i32⟩) (.of main_call8_call0_call0_v126 : StableHlo.TRef sig ⟨S64x100000, .i32⟩) (.of main_call8_call0_call0_v127 : StableHlo.TRef sig ⟨S64x100000, .i32⟩) ori
  :: StableHlo.TRef.binary (.of main_call8_call0_call0_v122 : StableHlo.TRef sig ⟨S64x100000, .i32⟩) (.of main_call8_call0_call0_v127 : StableHlo.TRef sig ⟨S64x100000, .i32⟩) (.of main_call8_call0_call0_v128 : StableHlo.TRef sig ⟨S64x100000, .i32⟩) xori
  :: StableHlo.TRef.binary (.of main_call8_call0_call0_v122 : StableHlo.TRef sig ⟨S64x100000, .i32⟩) (.of main_call8_call0_call0_v128 : StableHlo.TRef sig ⟨S64x100000, .i32⟩) (.of main_call8_call0_call0_v129 : StableHlo.TRef sig ⟨S64x100000, .i32⟩) addi
  :: StableHlo.TRef.nullary (.of main_call8_call0_call0_c_33 : StableHlo.TRef sig ⟨S_, .i32⟩) (constantI S_ 32 24#32)
  :: StableHlo.TRef.unary (.of main_call8_call0_call0_c_33 : StableHlo.TRef sig ⟨S_, .i32⟩) (.of main_call8_call0_call0_v130 : StableHlo.TRef sig ⟨S64x100000, .i32⟩) (broadcastInDim S64x100000 ![] bcast_S_S64x100000)
  :: StableHlo.TRef.binary (.of main_call8_call0_call0_v128 : StableHlo.TRef sig ⟨S64x100000, .i32⟩) (.of main_call8_call0_call0_v130 : StableHlo.TRef sig ⟨S64x100000, .i32⟩) (.of main_call8_call0_call0_v131 : StableHlo.TRef sig ⟨S64x100000, .i32⟩) Host.shli
  :: StableHlo.TRef.nullary (.of main_call8_call0_call0_c_34 : StableHlo.TRef sig ⟨S_, .i32⟩) (constantI S_ 32 8#32)
  :: StableHlo.TRef.unary (.of main_call8_call0_call0_c_34 : StableHlo.TRef sig ⟨S_, .i32⟩) (.of main_call8_call0_call0_v132 : StableHlo.TRef sig ⟨S64x100000, .i32⟩) (broadcastInDim S64x100000 ![] bcast_S_S64x100000)
  :: StableHlo.TRef.binary (.of main_call8_call0_call0_v128 : StableHlo.TRef sig ⟨S64x100000, .i32⟩) (.of main_call8_call0_call0_v132 : StableHlo.TRef sig ⟨S64x100000, .i32⟩) (.of main_call8_call0_call0_v133 : StableHlo.TRef sig ⟨S64x100000, .i32⟩) Host.shrui
  :: StableHlo.TRef.binary (.of main_call8_call0_call0_v131 : StableHlo.TRef sig ⟨S64x100000, .i32⟩) (.of main_call8_call0_call0_v133 : StableHlo.TRef sig ⟨S64x100000, .i32⟩) (.of main_call8_call0_call0_v134 : StableHlo.TRef sig ⟨S64x100000, .i32⟩) ori
  :: StableHlo.TRef.binary (.of main_call8_call0_call0_v129 : StableHlo.TRef sig ⟨S64x100000, .i32⟩) (.of main_call8_call0_call0_v134 : StableHlo.TRef sig ⟨S64x100000, .i32⟩) (.of main_call8_call0_call0_v135 : StableHlo.TRef sig ⟨S64x100000, .i32⟩) xori
  :: StableHlo.TRef.unary (.of main_call8_call0_v6 : StableHlo.TRef sig ⟨S_, .i32⟩) (.of main_call8_call0_call0_v136 : StableHlo.TRef sig ⟨S64x100000, .i32⟩) (broadcastInDim S64x100000 ![] bcast_S_S64x100000)
  :: StableHlo.TRef.binary (.of main_call8_call0_call0_v129 : StableHlo.TRef sig ⟨S64x100000, .i32⟩) (.of main_call8_call0_call0_v136 : StableHlo.TRef sig ⟨S64x100000, .i32⟩) (.of main_call8_call0_call0_v137 : StableHlo.TRef sig ⟨S64x100000, .i32⟩) addi
  :: StableHlo.TRef.unary (.of main_call8_call0_call0_v1 : StableHlo.TRef sig ⟨S_, .i32⟩) (.of main_call8_call0_call0_v138 : StableHlo.TRef sig ⟨S64x100000, .i32⟩) (broadcastInDim S64x100000 ![] bcast_S_S64x100000)
  :: StableHlo.TRef.binary (.of main_call8_call0_call0_v135 : StableHlo.TRef sig ⟨S64x100000, .i32⟩) (.of main_call8_call0_call0_v138 : StableHlo.TRef sig ⟨S64x100000, .i32⟩) (.of main_call8_call0_call0_v139 : StableHlo.TRef sig ⟨S64x100000, .i32⟩) addi
  :: StableHlo.TRef.nullary (.of main_call8_call0_call0_c_35 : StableHlo.TRef sig ⟨S_, .i32⟩) (constantI S_ 32 4#32)
  :: StableHlo.TRef.unary (.of main_call8_call0_call0_c_35 : StableHlo.TRef sig ⟨S_, .i32⟩) (.of main_call8_call0_call0_v140 : StableHlo.TRef sig ⟨S64x100000, .i32⟩) (broadcastInDim S64x100000 ![] bcast_S_S64x100000)
  :: StableHlo.TRef.binary (.of main_call8_call0_call0_v139 : StableHlo.TRef sig ⟨S64x100000, .i32⟩) (.of main_call8_call0_call0_v140 : StableHlo.TRef sig ⟨S64x100000, .i32⟩) (.of main_call8_call0_call0_v141 : StableHlo.TRef sig ⟨S64x100000, .i32⟩) addi
  :: StableHlo.TRef.binary (.of main_call8_call0_call0_v137 : StableHlo.TRef sig ⟨S64x100000, .i32⟩) (.of main_call8_call0_call0_v141 : StableHlo.TRef sig ⟨S64x100000, .i32⟩) (.of main_call8_call0_call0_v142 : StableHlo.TRef sig ⟨S64x100000, .i32⟩) addi
  :: StableHlo.TRef.nullary (.of main_call8_call0_call0_c_36 : StableHlo.TRef sig ⟨S_, .i32⟩) (constantI S_ 32 13#32)
  :: StableHlo.TRef.unary (.of main_call8_call0_call0_c_36 : StableHlo.TRef sig ⟨S_, .i32⟩) (.of main_call8_call0_call0_v143 : StableHlo.TRef sig ⟨S64x100000, .i32⟩) (broadcastInDim S64x100000 ![] bcast_S_S64x100000)
  :: StableHlo.TRef.binary (.of main_call8_call0_call0_v141 : StableHlo.TRef sig ⟨S64x100000, .i32⟩) (.of main_call8_call0_call0_v143 : StableHlo.TRef sig ⟨S64x100000, .i32⟩) (.of main_call8_call0_call0_v144 : StableHlo.TRef sig ⟨S64x100000, .i32⟩) Host.shli
  :: StableHlo.TRef.nullary (.of main_call8_call0_call0_c_37 : StableHlo.TRef sig ⟨S_, .i32⟩) (constantI S_ 32 19#32)
  :: StableHlo.TRef.unary (.of main_call8_call0_call0_c_37 : StableHlo.TRef sig ⟨S_, .i32⟩) (.of main_call8_call0_call0_v145 : StableHlo.TRef sig ⟨S64x100000, .i32⟩) (broadcastInDim S64x100000 ![] bcast_S_S64x100000)
  :: StableHlo.TRef.binary (.of main_call8_call0_call0_v141 : StableHlo.TRef sig ⟨S64x100000, .i32⟩) (.of main_call8_call0_call0_v145 : StableHlo.TRef sig ⟨S64x100000, .i32⟩) (.of main_call8_call0_call0_v146 : StableHlo.TRef sig ⟨S64x100000, .i32⟩) Host.shrui
  :: StableHlo.TRef.binary (.of main_call8_call0_call0_v144 : StableHlo.TRef sig ⟨S64x100000, .i32⟩) (.of main_call8_call0_call0_v146 : StableHlo.TRef sig ⟨S64x100000, .i32⟩) (.of main_call8_call0_call0_v147 : StableHlo.TRef sig ⟨S64x100000, .i32⟩) ori
  :: StableHlo.TRef.binary (.of main_call8_call0_call0_v142 : StableHlo.TRef sig ⟨S64x100000, .i32⟩) (.of main_call8_call0_call0_v147 : StableHlo.TRef sig ⟨S64x100000, .i32⟩) (.of main_call8_call0_call0_v148 : StableHlo.TRef sig ⟨S64x100000, .i32⟩) xori
  :: StableHlo.TRef.binary (.of main_call8_call0_call0_v142 : StableHlo.TRef sig ⟨S64x100000, .i32⟩) (.of main_call8_call0_call0_v148 : StableHlo.TRef sig ⟨S64x100000, .i32⟩) (.of main_call8_call0_call0_v149 : StableHlo.TRef sig ⟨S64x100000, .i32⟩) addi
  :: StableHlo.TRef.nullary (.of main_call8_call0_call0_c_38 : StableHlo.TRef sig ⟨S_, .i32⟩) (constantI S_ 32 15#32)
  :: StableHlo.TRef.unary (.of main_call8_call0_call0_c_38 : StableHlo.TRef sig ⟨S_, .i32⟩) (.of main_call8_call0_call0_v150 : StableHlo.TRef sig ⟨S64x100000, .i32⟩) (broadcastInDim S64x100000 ![] bcast_S_S64x100000)
  :: StableHlo.TRef.binary (.of main_call8_call0_call0_v148 : StableHlo.TRef sig ⟨S64x100000, .i32⟩) (.of main_call8_call0_call0_v150 : StableHlo.TRef sig ⟨S64x100000, .i32⟩) (.of main_call8_call0_call0_v151 : StableHlo.TRef sig ⟨S64x100000, .i32⟩) Host.shli
  :: StableHlo.TRef.nullary (.of main_call8_call0_call0_c_39 : StableHlo.TRef sig ⟨S_, .i32⟩) (constantI S_ 32 17#32)
  :: StableHlo.TRef.unary (.of main_call8_call0_call0_c_39 : StableHlo.TRef sig ⟨S_, .i32⟩) (.of main_call8_call0_call0_v152 : StableHlo.TRef sig ⟨S64x100000, .i32⟩) (broadcastInDim S64x100000 ![] bcast_S_S64x100000)
  :: StableHlo.TRef.binary (.of main_call8_call0_call0_v148 : StableHlo.TRef sig ⟨S64x100000, .i32⟩) (.of main_call8_call0_call0_v152 : StableHlo.TRef sig ⟨S64x100000, .i32⟩) (.of main_call8_call0_call0_v153 : StableHlo.TRef sig ⟨S64x100000, .i32⟩) Host.shrui
  :: StableHlo.TRef.binary (.of main_call8_call0_call0_v151 : StableHlo.TRef sig ⟨S64x100000, .i32⟩) (.of main_call8_call0_call0_v153 : StableHlo.TRef sig ⟨S64x100000, .i32⟩) (.of main_call8_call0_call0_v154 : StableHlo.TRef sig ⟨S64x100000, .i32⟩) ori
  :: StableHlo.TRef.binary (.of main_call8_call0_call0_v149 : StableHlo.TRef sig ⟨S64x100000, .i32⟩) (.of main_call8_call0_call0_v154 : StableHlo.TRef sig ⟨S64x100000, .i32⟩) (.of main_call8_call0_call0_v155 : StableHlo.TRef sig ⟨S64x100000, .i32⟩) xori
  :: StableHlo.TRef.binary (.of main_call8_call0_call0_v149 : StableHlo.TRef sig ⟨S64x100000, .i32⟩) (.of main_call8_call0_call0_v155 : StableHlo.TRef sig ⟨S64x100000, .i32⟩) (.of main_call8_call0_call0_v156 : StableHlo.TRef sig ⟨S64x100000, .i32⟩) addi
  :: StableHlo.TRef.nullary (.of main_call8_call0_call0_c_40 : StableHlo.TRef sig ⟨S_, .i32⟩) (constantI S_ 32 26#32)
  :: StableHlo.TRef.unary (.of main_call8_call0_call0_c_40 : StableHlo.TRef sig ⟨S_, .i32⟩) (.of main_call8_call0_call0_v157 : StableHlo.TRef sig ⟨S64x100000, .i32⟩) (broadcastInDim S64x100000 ![] bcast_S_S64x100000)
  :: StableHlo.TRef.binary (.of main_call8_call0_call0_v155 : StableHlo.TRef sig ⟨S64x100000, .i32⟩) (.of main_call8_call0_call0_v157 : StableHlo.TRef sig ⟨S64x100000, .i32⟩) (.of main_call8_call0_call0_v158 : StableHlo.TRef sig ⟨S64x100000, .i32⟩) Host.shli
  :: StableHlo.TRef.nullary (.of main_call8_call0_call0_c_41 : StableHlo.TRef sig ⟨S_, .i32⟩) (constantI S_ 32 6#32)
  :: StableHlo.TRef.unary (.of main_call8_call0_call0_c_41 : StableHlo.TRef sig ⟨S_, .i32⟩) (.of main_call8_call0_call0_v159 : StableHlo.TRef sig ⟨S64x100000, .i32⟩) (broadcastInDim S64x100000 ![] bcast_S_S64x100000)
  :: StableHlo.TRef.binary (.of main_call8_call0_call0_v155 : StableHlo.TRef sig ⟨S64x100000, .i32⟩) (.of main_call8_call0_call0_v159 : StableHlo.TRef sig ⟨S64x100000, .i32⟩) (.of main_call8_call0_call0_v160 : StableHlo.TRef sig ⟨S64x100000, .i32⟩) Host.shrui
  :: StableHlo.TRef.binary (.of main_call8_call0_call0_v158 : StableHlo.TRef sig ⟨S64x100000, .i32⟩) (.of main_call8_call0_call0_v160 : StableHlo.TRef sig ⟨S64x100000, .i32⟩) (.of main_call8_call0_call0_v161 : StableHlo.TRef sig ⟨S64x100000, .i32⟩) ori
  :: StableHlo.TRef.binary (.of main_call8_call0_call0_v156 : StableHlo.TRef sig ⟨S64x100000, .i32⟩) (.of main_call8_call0_call0_v161 : StableHlo.TRef sig ⟨S64x100000, .i32⟩) (.of main_call8_call0_call0_v162 : StableHlo.TRef sig ⟨S64x100000, .i32⟩) xori
  :: StableHlo.TRef.binary (.of main_call8_call0_call0_v156 : StableHlo.TRef sig ⟨S64x100000, .i32⟩) (.of main_call8_call0_call0_v162 : StableHlo.TRef sig ⟨S64x100000, .i32⟩) (.of main_call8_call0_call0_v163 : StableHlo.TRef sig ⟨S64x100000, .i32⟩) addi
  :: StableHlo.TRef.nullary (.of main_call8_call0_call0_c_42 : StableHlo.TRef sig ⟨S_, .i32⟩) (constantI S_ 32 6#32)
  :: StableHlo.TRef.unary (.of main_call8_call0_call0_c_42 : StableHlo.TRef sig ⟨S_, .i32⟩) (.of main_call8_call0_call0_v164 : StableHlo.TRef sig ⟨S64x100000, .i32⟩) (broadcastInDim S64x100000 ![] bcast_S_S64x100000)
  :: StableHlo.TRef.binary (.of main_call8_call0_call0_v162 : StableHlo.TRef sig ⟨S64x100000, .i32⟩) (.of main_call8_call0_call0_v164 : StableHlo.TRef sig ⟨S64x100000, .i32⟩) (.of main_call8_call0_call0_v165 : StableHlo.TRef sig ⟨S64x100000, .i32⟩) Host.shli
  :: StableHlo.TRef.nullary (.of main_call8_call0_call0_c_43 : StableHlo.TRef sig ⟨S_, .i32⟩) (constantI S_ 32 26#32)
  :: StableHlo.TRef.unary (.of main_call8_call0_call0_c_43 : StableHlo.TRef sig ⟨S_, .i32⟩) (.of main_call8_call0_call0_v166 : StableHlo.TRef sig ⟨S64x100000, .i32⟩) (broadcastInDim S64x100000 ![] bcast_S_S64x100000)
  :: StableHlo.TRef.binary (.of main_call8_call0_call0_v162 : StableHlo.TRef sig ⟨S64x100000, .i32⟩) (.of main_call8_call0_call0_v166 : StableHlo.TRef sig ⟨S64x100000, .i32⟩) (.of main_call8_call0_call0_v167 : StableHlo.TRef sig ⟨S64x100000, .i32⟩) Host.shrui
  :: StableHlo.TRef.binary (.of main_call8_call0_call0_v165 : StableHlo.TRef sig ⟨S64x100000, .i32⟩) (.of main_call8_call0_call0_v167 : StableHlo.TRef sig ⟨S64x100000, .i32⟩) (.of main_call8_call0_call0_v168 : StableHlo.TRef sig ⟨S64x100000, .i32⟩) ori
  :: StableHlo.TRef.binary (.of main_call8_call0_call0_v163 : StableHlo.TRef sig ⟨S64x100000, .i32⟩) (.of main_call8_call0_call0_v168 : StableHlo.TRef sig ⟨S64x100000, .i32⟩) (.of main_call8_call0_call0_v169 : StableHlo.TRef sig ⟨S64x100000, .i32⟩) xori
  :: StableHlo.TRef.unary (.of main_call8_call0_call0_v1 : StableHlo.TRef sig ⟨S_, .i32⟩) (.of main_call8_call0_call0_v170 : StableHlo.TRef sig ⟨S64x100000, .i32⟩) (broadcastInDim S64x100000 ![] bcast_S_S64x100000)
  :: StableHlo.TRef.binary (.of main_call8_call0_call0_v163 : StableHlo.TRef sig ⟨S64x100000, .i32⟩) (.of main_call8_call0_call0_v170 : StableHlo.TRef sig ⟨S64x100000, .i32⟩) (.of main_call8_call0_v18_0 : StableHlo.TRef sig ⟨S64x100000, .i32⟩) addi
  :: StableHlo.TRef.unary (.of main_call8_call0_v4 : StableHlo.TRef sig ⟨S_, .i32⟩) (.of main_call8_call0_call0_v172 : StableHlo.TRef sig ⟨S64x100000, .i32⟩) (broadcastInDim S64x100000 ![] bcast_S_S64x100000)
  :: StableHlo.TRef.binary (.of main_call8_call0_call0_v169 : StableHlo.TRef sig ⟨S64x100000, .i32⟩) (.of main_call8_call0_call0_v172 : StableHlo.TRef sig ⟨S64x100000, .i32⟩) (.of main_call8_call0_call0_v173 : StableHlo.TRef sig ⟨S64x100000, .i32⟩) addi
  :: StableHlo.TRef.nullary (.of main_call8_call0_call0_c_44 : StableHlo.TRef sig ⟨S_, .i32⟩) (constantI S_ 32 5#32)
  :: StableHlo.TRef.unary (.of main_call8_call0_call0_c_44 : StableHlo.TRef sig ⟨S_, .i32⟩) (.of main_call8_call0_call0_v174 : StableHlo.TRef sig ⟨S64x100000, .i32⟩) (broadcastInDim S64x100000 ![] bcast_S_S64x100000)
  :: StableHlo.TRef.binary (.of main_call8_call0_call0_v173 : StableHlo.TRef sig ⟨S64x100000, .i32⟩) (.of main_call8_call0_call0_v174 : StableHlo.TRef sig ⟨S64x100000, .i32⟩) (.of main_call8_call0_v18_1 : StableHlo.TRef sig ⟨S64x100000, .i32⟩) addi
  :: StableHlo.TRef.binary (.of main_call8_call0_v18_0 : StableHlo.TRef sig ⟨S64x100000, .i32⟩) (.of main_call8_call0_v18_1 : StableHlo.TRef sig ⟨S64x100000, .i32⟩) (.of main_call8_call0_v19 : StableHlo.TRef sig ⟨S64x100000, .i32⟩) xori
  :: StableHlo.TRef.nullary (.of main_call8_call0_c_2 : StableHlo.TRef sig ⟨S_, .i32⟩) (constantI S_ 32 9#32)
  :: StableHlo.TRef.unary (.of main_call8_call0_c_2 : StableHlo.TRef sig ⟨S_, .i32⟩) (.of main_call8_call0_v20 : StableHlo.TRef sig ⟨S64x100000, .i32⟩) (broadcastInDim S64x100000 ![] bcast_S_S64x100000)
  :: StableHlo.TRef.binary (.of main_call8_call0_v19 : StableHlo.TRef sig ⟨S64x100000, .i32⟩) (.of main_call8_call0_v20 : StableHlo.TRef sig ⟨S64x100000, .i32⟩) (.of main_call8_call0_v21 : StableHlo.TRef sig ⟨S64x100000, .i32⟩) Host.shrui
  :: StableHlo.TRef.nullary (.of main_call8_call0_c_3 : StableHlo.TRef sig ⟨S_, .i32⟩) (constantI S_ 32 1065353216#32)
  :: StableHlo.TRef.unary (.of main_call8_call0_c_3 : StableHlo.TRef sig ⟨S_, .i32⟩) (.of main_call8_call0_v22 : StableHlo.TRef sig ⟨S64x100000, .i32⟩) (broadcastInDim S64x100000 ![] bcast_S_S64x100000)
  :: StableHlo.TRef.binary (.of main_call8_call0_v21 : StableHlo.TRef sig ⟨S64x100000, .i32⟩) (.of main_call8_call0_v22 : StableHlo.TRef sig ⟨S64x100000, .i32⟩) (.of main_call8_call0_v23 : StableHlo.TRef sig ⟨S64x100000, .i32⟩) ori
  :: StableHlo.TRef.unary (.of main_call8_call0_v23 : StableHlo.TRef sig ⟨S64x100000, .i32⟩) (.of main_call8_call0_v24 : StableHlo.TRef sig ⟨S64x100000, .f32⟩) (bitcastToFloat .f32)
  :: StableHlo.TRef.nullary (.of main_call8_call0_cst : StableHlo.TRef sig ⟨S_, .f32⟩) (constant S_ .f32 0x3F800000#32)
  :: StableHlo.TRef.unary (.of main_call8_call0_cst : StableHlo.TRef sig ⟨S_, .f32⟩) (.of main_call8_call0_v25 : StableHlo.TRef sig ⟨S64x100000, .f32⟩) (broadcastInDim S64x100000 ![] bcast_S_S64x100000)
  :: StableHlo.TRef.binary (.of main_call8_call0_v24 : StableHlo.TRef sig ⟨S64x100000, .f32⟩) (.of main_call8_call0_v25 : StableHlo.TRef sig ⟨S64x100000, .f32⟩) (.of main_call8_call0_v26 : StableHlo.TRef sig ⟨S64x100000, .f32⟩) subf
  :: StableHlo.TRef.binary (.of main_call8_call0_v2 : StableHlo.TRef sig ⟨S1x1, .f32⟩) (.of main_call8_call0_v1 : StableHlo.TRef sig ⟨S1x1, .f32⟩) (.of main_call8_call0_v27 : StableHlo.TRef sig ⟨S1x1, .f32⟩) subf
  :: StableHlo.TRef.unary (.of main_call8_call0_v27 : StableHlo.TRef sig ⟨S1x1, .f32⟩) (.of main_call8_call0_v28 : StableHlo.TRef sig ⟨S64x100000, .f32⟩) (broadcastInDim S64x100000 ![0, 1] bcast_S1x1_S64x100000_0_1)
  :: StableHlo.TRef.binary (.of main_call8_call0_v26 : StableHlo.TRef sig ⟨S64x100000, .f32⟩) (.of main_call8_call0_v28 : StableHlo.TRef sig ⟨S64x100000, .f32⟩) (.of main_call8_call0_v29 : StableHlo.TRef sig ⟨S64x100000, .f32⟩) mulf
  :: StableHlo.TRef.unary (.of main_call8_call0_v1 : StableHlo.TRef sig ⟨S1x1, .f32⟩) (.of main_call8_call0_v30 : StableHlo.TRef sig ⟨S64x100000, .f32⟩) (broadcastInDim S64x100000 ![0, 1] bcast_S1x1_S64x100000_0_1)
  :: StableHlo.TRef.binary (.of main_call8_call0_v29 : StableHlo.TRef sig ⟨S64x100000, .f32⟩) (.of main_call8_call0_v30 : StableHlo.TRef sig ⟨S64x100000, .f32⟩) (.of main_call8_call0_v31 : StableHlo.TRef sig ⟨S64x100000, .f32⟩) addf
  :: StableHlo.TRef.unary (.of main_call8_call0_v1 : StableHlo.TRef sig ⟨S1x1, .f32⟩) (.of main_call8_call0_v32 : StableHlo.TRef sig ⟨S64x100000, .f32⟩) (broadcastInDim S64x100000 ![0, 1] bcast_S1x1_S64x100000_0_1)
  :: StableHlo.TRef.binary (.of main_call8_call0_v32 : StableHlo.TRef sig ⟨S64x100000, .f32⟩) (.of main_call8_call0_v31 : StableHlo.TRef sig ⟨S64x100000, .f32⟩) (.of main_call8_v0 : StableHlo.TRef sig ⟨S64x100000, .f32⟩) maximumf
  :: StableHlo.TRef.unary (.of main_call8_v0 : StableHlo.TRef sig ⟨S64x100000, .f32⟩) (.of main_call8_v1 : StableHlo.TRef sig ⟨S64x100000, .f32⟩) Host.log
  :: StableHlo.TRef.unary (.of main_call8_v1 : StableHlo.TRef sig ⟨S64x100000, .f32⟩) (.of main_call8_v2 : StableHlo.TRef sig ⟨S64x100000, .f32⟩) Host.negf
  :: StableHlo.TRef.unary (.of main_call8_v2 : StableHlo.TRef sig ⟨S64x100000, .f32⟩) (.of main_call8_v3 : StableHlo.TRef sig ⟨S64x100000, .f32⟩) Host.log
  :: StableHlo.TRef.unary (.of main_call8_v3 : StableHlo.TRef sig ⟨S64x100000, .f32⟩) (.of main_v88 : StableHlo.TRef sig ⟨S64x100000, .f32⟩) Host.negf
  :: [] )
set_option maxHeartbeats 40000000 in
/-- Each touches TensorCore references only. -/
theorem ops14_sub : (ops14 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub ..⟩
set_option maxHeartbeats 40000000 in
/-- Each determines its results. -/
theorem ops14_fresh : (ops14 : List (HloOp τ sig (Elt F))).Forall fun op => op.fresh = ∅ := by
  simp only [List.Forall]; repeat' constructor
/-- The references written, in order. -/
abbrev ops14_W : List (Ref sig .tc) := [main_call8_cst, main_call8_cst_0, main_call8_call0_v0, main_call8_call0_v1, main_call8_call0_v2, main_call8_call0_v3, main_call8_call0_v4, main_call8_call0_v5, main_call8_call0_v6, main_call8_call0_v7, main_call8_call0_v8, main_call8_call0_c, main_call8_call0_v9, main_call8_call0_v10, main_call8_call0_c_0, main_call8_call0_v11, main_call8_call0_v12, main_call8_call0_v13, main_call8_call0_c_1, main_call8_call0_v14, main_call8_call0_v15, main_call8_call0_v16, main_call8_call0_v17, main_call8_call0_call0_v0, main_call8_call0_call0_c, main_call8_call0_call0_v1, main_call8_call0_call0_v2, main_call8_call0_call0_v3, main_call8_call0_call0_v4, main_call8_call0_call0_v5, main_call8_call0_call0_v6, main_call8_call0_call0_c_0, main_call8_call0_call0_v7, main_call8_call0_call0_v8, main_call8_call0_call0_c_1, main_call8_call0_call0_v9, main_call8_call0_call0_v10, main_call8_call0_call0_v11, main_call8_call0_call0_v12, main_call8_call0_call0_v13, main_call8_call0_call0_c_2, main_call8_call0_call0_v14, main_call8_call0_call0_v15, main_call8_call0_call0_c_3, main_call8_call0_call0_v16, main_call8_call0_call0_v17, main_call8_call0_call0_v18, main_call8_call0_call0_v19, main_call8_call0_call0_v20, main_call8_call0_call0_c_4, main_call8_call0_call0_v21, main_call8_call0_call0_v22, main_call8_call0_call0_c_5, main_call8_call0_call0_v23, main_call8_call0_call0_v24, main_call8_call0_call0_v25, main_call8_call0_call0_v26, main_call8_call0_call0_v27, main_call8_call0_call0_c_6, main_call8_call0_call0_v28, main_call8_call0_call0_v29, main_call8_call0_call0_c_7, main_call8_call0_call0_v30, main_call8_call0_call0_v31, main_call8_call0_call0_v32, main_call8_call0_call0_v33, main_call8_call0_call0_v34, main_call8_call0_call0_v35, main_call8_call0_call0_v36, main_call8_call0_call0_v37, main_call8_call0_call0_c_8, main_call8_call0_call0_v38, main_call8_call0_call0_v39, main_call8_call0_call0_v40, main_call8_call0_call0_c_9, main_call8_call0_call0_v41, main_call8_call0_call0_v42, main_call8_call0_call0_c_10, main_call8_call0_call0_v43, main_call8_call0_call0_v44, main_call8_call0_call0_v45, main_call8_call0_call0_v46, main_call8_call0_call0_v47, main_call8_call0_call0_c_11, main_call8_call0_call0_v48, main_call8_call0_call0_v49, main_call8_call0_call0_c_12, main_call8_call0_call0_v50, main_call8_call0_call0_v51, main_call8_call0_call0_v52, main_call8_call0_call0_v53, main_call8_call0_call0_v54, main_call8_call0_call0_c_13, main_call8_call0_call0_v55, main_call8_call0_call0_v56, main_call8_call0_call0_c_14, main_call8_call0_call0_v57, main_call8_call0_call0_v58, main_call8_call0_call0_v59, main_call8_call0_call0_v60, main_call8_call0_call0_v61, main_call8_call0_call0_c_15, main_call8_call0_call0_v62, main_call8_call0_call0_v63, main_call8_call0_call0_c_16, main_call8_call0_call0_v64, main_call8_call0_call0_v65, main_call8_call0_call0_v66, main_call8_call0_call0_v67, main_call8_call0_call0_v68, main_call8_call0_call0_v69, main_call8_call0_call0_v70, main_call8_call0_call0_v71, main_call8_call0_call0_c_17, main_call8_call0_call0_v72, main_call8_call0_call0_v73, main_call8_call0_call0_v74, main_call8_call0_call0_c_18, main_call8_call0_call0_v75, main_call8_call0_call0_v76, main_call8_call0_call0_c_19, main_call8_call0_call0_v77, main_call8_call0_call0_v78, main_call8_call0_call0_v79, main_call8_call0_call0_v80, main_call8_call0_call0_v81, main_call8_call0_call0_c_20, main_call8_call0_call0_v82, main_call8_call0_call0_v83, main_call8_call0_call0_c_21, main_call8_call0_call0_v84, main_call8_call0_call0_v85, main_call8_call0_call0_v86, main_call8_call0_call0_v87, main_call8_call0_call0_v88, main_call8_call0_call0_c_22, main_call8_call0_call0_v89, main_call8_call0_call0_v90, main_call8_call0_call0_c_23, main_call8_call0_call0_v91, main_call8_call0_call0_v92, main_call8_call0_call0_v93, main_call8_call0_call0_v94, main_call8_call0_call0_v95, main_call8_call0_call0_c_24, main_call8_call0_call0_v96, main_call8_call0_call0_v97, main_call8_call0_call0_c_25, main_call8_call0_call0_v98, main_call8_call0_call0_v99, main_call8_call0_call0_v100, main_call8_call0_call0_v101, main_call8_call0_call0_v102, main_call8_call0_call0_v103, main_call8_call0_call0_v104, main_call8_call0_call0_v105, main_call8_call0_call0_c_26, main_call8_call0_call0_v106, main_call8_call0_call0_v107, main_call8_call0_call0_v108, main_call8_call0_call0_c_27, main_call8_call0_call0_v109, main_call8_call0_call0_v110, main_call8_call0_call0_c_28, main_call8_call0_call0_v111, main_call8_call0_call0_v112, main_call8_call0_call0_v113, main_call8_call0_call0_v114, main_call8_call0_call0_v115, main_call8_call0_call0_c_29, main_call8_call0_call0_v116, main_call8_call0_call0_v117, main_call8_call0_call0_c_30, main_call8_call0_call0_v118, main_call8_call0_call0_v119, main_call8_call0_call0_v120, main_call8_call0_call0_v121, main_call8_call0_call0_v122, main_call8_call0_call0_c_31, main_call8_call0_call0_v123, main_call8_call0_call0_v124, main_call8_call0_call0_c_32, main_call8_call0_call0_v125, main_call8_call0_call0_v126, main_call8_call0_call0_v127, main_call8_call0_call0_v128, main_call8_call0_call0_v129, main_call8_call0_call0_c_33, main_call8_call0_call0_v130, main_call8_call0_call0_v131, main_call8_call0_call0_c_34, main_call8_call0_call0_v132, main_call8_call0_call0_v133, main_call8_call0_call0_v134, main_call8_call0_call0_v135, main_call8_call0_call0_v136, main_call8_call0_call0_v137, main_call8_call0_call0_v138, main_call8_call0_call0_v139, main_call8_call0_call0_c_35, main_call8_call0_call0_v140, main_call8_call0_call0_v141, main_call8_call0_call0_v142, main_call8_call0_call0_c_36, main_call8_call0_call0_v143, main_call8_call0_call0_v144, main_call8_call0_call0_c_37, main_call8_call0_call0_v145, main_call8_call0_call0_v146, main_call8_call0_call0_v147, main_call8_call0_call0_v148, main_call8_call0_call0_v149, main_call8_call0_call0_c_38, main_call8_call0_call0_v150, main_call8_call0_call0_v151, main_call8_call0_call0_c_39, main_call8_call0_call0_v152, main_call8_call0_call0_v153, main_call8_call0_call0_v154, main_call8_call0_call0_v155, main_call8_call0_call0_v156, main_call8_call0_call0_c_40, main_call8_call0_call0_v157, main_call8_call0_call0_v158, main_call8_call0_call0_c_41, main_call8_call0_call0_v159, main_call8_call0_call0_v160, main_call8_call0_call0_v161, main_call8_call0_call0_v162, main_call8_call0_call0_v163, main_call8_call0_call0_c_42, main_call8_call0_call0_v164, main_call8_call0_call0_v165, main_call8_call0_call0_c_43, main_call8_call0_call0_v166, main_call8_call0_call0_v167, main_call8_call0_call0_v168, main_call8_call0_call0_v169, main_call8_call0_call0_v170, main_call8_call0_v18_0, main_call8_call0_call0_v172, main_call8_call0_call0_v173, main_call8_call0_call0_c_44, main_call8_call0_call0_v174, main_call8_call0_v18_1, main_call8_call0_v19, main_call8_call0_c_2, main_call8_call0_v20, main_call8_call0_v21, main_call8_call0_c_3, main_call8_call0_v22, main_call8_call0_v23, main_call8_call0_v24, main_call8_call0_cst, main_call8_call0_v25, main_call8_call0_v26, main_call8_call0_v27, main_call8_call0_v28, main_call8_call0_v29, main_call8_call0_v30, main_call8_call0_v31, main_call8_call0_v32, main_call8_v0, main_call8_v1, main_call8_v2, main_call8_v3, main_v88]
set_option maxHeartbeats 40000000 in
/-- Nothing else is written. -/
theorem ops14_writes : (ops14 : List (HloOp τ sig (Elt F))).Forall fun op => op.writes ⊆ (ops14_W.map (Proc.devRef (τ := τ) .tc)).toFinset :=
  StableHlo.forall_writes_sub_of_map rfl

/-- 1 host operations of @main, in order. -/
abbrev ops15 : List (HloOp τ sig (Elt F)) :=
  [ StableHlo.binary main_v88 main_v68 main_v89 (addf : (⟨S64x100000, .f32⟩ : BufTy).Contents (Elt F) → (⟨S64x100000, .f32⟩ : BufTy).Contents (Elt F) → (⟨S64x100000, .f32⟩ : BufTy).Contents (Elt F)) ]
/-- Each touches TensorCore references only. -/
theorem ops15_sub : (ops15 : List (HloOp τ sig (Elt F))).Forall fun op => op.bufs ⊆ StableHlo.tcRefs τ sig :=
  StableHlo.binary_bufs_sub ..
/-- Each determines its results. -/
theorem ops15_fresh : (ops15 : List (HloOp τ sig (Elt F))).Forall fun op => op.fresh = ∅ := by
  simp only [List.Forall]; repeat' constructor
/-- The references written, in order. -/
abbrev ops15_W : List (Ref sig .tc) := [main_v89]
/-- Nothing else is written. -/
theorem ops15_writes : (ops15 : List (HloOp τ sig (Elt F))).Forall fun op => op.writes ⊆ (ops15_W.map (Proc.devRef (τ := τ) .tc)).toFinset :=
  StableHlo.forall_writes_sub_of_map rfl

/-- 5 host operations of @argmax, in order. -/
abbrev ops16 : List (HloOp τ sig (Elt F)) :=
  [ StableHlo.TRef.nullary (.of main_call9_v0 : StableHlo.TRef sig ⟨S64x100000, .i32⟩) (iotaInDim S64x100000 32 1),
    StableHlo.TRef.nullary (.of main_call9_cst : StableHlo.TRef sig ⟨S_, .f32⟩) (constant S_ .f32 0xFF800000#32),
    StableHlo.TRef.nullary (.of main_call9_c : StableHlo.TRef sig ⟨S_, .i32⟩) (constantI S_ 32 0#32),
    StableHlo.TRef.quaternary (.of main_v89 : StableHlo.TRef sig ⟨S64x100000, .f32⟩) (.of main_call9_v0 : StableHlo.TRef sig ⟨S64x100000, .i32⟩) (.of main_call9_cst : StableHlo.TRef sig ⟨S_, .f32⟩) (.of main_call9_c : StableHlo.TRef sig ⟨S_, .i32⟩) (.of main_call9_v1_0 : StableHlo.TRef sig ⟨S64, .f32⟩) (fun x y u v j => (Host.argReduce reducer_argmax_f32_i32 x y u v reducesTo_S64x100000_S64_d1 h_S_ j).1),
    StableHlo.TRef.quaternary (.of main_v89 : StableHlo.TRef sig ⟨S64x100000, .f32⟩) (.of main_call9_v0 : StableHlo.TRef sig ⟨S64x100000, .i32⟩) (.of main_call9_cst : StableHlo.TRef sig ⟨S_, .f32⟩) (.of main_call9_c : StableHlo.TRef sig ⟨S_, .i32⟩) (.of main_v90 : StableHlo.TRef sig ⟨S64, .i32⟩) (fun x y u v j => (Host.argReduce reducer_argmax_f32_i32 x y u v reducesTo_S64x100000_S64_d1 h_S_ j).2) ]
/-- Each touches TensorCore references only. -/
theorem ops16_sub : (ops16 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- Each determines its results. -/
theorem ops16_fresh : (ops16 : List (HloOp τ sig (Elt F))).Forall fun op => op.fresh = ∅ := by
  simp only [List.Forall]; repeat' constructor
/-- The references written, in order. -/
abbrev ops16_W : List (Ref sig .tc) := [main_call9_v0, main_call9_cst, main_call9_c, main_call9_v1_0, main_v90]
/-- Nothing else is written. -/
theorem ops16_writes : (ops16 : List (HloOp τ sig (Elt F))).Forall fun op => op.writes ⊆ (ops16_W.map (Proc.devRef (τ := τ) .tc)).toFinset :=
  StableHlo.forall_writes_sub_of_map rfl

/-- The first half of the program is the chain of its stretches. -/
theorem part0_chain (c : Dev nD) : main_part0 (F := F) c = (Pipeline.chainK
  [ StableHlo.seq ops0,
    StableHlo.seq ops1,
    StableHlo.seq ops2,
    StableHlo.seq ops3 ]
  (StableHlo.seq ops4) : Prog (TpuEff nD τ sig (Elt F) (Pipeline.Sig Λ₀ (Fin 0) fun p => (pcfgs (F := F) p).Adm) .tc) PUnit) := by
  rewrite [Pipeline.chainK_cons, StableHlo.chainK_seq_cons, Pipeline.chainK_cons, Pipeline.chainK_cons]
  chain_rfl

/-- The second half of the program is the chain of its stretches. -/
theorem part1_chain (c : Dev nD) : main_part1 (F := F) c = (Pipeline.chain
  [ StableHlo.seq ops5,
    StableHlo.seq ops6,
    StableHlo.seq ops7,
    StableHlo.seq ops8,
    StableHlo.seq ops9,
    StableHlo.seq ops10,
    StableHlo.seq ops11,
    StableHlo.seq ops12,
    StableHlo.seq ops13,
    StableHlo.seq ops14,
    StableHlo.seq ops15,
    StableHlo.seq ops16 ] : Prog (TpuEff nD τ sig (Elt F) (Pipeline.Sig Λ₀ (Fin 0) fun p => (pcfgs (F := F) p).Adm) .tc) PUnit) := by
  rewrite [StableHlo.chain_seq_cons, Pipeline.chain_cons, StableHlo.chain_seq_cons, Pipeline.chain_cons, Pipeline.chain_cons, Pipeline.chain_cons, StableHlo.chain_seq_cons, Pipeline.chain_cons, StableHlo.chain_seq_cons, Pipeline.chain_cons, StableHlo.chain_seq_cons]
  chain_rfl

/-- The whole program is the chain of its stretches. -/
theorem whole_chain (c : Dev nD) : main (F := F) c = (Pipeline.chain
  [ StableHlo.seq ops0,
    StableHlo.seq ops1,
    StableHlo.seq ops2,
    StableHlo.seq ops3,
    StableHlo.seq ops4,
    StableHlo.seq ops5,
    StableHlo.seq ops6,
    StableHlo.seq ops7,
    StableHlo.seq ops8,
    StableHlo.seq ops9,
    StableHlo.seq ops10,
    StableHlo.seq ops11,
    StableHlo.seq ops12,
    StableHlo.seq ops13,
    StableHlo.seq ops14,
    StableHlo.seq ops15,
    StableHlo.seq ops16 ] : Prog (TpuEff nD τ sig (Elt F) (Pipeline.Sig Λ₀ (Fin 0) fun p => (pcfgs (F := F) p).Adm) .tc) PUnit) := by
  show (main_part0 (F := F) c >>= fun _ => main_part1 (F := F) c) = _
  rewrite [part1_chain, part0_chain, Pipeline.chainK_bind_chain]
  chain_rfl

end Cert.ReferenceIdeal.Hand

end
-- ==== Proof.R.Run.lean ====
/-
  The reference's run: each buffer ends at the value its stretches leave in it, one after another, and no stretch writes an argument.
-/
module

public import proofs.«01_k».proof.Proof.R.Ops
public import Idealize.ShloMosaic.Lib.StableHlo.RunHlo
public import Idealize.ShloMosaic.Lib.Pipeline.Frame
public import Idealize.ShloMosaic.Lib.Quiescent

@[expose] public section

set_option maxRecDepth 4408

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- A chain of straight lines is one straight line. -/
theorem chain_lines {nD : Nat} {τ : Topo} {sig : RefSig} {Val : EltTy → Type} {Λ : Labels} (ls : List (List (HloOp τ sig Val))) :
    (Pipeline.chain (ls.map StableHlo.seq) : Prog (TpuEff nD τ sig Val Λ .tc) PUnit) = StableHlo.seq ls.flatten := by
  induction ls with
  | nil => rfl
  | cons l ls ih => rw [List.map_cons, Pipeline.chain_cons, ih, List.flatten_cons, StableHlo.seq_append]

/-- The stretches. -/
abbrev lines : List (List (HloOp τ sig (Elt F))) :=
  [ops0, ops1, ops2, ops3, ops4, ops5, ops6, ops7, ops8, ops9, ops10, ops11, ops12, ops13, ops14, ops15, ops16]

/-- The program is the straight line of its stretches. -/
theorem is_line (c : Dev nD) : main (F := F) c = StableHlo.seq (lines (F := F)).flatten := by
  rw [whole_chain, ← chain_lines]; rfl

/-- Every operation of every stretch has the property that holds of each stretch. -/
theorem forall_lines {p : HloOp τ sig (Elt F) → Prop} (h0 : (ops0 (F := F)).Forall p) (h1 : (ops1 (F := F)).Forall p) (h2 : (ops2 (F := F)).Forall p) (h3 : (ops3 (F := F)).Forall p) (h4 : (ops4 (F := F)).Forall p) (h5 : (ops5 (F := F)).Forall p) (h6 : (ops6 (F := F)).Forall p) (h7 : (ops7 (F := F)).Forall p) (h8 : (ops8 (F := F)).Forall p) (h9 : (ops9 (F := F)).Forall p) (h10 : (ops10 (F := F)).Forall p) (h11 : (ops11 (F := F)).Forall p) (h12 : (ops12 (F := F)).Forall p) (h13 : (ops13 (F := F)).Forall p) (h14 : (ops14 (F := F)).Forall p) (h15 : (ops15 (F := F)).Forall p) (h16 : (ops16 (F := F)).Forall p) :
    ∀ op ∈ (lines (F := F)).flatten, p op := by
  intro op h
  obtain ⟨l, hl, ho⟩ := List.mem_flatten.mp h
  simp only [List.mem_cons, List.not_mem_nil, or_false] at hl
  rcases hl with rfl | rfl | rfl | rfl | rfl | rfl | rfl | rfl | rfl | rfl | rfl | rfl | rfl | rfl | rfl | rfl | rfl
  · exact List.forall_iff_forall_mem.mp h0 op ho
  · exact List.forall_iff_forall_mem.mp h1 op ho
  · exact List.forall_iff_forall_mem.mp h2 op ho
  · exact List.forall_iff_forall_mem.mp h3 op ho
  · exact List.forall_iff_forall_mem.mp h4 op ho
  · exact List.forall_iff_forall_mem.mp h5 op ho
  · exact List.forall_iff_forall_mem.mp h6 op ho
  · exact List.forall_iff_forall_mem.mp h7 op ho
  · exact List.forall_iff_forall_mem.mp h8 op ho
  · exact List.forall_iff_forall_mem.mp h9 op ho
  · exact List.forall_iff_forall_mem.mp h10 op ho
  · exact List.forall_iff_forall_mem.mp h11 op ho
  · exact List.forall_iff_forall_mem.mp h12 op ho
  · exact List.forall_iff_forall_mem.mp h13 op ho
  · exact List.forall_iff_forall_mem.mp h14 op ho
  · exact List.forall_iff_forall_mem.mp h15 op ho
  · exact List.forall_iff_forall_mem.mp h16 op ho

variable (m : (ℓ : Loc nD τ sig) → Buf (Elt F) ℓ)

/-- The contents before any stretch. -/
def U0 (c : Dev nD) : Valuation τ sig (Elt F) := StableHlo.launchContents m c
/-- The contents after stretch 0. -/
def U1 (c : Dev nD) : Valuation τ sig (Elt F) := StableHlo.after ops0 (U0 m c)
/-- The contents after stretch 1. -/
def U2 (c : Dev nD) : Valuation τ sig (Elt F) := StableHlo.after ops1 (U1 m c)
/-- The contents after stretch 2. -/
def U3 (c : Dev nD) : Valuation τ sig (Elt F) := StableHlo.after ops2 (U2 m c)
/-- The contents after stretch 3. -/
def U4 (c : Dev nD) : Valuation τ sig (Elt F) := StableHlo.after ops3 (U3 m c)
/-- The contents after stretch 4. -/
def U5 (c : Dev nD) : Valuation τ sig (Elt F) := StableHlo.after ops4 (U4 m c)
/-- The contents after stretch 5. -/
def U6 (c : Dev nD) : Valuation τ sig (Elt F) := StableHlo.after ops5 (U5 m c)
/-- The contents after stretch 6. -/
def U7 (c : Dev nD) : Valuation τ sig (Elt F) := StableHlo.after ops6 (U6 m c)
/-- The contents after stretch 7. -/
def U8 (c : Dev nD) : Valuation τ sig (Elt F) := StableHlo.after ops7 (U7 m c)
/-- The contents after stretch 8. -/
def U9 (c : Dev nD) : Valuation τ sig (Elt F) := StableHlo.after ops8 (U8 m c)
/-- The contents after stretch 9. -/
def U10 (c : Dev nD) : Valuation τ sig (Elt F) := StableHlo.after ops9 (U9 m c)
/-- The contents after stretch 10. -/
def U11 (c : Dev nD) : Valuation τ sig (Elt F) := StableHlo.after ops10 (U10 m c)
/-- The contents after stretch 11. -/
def U12 (c : Dev nD) : Valuation τ sig (Elt F) := StableHlo.after ops11 (U11 m c)
/-- The contents after stretch 12. -/
def U13 (c : Dev nD) : Valuation τ sig (Elt F) := StableHlo.after ops12 (U12 m c)
/-- The contents after stretch 13. -/
def U14 (c : Dev nD) : Valuation τ sig (Elt F) := StableHlo.after ops13 (U13 m c)
/-- The contents after stretch 14. -/
def U15 (c : Dev nD) : Valuation τ sig (Elt F) := StableHlo.after ops14 (U14 m c)
/-- The contents after stretch 15. -/
def U16 (c : Dev nD) : Valuation τ sig (Elt F) := StableHlo.after ops15 (U15 m c)
/-- The contents after stretch 16. -/
def U17 (c : Dev nD) : Valuation τ sig (Elt F) := StableHlo.after ops16 (U16 m c)

/-- The contents after all stretches. -/
theorem after_lines (c : Dev nD) : StableHlo.after (lines (F := F)).flatten (StableHlo.launchContents m c) = U17 m c := by
  unfold lines
  simp only [List.flatten_cons, List.flatten_nil, StableHlo.after_append]
  rfl

/-- The reference runs; each buffer ends at the contents after all stretches; there is no counter to move. -/
theorem ran (g : Dev nD → PrngReg) :
    θ_run (defs (F := F)) (onTc (τ := τ) (main (F := F))) ⟨m, fun _ => 0, g⟩ (fun r =>
      (∀ (c : Dev nD) (b : Ref sig .tc), r.2.mem ((c.tc : Thread nD τ).loc b) = U17 m c (Proc.devRef .tc b)) ∧ r.2.sem = fun _ => 0) := by
  refine θ_run_mono (StableHlo.run_hlo (defs (F := F)) main (ops := (lines (F := F)).flatten) is_line ?_ ?_ ?_ ?_ m g) fun r hr =>
    ⟨fun c b => (hr c b).trans (congrFun (after_lines m c) _), sem_eq_zero_of_no_sems (by decide) _⟩
  · decide
  · decide
  · exact List.forall_iff_forall_mem.mpr (forall_lines ops0_sub ops1_sub ops2_sub ops3_sub ops4_sub ops5_sub ops6_sub ops7_sub ops8_sub ops9_sub ops10_sub ops11_sub ops12_sub ops13_sub ops14_sub ops15_sub ops16_sub)
  · exact forall_lines ops0_fresh ops1_fresh ops2_fresh ops3_fresh ops4_fresh ops5_fresh ops6_fresh ops7_fresh ops8_fresh ops9_fresh ops10_fresh ops11_fresh ops12_fresh ops13_fresh ops14_fresh ops15_fresh ops16_fresh

/-- A reference that no stretch writes ends as launched. -/
theorem kept (c : Dev nD) (r : Ref sig .tc)
    (h0 : r ∉ (ops0_W : List (Ref sig .tc))) (h1 : r ∉ (ops1_W : List (Ref sig .tc))) (h2 : r ∉ (ops2_W : List (Ref sig .tc))) (h3 : r ∉ (ops3_W : List (Ref sig .tc))) (h4 : r ∉ (ops4_W : List (Ref sig .tc))) (h5 : r ∉ (ops5_W : List (Ref sig .tc))) (h6 : r ∉ (ops6_W : List (Ref sig .tc))) (h7 : r ∉ (ops7_W : List (Ref sig .tc))) (h8 : r ∉ (ops8_W : List (Ref sig .tc))) (h9 : r ∉ (ops9_W : List (Ref sig .tc))) (h10 : r ∉ (ops10_W : List (Ref sig .tc))) (h11 : r ∉ (ops11_W : List (Ref sig .tc))) (h12 : r ∉ (ops12_W : List (Ref sig .tc))) (h13 : r ∉ (ops13_W : List (Ref sig .tc))) (h14 : r ∉ (ops14_W : List (Ref sig .tc))) (h15 : r ∉ (ops15_W : List (Ref sig .tc))) (h16 : r ∉ (ops16_W : List (Ref sig .tc))) :
    U17 m c (Proc.devRef .tc r) = m ((c.tc : Thread nD τ).loc r) := by
  rw [U17, StableHlo.after_of_writes_sub ops16 _ ops16_writes h16]
  rw [U16, StableHlo.after_of_writes_sub ops15 _ ops15_writes h15]
  rw [U15, StableHlo.after_of_writes_sub ops14 _ ops14_writes h14]
  rw [U14, StableHlo.after_of_writes_sub ops13 _ ops13_writes h13]
  rw [U13, StableHlo.after_of_writes_sub ops12 _ ops12_writes h12]
  rw [U12, StableHlo.after_of_writes_sub ops11 _ ops11_writes h11]
  rw [U11, StableHlo.after_of_writes_sub ops10 _ ops10_writes h10]
  rw [U10, StableHlo.after_of_writes_sub ops9 _ ops9_writes h9]
  rw [U9, StableHlo.after_of_writes_sub ops8 _ ops8_writes h8]
  rw [U8, StableHlo.after_of_writes_sub ops7 _ ops7_writes h7]
  rw [U7, StableHlo.after_of_writes_sub ops6 _ ops6_writes h6]
  rw [U6, StableHlo.after_of_writes_sub ops5 _ ops5_writes h5]
  rw [U5, StableHlo.after_of_writes_sub ops4 _ ops4_writes h4]
  rw [U4, StableHlo.after_of_writes_sub ops3 _ ops3_writes h3]
  rw [U3, StableHlo.after_of_writes_sub ops2 _ ops2_writes h2]
  rw [U2, StableHlo.after_of_writes_sub ops1 _ ops1_writes h1]
  rw [U1, StableHlo.after_of_writes_sub ops0 _ ops0_writes h0]
  rfl

/-- Argument 0 ends as launched. -/
theorem kept_arg0 (c : Dev nD) : U17 m c (Proc.devRef .tc main_arg0) = m ((c.tc : Thread nD τ).loc main_arg0) :=
  kept m c main_arg0 (by decide) (by decide) (by decide) (by decide) (by decide) (by decide) (by decide) (by decide) (by decide) (by decide) (by decide) (by decide) (by decide) (by decide) (by decide) (by decide) (by decide)
/-- Argument 1 ends as launched. -/
theorem kept_arg1 (c : Dev nD) : U17 m c (Proc.devRef .tc main_arg1) = m ((c.tc : Thread nD τ).loc main_arg1) :=
  kept m c main_arg1 (by decide) (by decide) (by decide) (by decide) (by decide) (by decide) (by decide) (by decide) (by decide) (by decide) (by decide) (by decide) (by decide) (by decide) (by decide) (by decide) (by decide)
/-- Argument 2 ends as launched. -/
theorem kept_arg2 (c : Dev nD) : U17 m c (Proc.devRef .tc main_arg2) = m ((c.tc : Thread nD τ).loc main_arg2) :=
  kept m c main_arg2 (by decide) (by decide) (by decide) (by decide) (by decide) (by decide) (by decide) (by decide) (by decide) (by decide) (by decide) (by decide) (by decide) (by decide) (by decide) (by decide) (by decide)
/-- Argument 3 ends as launched. -/
theorem kept_arg3 (c : Dev nD) : U17 m c (Proc.devRef .tc main_arg3) = m ((c.tc : Thread nD τ).loc main_arg3) :=
  kept m c main_arg3 (by decide) (by decide) (by decide) (by decide) (by decide) (by decide) (by decide) (by decide) (by decide) (by decide) (by decide) (by decide) (by decide) (by decide) (by decide) (by decide) (by decide)
/-- Argument 4 ends as launched. -/
theorem kept_arg4 (c : Dev nD) : U17 m c (Proc.devRef .tc main_arg4) = m ((c.tc : Thread nD τ).loc main_arg4) :=
  kept m c main_arg4 (by decide) (by decide) (by decide) (by decide) (by decide) (by decide) (by decide) (by decide) (by decide) (by decide) (by decide) (by decide) (by decide) (by decide) (by decide) (by decide) (by decide)
/-- Argument 5 ends as launched. -/
theorem kept_arg5 (c : Dev nD) : U17 m c (Proc.devRef .tc main_arg5) = m ((c.tc : Thread nD τ).loc main_arg5) :=
  kept m c main_arg5 (by decide) (by decide) (by decide) (by decide) (by decide) (by decide) (by decide) (by decide) (by decide) (by decide) (by decide) (by decide) (by decide) (by decide) (by decide) (by decide) (by decide)
/-- Argument 6 ends as launched. -/
theorem kept_arg6 (c : Dev nD) : U17 m c (Proc.devRef .tc main_arg6) = m ((c.tc : Thread nD τ).loc main_arg6) :=
  kept m c main_arg6 (by decide) (by decide) (by decide) (by decide) (by decide) (by decide) (by decide) (by decide) (by decide) (by decide) (by decide) (by decide) (by decide) (by decide) (by decide) (by decide) (by decide)
/-- Argument 7 ends as launched. -/
theorem kept_arg7 (c : Dev nD) : U17 m c (Proc.devRef .tc main_arg7) = m ((c.tc : Thread nD τ).loc main_arg7) :=
  kept m c main_arg7 (by decide) (by decide) (by decide) (by decide) (by decide) (by decide) (by decide) (by decide) (by decide) (by decide) (by decide) (by decide) (by decide) (by decide) (by decide) (by decide) (by decide)
/-- Argument 8 ends as launched. -/
theorem kept_arg8 (c : Dev nD) : U17 m c (Proc.devRef .tc main_arg8) = m ((c.tc : Thread nD τ).loc main_arg8) :=
  kept m c main_arg8 (by decide) (by decide) (by decide) (by decide) (by decide) (by decide) (by decide) (by decide) (by decide) (by decide) (by decide) (by decide) (by decide) (by decide) (by decide) (by decide) (by decide)

/-- The reference runs, every argument ends as launched, and no counter moves. -/
theorem framed (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_mono (ran m g) fun r hr => ⟨fun c => ⟨(hr.1 c main_arg0).trans (kept_arg0 m c), (hr.1 c main_arg1).trans (kept_arg1 m c), (hr.1 c main_arg2).trans (kept_arg2 m c), (hr.1 c main_arg3).trans (kept_arg3 m c), (hr.1 c main_arg4).trans (kept_arg4 m c), (hr.1 c main_arg5).trans (kept_arg5 m c), (hr.1 c main_arg6).trans (kept_arg6 m c), (hr.1 c main_arg7).trans (kept_arg7 m c), (hr.1 c main_arg8).trans (kept_arg8 m c)⟩, hr.2⟩

end Cert.ReferenceIdeal.Hand

end
-- ==== Proof.V.Agree.lean ====
/-
  The host operations that the two programs have in common: equal inputs give equal results, stretch by stretch.
-/
module

public import proofs.«01_k».proof.Proof.Gen.KernelIdeal.Launch
public import proofs.«01_k».proof.Proof.R.Ops
public import Idealize.ShloMosaic.Lib.StableHlo.RunRead

@[expose] public section

set_option maxRecDepth 16384

noncomputable section

namespace Cert.Agree

open Idealize.ShloMosaic Idealize.ShloMosaic.TcCoe Idealize.ShloMosaic.Tactic
open Cert.KernelIdeal.Gen Cert.ReferenceIdeal.Hand

/-- What the kernel's buffers hold. -/
abbrev KV := Valuation KernelIdeal.τ KernelIdeal.sig (Elt Ideal)
/-- What the reference's buffers hold. -/
abbrev RV := Valuation ReferenceIdeal.τ ReferenceIdeal.sig (Elt Ideal)

/-- The two programs agree on the gathered hidden rows. -/
theorem take_eq (V : KV) (V' : RV)
    (h0 : ((V (Proc.devRef .tc KernelIdeal.main_arg2)) : IVec ReferenceIdeal.S64 32) = (V' (Proc.devRef .tc ReferenceIdeal.main_arg2)))
    (h1 : ((V (Proc.devRef .tc KernelIdeal.main_arg1)) : FVec Ideal ReferenceIdeal.S512x1024 .f32) = (V' (Proc.devRef .tc ReferenceIdeal.main_arg1)))
    : (StableHlo.after (hostOps0 (F := Ideal)) V (Proc.devRef .tc KernelIdeal.main_v0) : FVec Ideal ReferenceIdeal.S64x1024 .f32)
      = StableHlo.after ops0 V' (Proc.devRef .tc ReferenceIdeal.main_v0) := by
  after_reads_simp
  first | rewrite [h0, h1] | simp only [h0, h1] | skip
  all_goals rfl

/-- The two programs agree on the descending order of a row's logits. -/
theorem argsort_eq (V : KV) (V' : RV)
    (h0 : ((V (Proc.devRef .tc KernelIdeal.main_v5)) : FVec Ideal ReferenceIdeal.S64x100000 .f32) = (V' (Proc.devRef .tc ReferenceIdeal.main_v38)))
    : (StableHlo.after (hostOps1_1 (F := Ideal)) V (Proc.devRef .tc KernelIdeal.main_v6) : IVec ReferenceIdeal.S64x100000 32)
      = StableHlo.after ops2 V' (Proc.devRef .tc ReferenceIdeal.main_v39) := by
  after_reads_simp
  first | rewrite [h0] | simp only [h0] | skip
  all_goals rfl

/-- The two programs agree on the sorted logits. -/
theorem sorted_eq (V : KV) (V' : RV)
    (h0 : ((V (Proc.devRef .tc KernelIdeal.main_v6)) : IVec ReferenceIdeal.S64x100000 32) = (V' (Proc.devRef .tc ReferenceIdeal.main_v39)))
    (h1 : ((V (Proc.devRef .tc KernelIdeal.main_v4)) : FVec Ideal ReferenceIdeal.S64x100000 .f32) = (V' (Proc.devRef .tc ReferenceIdeal.main_v37)))
    : (StableHlo.after (hostOps1_2 (F := Ideal)) V (Proc.devRef .tc KernelIdeal.main_v7) : FVec Ideal ReferenceIdeal.S64x100000 .f32)
      = StableHlo.after ops3 V' (Proc.devRef .tc ReferenceIdeal.main_v40) := by
  after_reads_simp
  first | rewrite [h0, h1] | simp only [h0, h1] | skip
  all_goals rfl

/-- The two programs agree on the softmax of the sorted logits. -/
theorem softmax_eq (V : KV) (V' : RV)
    (h0 : ((V (Proc.devRef .tc KernelIdeal.main_v7)) : FVec Ideal ReferenceIdeal.S64x100000 .f32) = (V' (Proc.devRef .tc ReferenceIdeal.main_v40)))
    : (StableHlo.after (hostOps1_3 (F := Ideal)) V (Proc.devRef .tc KernelIdeal.main_v18) : FVec Ideal ReferenceIdeal.S64x100000 .f32)
      = StableHlo.after ops5 (StableHlo.after ops4 V') (Proc.devRef .tc ReferenceIdeal.main_v51) := by
  after_reads_simp
  first | rewrite [h0] | simp only [h0] | skip
  all_goals rfl

/-- The two programs agree on its running sums. -/
theorem cumsum_eq (V : KV) (V' : RV)
    (h0 : ((V (Proc.devRef .tc KernelIdeal.main_v18)) : FVec Ideal ReferenceIdeal.S64x100000 .f32) = (V' (Proc.devRef .tc ReferenceIdeal.main_v51)))
    : (StableHlo.after (hostOps1_4 (F := Ideal)) V (Proc.devRef .tc KernelIdeal.main_v19) : FVec Ideal ReferenceIdeal.S64x100000 .f32)
      = StableHlo.after ops6 V' (Proc.devRef .tc ReferenceIdeal.main_v52) := by
  after_reads_simp
  first | rewrite [h0] | simp only [h0] | skip
  all_goals rfl

/-- The two programs agree on which sorted places are cut. -/
theorem mask_eq (V : KV) (V' : RV)
    (h0 : ((V (Proc.devRef .tc KernelIdeal.main_v19)) : FVec Ideal ReferenceIdeal.S64x100000 .f32) = (V' (Proc.devRef .tc ReferenceIdeal.main_v52)))
    (h1 : ((V (Proc.devRef .tc KernelIdeal.main_v18)) : FVec Ideal ReferenceIdeal.S64x100000 .f32) = (V' (Proc.devRef .tc ReferenceIdeal.main_v51)))
    (h2 : ((V (Proc.devRef .tc KernelIdeal.main_arg7)) : FVec Ideal ReferenceIdeal.S64 .f32) = (V' (Proc.devRef .tc ReferenceIdeal.main_arg7)))
    (h3 : ((V (Proc.devRef .tc KernelIdeal.main_arg8)) : IVec ReferenceIdeal.S64 32) = (V' (Proc.devRef .tc ReferenceIdeal.main_arg8)))
    : (StableHlo.after (hostOps1_5 (F := Ideal)) V (Proc.devRef .tc KernelIdeal.main_v32) : IVec ReferenceIdeal.S64x100000 1)
      = StableHlo.after ops7 V' (Proc.devRef .tc ReferenceIdeal.main_v65) := by
  after_reads_simp
  first | rewrite [h0, h1, h2, h3] | simp only [h0, h1, h2, h3] | skip
  all_goals rfl

/-- The two programs agree on which sorted places are cut. -/
theorem mask_eq2 (V : KV) (V' : RV)
    (h0 : ((V (Proc.devRef .tc KernelIdeal.main_v19)) : FVec Ideal ReferenceIdeal.S64x100000 .f32) = (V' (Proc.devRef .tc ReferenceIdeal.main_v52)))
    (h1 : ((V (Proc.devRef .tc KernelIdeal.main_v18)) : FVec Ideal ReferenceIdeal.S64x100000 .f32) = (V' (Proc.devRef .tc ReferenceIdeal.main_v51)))
    (h2 : ((V (Proc.devRef .tc KernelIdeal.main_arg7)) : FVec Ideal ReferenceIdeal.S64 .f32) = (V' (Proc.devRef .tc ReferenceIdeal.main_arg7)))
    (h3 : ((V (Proc.devRef .tc KernelIdeal.main_arg8)) : IVec ReferenceIdeal.S64 32) = (V' (Proc.devRef .tc ReferenceIdeal.main_arg8)))
    : (StableHlo.after (hostOps1_5 (F := Ideal)) V (Proc.devRef .tc KernelIdeal.main_cst_2) : FVec Ideal ReferenceIdeal.S_ .f32)
      = StableHlo.after ops7 V' (Proc.devRef .tc ReferenceIdeal.main_cst_10) := by
  after_reads_simp
  first | rewrite [h0, h1, h2, h3] | simp only [h0, h1, h2, h3] | skip
  all_goals rfl

/-- The two programs agree on the sorted logits with the cut ones at -inf. -/
theorem where_eq (V : KV) (V' : RV)
    (h0 : ((V (Proc.devRef .tc KernelIdeal.main_cst_2)) : FVec Ideal ReferenceIdeal.S_ .f32) = (V' (Proc.devRef .tc ReferenceIdeal.main_cst_10)))
    (h1 : ((V (Proc.devRef .tc KernelIdeal.main_v32)) : IVec ReferenceIdeal.S64x100000 1) = (V' (Proc.devRef .tc ReferenceIdeal.main_v65)))
    (h2 : ((V (Proc.devRef .tc KernelIdeal.main_v7)) : FVec Ideal ReferenceIdeal.S64x100000 .f32) = (V' (Proc.devRef .tc ReferenceIdeal.main_v40)))
    : (StableHlo.after (hostOps1_6 (F := Ideal)) V (Proc.devRef .tc KernelIdeal.main_v33) : FVec Ideal ReferenceIdeal.S64x100000 .f32)
      = StableHlo.after ops8 V' (Proc.devRef .tc ReferenceIdeal.main_v66) := by
  after_reads_simp
  first | rewrite [h0, h1, h2] | simp only [h0, h1, h2] | skip
  all_goals rfl

/-- The two programs agree on the inverse of the order. -/
theorem inverse_eq (V : KV) (V' : RV)
    (h0 : ((V (Proc.devRef .tc KernelIdeal.main_v6)) : IVec ReferenceIdeal.S64x100000 32) = (V' (Proc.devRef .tc ReferenceIdeal.main_v39)))
    : (StableHlo.after (hostOps1_7 (F := Ideal)) V (Proc.devRef .tc KernelIdeal.main_v34) : IVec ReferenceIdeal.S64x100000 32)
      = StableHlo.after ops9 V' (Proc.devRef .tc ReferenceIdeal.main_v67) := by
  after_reads_simp
  first | rewrite [h0] | simp only [h0] | skip
  all_goals rfl

/-- The two programs agree on the cut logits in the order of the vocabulary. -/
theorem masked_eq (V : KV) (V' : RV)
    (h0 : ((V (Proc.devRef .tc KernelIdeal.main_v34)) : IVec ReferenceIdeal.S64x100000 32) = (V' (Proc.devRef .tc ReferenceIdeal.main_v67)))
    (h1 : ((V (Proc.devRef .tc KernelIdeal.main_v33)) : FVec Ideal ReferenceIdeal.S64x100000 .f32) = (V' (Proc.devRef .tc ReferenceIdeal.main_v66)))
    : (StableHlo.after (hostOps1_8 (F := Ideal)) V (Proc.devRef .tc KernelIdeal.main_v35) : FVec Ideal ReferenceIdeal.S64x100000 .f32)
      = StableHlo.after ops10 V' (Proc.devRef .tc ReferenceIdeal.main_v68) := by
  after_reads_simp
  first | rewrite [h0, h1] | simp only [h0, h1] | skip
  all_goals rfl

/-- The two programs agree on the random key. -/
theorem key_eq (V : KV) (V' : RV)
    : (StableHlo.after (hostOps4 (F := Ideal)) V (Proc.devRef .tc KernelIdeal.main_v50) : IVec ReferenceIdeal.S2 32)
      = StableHlo.after ops13 V' (Proc.devRef .tc ReferenceIdeal.main_v87) := by
  after_reads_simp
  all_goals rfl

/-- The two programs agree on the cut logits with the noise. -/
theorem noisy_eq (V : KV) (V' : RV)
    (h0 : ((V (Proc.devRef .tc KernelIdeal.main_v51)) : FVec Ideal ReferenceIdeal.S64x100000 .f32) = (V' (Proc.devRef .tc ReferenceIdeal.main_v88)))
    (h1 : ((V (Proc.devRef .tc KernelIdeal.main_v35)) : FVec Ideal ReferenceIdeal.S64x100000 .f32) = (V' (Proc.devRef .tc ReferenceIdeal.main_v68)))
    : (StableHlo.after (hostOps4_2 (F := Ideal)) V (Proc.devRef .tc KernelIdeal.main_v52) : FVec Ideal ReferenceIdeal.S64x100000 .f32)
      = StableHlo.after ops15 V' (Proc.devRef .tc ReferenceIdeal.main_v89) := by
  after_reads_simp
  first | rewrite [h0, h1] | simp only [h0, h1] | skip
  all_goals rfl

/-- The two programs agree on the drawn tokens. -/
theorem argmax_eq (V : KV) (V' : RV)
    (h0 : ((V (Proc.devRef .tc KernelIdeal.main_v52)) : FVec Ideal ReferenceIdeal.S64x100000 .f32) = (V' (Proc.devRef .tc ReferenceIdeal.main_v89)))
    : (StableHlo.after (hostOps4_3 (F := Ideal)) V (Proc.devRef .tc KernelIdeal.main_v53) : IVec ReferenceIdeal.S64 32)
      = StableHlo.after ops16 V' (Proc.devRef .tc ReferenceIdeal.main_v90) := by
  after_reads_simp
  first | rewrite [h0] | simp only [h0] | skip
  all_goals rfl

end Cert.Agree
-- ==== Proof.V.Noise.lean ====
/-
  The noise that the two programs add before drawing: the same key gives the same noise.
-/
module

public import proofs.«01_k».proof.Proof.V.Agree

@[expose] public section

set_option maxRecDepth 16384

noncomputable section

namespace Cert.Agree

open Idealize.ShloMosaic Idealize.ShloMosaic.TcCoe Idealize.ShloMosaic.Tactic
open Cert.KernelIdeal.Gen Cert.ReferenceIdeal.Hand

set_option maxHeartbeats 8000000 in
/-- The two programs agree on the noise. -/
theorem gumbel_eq (V : KV) (V' : RV)
    (h0 : ((V (Proc.devRef .tc KernelIdeal.main_v50)) : IVec ReferenceIdeal.S2 32) = (V' (Proc.devRef .tc ReferenceIdeal.main_v87)))
    : (StableHlo.after (hostOps4_1 (F := Ideal)) V (Proc.devRef .tc KernelIdeal.main_v51) : FVec Ideal ReferenceIdeal.S64x100000 .f32)
      = StableHlo.after ops14 V' (Proc.devRef .tc ReferenceIdeal.main_v88) := by
  after_reads_simp
  simp only [h0]
  all_goals rfl

end Cert.Agree
-- ==== Proof.KI.Fetch.lean ====
/-
  What each operand's buffer holds when a region's body runs, read at an element: the element of the array that the block is cut from.
-/
module

public import proofs.«01_k».proof.Proof.KI.Regions
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA

/-- Which block of its array window 1 of region 0 is at. -/
theorem index0_1 : ∀ t : Fin cfg0.N, win0_1.index t = ![t.val, 0] := by decide +kernel
/-- How much of the block lies inside the array. -/
theorem xsize0_1 : ∀ t : Fin cfg0.N, (cfg0.win 1).xsize (cfg0.grid.coords t) 0 = min 2048 (100000 - t.val * 2048) ∧ (cfg0.win 1).xsize (cfg0.grid.coords t) 1 = 1024 := by decide +kernel
set_option maxHeartbeats 4000000 in
/-- The fetched block at an element inside the array. -/
theorem fetched0_1 (W : Valuation τ sig (Elt Ideal)) (c : Dev nD) (x : S100000x1024.Idx → EReal) (hx : W (Proc.devRef .tc main_arg0) = x)
    (t : Fin cfg0.N) (d) (j : S2048x1024.Idx) (k : S100000x1024.Idx) (h0 : (k 0).val = t.val * 2048 + (j 0).val) (h1 : (k 1).val = (j 1).val) : (base0 W c).fetched 1 t d j = x k := by
  have hm : ∀ a, (j a).val < (cfg0.win 1).xsize (cfg0.grid.coords t) a := by
    have hk := (k 0).isLt
    have hj0 := (j 0).isLt
    have hj1 := (j 1).isLt
    intro a
    match a with
    | 0 =>
      rw [(xsize0_1 t).1]
      simp at hk hj0
      omega
    | 1 =>
      rw [(xsize0_1 t).2]
      simp at hk hj1
      omega
  refine ((cfg0.win 1).fill_xinj _ _ _ (fun a => ⟨(j a).val, hm a⟩)).trans ?_
  subst hx
  show W (Proc.devRef .tc main_arg0) _ = W (Proc.devRef .tc main_arg0) _
  congr 1
  funext a
  apply Fin.ext
  blk_simp [index0_1]
  match a with
  | 0 =>
    show t.val * 2048 + (j 0).val = (k 0).val
    omega
  | 1 =>
    show 0 * 1024 + (j 1).val = (k 1).val
    omega

/-- Which block of its array window 0 of region 1 is at. -/
theorem index1_0 : ∀ t : Fin cfg1.N, win1_0.index t = ![0, t.val] := by decide +kernel
/-- How much of the block lies inside the array. -/
theorem xsize1_0 : ∀ t : Fin cfg1.N, (cfg1.win 0).xsize (cfg1.grid.coords t) 0 = 64 ∧ (cfg1.win 0).xsize (cfg1.grid.coords t) 1 = min 2048 (100000 - t.val * 2048) := by decide +kernel
/-- The fetched block at an element inside the array. -/
theorem fetched1_0 (W : Valuation τ sig (Elt Ideal)) (c : Dev nD) (x : S64x100000.Idx → EReal) (hx : W (Proc.devRef .tc main_v35) = x)
    (t : Fin cfg1.N) (d) (j : S64x2048.Idx) (k : S64x100000.Idx) (h0 : (k 0).val = (j 0).val) (h1 : (k 1).val = t.val * 2048 + (j 1).val) : (base1 W c).fetched 0 t d j = x k := by
  have hm : ∀ a, (j a).val < (cfg1.win 0).xsize (cfg1.grid.coords t) a := by
    have hk := (k 1).isLt
    have hj0 := (j 0).isLt
    have hj1 := (j 1).isLt
    intro a
    match a with
    | 0 =>
      rw [(xsize1_0 t).1]
      simp at hk hj0
      omega
    | 1 =>
      rw [(xsize1_0 t).2]
      simp at hk hj1
      omega
  refine ((cfg1.win 0).fill_xinj _ _ _ (fun a => ⟨(j a).val, hm a⟩)).trans ?_
  subst hx
  show W (Proc.devRef .tc main_v35) _ = W (Proc.devRef .tc main_v35) _
  congr 1
  funext a
  apply Fin.ext
  blk_simp [index1_0]
  match a with
  | 0 =>
    show 0 * 64 + (j 0).val = (k 0).val
    omega
  | 1 =>
    show t.val * 2048 + (j 1).val = (k 1).val
    omega

/-- Which block of its array window 0 of region 2 is at. -/
theorem index2_0 : ∀ t : Fin cfg2.N, win2_0.index t = ![0, t.val] := by decide +kernel
/-- How much of the block lies inside the array. -/
theorem xsize2_0 : ∀ t : Fin cfg2.N, (cfg2.win 0).xsize (cfg2.grid.coords t) 0 = 64 ∧ (cfg2.win 0).xsize (cfg2.grid.coords t) 1 = min 2048 (100000 - t.val * 2048) := by decide +kernel
/-- The fetched block at an element inside the array. -/
theorem fetched2_0 (W : Valuation τ sig (Elt Ideal)) (c : Dev nD) (x : S64x100000.Idx → EReal) (hx : W (Proc.devRef .tc main_v35) = x)
    (t : Fin cfg2.N) (d) (j : S64x2048.Idx) (k : S64x100000.Idx) (h0 : (k 0).val = (j 0).val) (h1 : (k 1).val = t.val * 2048 + (j 1).val) : (base2 W c).fetched 0 t d j = x k := by
  have hm : ∀ a, (j a).val < (cfg2.win 0).xsize (cfg2.grid.coords t) a := by
    have hk := (k 1).isLt
    have hj0 := (j 0).isLt
    have hj1 := (j 1).isLt
    intro a
    match a with
    | 0 =>
      rw [(xsize2_0 t).1]
      simp at hk hj0
      omega
    | 1 =>
      rw [(xsize2_0 t).2]
      simp at hk hj1
      omega
  refine ((cfg2.win 0).fill_xinj _ _ _ (fun a => ⟨(j a).val, hm a⟩)).trans ?_
  subst hx
  show W (Proc.devRef .tc main_v35) _ = W (Proc.devRef .tc main_v35) _
  congr 1
  funext a
  apply Fin.ext
  blk_simp [index2_0]
  match a with
  | 0 =>
    show 0 * 64 + (j 0).val = (k 0).val
    omega
  | 1 =>
    show t.val * 2048 + (j 1).val = (k 1).val
    omega

/-- Which block of its array window 0 of region 3 is at. -/
theorem index3_0 : ∀ t : Fin cfg3.N, win3_0.index t = ![0, t.val] := by decide +kernel
/-- How much of the block lies inside the array. -/
theorem xsize3_0 : ∀ t : Fin cfg3.N, (cfg3.win 0).xsize (cfg3.grid.coords t) 0 = 64 ∧ (cfg3.win 0).xsize (cfg3.grid.coords t) 1 = min 2048 (100000 - t.val * 2048) := by decide +kernel
/-- The fetched block at an element inside the array. -/
theorem fetched3_0 (W : Valuation τ sig (Elt Ideal)) (c : Dev nD) (x : S64x100000.Idx → EReal) (hx : W (Proc.devRef .tc main_v35) = x)
    (t : Fin cfg3.N) (d) (j : S64x2048.Idx) (k : S64x100000.Idx) (h0 : (k 0).val = (j 0).val) (h1 : (k 1).val = t.val * 2048 + (j 1).val) : (base3 W c).fetched 0 t d j = x k := by
  have hm : ∀ a, (j a).val < (cfg3.win 0).xsize (cfg3.grid.coords t) a := by
    have hk := (k 1).isLt
    have hj0 := (j 0).isLt
    have hj1 := (j 1).isLt
    intro a
    match a with
    | 0 =>
      rw [(xsize3_0 t).1]
      simp at hk hj0
      omega
    | 1 =>
      rw [(xsize3_0 t).2]
      simp at hk hj1
      omega
  refine ((cfg3.win 0).fill_xinj _ _ _ (fun a => ⟨(j a).val, hm a⟩)).trans ?_
  subst hx
  show W (Proc.devRef .tc main_v35) _ = W (Proc.devRef .tc main_v35) _
  congr 1
  funext a
  apply Fin.ext
  blk_simp [index3_0]
  match a with
  | 0 =>
    show 0 * 64 + (j 0).val = (k 0).val
    omega
  | 1 =>
    show t.val * 2048 + (j 1).val = (k 1).val
    omega

/-- Which block of its array window 0 of region 0 is at: the one that is the whole array. -/
theorem index0_0 : ∀ t : Fin cfg0.N, win0_0.index t = ![0, 0] := by decide +kernel
/-- The fetched block is the array. -/
theorem fetched0_0 (W : Valuation τ sig (Elt Ideal)) (c : Dev nD) (x : S64x1024.Idx → EReal) (hx : W (Proc.devRef .tc main_v0) = x)
    (t : Fin cfg0.N) (d) : (base0 W c).fetched 0 t d = x := by
  funext (j : S64x1024.Idx)
  refine ((cfg0.win 0).fill_xinj _ _ _ j).trans ?_
  subst hx
  show W (Proc.devRef .tc main_v0) _ = W (Proc.devRef .tc main_v0) _
  congr 1
  funext a
  apply Fin.ext
  blk_simp [index0_0]
  match a with
  | 0 =>
    show 0 * 64 + (j 0).val = (j 0).val
    omega
  | 1 =>
    show 0 * 1024 + (j 1).val = (j 1).val
    omega

/-- Which block of its array window 2 of region 0 is at: the one that is the whole array. -/
theorem index0_2 : ∀ t : Fin cfg0.N, win0_2.index t = ![0, 0] := by decide +kernel
/-- The fetched block is the array. -/
theorem fetched0_2 (W : Valuation τ sig (Elt Ideal)) (c : Dev nD) (x : S64x50.Idx → BitVec 32) (hx : W (Proc.devRef .tc main_arg3) = x)
    (t : Fin cfg0.N) (d) : (base0 W c).fetched 2 t d = x := by
  funext (j : S64x50.Idx)
  refine ((cfg0.win 2).fill_xinj _ _ _ j).trans ?_
  subst hx
  show W (Proc.devRef .tc main_arg3) _ = W (Proc.devRef .tc main_arg3) _
  congr 1
  funext a
  apply Fin.ext
  blk_simp [index0_2]
  match a with
  | 0 =>
    show 0 * 64 + (j 0).val = (j 0).val
    omega
  | 1 =>
    show 0 * 50 + (j 1).val = (j 1).val
    omega

/-- Which block of its array window 3 of region 0 is at: the one that is the whole array. -/
theorem index0_3 : ∀ t : Fin cfg0.N, win0_3.index t = ![0, 0] := by decide +kernel
/-- The fetched block is the array. -/
theorem fetched0_3 (W : Valuation τ sig (Elt Ideal)) (c : Dev nD) (x : S64x1.Idx → EReal) (hx : W (Proc.devRef .tc main_v1) = x)
    (t : Fin cfg0.N) (d) : (base0 W c).fetched 3 t d = x := by
  funext (j : S64x1.Idx)
  refine ((cfg0.win 3).fill_xinj _ _ _ j).trans ?_
  subst hx
  show W (Proc.devRef .tc main_v1) _ = W (Proc.devRef .tc main_v1) _
  congr 1
  funext a
  apply Fin.ext
  blk_simp [index0_3]
  match a with
  | 0 =>
    show 0 * 64 + (j 0).val = (j 0).val
    omega
  | 1 =>
    show 0 * 1 + (j 1).val = (j 1).val
    omega

/-- Which block of its array window 4 of region 0 is at: the one that is the whole array. -/
theorem index0_4 : ∀ t : Fin cfg0.N, win0_4.index t = ![0, 0] := by decide +kernel
/-- The fetched block is the array. -/
theorem fetched0_4 (W : Valuation τ sig (Elt Ideal)) (c : Dev nD) (x : S64x1.Idx → EReal) (hx : W (Proc.devRef .tc main_v2) = x)
    (t : Fin cfg0.N) (d) : (base0 W c).fetched 4 t d = x := by
  funext (j : S64x1.Idx)
  refine ((cfg0.win 4).fill_xinj _ _ _ j).trans ?_
  subst hx
  show W (Proc.devRef .tc main_v2) _ = W (Proc.devRef .tc main_v2) _
  congr 1
  funext a
  apply Fin.ext
  blk_simp [index0_4]
  match a with
  | 0 =>
    show 0 * 64 + (j 0).val = (j 0).val
    omega
  | 1 =>
    show 0 * 1 + (j 1).val = (j 1).val
    omega

/-- Which block of its array window 5 of region 0 is at: the one that is the whole array. -/
theorem index0_5 : ∀ t : Fin cfg0.N, win0_5.index t = ![0, 0] := by decide +kernel
/-- The fetched block is the array. -/
theorem fetched0_5 (W : Valuation τ sig (Elt Ideal)) (c : Dev nD) (x : S64x1.Idx → EReal) (hx : W (Proc.devRef .tc main_v3) = x)
    (t : Fin cfg0.N) (d) : (base0 W c).fetched 5 t d = x := by
  funext (j : S64x1.Idx)
  refine ((cfg0.win 5).fill_xinj _ _ _ j).trans ?_
  subst hx
  show W (Proc.devRef .tc main_v3) _ = W (Proc.devRef .tc main_v3) _
  congr 1
  funext a
  apply Fin.ext
  blk_simp [index0_5]
  match a with
  | 0 =>
    show 0 * 64 + (j 0).val = (j 0).val
    omega
  | 1 =>
    show 0 * 1 + (j 1).val = (j 1).val
    omega

/-- Which block of its array window 1 of region 2 is at: the one that is the whole array. -/
theorem index2_1 : ∀ t : Fin cfg2.N, win2_1.index t = ![0, 0] := by decide +kernel
/-- The fetched block is the array. -/
theorem fetched2_1 (W : Valuation τ sig (Elt Ideal)) (c : Dev nD) (x : S64x1.Idx → EReal) (hx : W (Proc.devRef .tc main_v38) = x)
    (t : Fin cfg2.N) (d) : (base2 W c).fetched 1 t d = x := by
  funext (j : S64x1.Idx)
  refine ((cfg2.win 1).fill_xinj _ _ _ j).trans ?_
  subst hx
  show W (Proc.devRef .tc main_v38) _ = W (Proc.devRef .tc main_v38) _
  congr 1
  funext a
  apply Fin.ext
  blk_simp [index2_1]
  match a with
  | 0 =>
    show 0 * 64 + (j 0).val = (j 0).val
    omega
  | 1 =>
    show 0 * 1 + (j 1).val = (j 1).val
    omega

/-- Which block of its array window 1 of region 3 is at: the one that is the whole array. -/
theorem index3_1 : ∀ t : Fin cfg3.N, win3_1.index t = ![0, 0] := by decide +kernel
/-- The fetched block is the array. -/
theorem fetched3_1 (W : Valuation τ sig (Elt Ideal)) (c : Dev nD) (x : S64x1.Idx → EReal) (hx : W (Proc.devRef .tc main_v38) = x)
    (t : Fin cfg3.N) (d) : (base3 W c).fetched 1 t d = x := by
  funext (j : S64x1.Idx)
  refine ((cfg3.win 1).fill_xinj _ _ _ j).trans ?_
  subst hx
  show W (Proc.devRef .tc main_v38) _ = W (Proc.devRef .tc main_v38) _
  congr 1
  funext a
  apply Fin.ext
  blk_simp [index3_1]
  match a with
  | 0 =>
    show 0 * 64 + (j 0).val = (j 0).val
    omega
  | 1 =>
    show 0 * 1 + (j 1).val = (j 1).val
    omega

/-- Which block of its array window 2 of region 3 is at: the one that is the whole array. -/
theorem index3_2 : ∀ t : Fin cfg3.N, win3_2.index t = ![0, 0] := by decide +kernel
/-- The fetched block is the array. -/
theorem fetched3_2 (W : Valuation τ sig (Elt Ideal)) (c : Dev nD) (x : S64x1.Idx → EReal) (hx : W (Proc.devRef .tc main_v42) = x)
    (t : Fin cfg3.N) (d) : (base3 W c).fetched 2 t d = x := by
  funext (j : S64x1.Idx)
  refine ((cfg3.win 2).fill_xinj _ _ _ j).trans ?_
  subst hx
  show W (Proc.devRef .tc main_v42) _ = W (Proc.devRef .tc main_v42) _
  congr 1
  funext a
  apply Fin.ext
  blk_simp [index3_2]
  match a with
  | 0 =>
    show 0 * 64 + (j 0).val = (j 0).val
    omega
  | 1 =>
    show 0 * 1 + (j 1).val = (j 1).val
    omega

/-- Which block of its array window 6 of region 0 is at. -/
theorem index0_6 : ∀ t : Fin cfg0.N, win0_6.index t = ![0, t.val] := by decide +kernel
/-- Where an element of the block lies in the array: the same row, -/
theorem emb0_6_0 (t : Fin cfg0.N) (y : ((cfg0.win 6).xblock (cfg0.grid.coords t)).Idx) : (((cfg0.win 6).blk t).view.emb y 0).val = (y 0).val := by
  blk_simp [index0_6]
/-- and the column counted from the block's first. -/
theorem emb0_6_1 (t : Fin cfg0.N) (y : ((cfg0.win 6).xblock (cfg0.grid.coords t)).Idx) : (((cfg0.win 6).blk t).view.emb y 1).val = t.val * 2048 + (y 1).val := by
  blk_simp [index0_6]

/-- Which block of its array window 3 of region 3 is at. -/
theorem index3_3 : ∀ t : Fin cfg3.N, win3_3.index t = ![0, t.val] := by decide +kernel
/-- Where an element of the block lies in the array: the same row, -/
theorem emb3_3_0 (t : Fin cfg3.N) (y : ((cfg3.win 3).xblock (cfg3.grid.coords t)).Idx) : (((cfg3.win 3).blk t).view.emb y 0).val = (y 0).val := by
  blk_simp [index3_3]
/-- and the column counted from the block's first. -/
theorem emb3_3_1 (t : Fin cfg3.N) (y : ((cfg3.win 3).xblock (cfg3.grid.coords t)).Idx) : (((cfg3.win 3).blk t).view.emb y 1).val = t.val * 2048 + (y 1).val := by
  blk_simp [index3_3]

/-- Which block of its array window 4 of region 3 is at. -/
theorem index3_4 : ∀ t : Fin cfg3.N, win3_4.index t = ![0, t.val] := by decide +kernel
/-- Where an element of the block lies in the array: the same row, -/
theorem emb3_4_0 (t : Fin cfg3.N) (y : ((cfg3.win 4).xblock (cfg3.grid.coords t)).Idx) : (((cfg3.win 4).blk t).view.emb y 0).val = (y 0).val := by
  blk_simp [index3_4]
/-- and the column counted from the block's first. -/
theorem emb3_4_1 (t : Fin cfg3.N) (y : ((cfg3.win 4).xblock (cfg3.grid.coords t)).Idx) : (((cfg3.win 4).blk t).view.emb y 1).val = t.val * 2048 + (y 1).val := by
  blk_simp [index3_4]

end Cert.KernelIdeal.Hand
-- ==== Proof.Exit.lean ====
/-
  What a region's array holds at its end, element by element, from what the body may leave at each write-back.
-/
module

public import Idealize.ShloMosaic.Lib.Pipeline.ArrRel

@[expose] public section

noncomputable section

namespace Cert.Proof.Rel

open Idealize.ShloMosaic Idealize.ShloMosaic.TcCoe Idealize.ShloMosaic.Pipeline
open Idealize.SL Idealize.SL.RA

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD} {rd : RDat τ Val Ix Name U Lvl cfg c} [∀ e, Nonempty (Val e)]

/-- A property that every written-back element has, every element of a covered array has at the end. -/
theorem arrAt_forall {w : Fin cfg.W} {G : Buf Val ((cfg.win w).arr.view.loc (c.tc : Thread nD τ))} (hG : rd.ArrAt w cfg.N G)
    (P : ((cfg.win w).arr.view.loc (c.tc : Thread nD τ)).2.ty.Idx → Val ((cfg.win w).arr.view.loc (c.tc : Thread nD τ)).2.ty.elt → Prop)
    (hcov : (cfg.win w).Covers)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) (X ((cfg.win w).xinj (cfg.grid.coords t) y))))
    (harr : (cfg.win w).arr.IsWhole := by first | exact Memref.isWhole_whole _ | assumption)
    (i : ((cfg.win w).arr.view.loc (c.tc : Thread nD τ)).2.ty.Idx) : P i (G i) := by
  obtain ⟨X, hX, hA⟩ := hG.exists_exact
  have e := hA (Function.update (fun _ _ _ => Classical.arbitrary _) w X) (fun u _ _ => by rw [Function.update_self])
  rw [e]
  refine Dat.arrAt_forall_of_covers (rd.withAfter _) w P hcov (fun t hf y => ?_) i harr
  rw [RDat.withAfter_after, Function.update_self]
  exact hP t hf (X t) (hX t t.isLt hf) y

end Cert.Proof.Rel
-- ==== Proof.KI.Max.lean ====
/-
  What the region of the block maxima leaves: for each row and each block of columns, the greatest logit of the block.
-/
module

public import proofs.«01_k».proof.Proof.KI.Fetch
public import proofs.«01_k».proof.Proof.Exit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (RDat Cfg Window)
open Cert.Proof.Rel

/-- The words of two small numbers are equal exactly when the numbers are. -/
theorem eq_word {α : Type} (a b : ℕ) (ha : a < 2 ^ 32) (hb : b < 2 ^ 32) (x y : α) :
    Scalar.select (IntOp.cmpi .eq (BitVec.ofNat 32 a) (BitVec.ofNat 32 b)) x y = if a = b then x else y := by
  unfold Scalar.select IntOp.cmpi
  by_cases h : a = b
  · subst h; simp
  · have : (BitVec.ofNat 32 a == BitVec.ofNat 32 b) = false := by
      rw [beq_eq_false_iff_ne]
      intro e
      have := congrArg BitVec.toNat e
      rw [BitVec.toNat_ofNat, BitVec.toNat_ofNat, Nat.mod_eq_of_lt ha, Nat.mod_eq_of_lt hb] at this
      exact h this
    simp [this, h]

/-- A column's number, computed in words, is less than the number of columns exactly when it is as a number. -/
theorem lt_word {α : Type} (a q : ℕ) (ha : a < 49) (hq : q < 2048) (x y : α) :
    Scalar.select (IntOp.cmpi .slt (IntOp.addi (Scalar.muli (BitVec.ofNat 32 a) 2048#32) (BitVec.ofNat 32 q)) 100000#32) x y
      = if a * 2048 + q < 100000 then x else y := by
  have e : IntOp.addi (Scalar.muli (BitVec.ofNat 32 a) 2048#32) (BitVec.ofNat 32 q) = BitVec.ofNat 32 (a * 2048 + q) := by
    show BitVec.ofNat 32 a * 2048#32 + BitVec.ofNat 32 q = _
    apply BitVec.eq_of_toNat_eq
    simp [BitVec.toNat_add, BitVec.toNat_mul]
  have hs : (BitVec.ofNat 32 (a * 2048 + q)).slt 100000#32 = decide (a * 2048 + q < 100000) := by
    rw [BitVec.slt_eq_decide, BitVec.toInt_eq_toNat_cond, BitVec.toNat_ofNat, Nat.mod_eq_of_lt (by omega), if_pos (by omega)]
    rw [show (100000#32 : BitVec 32).toInt = 100000 from by decide]
    exact decide_eq_decide.2 (by omega)
  unfold Scalar.select IntOp.cmpi
  rw [e]
  simp only [hs]
  by_cases h : a * 2048 + q < 100000 <;> simp [h]

/-- The word of minus infinity. -/
theorem ofBits_bot : Ideal.ofBits .f32 0xFF800000#32 = ⊥ := by
  rfl

/-- One run of the body at a lane: the lane of the grid point takes the greatest logit of the block, the others keep what they hold. -/
theorem max_block (i : grid1.Coords) (v : FVec Ideal S64x2048 .f32) (acc : FVec Ideal S64x49 .f32) (b : Fin 64) (s : Fin 49) :
    (k1_pay2 (F := Ideal) i v acc (ix2 b s) : EReal) = if s.val = (i 0).val then Finset.univ.fold max ⊥ (fun q : Fin 2048 => if (i 0).val * 2048 + q.val < 100000 then v (ix2 b q) else ⊥) else acc (ix2 b s) := by
  pointwise [k1_pay2]
  have hi : (i 0).val < 49 := (i 0).isLt
  have hs : s.val < 49 := s.isLt
  rw [eq_word _ _ (by omega) (by omega), ofBits_bot]
  simp only [lt_word _ _ hi (Fin.isLt _)]
  rfl

/-- The greatest logit of a block of columns, the columns beyond the array left out. -/
def blockMax (x : S64x100000.Idx → EReal) (b : Fin 64) (s : ℕ) : EReal :=
  Finset.univ.fold max ⊥ (fun q : Fin 2048 => if h : s * 2048 + q.val < 100000 then x (ix2 b ⟨s * 2048 + q.val, h⟩) else ⊥)

/-- The grid point is its number. -/
theorem coords1 : ∀ t : Fin cfg1.N, ((grid1.coords t) 0).val = t.val := by decide +kernel

/-- One run of the body on a fetched block: the point's lane takes its block's maximum. -/
theorem max_step (W : Valuation τ sig (Elt Ideal)) (c : Dev nD) (x : S64x100000.Idx → EReal) (hx : W (Proc.devRef .tc main_v35) = x)
    (t : Fin cfg1.N) (d) (acc : FVec Ideal S64x49 .f32) (b : Fin 64) (s : Fin 49) :
    (k1_pay2 (F := Ideal) (grid1.coords t) ((base1 W c).fetched 0 t d) acc (ix2 b s) : EReal) = if s.val = t.val then blockMax x b s.val else acc (ix2 b s) := by
  refine (max_block (grid1.coords t) ((base1 W c).fetched 0 t d) acc b s).trans ?_
  rw [coords1 t]
  by_cases h : s.val = t.val
  · rw [if_pos h, if_pos h, h]
    unfold blockMax
    congr 1
    funext q
    by_cases hq : t.val * 2048 + q.val < 100000
    · rw [if_pos hq, dif_pos hq]
      exact fetched1_0 W c x hx t d (ix2 b q) (ix2 b ⟨t.val * 2048 + q.val, hq⟩) rfl rfl
    · rw [if_neg hq, dif_neg hq]
  · rw [if_neg h, if_neg h]

/-- What the body may leave after a point: the lanes up to the point's hold their blocks' maxima. -/
theorem leaves_max (W : Valuation τ sig (Elt Ideal)) (c : Dev nD) (x : S64x100000.Idx → EReal) (hx : W (Proc.devRef .tc main_v35) = x) :
    ∀ (n : ℕ) (hn : n < cfg1.N) (X : S64x49.Idx → EReal), (rd1 W c).Leaves 1 ⟨n, hn⟩ X → ∀ (b : Fin 64) (s : Fin 49), s.val ≤ n → X (ix2 b s) = blockMax x b s.val := by
  intro n
  induction n with
  | zero =>
    intro hn X hX b s hs
    obtain ⟨Y, hY, d0, hX⟩ := hX
    rw [hX]
    refine (max_step W c x hx ⟨0, hn⟩ d0 _ b s).trans ?_
    rw [if_pos (Nat.le_zero.1 hs)]
  | succ n ih =>
    intro hn X hX b s hs
    obtain ⟨Y, hY, d0, hX⟩ := hX
    rw [hX]
    refine (max_step W c x hx ⟨n + 1, hn⟩ d0 _ b s).trans ?_
    by_cases h : s.val = n + 1
    · rw [if_pos h]
    · rw [if_neg h, if_neg (Nat.succ_ne_zero n)]
      have hY' := ((rd1 W c).finds_of_pos (w := 1) (t := ⟨n + 1, hn⟩) rfl (Nat.succ_ne_zero n) Y).1 hY
      refine ih (Nat.lt_of_succ_lt hn) Y (hY'.resolve_left ?_) b s (by omega)
      intro hf
      have := (flush1_1 ⟨n, Nat.lt_of_succ_lt hn⟩).1 hf
      have hN : n + 1 < 49 := hn
      simp at this
      omega

/-- The last grid point. -/
def last1 : Fin cfg1.N := ⟨48, by decide⟩
/-- The maxima are written back once, whole, after the last point. -/
theorem last1_whole : (cfg1.win 1).WholeAt last1 := by decide +kernel

/-- The block maxima after the region. -/
theorem maxes_at (W : Valuation τ sig (Elt Ideal)) (c : Dev nD) (x : S64x100000.Idx → EReal) (hx : W (Proc.devRef .tc main_v35) = x)
    (G : S64x49.Idx → EReal) (h : (rd1 W c).ArrAt 1 cfg1.N G) (b : Fin 64) (s : Fin 49) : G (ix2 b s) = blockMax x b s.val := by
  obtain ⟨X, hX, hA⟩ := RDat.ArrAt.emb_eq_of_wholeAt h last1_whole
  refine (hA (ix2 b s)).trans ?_
  exact leaves_max W c x hx 48 (by decide) X hX b s (by omega)

end Cert.KernelIdeal.Hand
-- ==== Proof.KI.Logits.lean ====
/-
  What the region of the logits leaves: the row's product with the embedding, less the two penalties of the number of times the token was put out, over the temperature.
-/
module

public import proofs.«01_k».proof.Proof.KI.Max

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (RDat Cfg Window)
open Cert.Proof.Rel

/-- One for a token that is the column's, zero for any other. -/
def hit (a c : BitVec 32) : EReal := FloatOps.sitofp (F := Ideal) FTy.f32 (BitVec.setWidth 32 (IntOp.cmpi .eq a c))

/-- A logit from its product, its penalties, its temperature and its count. -/
def penalised (dot fp pp t n : EReal) : EReal :=
  Ideal.div (dot - fp * n - pp * FloatOps.sitofp (F := Ideal) FTy.f32 (BitVec.setWidth 32 (BitVec.ofBool (decide (0 < n))))) (max t (Ideal.ofBits FTy.f32 981668463#32))

/-- The word of a column of the block. -/
theorem column_word (i : grid0.Coords) (q : Fin 2048) : k0_pay3 i (ix2 0 q) = BitVec.ofNat 32 ((i 0).val * 2048 + q.val) := by
  pointwise [k0_pay3]
  have hi : (i 0).val < 49 := (i 0).isLt
  have hq := q.isLt
  apply BitVec.eq_of_toNat_eq
  show (BitVec.ofNat 32 (i 0).val * 2048#32 + BitVec.ofNat 32 q.val).toNat = _
  rw [BitVec.toNat_add, BitVec.toNat_mul, BitVec.toNat_ofNat, BitVec.toNat_ofNat, BitVec.toNat_ofNat, BitVec.toNat_ofNat]
  omega

/-- The product of the block. -/
theorem dot_block (v0 : FVec Ideal S64x1024 .f32) (v2 : FVec Ideal S2048x1024 .f32) (b : Fin 64) (q : Fin 2048) :
    (k0_pay2 (F := Ideal) v0 v2 (ix2 b q) : EReal) = ∑ k : Fin 1024, v0 (ix2 b k) * v2 (ix2 q k) := by
  pointwise [k0_pay2]

/-- The first five tokens counted. -/
theorem count4 (i : grid0.Coords) (v8 : IVec S64x50 32) (b : Fin 64) (q : Fin 2048) :
    (k0_pay4 (F := Ideal) i v8 (ix2 b q) : EReal) = hit (v8 (ix2 b 0)) (k0_pay3 i (ix2 0 q)) + hit (v8 (ix2 b 1)) (k0_pay3 i (ix2 0 q)) + hit (v8 (ix2 b 2)) (k0_pay3 i (ix2 0 q)) + hit (v8 (ix2 b 3)) (k0_pay3 i (ix2 0 q)) + hit (v8 (ix2 b 4)) (k0_pay3 i (ix2 0 q)) := by
  pointwise [k0_pay4, k0_pay3]
  rfl

/-- The sixth token's word. -/
theorem count5 (i : grid0.Coords) (v8 : IVec S64x50 32) (b : Fin 64) (q : Fin 2048) :
    (FloatOps.sitofp (F := Ideal) FTy.f32 (k0_pay5 (F := Ideal) i v8 (ix2 b q)) : EReal) = hit (v8 (ix2 b 5)) (k0_pay3 i (ix2 0 q)) := by
  pointwise [k0_pay5, k0_pay3]
  rfl

/-- The tokens up to the fourteenth counted. -/
theorem count6 (v7 : IVec S1x2048 32) (v8 : IVec S64x50 32) (a : FVec Ideal S64x2048 .f32) (w : IVec S64x2048 32) (b : Fin 64) (q : Fin 2048) :
    (k0_pay6 (F := Ideal) v7 v8 a w (ix2 b q) : EReal) = a (ix2 b q) + FloatOps.sitofp (F := Ideal) FTy.f32 (w (ix2 b q)) + hit (v8 (ix2 b 6)) (v7 (ix2 0 q)) + hit (v8 (ix2 b 7)) (v7 (ix2 0 q)) + hit (v8 (ix2 b 8)) (v7 (ix2 0 q)) + hit (v8 (ix2 b 9)) (v7 (ix2 0 q)) + hit (v8 (ix2 b 10)) (v7 (ix2 0 q)) + hit (v8 (ix2 b 11)) (v7 (ix2 0 q)) + hit (v8 (ix2 b 12)) (v7 (ix2 0 q)) + hit (v8 (ix2 b 13)) (v7 (ix2 0 q)) := by
  pointwise [k0_pay6]
  rfl

/-- The tokens up to the twenty-second counted. -/
theorem count8 (v7 : IVec S1x2048 32) (v8 : IVec S64x50 32) (a : FVec Ideal S64x2048 .f32) (b : Fin 64) (q : Fin 2048) :
    (k0_pay8 (F := Ideal) v7 v8 a (k0_pay7 (F := Ideal) v8) (ix2 b q) : EReal) = a (ix2 b q) + hit (v8 (ix2 b 14)) (v7 (ix2 0 q)) + hit (v8 (ix2 b 15)) (v7 (ix2 0 q)) + hit (v8 (ix2 b 16)) (v7 (ix2 0 q)) + hit (v8 (ix2 b 17)) (v7 (ix2 0 q)) + hit (v8 (ix2 b 18)) (v7 (ix2 0 q)) + hit (v8 (ix2 b 19)) (v7 (ix2 0 q)) + hit (v8 (ix2 b 20)) (v7 (ix2 0 q)) + hit (v8 (ix2 b 21)) (v7 (ix2 0 q)) := by
  pointwise [k0_pay8, k0_pay7]
  rfl

/-- The tokens up to the thirty-first counted. -/
theorem count10 (v7 : IVec S1x2048 32) (v8 : IVec S64x50 32) (a : FVec Ideal S64x2048 .f32) (b : Fin 64) (q : Fin 2048) :
    (k0_pay10 (F := Ideal) v7 v8 a (k0_pay9 v7 v8) (ix2 b q) : EReal) = a (ix2 b q) + hit (v8 (ix2 b 22)) (v7 (ix2 0 q)) + hit (v8 (ix2 b 23)) (v7 (ix2 0 q)) + hit (v8 (ix2 b 24)) (v7 (ix2 0 q)) + hit (v8 (ix2 b 25)) (v7 (ix2 0 q)) + hit (v8 (ix2 b 26)) (v7 (ix2 0 q)) + hit (v8 (ix2 b 27)) (v7 (ix2 0 q)) + hit (v8 (ix2 b 28)) (v7 (ix2 0 q)) + hit (v8 (ix2 b 29)) (v7 (ix2 0 q)) + hit (v8 (ix2 b 30)) (v7 (ix2 0 q)) := by
  pointwise [k0_pay10, k0_pay9]
  rfl

/-- The tokens up to the fortieth counted. -/
theorem count13 (v7 : IVec S1x2048 32) (v8 : IVec S64x50 32) (a : FVec Ideal S64x2048 .f32) (b : Fin 64) (q : Fin 2048) :
    (k0_pay13 (F := Ideal) v7 v8 a (k0_pay11 (F := Ideal) v8) (k0_pay12 v7) (ix2 b q) : EReal) = a (ix2 b q) + hit (v8 (ix2 b 31)) (v7 (ix2 0 q)) + hit (v8 (ix2 b 32)) (v7 (ix2 0 q)) + hit (v8 (ix2 b 33)) (v7 (ix2 0 q)) + hit (v8 (ix2 b 34)) (v7 (ix2 0 q)) + hit (v8 (ix2 b 35)) (v7 (ix2 0 q)) + hit (v8 (ix2 b 36)) (v7 (ix2 0 q)) + hit (v8 (ix2 b 37)) (v7 (ix2 0 q)) + hit (v8 (ix2 b 38)) (v7 (ix2 0 q)) + hit (v8 (ix2 b 39)) (v7 (ix2 0 q)) := by
  pointwise [k0_pay13, k0_pay11, k0_pay12]
  rfl

/-- The tokens up to the forty-eighth counted. -/
theorem count14 (v7 : IVec S1x2048 32) (v8 : IVec S64x50 32) (a : FVec Ideal S64x2048 .f32) (b : Fin 64) (q : Fin 2048) :
    (k0_pay14 (F := Ideal) v7 v8 a (ix2 b q) : EReal) = a (ix2 b q) + hit (v8 (ix2 b 40)) (v7 (ix2 0 q)) + hit (v8 (ix2 b 41)) (v7 (ix2 0 q)) + hit (v8 (ix2 b 42)) (v7 (ix2 0 q)) + hit (v8 (ix2 b 43)) (v7 (ix2 0 q)) + hit (v8 (ix2 b 44)) (v7 (ix2 0 q)) + hit (v8 (ix2 b 45)) (v7 (ix2 0 q)) + hit (v8 (ix2 b 46)) (v7 (ix2 0 q)) + hit (v8 (ix2 b 47)) (v7 (ix2 0 q)) := by
  pointwise [k0_pay14]
  rfl

/-- The last two tokens counted and the logit made. -/
theorem penal1 (v3 : FVec Ideal S64x2048 .f32) (v7 : IVec S1x2048 32) (v8 : IVec S64x50 32) (a : FVec Ideal S64x2048 .f32) (fp pp t : FVec Ideal S64x1 .f32) (b : Fin 64) (q : Fin 2048) :
    (k0_pay1 (F := Ideal) v3 v7 v8 a (k0_pay15 (F := Ideal) v7 v8) fp pp t (ix2 b q) : EReal) =
      penalised (v3 (ix2 b q)) (fp (ix2 b 0)) (pp (ix2 b 0)) (t (ix2 b 0)) (a (ix2 b q) + hit (v8 (ix2 b 48)) (v7 (ix2 0 q)) + hit (v8 (ix2 b 49)) (v7 (ix2 0 q))) := by
  pointwise [k0_pay1, k0_pay15]
  rfl

/-- How many of a row's tokens are the column's. -/
def count (tok : IVec S64x50 32) (b : Fin 64) (c : BitVec 32) : EReal := ∑ h : Fin 50, hit (tok (ix2 b h)) c

/-- One block of the logits at an element. -/
theorem logit_block (i : grid0.Coords) (X0 : FVec Ideal S64x1024 .f32) (X1 : FVec Ideal S2048x1024 .f32) (X2 : IVec S64x50 32) (X3 X4 X5 : FVec Ideal S64x1 .f32) (b : Fin 64) (q : Fin 2048) :
    (logitBlock (F := Ideal) i X0 X1 X2 X3 X4 X5 (ix2 b q) : EReal) =
      penalised (∑ k : Fin 1024, X0 (ix2 b k) * X1 (ix2 q k)) (X3 (ix2 b 0)) (X4 (ix2 b 0)) (X5 (ix2 b 0)) (count X2 b (BitVec.ofNat 32 ((i 0).val * 2048 + q.val))) := by
  unfold logitBlock
  refine (penal1 _ _ _ _ _ _ _ b q).trans ?_
  rw [dot_block, count14, count13, count10, count8, count6, count4, count5, column_word]
  unfold count
  congr 1
  rw [Fin.sum_univ_def]
  simp only [List.finRange_succ, List.finRange_zero, List.map_cons, List.map_nil, List.sum_cons, List.sum_nil, add_zero, ← add_assoc]
  rfl

/-- The logit of a row and a column, from the arrays. -/
def logitAt (hs : S64x1024.Idx → EReal) (emb : S100000x1024.Idx → EReal) (tok : S64x50.Idx → BitVec 32) (fp pp t : S64x1.Idx → EReal) (i : S64x100000.Idx) : EReal :=
  penalised (∑ k : Fin 1024, hs (ix2 (i 0) k) * emb (ix2 (i 1) k)) (fp (ix2 (i 0) 0)) (pp (ix2 (i 0) 0)) (t (ix2 (i 0) 0)) (count tok (i 0) (BitVec.ofNat 32 (i 1).val))

/-- The grid point is its number. -/
theorem coords0 : ∀ t : Fin cfg0.N, ((grid0.coords t) 0).val = t.val := by decide +kernel

/-- The logits after the region. -/
theorem logits_at (W : Valuation τ sig (Elt Ideal)) (c : Dev nD)
    (hs : S64x1024.Idx → EReal) (emb : S100000x1024.Idx → EReal) (tok : S64x50.Idx → BitVec 32) (fp pp tt : S64x1.Idx → EReal)
    (hhs : W (Proc.devRef .tc main_v0) = hs) (hemb : W (Proc.devRef .tc main_arg0) = emb) (htok : W (Proc.devRef .tc main_arg3) = tok)
    (hfp : W (Proc.devRef .tc main_v1) = fp) (hpp : W (Proc.devRef .tc main_v2) = pp) (ht : W (Proc.devRef .tc main_v3) = tt)
    (G : S64x100000.Idx → EReal) (h : (rd0 W c).ArrAt 6 cfg0.N G) (i : S64x100000.Idx) : G i = logitAt hs emb tok fp pp tt i := by
  refine arrAt_forall h (fun (i : S64x100000.Idx) (g : EReal) => g = logitAt hs emb tok fp pp tt i) (by decide +kernel) ?_ (Memref.isWhole_whole _) i
  intro t hf X hX y
  obtain ⟨Y, -, d0, d1, d2, d3, d4, d5, rfl⟩ := hX
  rw [fetched0_0 W c hs hhs t d0, fetched0_2 W c tok htok t d2, fetched0_3 W c fp hfp t d3, fetched0_4 W c pp hpp t d4, fetched0_5 W c tt ht t d5]
  have e0 := emb0_6_0 t y
  have e1 := emb0_6_1 t y
  generalize ((cfg0.win 6).blk t).view.emb y = k at e0 e1 ⊢
  obtain ⟨b, q, hy, hb, hq⟩ : ∃ (b : Fin 64) (q : Fin 2048), ((cfg0.win 6).xinj (cfg0.grid.coords t) y : S64x2048.Idx) = ix2 b q ∧ b = (k 0 : Fin 64) ∧ (k 1).val = t.val * 2048 + q.val := by
    refine ⟨((cfg0.win 6).xinj (cfg0.grid.coords t) y) 0, ((cfg0.win 6).xinj (cfg0.grid.coords t) y) 1, ?_, Fin.ext e0.symm, e1⟩
    funext a
    match a with
    | 0 => rfl
    | 1 => rfl
  show logitBlock (F := Ideal) (grid0.coords t) hs ((base0 W c).fetched 1 t d1) tok fp pp tt ((cfg0.win 6).xinj (cfg0.grid.coords t) y : S64x2048.Idx) = _
  rw [hy]
  refine (logit_block (grid0.coords t) hs _ tok fp pp tt _ _).trans ?_
  subst hb
  rw [coords0 t]
  unfold logitAt
  rw [hq]
  congr 1
  refine Finset.sum_congr rfl fun m _ => ?_
  rw [fetched0_1 W c emb hemb t d1 (ix2 q m) (ix2 (k 1) m) hq rfl]

end Cert.KernelIdeal.Hand
-- ==== Proof.KI.Total.lean ====
/-
  What the kernel's host code makes of the block maxima and the block sums.
-/
module

public import proofs.«01_k».proof.Proof.V.Agree
public import proofs.«01_k».proof.Proof.KI.Max
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Agree (KV)

/-- The row's maximum is the greatest block maximum. -/
theorem total_max (V : KV) (g : S64x49.Idx → EReal) (h : V (Proc.devRef .tc main_v36) = g) (b : Fin 64) :
    ((StableHlo.after (hostOps2 (F := Ideal)) V (Proc.devRef .tc main_v38) : FVec Ideal S64x1 .f32) (ix2 b 0) : EReal) = Finset.univ.fold max ⊥ (fun s : Fin 49 => g (ix2 b s)) := by
  subst h
  after_reads_simp
  pointwise []
  rw [show (Ideal.ofBits FTy.f32 4286578688#32 : EReal) = ⊥ from ofBits_bot]

/-- The logarithm of the sum of the block sums. -/
theorem total_log (V : KV) (g : S64x49.Idx → EReal) (h : V (Proc.devRef .tc main_v39) = g) (b : Fin 64) :
    ((StableHlo.after (hostOps3 (F := Ideal)) V (Proc.devRef .tc main_v42) : FVec Ideal S64x1 .f32) (ix2 b 0) : EReal) = Ideal.log (∑ s : Fin 49, g (ix2 b s)) := by
  subst h
  after_reads_simp
  pointwise []

/-- The penalties and the temperatures as columns. -/
theorem columns (V : KV) (fp pp t : FVec Ideal S64 .f32) (h0 : V (Proc.devRef .tc main_arg5) = fp) (h1 : V (Proc.devRef .tc main_arg4) = pp) (h2 : V (Proc.devRef .tc main_arg6) = t) (b : Fin 64) :
    ((StableHlo.after (hostOps0_1 (F := Ideal)) V (Proc.devRef .tc main_v1) : FVec Ideal S64x1 .f32) (ix2 b 0) : EReal) = fp (ix1 b)
    ∧ ((StableHlo.after (hostOps0_1 (F := Ideal)) V (Proc.devRef .tc main_v2) : FVec Ideal S64x1 .f32) (ix2 b 0) : EReal) = pp (ix1 b)
    ∧ ((StableHlo.after (hostOps0_1 (F := Ideal)) V (Proc.devRef .tc main_v3) : FVec Ideal S64x1 .f32) (ix2 b 0) : EReal) = t (ix1 b) := by
  subst h0 h1 h2
  refine ⟨?_, ?_, ?_⟩
  · after_reads_simp
    pointwise []
  · after_reads_simp
    pointwise []
  · after_reads_simp
    pointwise []

/-- The opposites of the logits. -/
theorem opposites (V : KV) (x : FVec Ideal S64x100000 .f32) (h : V (Proc.devRef .tc main_v4) = x) :
    (StableHlo.after (hostOps1 (F := Ideal)) V (Proc.devRef .tc main_v5) : FVec Ideal S64x100000 .f32) = Host.negf x := by
  subst h
  after_reads_simp

end Cert.KernelIdeal.Hand
-- ==== Proof.RI.Logits.lean ====
/-
  The reference's logits at an element.
-/
module

public import proofs.«01_k».proof.Proof.V.Agree
public import proofs.«01_k».proof.Proof.KI.Logits
public import Idealize.ShloMosaic.Lib.Routing.OpsPair

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Agree (RV)

/-- The reference's counts: one added at every token's column. -/
def counts (tok : IVec S64x50 32) : FVec Ideal S64x100000 .f32 :=
  Host.scatterAdd scatter_S64x100000_S64x50x2_S64x50_n_01_01_2 (broadcastInDim S64x100000 ![] bcast_S_S64x100000 (constant S_ .f32 0x00000000#32))
    (concatenate S64x50x2 2 [⟨S64x50x1, broadcastInDim S64x50x1 ![0, 1] bcast_S64x50_S64x50x1_0_1 (broadcastInDim S64x50 ![0, 1] bcast_S64x1_S64x50_0_1
        (select (cmpi .slt (broadcastInDim S64x1 ![0] bcast_S64_S64x1_0 (iotaInDim S64 32 0)) (broadcastInDim S64x1 ![] bcast_S_S64x1 (constantI S_ 32 0#32)))
          (addi (broadcastInDim S64x1 ![0] bcast_S64_S64x1_0 (iotaInDim S64 32 0)) (broadcastInDim S64x1 ![] bcast_S_S64x1 (constantI S_ 32 64#32)))
          (broadcastInDim S64x1 ![0] bcast_S64_S64x1_0 (iotaInDim S64 32 0))))⟩,
      ⟨S64x50x1, broadcastInDim S64x50x1 ![0, 1] bcast_S64x50_S64x50x1_0_1
        (select (cmpi .slt tok (broadcastInDim S64x50 ![] bcast_S_S64x50 (constantI S_ 32 0#32)))
          (addi tok (broadcastInDim S64x50 ![] bcast_S_S64x50 (constantI S_ 32 100000#32))) tok)⟩] concatenates_S64x50x1_S64x50x1_S64x50x2_d2)
    (broadcastInDim S64x50 ![] bcast_S_S64x50 (constant S_ .f32 0x3F800000#32))

/-- The reference's logits, from the counts. -/
def logits (hs : FVec Ideal S64x1024 .f32) (emb : FVec Ideal S100000x1024 .f32) (fp pp t : FVec Ideal S64 .f32) (n : FVec Ideal S64x100000 .f32) : FVec Ideal S64x100000 .f32 :=
  Host.divf (subf (subf (Host.dotGeneral dot_S64x1024_S1024x100000_S64x100000_1_0_0_1_n_n none hs (transpose S1024x100000 [1, 0] emb transposes_S100000x1024_S1024x100000_1_0))
      (mulf (broadcastInDim S64x100000 ![0, 1] bcast_S64x1_S64x100000_0_1 (broadcastInDim S64x1 ![0] bcast_S64_S64x1_0 fp)) n))
      (mulf (broadcastInDim S64x100000 ![0, 1] bcast_S64x1_S64x100000_0_1 (broadcastInDim S64x1 ![0] bcast_S64_S64x1_0 pp))
        (uitofp .f32 (cmpf .ogt n (broadcastInDim S64x100000 ![] bcast_S_S64x100000 (constant S_ .f32 0x00000000#32))))))
    (broadcastInDim S64x100000 ![0, 1] bcast_S64x1_S64x100000_0_1 (broadcastInDim S64x1 ![0] bcast_S64_S64x1_0 (maximumf t (broadcastInDim S64 ![] bcast_S_S64 (constant S_ .f32 0x3A83126F#32)))))

/-- The reference's run leaves those logits. -/
theorem logits_run (V' : RV) (hs : FVec Ideal S64x1024 .f32) (emb : FVec Ideal S100000x1024 .f32) (tok : IVec S64x50 32) (fp pp t : FVec Ideal S64 .f32)
    (h0 : V' (Proc.devRef .tc main_v0) = hs) (h1 : V' (Proc.devRef .tc main_arg0) = emb) (h2 : V' (Proc.devRef .tc main_arg3) = tok)
    (h3 : V' (Proc.devRef .tc main_arg5) = fp) (h4 : V' (Proc.devRef .tc main_arg4) = pp) (h5 : V' (Proc.devRef .tc main_arg6) = t) :
    StableHlo.after (ops1 (F := Ideal)) V' (Proc.devRef .tc main_v37) = logits hs emb fp pp t (counts tok) := by
  subst h0 h1 h2 h3 h4 h5
  after_reads_simp
  rfl

/-- And their opposites. -/
theorem neg_run (V' : RV) (x : FVec Ideal S64x100000 .f32) (h : StableHlo.after (ops1 (F := Ideal)) V' (Proc.devRef .tc main_v37) = x) :
    StableHlo.after (ops1 (F := Ideal)) V' (Proc.devRef .tc main_v38) = (Host.negf x : FVec Ideal S64x100000 .f32) := by
  subst h
  after_reads_simp

/-- A truth value as a float, read unsigned or read signed once widened. -/
theorem bit_float (x : BitVec 1) : (FloatOps.uitofp (F := Ideal) FTy.f32 x : EReal) = FloatOps.sitofp (F := Ideal) FTy.f32 (BitVec.setWidth 32 x) := by
  show ((x.toNat : ℝ) : EReal) = (((BitVec.setWidth 32 x).toInt : ℝ) : EReal)
  have h : ∀ x : BitVec 1, (BitVec.setWidth 32 x).toInt = (x.toNat : ℤ) := by decide
  rw [h x]
  norm_cast

/-- The logits at an element. -/
theorem logits_at (hs : FVec Ideal S64x1024 .f32) (emb : FVec Ideal S100000x1024 .f32) (fp pp t : FVec Ideal S64 .f32) (n : FVec Ideal S64x100000 .f32) (i : S64x100000.Idx) :
    (logits hs emb fp pp t n i : EReal) = KernelIdeal.Hand.penalised (∑ k : Fin 1024, hs (ix2 (i 0) k) * emb (ix2 (i 1) k)) (fp (ix1 (i 0))) (pp (ix1 (i 0))) (t (ix1 (i 0))) (n i) := by
  pointwise [logits, KernelIdeal.Hand.penalised]
  rw [bit_float]

/-- The places the ones are added at: the row, and the token when it is not negative. -/
def places (tok : IVec S64x50 32) : IVec S64x50x2 32 :=
  (concatenate S64x50x2 2 [⟨S64x50x1, broadcastInDim S64x50x1 ![0, 1] bcast_S64x50_S64x50x1_0_1 (broadcastInDim S64x50 ![0, 1] bcast_S64x1_S64x50_0_1
        (select (cmpi .slt (broadcastInDim S64x1 ![0] bcast_S64_S64x1_0 (iotaInDim S64 32 0)) (broadcastInDim S64x1 ![] bcast_S_S64x1 (constantI S_ 32 0#32)))
          (addi (broadcastInDim S64x1 ![0] bcast_S64_S64x1_0 (iotaInDim S64 32 0)) (broadcastInDim S64x1 ![] bcast_S_S64x1 (constantI S_ 32 64#32)))
          (broadcastInDim S64x1 ![0] bcast_S64_S64x1_0 (iotaInDim S64 32 0))))⟩,
      ⟨S64x50x1, broadcastInDim S64x50x1 ![0, 1] bcast_S64x50_S64x50x1_0_1
        (select (cmpi .slt tok (broadcastInDim S64x50 ![] bcast_S_S64x50 (constantI S_ 32 0#32)))
          (addi tok (broadcastInDim S64x50 ![] bcast_S_S64x50 (constantI S_ 32 100000#32))) tok)⟩] concatenates_S64x50x1_S64x50x1_S64x50x2_d2)

/-- The first coordinate is the row. -/
theorem places_row (tok : IVec S64x50 32) (b : Fin 64) (h : Fin 50) : places tok (ix3 b h 0) = BitVec.ofNat 32 b.val := by
  pointwise [places]
  have hw : ∀ b : Fin 64, Scalar.select (IntOp.cmpi .slt (BitVec.ofNat 32 b.val) 0#32) (IntOp.addi (BitVec.ofNat 32 b.val) 64#32) (BitVec.ofNat 32 b.val) = BitVec.ofNat 32 b.val := by decide
  exact hw b

/-- The second is the token. -/
theorem places_token (tok : IVec S64x50 32) (b : Fin 64) (h : Fin 50) (ht : 0 ≤ (tok (ix2 b h)).toInt) : places tok (ix3 b h 1) = tok (ix2 b h) := by
  pointwise [places]
  refine Routing.wrap_of_lt _ _ ?_
  rw [BitVec.toInt_eq_toNat_cond] at ht
  have := (tok (ix2 b h)).isLt
  split at ht <;> omega

/-- Where an update lands: at its row and its token's column. -/
theorem lands (idx : IVec S64x50x2 32) (b' : Fin 64) (h : Fin 50) (b : Fin 64) (c : Fin 100000) :
    scatter_S64x100000_S64x50x2_S64x50_n_01_01_2.resultIdx? (ix2 b' h) idx = some (ix2 b c) ↔ (idx (ix3 b' h 0)).toInt = b.val ∧ (idx (ix3 b' h 1)).toInt = c.val := by
  have hs : ∀ q : Fin 2, scatter_S64x100000_S64x50x2_S64x50_n_01_01_2.start (ix2 b' h) idx q = (idx (ix3 b' h q)).toInt := by
    intro q
    unfold ScatterDims.start
    rw [dif_pos (by fin_cases q <;> decide)]
    congr 2
    funext a
    apply Fin.ext
    match a with
    | 0 => rfl
    | 1 => rfl
    | 2 => fin_cases q <;> rfl
  have hw : ∀ q : Fin 2, scatter_S64x100000_S64x50x2_S64x50_n_01_01_2.window (ix2 b' h) q = 0 := by
    intro q
    fin_cases q <;> rfl
  refine (Routing.resultIdx?_ix2 (R := 64) (C := 100000) _ _ _ _ _).trans ?_
  rw [hs 0, hs 1, hw 0, hw 1]
  simp only [Nat.cast_zero, add_zero]

end Cert.ReferenceIdeal.Hand
-- ==== Proof.RI.Counts.lean ====
/-
  The reference's counts are the numbers of equal tokens, when no token is negative.
-/
module

public import proofs.«01_k».proof.Proof.RI.Logits

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.KernelIdeal.Hand (hit penalised logitAt)

/-- A hit is one or zero. -/
theorem hit_eq (a c : BitVec 32) : hit a c = if a = c then 1 else 0 := by
  unfold hit
  show (((BitVec.setWidth 32 (BitVec.ofBool (a == c))).toInt : ℝ) : EReal) = _
  by_cases h : a = c
  · rw [if_pos h, beq_iff_eq.2 h, show (BitVec.setWidth 32 (BitVec.ofBool true)).toInt = 1 from by decide]
    norm_num
  · rw [if_neg h, beq_eq_false_iff_ne.2 h, show (BitVec.setWidth 32 (BitVec.ofBool false)).toInt = 0 from by decide]
    norm_num

/-- A token is the column's when its word is. -/
theorem token_column (a : BitVec 32) (c : Fin 100000) : a.toInt = c.val ↔ a = BitVec.ofNat 32 c.val := by
  have hc := c.isLt
  constructor
  · intro h
    apply BitVec.eq_of_toInt_eq
    rw [h, BitVec.toInt_eq_toNat_cond, BitVec.toNat_ofNat, Nat.mod_eq_of_lt (by omega), if_pos (by omega)]
  · intro h
    rw [h, BitVec.toInt_eq_toNat_cond, BitVec.toNat_ofNat, Nat.mod_eq_of_lt (by omega), if_pos (by omega)]

/-- The row's word read signed. -/
theorem row_word : ∀ b' b : Fin 64, (BitVec.ofNat 32 b'.val).toInt = (b.val : ℤ) ↔ b' = b := by decide

/-- The counts. -/
theorem counts_at (tok : IVec S64x50 32) (ht : ∀ k, 0 ≤ (tok k).toInt) (b : Fin 64) (c : Fin 100000) :
    (counts tok (ix2 b c) : EReal) = KernelIdeal.Hand.count tok b (BitVec.ofNat 32 c.val) := by
  show Ideal.hostScatterAdd scatter_S64x100000_S64x50x2_S64x50_n_01_01_2 (fun _ => Ideal.ofBits .f32 0x00000000#32) (places tok) (fun _ => Ideal.ofBits .f32 0x3F800000#32) (ix2 b c) = _
  unfold Ideal.hostScatterAdd
  rw [Ideal.ofBits_zero_f32, zero_add, Finset.sum_filter, sum_idx2]
  rw [Finset.sum_eq_single b]
  · unfold KernelIdeal.Hand.count
    refine Finset.sum_congr rfl fun h _ => ?_
    rw [hit_eq]
    refine if_congr ?_ ?_ rfl
    · rw [lands, places_row, places_token tok b h (ht _), token_column]
      exact ⟨fun h => h.2, fun h => ⟨(row_word b b).2 rfl, h⟩⟩
    · exact Ideal.ofBits_one_f32
  · intro b' _ hb
    refine Finset.sum_eq_zero fun h _ => if_neg ?_
    rw [lands, places_row, row_word]
    exact fun h => hb h.1
  · intro h
    exact absurd (Finset.mem_univ b) h

/-- The reference's logits are the kernel's. -/
theorem logits_eq (hs : FVec Ideal S64x1024 .f32) (emb : FVec Ideal S100000x1024 .f32) (tok : IVec S64x50 32) (ht : ∀ k, 0 ≤ (tok k).toInt) (fp pp t : FVec Ideal S64 .f32)
    (fp' pp' t' : S64x1.Idx → EReal) (hfp : ∀ b, fp' (ix2 b 0) = fp (ix1 b)) (hpp : ∀ b, pp' (ix2 b 0) = pp (ix1 b)) (htt : ∀ b, t' (ix2 b 0) = t (ix1 b)) (i : S64x100000.Idx) :
    (logits hs emb fp pp t (counts tok) i : EReal) = logitAt hs emb tok fp' pp' t' i := by
  obtain ⟨b, c, rfl⟩ : ∃ (b : Fin 64) (c : Fin 100000), i = ix2 b c := ⟨i 0, i 1, by
    funext a
    match a with
    | 0 => rfl
    | 1 => rfl⟩
  refine (logits_at hs emb fp pp t _ (ix2 b c)).trans ?_
  rw [counts_at tok ht b c]
  show penalised (∑ k : Fin 1024, hs (ix2 b k) * emb (ix2 c k)) (fp (ix1 b)) (pp (ix1 b)) (t (ix1 b)) _ = penalised (∑ k : Fin 1024, hs (ix2 b k) * emb (ix2 c k)) (fp' (ix2 b 0)) (pp' (ix2 b 0)) (t' (ix2 b 0)) _
  rw [hfp, hpp, htt]
  rfl

end Cert.ReferenceIdeal.Hand
-- ==== Proof.V.Trace.lean ====
/-
  The two programs, followed from the launch to the end: what each buffer of the kernel holds is what its counterpart of the reference holds.
-/
module

public import proofs.«01_k».proof.Proof.V.Agree
public import proofs.«01_k».proof.Proof.V.Noise
public import proofs.«01_k».proof.Proof.KI.Frame
public import proofs.«01_k».proof.Proof.KI.Logits
public import proofs.«01_k».proof.Proof.KI.Total
public import proofs.«01_k».proof.Proof.R.Run
public import proofs.«01_k».proof.Proof.RI.Counts

@[expose] public section

set_option maxRecDepth 16384

noncomputable section

namespace Cert.Agree

open Idealize.ShloMosaic Idealize.ShloMosaic.TcCoe Idealize.ShloMosaic.Tactic
open Cert.KernelIdeal.Gen Cert.KernelIdeal.Hand Cert.ReferenceIdeal.Hand
open Idealize.ShloMosaic.Rounds
open Cert.Proof.Rel

/-- What the kernel's memory holds at launch. -/
abbrev KM := (ℓ : Loc KernelIdeal.nD KernelIdeal.τ KernelIdeal.sig) → Buf (Elt Ideal) ℓ
/-- What the reference's memory holds at launch. -/
abbrev RM := (ℓ : Loc ReferenceIdeal.nD ReferenceIdeal.τ ReferenceIdeal.sig) → Buf (Elt Ideal) ℓ

/-- The two programs start from the same arguments. -/
structure Same (V : KV) (V' : RV) : Prop where
  a0 : (V (Proc.devRef .tc KernelIdeal.main_arg0) : FVec Ideal ReferenceIdeal.S100000x1024 .f32) = V' (Proc.devRef .tc ReferenceIdeal.main_arg0)
  a1 : (V (Proc.devRef .tc KernelIdeal.main_arg1) : FVec Ideal ReferenceIdeal.S512x1024 .f32) = V' (Proc.devRef .tc ReferenceIdeal.main_arg1)
  a2 : (V (Proc.devRef .tc KernelIdeal.main_arg2) : IVec ReferenceIdeal.S64 32) = V' (Proc.devRef .tc ReferenceIdeal.main_arg2)
  a3 : (V (Proc.devRef .tc KernelIdeal.main_arg3) : IVec ReferenceIdeal.S64x50 32) = V' (Proc.devRef .tc ReferenceIdeal.main_arg3)
  a4 : (V (Proc.devRef .tc KernelIdeal.main_arg4) : FVec Ideal ReferenceIdeal.S64 .f32) = V' (Proc.devRef .tc ReferenceIdeal.main_arg4)
  a5 : (V (Proc.devRef .tc KernelIdeal.main_arg5) : FVec Ideal ReferenceIdeal.S64 .f32) = V' (Proc.devRef .tc ReferenceIdeal.main_arg5)
  a6 : (V (Proc.devRef .tc KernelIdeal.main_arg6) : FVec Ideal ReferenceIdeal.S64 .f32) = V' (Proc.devRef .tc ReferenceIdeal.main_arg6)
  a7 : (V (Proc.devRef .tc KernelIdeal.main_arg7) : FVec Ideal ReferenceIdeal.S64 .f32) = V' (Proc.devRef .tc ReferenceIdeal.main_arg7)
  a8 : (V (Proc.devRef .tc KernelIdeal.main_arg8) : IVec ReferenceIdeal.S64 32) = V' (Proc.devRef .tc ReferenceIdeal.main_arg8)
/-- The reference's main_arg0 stays from stretch 0 to stretch 1. -/
theorem ref_main_arg0_1 (m' : RM) (c : Dev ReferenceIdeal.nD) : U1 m' c (Proc.devRef .tc ReferenceIdeal.main_arg0) = U0 m' c (Proc.devRef .tc ReferenceIdeal.main_arg0) := by
  rw [U1, StableHlo.after_of_writes_sub ops0 _ ops0_writes (by decide)]

/-- The reference's main_arg3 stays from stretch 0 to stretch 1. -/
theorem ref_main_arg3_1 (m' : RM) (c : Dev ReferenceIdeal.nD) : U1 m' c (Proc.devRef .tc ReferenceIdeal.main_arg3) = U0 m' c (Proc.devRef .tc ReferenceIdeal.main_arg3) := by
  rw [U1, StableHlo.after_of_writes_sub ops0 _ ops0_writes (by decide)]

/-- The reference's main_arg4 stays from stretch 0 to stretch 1. -/
theorem ref_main_arg4_1 (m' : RM) (c : Dev ReferenceIdeal.nD) : U1 m' c (Proc.devRef .tc ReferenceIdeal.main_arg4) = U0 m' c (Proc.devRef .tc ReferenceIdeal.main_arg4) := by
  rw [U1, StableHlo.after_of_writes_sub ops0 _ ops0_writes (by decide)]

/-- The reference's main_arg5 stays from stretch 0 to stretch 1. -/
theorem ref_main_arg5_1 (m' : RM) (c : Dev ReferenceIdeal.nD) : U1 m' c (Proc.devRef .tc ReferenceIdeal.main_arg5) = U0 m' c (Proc.devRef .tc ReferenceIdeal.main_arg5) := by
  rw [U1, StableHlo.after_of_writes_sub ops0 _ ops0_writes (by decide)]

/-- The reference's main_arg6 stays from stretch 0 to stretch 1. -/
theorem ref_main_arg6_1 (m' : RM) (c : Dev ReferenceIdeal.nD) : U1 m' c (Proc.devRef .tc ReferenceIdeal.main_arg6) = U0 m' c (Proc.devRef .tc ReferenceIdeal.main_arg6) := by
  rw [U1, StableHlo.after_of_writes_sub ops0 _ ops0_writes (by decide)]

/-- The reference's main_v37 stays from stretch 2 to stretch 3. -/
theorem ref_main_v37_3 (m' : RM) (c : Dev ReferenceIdeal.nD) : U3 m' c (Proc.devRef .tc ReferenceIdeal.main_v37) = U2 m' c (Proc.devRef .tc ReferenceIdeal.main_v37) := by
  rw [U3, StableHlo.after_of_writes_sub ops2 _ ops2_writes (by decide)]

/-- The reference's main_v51 stays from stretch 6 to stretch 7. -/
theorem ref_main_v51_7 (m' : RM) (c : Dev ReferenceIdeal.nD) : U7 m' c (Proc.devRef .tc ReferenceIdeal.main_v51) = U6 m' c (Proc.devRef .tc ReferenceIdeal.main_v51) := by
  rw [U7, StableHlo.after_of_writes_sub ops6 _ ops6_writes (by decide)]

/-- The reference's main_arg7 stays from stretch 0 to stretch 7. -/
theorem ref_main_arg7_7 (m' : RM) (c : Dev ReferenceIdeal.nD) : U7 m' c (Proc.devRef .tc ReferenceIdeal.main_arg7) = U0 m' c (Proc.devRef .tc ReferenceIdeal.main_arg7) := by
  rw [U7, StableHlo.after_of_writes_sub ops6 _ ops6_writes (by decide)]
  rw [U6, StableHlo.after_of_writes_sub ops5 _ ops5_writes (by decide)]
  rw [U5, StableHlo.after_of_writes_sub ops4 _ ops4_writes (by decide)]
  rw [U4, StableHlo.after_of_writes_sub ops3 _ ops3_writes (by decide)]
  rw [U3, StableHlo.after_of_writes_sub ops2 _ ops2_writes (by decide)]
  rw [U2, StableHlo.after_of_writes_sub ops1 _ ops1_writes (by decide)]
  rw [U1, StableHlo.after_of_writes_sub ops0 _ ops0_writes (by decide)]

/-- The reference's main_arg8 stays from stretch 0 to stretch 7. -/
theorem ref_main_arg8_7 (m' : RM) (c : Dev ReferenceIdeal.nD) : U7 m' c (Proc.devRef .tc ReferenceIdeal.main_arg8) = U0 m' c (Proc.devRef .tc ReferenceIdeal.main_arg8) := by
  rw [U7, StableHlo.after_of_writes_sub ops6 _ ops6_writes (by decide)]
  rw [U6, StableHlo.after_of_writes_sub ops5 _ ops5_writes (by decide)]
  rw [U5, StableHlo.after_of_writes_sub ops4 _ ops4_writes (by decide)]
  rw [U4, StableHlo.after_of_writes_sub ops3 _ ops3_writes (by decide)]
  rw [U3, StableHlo.after_of_writes_sub ops2 _ ops2_writes (by decide)]
  rw [U2, StableHlo.after_of_writes_sub ops1 _ ops1_writes (by decide)]
  rw [U1, StableHlo.after_of_writes_sub ops0 _ ops0_writes (by decide)]

/-- The reference's main_v40 stays from stretch 4 to stretch 8. -/
theorem ref_main_v40_8 (m' : RM) (c : Dev ReferenceIdeal.nD) : U8 m' c (Proc.devRef .tc ReferenceIdeal.main_v40) = U4 m' c (Proc.devRef .tc ReferenceIdeal.main_v40) := by
  rw [U8, StableHlo.after_of_writes_sub ops7 _ ops7_writes (by decide)]
  rw [U7, StableHlo.after_of_writes_sub ops6 _ ops6_writes (by decide)]
  rw [U6, StableHlo.after_of_writes_sub ops5 _ ops5_writes (by decide)]
  rw [U5, StableHlo.after_of_writes_sub ops4 _ ops4_writes (by decide)]

/-- The reference's main_v39 stays from stretch 3 to stretch 9. -/
theorem ref_main_v39_9 (m' : RM) (c : Dev ReferenceIdeal.nD) : U9 m' c (Proc.devRef .tc ReferenceIdeal.main_v39) = U3 m' c (Proc.devRef .tc ReferenceIdeal.main_v39) := by
  rw [U9, StableHlo.after_of_writes_sub ops8 _ ops8_writes (by decide)]
  rw [U8, StableHlo.after_of_writes_sub ops7 _ ops7_writes (by decide)]
  rw [U7, StableHlo.after_of_writes_sub ops6 _ ops6_writes (by decide)]
  rw [U6, StableHlo.after_of_writes_sub ops5 _ ops5_writes (by decide)]
  rw [U5, StableHlo.after_of_writes_sub ops4 _ ops4_writes (by decide)]
  rw [U4, StableHlo.after_of_writes_sub ops3 _ ops3_writes (by decide)]

/-- The reference's main_v66 stays from stretch 9 to stretch 10. -/
theorem ref_main_v66_10 (m' : RM) (c : Dev ReferenceIdeal.nD) : U10 m' c (Proc.devRef .tc ReferenceIdeal.main_v66) = U9 m' c (Proc.devRef .tc ReferenceIdeal.main_v66) := by
  rw [U10, StableHlo.after_of_writes_sub ops9 _ ops9_writes (by decide)]

/-- The reference's main_v68 stays from stretch 11 to stretch 12. -/
theorem ref_main_v68_12 (m' : RM) (c : Dev ReferenceIdeal.nD) : U12 m' c (Proc.devRef .tc ReferenceIdeal.main_v68) = U11 m' c (Proc.devRef .tc ReferenceIdeal.main_v68) := by
  rw [U12, StableHlo.after_of_writes_sub ops11 _ ops11_writes (by decide)]

/-- The reference's main_v68 stays from stretch 11 to stretch 15. -/
theorem ref_main_v68_15 (m' : RM) (c : Dev ReferenceIdeal.nD) : U15 m' c (Proc.devRef .tc ReferenceIdeal.main_v68) = U11 m' c (Proc.devRef .tc ReferenceIdeal.main_v68) := by
  rw [U15, StableHlo.after_of_writes_sub ops14 _ ops14_writes (by decide)]
  rw [U14, StableHlo.after_of_writes_sub ops13 _ ops13_writes (by decide)]
  rw [U13, StableHlo.after_of_writes_sub ops12 _ ops12_writes (by decide)]
  rw [U12, StableHlo.after_of_writes_sub ops11 _ ops11_writes (by decide)]

/-- The reference's main_v79 stays from stretch 12 to stretch 17. -/
theorem ref_main_v79_17 (m' : RM) (c : Dev ReferenceIdeal.nD) : U17 m' c (Proc.devRef .tc ReferenceIdeal.main_v79) = U12 m' c (Proc.devRef .tc ReferenceIdeal.main_v79) := by
  rw [U17, StableHlo.after_of_writes_sub ops16 _ ops16_writes (by decide)]
  rw [U16, StableHlo.after_of_writes_sub ops15 _ ops15_writes (by decide)]
  rw [U15, StableHlo.after_of_writes_sub ops14 _ ops14_writes (by decide)]
  rw [U14, StableHlo.after_of_writes_sub ops13 _ ops13_writes (by decide)]
  rw [U13, StableHlo.after_of_writes_sub ops12 _ ops12_writes (by decide)]

/-- The reference's main_v80 stays from stretch 13 to stretch 17. -/
theorem ref_main_v80_17 (m' : RM) (c : Dev ReferenceIdeal.nD) : U17 m' c (Proc.devRef .tc ReferenceIdeal.main_v80) = U13 m' c (Proc.devRef .tc ReferenceIdeal.main_v80) := by
  rw [U17, StableHlo.after_of_writes_sub ops16 _ ops16_writes (by decide)]
  rw [U16, StableHlo.after_of_writes_sub ops15 _ ops15_writes (by decide)]
  rw [U15, StableHlo.after_of_writes_sub ops14 _ ops14_writes (by decide)]
  rw [U14, StableHlo.after_of_writes_sub ops13 _ ops13_writes (by decide)]

/-- The states the kernel goes through, from the launch to the end. -/
structure States (m : KM) (c : Dev KernelIdeal.nD) (W : Fin 22 → KV) : Prop where
  s0 : P0 m c (W 0)
  s1 : W 1 = StableHlo.after (hostOps0 (F := Ideal)) (W 0)
  s2 : W 2 = StableHlo.after (hostOps0_1 (F := Ideal)) (W 1)
  s3 : exitP (U := UP (Fin 4) KernelIdeal.sig KernelIdeal.nD KernelIdeal.τ) (KernelIdeal.pcfgs (F := Ideal)) KernelIdeal.Hand.adm (rds (W 2)) 0 c (W 2) (W 3)
  s4 : W 4 = StableHlo.after (hostOps1 (F := Ideal)) (W 3)
  s5 : W 5 = StableHlo.after (hostOps1_1 (F := Ideal)) (W 4)
  s6 : W 6 = StableHlo.after (hostOps1_2 (F := Ideal)) (W 5)
  s7 : W 7 = StableHlo.after (hostOps1_3 (F := Ideal)) (W 6)
  s8 : W 8 = StableHlo.after (hostOps1_4 (F := Ideal)) (W 7)
  s9 : W 9 = StableHlo.after (hostOps1_5 (F := Ideal)) (W 8)
  s10 : W 10 = StableHlo.after (hostOps1_6 (F := Ideal)) (W 9)
  s11 : W 11 = StableHlo.after (hostOps1_7 (F := Ideal)) (W 10)
  s12 : W 12 = StableHlo.after (hostOps1_8 (F := Ideal)) (W 11)
  s13 : exitP (U := UP (Fin 4) KernelIdeal.sig KernelIdeal.nD KernelIdeal.τ) (KernelIdeal.pcfgs (F := Ideal)) KernelIdeal.Hand.adm (rds (W 12)) 1 c (W 12) (W 13)
  s14 : W 14 = StableHlo.after (hostOps2 (F := Ideal)) (W 13)
  s15 : exitP (U := UP (Fin 4) KernelIdeal.sig KernelIdeal.nD KernelIdeal.τ) (KernelIdeal.pcfgs (F := Ideal)) KernelIdeal.Hand.adm (rds (W 14)) 2 c (W 14) (W 15)
  s16 : W 16 = StableHlo.after (hostOps3 (F := Ideal)) (W 15)
  s17 : exitP (U := UP (Fin 4) KernelIdeal.sig KernelIdeal.nD KernelIdeal.τ) (KernelIdeal.pcfgs (F := Ideal)) KernelIdeal.Hand.adm (rds (W 16)) 3 c (W 16) (W 17)
  s18 : W 18 = StableHlo.after (hostOps4 (F := Ideal)) (W 17)
  s19 : W 19 = StableHlo.after (hostOps4_1 (F := Ideal)) (W 18)
  s20 : W 20 = StableHlo.after (hostOps4_2 (F := Ideal)) (W 19)
  s21 : W 21 = StableHlo.after (hostOps4_3 (F := Ideal)) (W 20)

/-- The end state comes from such states. -/
theorem states (m : KM) (c : Dev KernelIdeal.nD) (V : KV) (h : P21 m c V) : ∃ W : Fin 22 → KV, States m c W ∧ V = W 21 := by
  obtain ⟨W20, h, e21⟩ := h
  obtain ⟨W19, h, e20⟩ := h
  obtain ⟨W18, h, e19⟩ := h
  obtain ⟨W17, h, e18⟩ := h
  obtain ⟨W16, h, e17⟩ := h
  obtain ⟨W15, h, e16⟩ := h
  obtain ⟨W14, h, e15⟩ := h
  obtain ⟨W13, h, e14⟩ := h
  obtain ⟨W12, h, e13⟩ := h
  obtain ⟨W11, h, e12⟩ := h
  obtain ⟨W10, h, e11⟩ := h
  obtain ⟨W9, h, e10⟩ := h
  obtain ⟨W8, h, e9⟩ := h
  obtain ⟨W7, h, e8⟩ := h
  obtain ⟨W6, h, e7⟩ := h
  obtain ⟨W5, h, e6⟩ := h
  obtain ⟨W4, h, e5⟩ := h
  obtain ⟨W3, h, e4⟩ := h
  obtain ⟨W2, h, e3⟩ := h
  obtain ⟨W1, h, e2⟩ := h
  obtain ⟨W0, h, e1⟩ := h
  exact ⟨![W0, W1, W2, W3, W4, W5, W6, W7, W8, W9, W10, W11, W12, W13, W14, W15, W16, W17, W18, W19, W20, V], ⟨h, e1, e2, e3, e4, e5, e6, e7, e8, e9, e10, e11, e12, e13, e14, e15, e16, e17, e18, e19, e20, e21⟩, rfl⟩

variable {m : KM} {c : Dev KernelIdeal.nD} {W : Fin 22 → KV}

/-- The kernel's main_arg4 stays from state 0 to state 1. -/
theorem States.main_arg4_1 (h : States m c W) : W 1 (Proc.devRef .tc KernelIdeal.main_arg4) = W 0 (Proc.devRef .tc KernelIdeal.main_arg4) := by
  rw [h.s1, StableHlo.after_of_writes_sub hostOps0 _ hostOps0_writes (by decide)]

/-- The kernel's main_arg5 stays from state 0 to state 1. -/
theorem States.main_arg5_1 (h : States m c W) : W 1 (Proc.devRef .tc KernelIdeal.main_arg5) = W 0 (Proc.devRef .tc KernelIdeal.main_arg5) := by
  rw [h.s1, StableHlo.after_of_writes_sub hostOps0 _ hostOps0_writes (by decide)]

/-- The kernel's main_arg6 stays from state 0 to state 1. -/
theorem States.main_arg6_1 (h : States m c W) : W 1 (Proc.devRef .tc KernelIdeal.main_arg6) = W 0 (Proc.devRef .tc KernelIdeal.main_arg6) := by
  rw [h.s1, StableHlo.after_of_writes_sub hostOps0 _ hostOps0_writes (by decide)]

/-- The kernel's main_v0 stays from state 1 to state 2. -/
theorem States.main_v0_2 (h : States m c W) : W 2 (Proc.devRef .tc KernelIdeal.main_v0) = W 1 (Proc.devRef .tc KernelIdeal.main_v0) := by
  rw [h.s2, StableHlo.after_of_writes_sub hostOps0_1 _ hostOps0_1_writes (by decide)]

/-- The kernel's main_arg0 stays from state 0 to state 2. -/
theorem States.main_arg0_2 (h : States m c W) : W 2 (Proc.devRef .tc KernelIdeal.main_arg0) = W 0 (Proc.devRef .tc KernelIdeal.main_arg0) := by
  rw [h.s2, StableHlo.after_of_writes_sub hostOps0_1 _ hostOps0_1_writes (by decide)]
  rw [h.s1, StableHlo.after_of_writes_sub hostOps0 _ hostOps0_writes (by decide)]

/-- The kernel's main_arg3 stays from state 0 to state 2. -/
theorem States.main_arg3_2 (h : States m c W) : W 2 (Proc.devRef .tc KernelIdeal.main_arg3) = W 0 (Proc.devRef .tc KernelIdeal.main_arg3) := by
  rw [h.s2, StableHlo.after_of_writes_sub hostOps0_1 _ hostOps0_1_writes (by decide)]
  rw [h.s1, StableHlo.after_of_writes_sub hostOps0 _ hostOps0_writes (by decide)]

/-- The kernel's main_v4 stays from state 3 to state 5. -/
theorem States.main_v4_5 (h : States m c W) : W 5 (Proc.devRef .tc KernelIdeal.main_v4) = W 3 (Proc.devRef .tc KernelIdeal.main_v4) := by
  rw [h.s5, StableHlo.after_of_writes_sub hostOps1_1 _ hostOps1_1_writes (by decide)]
  rw [h.s4, StableHlo.after_of_writes_sub hostOps1 _ hostOps1_writes (by decide)]

/-- The kernel's main_v18 stays from state 7 to state 8. -/
theorem States.main_v18_8 (h : States m c W) : W 8 (Proc.devRef .tc KernelIdeal.main_v18) = W 7 (Proc.devRef .tc KernelIdeal.main_v18) := by
  rw [h.s8, StableHlo.after_of_writes_sub hostOps1_4 _ hostOps1_4_writes (by decide)]

/-- The kernel's main_arg7 stays from state 0 to state 8. -/
theorem States.main_arg7_8 (h : States m c W) : W 8 (Proc.devRef .tc KernelIdeal.main_arg7) = W 0 (Proc.devRef .tc KernelIdeal.main_arg7) := by
  rw [h.s8, StableHlo.after_of_writes_sub hostOps1_4 _ hostOps1_4_writes (by decide)]
  rw [h.s7, StableHlo.after_of_writes_sub hostOps1_3 _ hostOps1_3_writes (by decide)]
  rw [h.s6, StableHlo.after_of_writes_sub hostOps1_2 _ hostOps1_2_writes (by decide)]
  rw [h.s5, StableHlo.after_of_writes_sub hostOps1_1 _ hostOps1_1_writes (by decide)]
  rw [h.s4, StableHlo.after_of_writes_sub hostOps1 _ hostOps1_writes (by decide)]
  rw [keep0 _ _ c h.s3 KernelIdeal.main_arg7 (by decide)]
  rw [h.s2, StableHlo.after_of_writes_sub hostOps0_1 _ hostOps0_1_writes (by decide)]
  rw [h.s1, StableHlo.after_of_writes_sub hostOps0 _ hostOps0_writes (by decide)]

/-- The kernel's main_arg8 stays from state 0 to state 8. -/
theorem States.main_arg8_8 (h : States m c W) : W 8 (Proc.devRef .tc KernelIdeal.main_arg8) = W 0 (Proc.devRef .tc KernelIdeal.main_arg8) := by
  rw [h.s8, StableHlo.after_of_writes_sub hostOps1_4 _ hostOps1_4_writes (by decide)]
  rw [h.s7, StableHlo.after_of_writes_sub hostOps1_3 _ hostOps1_3_writes (by decide)]
  rw [h.s6, StableHlo.after_of_writes_sub hostOps1_2 _ hostOps1_2_writes (by decide)]
  rw [h.s5, StableHlo.after_of_writes_sub hostOps1_1 _ hostOps1_1_writes (by decide)]
  rw [h.s4, StableHlo.after_of_writes_sub hostOps1 _ hostOps1_writes (by decide)]
  rw [keep0 _ _ c h.s3 KernelIdeal.main_arg8 (by decide)]
  rw [h.s2, StableHlo.after_of_writes_sub hostOps0_1 _ hostOps0_1_writes (by decide)]
  rw [h.s1, StableHlo.after_of_writes_sub hostOps0 _ hostOps0_writes (by decide)]

/-- The kernel's main_v7 stays from state 6 to state 9. -/
theorem States.main_v7_9 (h : States m c W) : W 9 (Proc.devRef .tc KernelIdeal.main_v7) = W 6 (Proc.devRef .tc KernelIdeal.main_v7) := by
  rw [h.s9, StableHlo.after_of_writes_sub hostOps1_5 _ hostOps1_5_writes (by decide)]
  rw [h.s8, StableHlo.after_of_writes_sub hostOps1_4 _ hostOps1_4_writes (by decide)]
  rw [h.s7, StableHlo.after_of_writes_sub hostOps1_3 _ hostOps1_3_writes (by decide)]

/-- The kernel's main_v6 stays from state 5 to state 10. -/
theorem States.main_v6_10 (h : States m c W) : W 10 (Proc.devRef .tc KernelIdeal.main_v6) = W 5 (Proc.devRef .tc KernelIdeal.main_v6) := by
  rw [h.s10, StableHlo.after_of_writes_sub hostOps1_6 _ hostOps1_6_writes (by decide)]
  rw [h.s9, StableHlo.after_of_writes_sub hostOps1_5 _ hostOps1_5_writes (by decide)]
  rw [h.s8, StableHlo.after_of_writes_sub hostOps1_4 _ hostOps1_4_writes (by decide)]
  rw [h.s7, StableHlo.after_of_writes_sub hostOps1_3 _ hostOps1_3_writes (by decide)]
  rw [h.s6, StableHlo.after_of_writes_sub hostOps1_2 _ hostOps1_2_writes (by decide)]

/-- The kernel's main_v33 stays from state 10 to state 11. -/
theorem States.main_v33_11 (h : States m c W) : W 11 (Proc.devRef .tc KernelIdeal.main_v33) = W 10 (Proc.devRef .tc KernelIdeal.main_v33) := by
  rw [h.s11, StableHlo.after_of_writes_sub hostOps1_7 _ hostOps1_7_writes (by decide)]

/-- The kernel's main_v35 stays from state 12 to state 14. -/
theorem States.main_v35_14 (h : States m c W) : W 14 (Proc.devRef .tc KernelIdeal.main_v35) = W 12 (Proc.devRef .tc KernelIdeal.main_v35) := by
  rw [h.s14, StableHlo.after_of_writes_sub hostOps2 _ hostOps2_writes (by decide)]
  rw [keep1 _ _ c h.s13 KernelIdeal.main_v35 (by decide)]

/-- The kernel's main_v35 stays from state 12 to state 16. -/
theorem States.main_v35_16 (h : States m c W) : W 16 (Proc.devRef .tc KernelIdeal.main_v35) = W 12 (Proc.devRef .tc KernelIdeal.main_v35) := by
  rw [h.s16, StableHlo.after_of_writes_sub hostOps3 _ hostOps3_writes (by decide)]
  rw [keep2 _ _ c h.s15 KernelIdeal.main_v35 (by decide)]
  rw [h.s14, StableHlo.after_of_writes_sub hostOps2 _ hostOps2_writes (by decide)]
  rw [keep1 _ _ c h.s13 KernelIdeal.main_v35 (by decide)]

/-- The kernel's main_v35 stays from state 12 to state 19. -/
theorem States.main_v35_19 (h : States m c W) : W 19 (Proc.devRef .tc KernelIdeal.main_v35) = W 12 (Proc.devRef .tc KernelIdeal.main_v35) := by
  rw [h.s19, StableHlo.after_of_writes_sub hostOps4_1 _ hostOps4_1_writes (by decide)]
  rw [h.s18, StableHlo.after_of_writes_sub hostOps4 _ hostOps4_writes (by decide)]
  rw [keep3 _ _ c h.s17 KernelIdeal.main_v35 (by decide)]
  rw [h.s16, StableHlo.after_of_writes_sub hostOps3 _ hostOps3_writes (by decide)]
  rw [keep2 _ _ c h.s15 KernelIdeal.main_v35 (by decide)]
  rw [h.s14, StableHlo.after_of_writes_sub hostOps2 _ hostOps2_writes (by decide)]
  rw [keep1 _ _ c h.s13 KernelIdeal.main_v35 (by decide)]

/-- The kernel's main_v38 stays from state 14 to state 16. -/
theorem States.main_v38_16 (h : States m c W) : W 16 (Proc.devRef .tc KernelIdeal.main_v38) = W 14 (Proc.devRef .tc KernelIdeal.main_v38) := by
  rw [h.s16, StableHlo.after_of_writes_sub hostOps3 _ hostOps3_writes (by decide)]
  rw [keep2 _ _ c h.s15 KernelIdeal.main_v38 (by decide)]

/-- The kernel's main_v43_0 stays from state 17 to state 21. -/
theorem States.main_v43_0_21 (h : States m c W) : W 21 (Proc.devRef .tc KernelIdeal.main_v43_0) = W 17 (Proc.devRef .tc KernelIdeal.main_v43_0) := by
  rw [h.s21, StableHlo.after_of_writes_sub hostOps4_3 _ hostOps4_3_writes (by decide)]
  rw [h.s20, StableHlo.after_of_writes_sub hostOps4_2 _ hostOps4_2_writes (by decide)]
  rw [h.s19, StableHlo.after_of_writes_sub hostOps4_1 _ hostOps4_1_writes (by decide)]
  rw [h.s18, StableHlo.after_of_writes_sub hostOps4 _ hostOps4_writes (by decide)]

/-- The kernel's main_v43_1 stays from state 17 to state 21. -/
theorem States.main_v43_1_21 (h : States m c W) : W 21 (Proc.devRef .tc KernelIdeal.main_v43_1) = W 17 (Proc.devRef .tc KernelIdeal.main_v43_1) := by
  rw [h.s21, StableHlo.after_of_writes_sub hostOps4_3 _ hostOps4_3_writes (by decide)]
  rw [h.s20, StableHlo.after_of_writes_sub hostOps4_2 _ hostOps4_2_writes (by decide)]
  rw [h.s19, StableHlo.after_of_writes_sub hostOps4_1 _ hostOps4_1_writes (by decide)]
  rw [h.s18, StableHlo.after_of_writes_sub hostOps4 _ hostOps4_writes (by decide)]

/-- The gathered rows agree. -/
theorem States.v0 (h : States m c W) {m' : RM} (s : Same (W 0) (U0 m' c)) :
    (W 1 (Proc.devRef .tc KernelIdeal.main_v0) : FVec Ideal ReferenceIdeal.S64x1024 .f32) = U1 m' c (Proc.devRef .tc ReferenceIdeal.main_v0) := by
  rw [h.s1, U1]
  refine take_eq _ _ ?_ ?_
  · exact s.a2
  · exact s.a1

/-- The logits agree. -/
theorem States.v4 (h : States m c W) {m' : RM} (s : Same (W 0) (U0 m' c)) (ht : ∀ k, 0 ≤ ((W 0 (Proc.devRef .tc KernelIdeal.main_arg3) : IVec ReferenceIdeal.S64x50 32) k).toInt) :
    (W 3 (Proc.devRef .tc KernelIdeal.main_v4) : FVec Ideal ReferenceIdeal.S64x100000 .f32) = U2 m' c (Proc.devRef .tc ReferenceIdeal.main_v37) := by
  have hc := columns (W 1) _ _ _ h.main_arg5_1 h.main_arg4_1 h.main_arg6_1
  rw [← h.s2] at hc
  have hr := logits_run (U1 m' c) (W 1 (Proc.devRef .tc KernelIdeal.main_v0)) (W 0 (Proc.devRef .tc KernelIdeal.main_arg0)) (W 0 (Proc.devRef .tc KernelIdeal.main_arg3))
    (W 0 (Proc.devRef .tc KernelIdeal.main_arg5)) (W 0 (Proc.devRef .tc KernelIdeal.main_arg4)) (W 0 (Proc.devRef .tc KernelIdeal.main_arg6))
    (h.v0 s).symm ((ref_main_arg0_1 m' c).trans s.a0.symm) ((ref_main_arg3_1 m' c).trans s.a3.symm) ((ref_main_arg5_1 m' c).trans s.a5.symm)
    ((ref_main_arg4_1 m' c).trans s.a4.symm) ((ref_main_arg6_1 m' c).trans s.a6.symm)
  refine Eq.trans ?_ hr.symm
  funext i
  refine (KernelIdeal.Hand.logits_at (W 2) c (W 1 (Proc.devRef .tc KernelIdeal.main_v0)) _ _ _ _ _ h.main_v0_2 h.main_arg0_2 h.main_arg3_2 rfl rfl rfl _ (h.s3.1 6) i).trans ?_
  exact (logits_eq _ _ _ ht _ _ _ _ _ _ (fun b => (hc b).1) (fun b => (hc b).2.1) (fun b => (hc b).2.2) i).symm

/-- Their opposites agree. -/
theorem States.v5 (h : States m c W) {m' : RM} (e : (W 3 (Proc.devRef .tc KernelIdeal.main_v4) : FVec Ideal ReferenceIdeal.S64x100000 .f32) = U2 m' c (Proc.devRef .tc ReferenceIdeal.main_v37)) :
    (W 4 (Proc.devRef .tc KernelIdeal.main_v5) : FVec Ideal ReferenceIdeal.S64x100000 .f32) = U2 m' c (Proc.devRef .tc ReferenceIdeal.main_v38) := by
  rw [h.s4]
  exact (opposites (W 3) _ e).trans (neg_run (U1 m' c) _ rfl).symm

/-- The cut logits agree. -/
theorem States.v35 (h : States m c W) {m' : RM} (s : Same (W 0) (U0 m' c)) (e : (W 3 (Proc.devRef .tc KernelIdeal.main_v4) : FVec Ideal ReferenceIdeal.S64x100000 .f32) = U2 m' c (Proc.devRef .tc ReferenceIdeal.main_v37)) :
    (W 12 (Proc.devRef .tc KernelIdeal.main_v35) : FVec Ideal ReferenceIdeal.S64x100000 .f32) = U11 m' c (Proc.devRef .tc ReferenceIdeal.main_v68) := by
  have e5 := h.v5 e
  have e6 := argsort_eq _ _ e5
  rw [← h.s5] at e6
  have e7 := sorted_eq (W 5) (U3 m' c) e6 ((h.main_v4_5).trans (e.trans (ref_main_v37_3 m' c).symm))
  rw [← h.s6] at e7
  have e18 := softmax_eq (W 6) (U4 m' c) e7
  rw [← h.s7] at e18
  have e19 := cumsum_eq (W 7) (U6 m' c) e18
  rw [← h.s8] at e19
  have a18 := (h.main_v18_8).trans (e18.trans (ref_main_v51_7 m' c).symm)
  have a7 := (h.main_arg7_8).trans (s.a7.trans (ref_main_arg7_7 m' c).symm)
  have a8 := (h.main_arg8_8).trans (s.a8.trans (ref_main_arg8_7 m' c).symm)
  have e32 := mask_eq (W 8) (U7 m' c) e19 a18 a7 a8
  have ec := mask_eq2 (W 8) (U7 m' c) e19 a18 a7 a8
  rw [← h.s9] at e32 ec
  have e33 := where_eq (W 9) (U8 m' c) ec e32 ((h.main_v7_9).trans (e7.trans (ref_main_v40_8 m' c).symm))
  rw [← h.s10] at e33
  have e34 := inverse_eq (W 10) (U9 m' c) ((h.main_v6_10).trans (e6.trans (ref_main_v39_9 m' c).symm))
  rw [← h.s11] at e34
  have e35 := masked_eq (W 11) (U10 m' c) e34 ((h.main_v33_11).trans (e33.trans (ref_main_v66_10 m' c).symm))
  rw [← h.s12] at e35
  exact e35

/-- The drawn tokens agree. -/
theorem States.v53 (h : States m c W) {m' : RM} (e : (W 12 (Proc.devRef .tc KernelIdeal.main_v35) : FVec Ideal ReferenceIdeal.S64x100000 .f32) = U11 m' c (Proc.devRef .tc ReferenceIdeal.main_v68)) :
    (W 21 (Proc.devRef .tc KernelIdeal.main_v53) : IVec ReferenceIdeal.S64 32) = U17 m' c (Proc.devRef .tc ReferenceIdeal.main_v90) := by
  have e50 := key_eq (W 17) (U13 m' c)
  rw [← h.s18] at e50
  have e51 := gumbel_eq (W 18) (U14 m' c) e50
  rw [← h.s19] at e51
  have e52 := noisy_eq (W 19) (U15 m' c) e51 ((h.main_v35_19).trans (e.trans (ref_main_v68_15 m' c).symm))
  rw [← h.s20] at e52
  have e53 := argmax_eq (W 20) (U16 m' c) e52
  rw [← h.s21] at e53
  exact e53

end Cert.Agree
-- ==== Proof.KI.Sum.lean ====
/-
  What the region of the block sums leaves: for each row and each block of columns, the sum of the exponentials of the logits less the maximum.
-/
module

public import proofs.«01_k».proof.Proof.KI.Max

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (RDat Cfg Window)
open Cert.Proof.Rel

/-- One run of the body at a lane: the lane of the grid point takes the block's sum, the others keep what they hold. -/
theorem sum_block (i : grid2.Coords) (v : FVec Ideal S64x2048 .f32) (m : FVec Ideal S64x1 .f32) (acc : FVec Ideal S64x49 .f32) (b : Fin 64) (s : Fin 49) :
    (k2_pay2 (F := Ideal) i v m acc (ix2 b s) : EReal) = if s.val = (i 0).val then ∑ q : Fin 2048, (if (i 0).val * 2048 + q.val < 100000 then Ideal.exp (v (ix2 b q) - m (ix2 b 0)) else 0) else acc (ix2 b s) := by
  pointwise [k2_pay2]
  have hi : (i 0).val < 49 := (i 0).isLt
  have hs : s.val < 49 := s.isLt
  rw [eq_word _ _ (by omega) (by omega)]
  simp only [lt_word _ _ hi (Fin.isLt _)]
  refine if_congr Iff.rfl (Finset.sum_congr rfl fun q _ => ?_) rfl
  by_cases h : (i 0).val * 2048 + q.val < 100000
  · rw [if_pos h, if_pos h]
  · rw [if_neg h, if_neg h]
    show Ideal.exp (Ideal.ofBits .f32 0xFF800000#32 - _) = 0
    rw [ofBits_bot, sub_eq_add_neg, EReal.bot_add]
    rfl

/-- The sum of the exponentials over a block of columns, the columns beyond the array left out. -/
def blockSum (x : S64x100000.Idx → EReal) (m : S64x1.Idx → EReal) (b : Fin 64) (s : ℕ) : EReal :=
  ∑ q : Fin 2048, (if h : s * 2048 + q.val < 100000 then Ideal.exp (x (ix2 b ⟨s * 2048 + q.val, h⟩) - m (ix2 b 0)) else 0)

/-- The grid point is its number. -/
theorem coords2 : ∀ t : Fin cfg2.N, ((grid2.coords t) 0).val = t.val := by decide +kernel

/-- One run of the body on a fetched block: the point's lane takes its block's sum. -/
theorem sum_step (W : Valuation τ sig (Elt Ideal)) (c : Dev nD) (x : S64x100000.Idx → EReal) (m : S64x1.Idx → EReal) (hx : W (Proc.devRef .tc main_v35) = x) (hm : W (Proc.devRef .tc main_v38) = m)
    (t : Fin cfg2.N) (d) (d') (acc : FVec Ideal S64x49 .f32) (b : Fin 64) (s : Fin 49) :
    (k2_pay2 (F := Ideal) (grid2.coords t) ((base2 W c).fetched 0 t d) ((base2 W c).fetched 1 t d') acc (ix2 b s) : EReal) = if s.val = t.val then blockSum x m b s.val else acc (ix2 b s) := by
  refine (sum_block (grid2.coords t) ((base2 W c).fetched 0 t d) ((base2 W c).fetched 1 t d') acc b s).trans ?_
  rw [coords2 t]
  rw [fetched2_1 W c m hm t d']
  by_cases h : s.val = t.val
  · rw [if_pos h, if_pos h, h]
    unfold blockSum
    refine Finset.sum_congr rfl fun q _ => ?_
    by_cases hq : t.val * 2048 + q.val < 100000
    · rw [if_pos hq, dif_pos hq]
      rw [fetched2_0 W c x hx t d (ix2 b q) (ix2 b ⟨t.val * 2048 + q.val, hq⟩) rfl rfl]
    · rw [if_neg hq, dif_neg hq]
  · rw [if_neg h, if_neg h]

/-- What the body may leave after a point: the lanes up to the point's hold their blocks' sums. -/
theorem leaves_sum (W : Valuation τ sig (Elt Ideal)) (c : Dev nD) (x : S64x100000.Idx → EReal) (m : S64x1.Idx → EReal) (hx : W (Proc.devRef .tc main_v35) = x) (hm : W (Proc.devRef .tc main_v38) = m) :
    ∀ (n : ℕ) (hn : n < cfg2.N) (X : S64x49.Idx → EReal), (rd2 W c).Leaves 2 ⟨n, hn⟩ X → ∀ (b : Fin 64) (s : Fin 49), s.val ≤ n → X (ix2 b s) = blockSum x m b s.val := by
  intro n
  induction n with
  | zero =>
    intro hn X hX b s hs
    obtain ⟨Y, hY, d0, d1, hX⟩ := hX
    rw [hX]
    refine (sum_step W c x m hx hm ⟨0, hn⟩ d0 d1 _ b s).trans ?_
    rw [if_pos (Nat.le_zero.1 hs)]
  | succ n ih =>
    intro hn X hX b s hs
    obtain ⟨Y, hY, d0, d1, hX⟩ := hX
    rw [hX]
    refine (sum_step W c x m hx hm ⟨n + 1, hn⟩ d0 d1 _ b s).trans ?_
    by_cases h : s.val = n + 1
    · rw [if_pos h]
    · rw [if_neg h, if_neg (Nat.succ_ne_zero n)]
      have hY' := ((rd2 W c).finds_of_pos (w := 2) (t := ⟨n + 1, hn⟩) rfl (Nat.succ_ne_zero n) Y).1 hY
      refine ih (Nat.lt_of_succ_lt hn) Y (hY'.resolve_left ?_) b s (by omega)
      intro hf
      have := (flush2_2 ⟨n, Nat.lt_of_succ_lt hn⟩).1 hf
      have hN : n + 1 < 49 := hn
      simp at this
      omega

/-- The last grid point. -/
def last2 : Fin cfg2.N := ⟨48, by decide⟩
/-- The sums are written back once, whole, after the last point. -/
theorem last2_whole : (cfg2.win 2).WholeAt last2 := by decide +kernel

/-- The block sums after the region. -/
theorem sums_at (W : Valuation τ sig (Elt Ideal)) (c : Dev nD) (x : S64x100000.Idx → EReal) (m : S64x1.Idx → EReal) (hx : W (Proc.devRef .tc main_v35) = x) (hm : W (Proc.devRef .tc main_v38) = m)
    (G : S64x49.Idx → EReal) (h : (rd2 W c).ArrAt 2 cfg2.N G) (b : Fin 64) (s : Fin 49) : G (ix2 b s) = blockSum x m b s.val := by
  obtain ⟨X, hX, hA⟩ := RDat.ArrAt.emb_eq_of_wholeAt h last2_whole
  refine (hA (ix2 b s)).trans ?_
  exact leaves_sum W c x m hx hm 48 (by decide) X hX b s (by omega)

end Cert.KernelIdeal.Hand
-- ==== Proof.RI.Soft.lean ====
/-
  The reference's probabilities and log-probabilities at an element.
-/
module

public import proofs.«01_k».proof.Proof.V.Agree
public import proofs.«01_k».proof.Proof.KI.Max
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Agree (RV)

/-- The greatest of a row. -/
def rowMax (x : S64x100000.Idx → EReal) (b : Fin 64) : EReal := Finset.univ.fold max ⊥ (fun v : Fin 100000 => x (ix2 b v))

/-- The sum of a row's exponentials less `m`. -/
def rowSum (x : S64x100000.Idx → EReal) (m : EReal) (b : Fin 64) : EReal := ∑ v : Fin 100000, Ideal.exp (x (ix2 b v) - m)

/-- The reduction is over the columns. -/
theorem reduces : S64x100000.Reduces [1] S64 := by decide

/-- The greatest of a row, as the host's reduction. -/
theorem max_at (x : FVec Ideal S64x100000 .f32) (c : FVec Ideal S_ .f32) (b : Fin 64) :
    Host.reduce (FloatOps.maximumf (F := Ideal) (φ := .f32)) x c reducesTo_S64x100000_S64_d1 h_S_ (ix1 b) = Finset.univ.fold max (c (Shape.Idx.first h_S_)) (fun v : Fin 100000 => (x (ix2 b v) : EReal)) := by
  refine (Host.reduce_eq_fold_single (α := EReal) max x c reducesTo_S64x100000_S64_d1 reduces h_S_ (ix1 b)).trans ?_
  have h : x ∘ reduces.lift (ix1 b) = (fun v : Fin 100000 => (x (ix2 b v) : EReal)) := by
    funext v
    refine congrArg x ?_
    funext a
    match a with
    | 0 => rfl
    | 1 => rfl
  exact congrArg (fun g => Finset.univ.fold max (c (Shape.Idx.first h_S_)) g) h

/-- The rows' maxima. -/
def maxes (x : FVec Ideal S64x100000 .f32) : FVec Ideal S64 .f32 :=
  Host.reduce FloatOps.maximumf x (constant S_ .f32 0xFF800000#32) reducesTo_S64x100000_S64_d1 h_S_

/-- The rows' maxima at a row. -/
theorem maxes_at (x : FVec Ideal S64x100000 .f32) (b : Fin 64) : (maxes x (ix1 b) : EReal) = rowMax x b := by
  refine (max_at x _ b).trans ?_
  unfold rowMax
  exact congrArg (fun z => Finset.univ.fold max z (fun v : Fin 100000 => (x (ix2 b v) : EReal))) KernelIdeal.Hand.ofBits_bot

/-- The rows less `m`. -/
def less (x : FVec Ideal S64x100000 .f32) (m : FVec Ideal S64 .f32) : FVec Ideal S64x100000 .f32 :=
  subf x (broadcastInDim S64x100000 ![0, 1] bcast_S64x1_S64x100000_0_1 (broadcastInDim S64x1 ![0] bcast_S64_S64x1_0
    (maximumf (broadcastInDim S64 ![] bcast_S_S64 (constant S_ .f32 0xFF800000#32)) m)))

/-- The rows less `m` at an element. -/
theorem less_at (x : FVec Ideal S64x100000 .f32) (m : FVec Ideal S64 .f32) (b : Fin 64) (v : Fin 100000) : (less x m (ix2 b v) : EReal) = x (ix2 b v) - m (ix1 b) := by
  pointwise [less]
  rw [show (Ideal.ofBits FTy.f32 4286578688#32 : EReal) = ⊥ from KernelIdeal.Hand.ofBits_bot, max_eq_right bot_le]

/-- The rows less their maxima. -/
def shifted (x : FVec Ideal S64x100000 .f32) : FVec Ideal S64x100000 .f32 := less x (maxes x)

/-- The rows less their maxima at an element. -/
theorem shifted_at (x : FVec Ideal S64x100000 .f32) (b : Fin 64) (v : Fin 100000) : (shifted x (ix2 b v) : EReal) = x (ix2 b v) - rowMax x b := by
  refine (less_at x _ b v).trans ?_
  rw [maxes_at]

/-- The rows' sums as columns. -/
def sums (y : FVec Ideal S64x100000 .f32) : FVec Ideal S64x1 .f32 :=
  broadcastInDim S64x1 ![0] bcast_S64_S64x1_0 (Host.reduceAdd y (constant S_ .f32 0x00000000#32) reducesTo_S64x100000_S64_d1 h_S_)

/-- The sums at a row. -/
theorem sums_at (y : FVec Ideal S64x100000 .f32) (b : Fin 64) : (sums y (ix2 b 0) : EReal) = ∑ v : Fin 100000, y (ix2 b v) := by
  pointwise [sums]

/-- The log-probabilities, from the shifted rows. -/
def logSoft (y : FVec Ideal S64x100000 .f32) : FVec Ideal S64x100000 .f32 :=
  subf y (broadcastInDim S64x100000 ![0, 1] bcast_S64x1_S64x100000_0_1 (Host.log (sums (Host.exp y))))

/-- The probabilities, from the shifted rows. -/
def soft (y : FVec Ideal S64x100000 .f32) : FVec Ideal S64x100000 .f32 :=
  Host.divf (Host.exp y) (broadcastInDim S64x100000 ![0, 1] bcast_S64x1_S64x100000_0_1 (sums (Host.exp y)))

/-- The log-probabilities at an element. -/
theorem logSoft_at (y : FVec Ideal S64x100000 .f32) (b : Fin 64) (v : Fin 100000) : (logSoft y (ix2 b v) : EReal) = y (ix2 b v) - Ideal.log (∑ v : Fin 100000, Ideal.exp (y (ix2 b v))) := by
  pointwise [logSoft]
  rw [sums_at]
  pointwise []

/-- The probabilities at an element. -/
theorem soft_at (y : FVec Ideal S64x100000 .f32) (b : Fin 64) (v : Fin 100000) : (soft y (ix2 b v) : EReal) = Ideal.div (Ideal.exp (y (ix2 b v))) (∑ v : Fin 100000, Ideal.exp (y (ix2 b v))) := by
  pointwise [soft]
  rw [sums_at]
  pointwise []

end Cert.ReferenceIdeal.Hand
-- ==== Proof.Whole.lean ====
/-
  A row's maximum and the sum of its exponentials are those of its blocks, put together.
-/
module

public import proofs.«01_k».proof.Proof.KI.Sum
public import proofs.«01_k».proof.Proof.RI.Soft

@[expose] public section

noncomputable section

namespace Cert.Whole

open Idealize.ShloMosaic Idealize.ShloMosaic.Tactic
open Cert.KernelIdeal.Hand (blockMax blockSum)
open Cert.ReferenceIdeal.Hand (rowMax rowSum)
open Cert.KernelIdeal (S64x100000 S64x1 S64x49)

/-- A sum over the first numbers, cut in blocks. -/
theorem sum_blocks (g : ℕ → EReal) (m n : ℕ) : ∑ s : Fin m, ∑ q : Fin n, g (s.val * n + q.val) = ∑ k ∈ Finset.range (m * n), g k := by
  rw [Finset.sum_range, ← Fintype.sum_prod_type' (fun (s : Fin m) (q : Fin n) => g (s.val * n + q.val))]
  refine Fintype.sum_equiv finProdFinEquiv _ _ fun p => ?_
  congr 1
  show p.1.val * n + p.2.val = p.2.val + n * p.1.val
  rw [Nat.mul_comm, Nat.add_comm]

/-- A sum over more numbers than there are, those beyond giving nothing. -/
theorem sum_beyond (N M : ℕ) (h : N ≤ M) (f : Fin N → EReal) : ∑ k ∈ Finset.range M, (if h : k < N then f ⟨k, h⟩ else 0) = ∑ v : Fin N, f v := by
  rw [← Finset.sum_subset (Finset.range_mono h)]
  · rw [Finset.sum_range]
    refine Finset.sum_congr rfl fun v _ => ?_
    rw [dif_pos v.isLt]
  · intro k _ hk
    rw [dif_neg (fun h' => hk (Finset.mem_range.2 h'))]

/-- The sum of the block sums. -/
theorem sum_whole (x : S64x100000.Idx → EReal) (m : S64x1.Idx → EReal) (b : Fin 64) :
    ∑ s : Fin 49, blockSum x m b s.val = rowSum x (m (ix2 b 0)) b := by
  unfold blockSum rowSum
  rw [sum_blocks (fun k => if h : k < 100000 then Ideal.exp (x (ix2 b ⟨k, h⟩) - m (ix2 b 0)) else 0) 49 2048]
  exact sum_beyond 100000 (49 * 2048) (by norm_num) (fun v => Ideal.exp (x (ix2 b v) - m (ix2 b 0)))

/-- The greatest block maximum. -/
theorem max_whole (x : S64x100000.Idx → EReal) (b : Fin 64) :
    Finset.univ.fold max ⊥ (fun s : Fin 49 => blockMax x b s.val) = rowMax x b := by
  unfold blockMax rowMax
  show Finset.univ.sup (fun s : Fin 49 => Finset.univ.sup (fun q : Fin 2048 => if h : s.val * 2048 + q.val < 100000 then x (ix2 b ⟨s.val * 2048 + q.val, h⟩) else ⊥)) = Finset.univ.sup (fun v : Fin 100000 => x (ix2 b v))
  apply le_antisymm
  · refine Finset.sup_le fun s _ => Finset.sup_le fun q _ => ?_
    by_cases h : s.val * 2048 + q.val < 100000
    · rw [dif_pos h]
      exact Finset.le_sup (f := fun v : Fin 100000 => x (ix2 b v)) (Finset.mem_univ _)
    · rw [dif_neg h]
      exact bot_le
  · refine Finset.sup_le fun v _ => ?_
    have hv := v.isLt
    have hs : v.val / 2048 < 49 := by omega
    have hq : v.val % 2048 < 2048 := Nat.mod_lt _ (by norm_num)
    have he : v.val / 2048 * 2048 + v.val % 2048 = v.val := Nat.div_add_mod' _ _
    refine le_trans ?_ (Finset.le_sup (f := fun s : Fin 49 => Finset.univ.sup (fun q : Fin 2048 => if h : s.val * 2048 + q.val < 100000 then x (ix2 b ⟨s.val * 2048 + q.val, h⟩) else ⊥)) (Finset.mem_univ ⟨v.val / 2048, hs⟩))
    refine le_trans ?_ (Finset.le_sup (f := fun q : Fin 2048 => if h : v.val / 2048 * 2048 + q.val < 100000 then x (ix2 b ⟨v.val / 2048 * 2048 + q.val, h⟩) else ⊥) (Finset.mem_univ ⟨v.val % 2048, hq⟩))
    show x (ix2 b v) ≤ if h : v.val / 2048 * 2048 + v.val % 2048 < 100000 then x (ix2 b ⟨v.val / 2048 * 2048 + v.val % 2048, h⟩) else ⊥
    rw [dif_pos (by rw [he]; exact hv)]
    refine le_of_eq (congrArg (fun u : Fin 100000 => x (ix2 b u)) (Fin.ext he.symm))

end Cert.Whole
-- ==== Proof.KI.Probs.lean ====
/-
  What the region that writes the probabilities leaves: each logit less the maximum and less the logarithm of the sum, and its exponential.
-/
module

public import proofs.«01_k».proof.Proof.KI.Fetch
public import proofs.«01_k».proof.Proof.Exit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (RDat Cfg Window)
open Cert.Proof.Rel

/-- One block of the log probabilities at an element. -/
theorem logprob_block (v0 : FVec Ideal S64x2048 .f32) (v2 v6 : FVec Ideal S64x1 .f32) (j : S64x2048.Idx) :
    (k3_pay1 (F := Ideal) v0 v2 v6 j : EReal) = v0 j - v2 (ix2 (j 0) 0) - v6 (ix2 (j 0) 0) := by
  pointwise [k3_pay1]

/-- One block of the probabilities at an element. -/
theorem prob_block (v0 : FVec Ideal S64x2048 .f32) (v2 v6 : FVec Ideal S64x1 .f32) (j : S64x2048.Idx) :
    (k3_pay2 (F := Ideal) v0 v2 v6 j : EReal) = Ideal.exp (v0 j - v2 (ix2 (j 0) 0) - v6 (ix2 (j 0) 0)) := by
  pointwise [k3_pay2, k3_pay1]

/-- The log probabilities after the region. -/
theorem logprobs_at (W : Valuation τ sig (Elt Ideal)) (c : Dev nD) (x : S64x100000.Idx → EReal) (m l : S64x1.Idx → EReal)
    (hx : W (Proc.devRef .tc main_v35) = x) (hm : W (Proc.devRef .tc main_v38) = m) (hl : W (Proc.devRef .tc main_v42) = l)
    (G : S64x100000.Idx → EReal) (h : (rd3 W c).ArrAt 4 cfg3.N G) (i : S64x100000.Idx) :
    G i = x i - m (ix2 (i 0) 0) - l (ix2 (i 0) 0) := by
  refine arrAt_forall h (fun (i : S64x100000.Idx) (g : EReal) => g = x i - m (ix2 (i 0) 0) - l (ix2 (i 0) 0)) (by decide +kernel) ?_ (Memref.isWhole_whole _) i
  intro t hf X hX y
  obtain ⟨Y, -, d0, d1, d2, rfl⟩ := hX
  rw [fetched3_1 W c m hm t d1, fetched3_2 W c l hl t d2]
  have e0 := emb3_4_0 t y
  have e1 := emb3_4_1 t y
  generalize ((cfg3.win 4).blk t).view.emb y = k at e0 e1 ⊢
  refine (logprob_block _ m l ((cfg3.win 4).xinj (cfg3.grid.coords t) y)).trans ?_
  have hk : ((cfg3.win 4).xinj (cfg3.grid.coords t) y) 0 = (k 0 : Fin 64) := Fin.ext e0.symm
  rw [fetched3_0 W c x hx t d0 _ k e0 e1, hk]

/-- The probabilities after the region. -/
theorem probs_at (W : Valuation τ sig (Elt Ideal)) (c : Dev nD) (x : S64x100000.Idx → EReal) (m l : S64x1.Idx → EReal)
    (hx : W (Proc.devRef .tc main_v35) = x) (hm : W (Proc.devRef .tc main_v38) = m) (hl : W (Proc.devRef .tc main_v42) = l)
    (G : S64x100000.Idx → EReal) (h : (rd3 W c).ArrAt 3 cfg3.N G) (i : S64x100000.Idx) :
    G i = Ideal.exp (x i - m (ix2 (i 0) 0) - l (ix2 (i 0) 0)) := by
  refine arrAt_forall h (fun (i : S64x100000.Idx) (g : EReal) => g = Ideal.exp (x i - m (ix2 (i 0) 0) - l (ix2 (i 0) 0))) (by decide +kernel) ?_ (Memref.isWhole_whole _) i
  intro t hf X hX y
  obtain ⟨Y, -, d0, d1, d2, rfl⟩ := hX
  rw [fetched3_1 W c m hm t d1, fetched3_2 W c l hl t d2]
  have e0 := emb3_3_0 t y
  have e1 := emb3_3_1 t y
  generalize ((cfg3.win 3).blk t).view.emb y = k at e0 e1 ⊢
  refine (prob_block _ m l ((cfg3.win 3).xinj (cfg3.grid.coords t) y)).trans ?_
  have hk : ((cfg3.win 3).xinj (cfg3.grid.coords t) y) 0 = (k 0 : Fin 64) := Fin.ext e0.symm
  rw [fetched3_0 W c x hx t d0 _ k e0 e1, hk]

end Cert.KernelIdeal.Hand
-- ==== Proof.RI.SoftRun.lean ====
/-
  The reference's last two stretches: the probabilities and the log-probabilities.
-/
module

public import proofs.«01_k».proof.Proof.RI.Soft
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Agree (RV)

/-- The reference's run leaves the log-probabilities. -/
theorem logSoft_run (V' : RV) (x : FVec Ideal S64x100000 .f32) (h : V' (Proc.devRef .tc main_v68) = x) :
    (StableHlo.after (ops12 (F := Ideal)) V' (Proc.devRef .tc main_v80) : FVec Ideal S64x100000 .f32) = logSoft (shifted x) := by
  subst h
  after_reads_simp
  simp only [StableHlo.TRef.ofBuf_toBuf]
  unfold logSoft sums shifted less maxes
  rfl

/-- The reference's run leaves the probabilities. -/
theorem soft_run (V' : RV) (x : FVec Ideal S64x100000 .f32) (h : V' (Proc.devRef .tc main_v68) = x) :
    (StableHlo.after (ops11 (F := Ideal)) V' (Proc.devRef .tc main_v79) : FVec Ideal S64x100000 .f32) = soft (shifted x) := by
  subst h
  after_reads_simp
  rfl

/-- The log-probabilities from the logits. -/
theorem logprobs_value (x : FVec Ideal S64x100000 .f32) (b : Fin 64) (v : Fin 100000) :
    (logSoft (shifted x) (ix2 b v) : EReal) = x (ix2 b v) - rowMax x b - Ideal.log (rowSum x (rowMax x b) b) := by
  rw [logSoft_at, shifted_at]
  unfold rowSum
  refine congrArg _ (congrArg _ (Finset.sum_congr rfl fun u _ => ?_))
  rw [shifted_at]

/-- The probabilities from the logits. -/
theorem probs_value (x : FVec Ideal S64x100000 .f32) (b : Fin 64) (v : Fin 100000) :
    (soft (shifted x) (ix2 b v) : EReal) = Ideal.div (Ideal.exp (x (ix2 b v) - rowMax x b)) (rowSum x (rowMax x b) b) := by
  rw [soft_at, shifted_at]
  unfold rowSum
  refine congrArg _ (Finset.sum_congr rfl fun u _ => ?_)
  rw [shifted_at]

end Cert.ReferenceIdeal.Hand
-- ==== Proof.V.Results.lean ====
/-
  The kernel's probabilities and log-probabilities, from the cut logits; the log-probabilities are the reference's.
-/
module

public import proofs.«01_k».proof.Proof.V.Trace
public import proofs.«01_k».proof.Proof.Whole
public import proofs.«01_k».proof.Proof.KI.Max
public import proofs.«01_k».proof.Proof.KI.Sum
public import proofs.«01_k».proof.Proof.KI.Probs
public import proofs.«01_k».proof.Proof.RI.SoftRun

@[expose] public section

set_option maxRecDepth 16384

noncomputable section

namespace Cert.Agree

open Idealize.ShloMosaic Idealize.ShloMosaic.TcCoe Idealize.ShloMosaic.Tactic
open Cert.KernelIdeal.Gen Cert.KernelIdeal.Hand Cert.ReferenceIdeal.Hand
open Cert.KernelIdeal (S64x100000 S64x1 S64x49)

variable {m : KM} {c : Dev KernelIdeal.nD} {W : Fin 22 → KV}

/-- A row's maximum, as the kernel finds it. -/
theorem States.rowMax_at (h : States m c W) (x : S64x100000.Idx → EReal) (hx : W 12 (Proc.devRef .tc KernelIdeal.main_v35) = x)
    (u : S64x1.Idx → EReal) (hu : W 14 (Proc.devRef .tc KernelIdeal.main_v38) = u) (b : Fin 64) : u (ix2 b 0) = rowMax x b := by
  obtain ⟨g, hg⟩ : ∃ g : S64x49.Idx → EReal, W 13 (Proc.devRef .tc KernelIdeal.main_v36) = g := ⟨_, rfl⟩
  have ht := total_max (W 13) g hg b
  rw [← h.s14] at ht
  rw [← hu]
  refine ht.trans ?_
  rw [← Whole.max_whole x b]
  refine congrArg (fun f : Fin 49 → EReal => Finset.univ.fold max (⊥ : EReal) f) (funext fun s => ?_)
  rw [← hg]
  exact KernelIdeal.Hand.maxes_at (W 12) c x hx _ (h.s13.1 1) b s

/-- The logarithm of a row's sum, as the kernel finds it. -/
theorem States.logSum_at (h : States m c W) (x : S64x100000.Idx → EReal) (hx : W 12 (Proc.devRef .tc KernelIdeal.main_v35) = x)
    (l : S64x1.Idx → EReal) (hl : W 16 (Proc.devRef .tc KernelIdeal.main_v42) = l) (b : Fin 64) : l (ix2 b 0) = Ideal.log (rowSum x (rowMax x b) b) := by
  obtain ⟨g, hg⟩ : ∃ g : S64x49.Idx → EReal, W 15 (Proc.devRef .tc KernelIdeal.main_v39) = g := ⟨_, rfl⟩
  obtain ⟨u, hu⟩ : ∃ u : S64x1.Idx → EReal, W 14 (Proc.devRef .tc KernelIdeal.main_v38) = u := ⟨_, rfl⟩
  have ht := total_log (W 15) g hg b
  rw [← h.s16] at ht
  rw [← hl]
  refine ht.trans ?_
  rw [← h.rowMax_at x hx u hu b, ← Whole.sum_whole x u b]
  refine congrArg _ (Finset.sum_congr rfl fun s _ => ?_)
  rw [← hg]
  exact KernelIdeal.Hand.sums_at (W 14) c x u ((h.main_v35_14).trans hx) hu _ (h.s15.1 2) b s

/-- The kernel's log-probabilities. -/
theorem States.logprobs (h : States m c W) (x : S64x100000.Idx → EReal) (hx : W 12 (Proc.devRef .tc KernelIdeal.main_v35) = x)
    (p : S64x100000.Idx → EReal) (hp : W 21 (Proc.devRef .tc KernelIdeal.main_v43_1) = p) (b : Fin 64) (v : Fin 100000) :
    p (ix2 b v) = x (ix2 b v) - rowMax x b - Ideal.log (rowSum x (rowMax x b) b) := by
  obtain ⟨u, hu⟩ : ∃ u : S64x1.Idx → EReal, W 14 (Proc.devRef .tc KernelIdeal.main_v38) = u := ⟨_, rfl⟩
  obtain ⟨l, hl⟩ : ∃ l : S64x1.Idx → EReal, W 16 (Proc.devRef .tc KernelIdeal.main_v42) = l := ⟨_, rfl⟩
  rw [← h.rowMax_at x hx u hu b]
  have hS := h.logSum_at x hx l hl b
  rw [← h.rowMax_at x hx u hu b] at hS
  rw [← hS]
  have h17 : W 17 (Proc.devRef .tc KernelIdeal.main_v43_1) = p := h.main_v43_1_21.symm.trans hp
  rw [← h17]
  exact KernelIdeal.Hand.logprobs_at (W 16) c x u l ((h.main_v35_16).trans hx) ((h.main_v38_16).trans hu) hl _ (h.s17.1 4) (ix2 b v)

/-- The kernel's probabilities. -/
theorem States.probs (h : States m c W) (x : S64x100000.Idx → EReal) (hx : W 12 (Proc.devRef .tc KernelIdeal.main_v35) = x)
    (p : S64x100000.Idx → EReal) (hp : W 21 (Proc.devRef .tc KernelIdeal.main_v43_0) = p) (b : Fin 64) (v : Fin 100000) :
    p (ix2 b v) = Ideal.exp (x (ix2 b v) - rowMax x b - Ideal.log (rowSum x (rowMax x b) b)) := by
  obtain ⟨u, hu⟩ : ∃ u : S64x1.Idx → EReal, W 14 (Proc.devRef .tc KernelIdeal.main_v38) = u := ⟨_, rfl⟩
  obtain ⟨l, hl⟩ : ∃ l : S64x1.Idx → EReal, W 16 (Proc.devRef .tc KernelIdeal.main_v42) = l := ⟨_, rfl⟩
  rw [← h.rowMax_at x hx u hu b]
  have hS := h.logSum_at x hx l hl b
  rw [← h.rowMax_at x hx u hu b] at hS
  rw [← hS]
  have h17 : W 17 (Proc.devRef .tc KernelIdeal.main_v43_0) = p := h.main_v43_0_21.symm.trans hp
  rw [← h17]
  exact KernelIdeal.Hand.probs_at (W 16) c x u l ((h.main_v35_16).trans hx) ((h.main_v38_16).trans hu) hl _ (h.s17.1 3) (ix2 b v)

/-- An index of the logits is a row and a column. -/
theorem row_column (i : S64x100000.Idx) : ∃ (b : Fin 64) (v : Fin 100000), i = ix2 b v :=
  ⟨i 0, i 1, by
    funext a
    match a with
    | 0 => rfl
    | 1 => rfl⟩

/-- The log-probabilities agree. -/
theorem States.v43_1 (h : States m c W) {m' : RM} (e : (W 12 (Proc.devRef .tc KernelIdeal.main_v35) : FVec Ideal ReferenceIdeal.S64x100000 .f32) = U11 m' c (Proc.devRef .tc ReferenceIdeal.main_v68)) :
    (W 21 (Proc.devRef .tc KernelIdeal.main_v43_1) : FVec Ideal ReferenceIdeal.S64x100000 .f32) = U17 m' c (Proc.devRef .tc ReferenceIdeal.main_v80) := by
  obtain ⟨x, hx⟩ : ∃ x : FVec Ideal ReferenceIdeal.S64x100000 .f32, U11 m' c (Proc.devRef .tc ReferenceIdeal.main_v68) = x := ⟨_, rfl⟩
  obtain ⟨p, hp⟩ : ∃ p : FVec Ideal ReferenceIdeal.S64x100000 .f32, (W 21 (Proc.devRef .tc KernelIdeal.main_v43_1) : FVec Ideal ReferenceIdeal.S64x100000 .f32) = p := ⟨_, rfl⟩
  rw [ref_main_v80_17, U13]
  refine Eq.trans ?_ (logSoft_run (U12 m' c) x ((ref_main_v68_12 m' c).trans hx)).symm
  rw [hp]
  funext i
  obtain ⟨b, v, rfl⟩ := row_column i
  refine Eq.trans ?_ (logprobs_value x b v).symm
  exact h.logprobs x (e.trans hx) p hp b v

/-- The probabilities agree, where the exponential of a log-probability is the quotient. -/
theorem States.v43_0 (h : States m c W) {m' : RM} (e : (W 12 (Proc.devRef .tc KernelIdeal.main_v35) : FVec Ideal ReferenceIdeal.S64x100000 .f32) = U11 m' c (Proc.devRef .tc ReferenceIdeal.main_v68))
    (x : FVec Ideal ReferenceIdeal.S64x100000 .f32) (hx : U11 m' c (Proc.devRef .tc ReferenceIdeal.main_v68) = x)
    (hq : ∀ b v, Ideal.exp ((x (ix2 b v) : EReal) - rowMax x b - Ideal.log (rowSum x (rowMax x b) b)) = Ideal.div (Ideal.exp (x (ix2 b v) - rowMax x b)) (rowSum x (rowMax x b) b)) :
    (W 21 (Proc.devRef .tc KernelIdeal.main_v43_0) : FVec Ideal ReferenceIdeal.S64x100000 .f32) = U17 m' c (Proc.devRef .tc ReferenceIdeal.main_v79) := by
  obtain ⟨p, hp⟩ : ∃ p : FVec Ideal ReferenceIdeal.S64x100000 .f32, (W 21 (Proc.devRef .tc KernelIdeal.main_v43_0) : FVec Ideal ReferenceIdeal.S64x100000 .f32) = p := ⟨_, rfl⟩
  rw [ref_main_v79_17, U12]
  refine Eq.trans ?_ (soft_run (U11 m' c) x hx).symm
  rw [hp]
  funext i
  obtain ⟨b, v, rfl⟩ := row_column i
  refine Eq.trans ?_ (probs_value x b v).symm
  exact (h.probs x (e.trans hx) p hp b v).trans (hq b v)

end Cert.Agree
-- ==== Proof.Reals.lean ====
/-
  Extended reals that are real numbers: sums, products and the logits stay so, and over a row of reals the exponential of a
  log-probability is the quotient.
-/
module

public import proofs.«01_k».proof.Proof.KI.Logits
public import proofs.«01_k».proof.Proof.RI.Soft

@[expose] public section

noncomputable section

namespace Cert.Reals

open Idealize.ShloMosaic Idealize.ShloMosaic.Tactic
open Cert.KernelIdeal (S64x100000 S64x1 S64x49 S64x1024 S100000x1024 S64x50)
open Cert.KernelIdeal.Hand (penalised hit logitAt)
open Cert.ReferenceIdeal.Hand (rowMax rowSum)

/-- The extended real is a real number. -/
def IsReal (x : EReal) : Prop := ∃ r : ℝ, x = (r : EReal)

/-- A sum of two reals. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- A difference of two reals. -/
theorem IsReal.sub {x y : EReal} (hx : IsReal x) (hy : IsReal y) : IsReal (x - y) := by
  obtain ⟨r, rfl⟩ := hx
  obtain ⟨s, rfl⟩ := hy
  exact ⟨r - s, (EReal.coe_sub r s).symm⟩

/-- A product of two reals. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A sum of reals. -/
theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i

/-- A number between the infinities is real. -/
theorem IsReal.of_lt {x : EReal} (h : x < ⊤) (h' : ⊥ < x) : IsReal x := by
  induction x with
  | bot => exact absurd h' (lt_irrefl _)
  | coe r => exact ⟨r, rfl⟩
  | top => exact absurd h (lt_irrefl _)

/-- An integer read as a float is real. -/
theorem IsReal.sitofp (x : BitVec 32) : IsReal (FloatOps.sitofp (F := Ideal) FTy.f32 x) := ⟨(x.toInt : ℝ), rfl⟩

/-- The least temperature is a positive real. -/
theorem least_pos : ∃ r : ℝ, 0 < r ∧ Ideal.ofBits FTy.f32 981668463#32 = (r : EReal) := by
  refine ⟨_, ?_, by simp [Ideal.ofBits, Ideal.ieee, -EReal.coe_mul]; rfl⟩
  norm_num

/-- A real over a temperature that is at least the least one. -/
theorem IsReal.div {x : EReal} (hx : IsReal x) (t : EReal) : IsReal (Ideal.div x (max t (Ideal.ofBits FTy.f32 981668463#32))) := by
  obtain ⟨r, hr, e⟩ := least_pos
  rw [e]
  have h0 : (0 : EReal) < max t (r : EReal) := lt_of_lt_of_le (EReal.coe_pos.2 hr) (le_max_right _ _)
  unfold Ideal.div
  rw [if_neg (ne_of_gt h0)]
  refine hx.mul ?_
  generalize max t (r : EReal) = y at h0
  induction y with
  | bot => exact absurd h0 (not_lt_bot)
  | coe s => exact ⟨s⁻¹, (EReal.coe_inv s).symm⟩
  | top => exact ⟨0, EReal.inv_top⟩

/-- A logit made of reals is real, whatever the temperature. -/
theorem penalised_real {dot fp pp t n : EReal} (hd : IsReal dot) (hf : IsReal fp) (hp : IsReal pp) (hn : IsReal n) : IsReal (penalised dot fp pp t n) :=
  ((hd.sub (hf.mul hn)).sub (hp.mul (IsReal.sitofp _))).div t

/-- The kernel's logits are real. -/
theorem logitAt_real {hs : S64x1024.Idx → EReal} {emb : S100000x1024.Idx → EReal} (tok : S64x50.Idx → BitVec 32) {fp pp : S64x1.Idx → EReal} (t : S64x1.Idx → EReal)
    (hhs : ∀ i, IsReal (hs i)) (hemb : ∀ i, IsReal (emb i)) (hfp : ∀ b, IsReal (fp (ix2 b 0))) (hpp : ∀ b, IsReal (pp (ix2 b 0))) (b : Fin 64) (v : Fin 100000) :
    IsReal (logitAt hs emb tok fp pp t (ix2 b v)) :=
  penalised_real (IsReal.sum _ _ fun k => (hhs _).mul (hemb _)) (hfp b) (hpp b) (IsReal.sum _ _ fun h => IsReal.sitofp _)

/-- The greatest of a row of reals is real. -/
theorem rowMax_real (x : S64x100000.Idx → EReal) (b : Fin 64) (hx : ∀ v, IsReal (x (ix2 b v))) : IsReal (rowMax x b) := by
  show IsReal (Finset.univ.sup (fun v : Fin 100000 => x (ix2 b v)))
  refine IsReal.of_lt ?_ ?_
  · refine (Finset.sup_lt_iff (bot_lt_top)).2 fun v _ => ?_
    obtain ⟨r, e⟩ := hx v
    rw [e]
    exact EReal.coe_lt_top r
  · refine lt_of_lt_of_le ?_ (Finset.le_sup (f := fun v : Fin 100000 => x (ix2 b v)) (Finset.mem_univ (0 : Fin 100000)))
    obtain ⟨r, e⟩ := hx 0
    show ⊥ < x (ix2 b 0)
    rw [e]
    exact EReal.bot_lt_coe r

/-- A sum of real numbers, as extended reals. -/
theorem coe_sums {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The exponentials of a row of reals add up to a positive real. -/
theorem rowSum_real (x : S64x100000.Idx → EReal) (b : Fin 64) (M : ℝ) (hx : ∀ v, IsReal (x (ix2 b v))) : ∃ S : ℝ, 0 < S ∧ rowSum x (M : EReal) b = (S : EReal) := by
  choose r hr using hx
  refine ⟨∑ v : Fin 100000, Real.exp (r v - M), Finset.sum_pos (fun v _ => Real.exp_pos _) ⟨0, Finset.mem_univ _⟩, ?_⟩
  unfold rowSum
  rw [coe_sums]
  refine Finset.sum_congr rfl fun v _ => ?_
  rw [hr v, ← EReal.coe_sub]
  rfl

/-- Over a row of reals the exponential of a log-probability is the quotient. -/
theorem quotient (x : S64x100000.Idx → EReal) (b : Fin 64) (hx : ∀ v, IsReal (x (ix2 b v))) (v : Fin 100000) :
    Ideal.exp (x (ix2 b v) - rowMax x b - Ideal.log (rowSum x (rowMax x b) b)) = Ideal.div (Ideal.exp (x (ix2 b v) - rowMax x b)) (rowSum x (rowMax x b) b) := by
  obtain ⟨M, hM⟩ := rowMax_real x b hx
  rw [hM]
  obtain ⟨S, hS, e⟩ := rowSum_real x b M hx
  rw [e]
  obtain ⟨r, hr⟩ := hx v
  rw [hr, ← EReal.coe_sub]
  have hl : Ideal.log (S : EReal) = ((Real.log S : ℝ) : EReal) := if_neg (not_le.2 hS)
  rw [hl, ← EReal.coe_sub]
  unfold Ideal.div
  rw [if_neg (fun h => (ne_of_gt hS) (EReal.coe_eq_zero.1 h)), ← EReal.coe_inv]
  show ((Real.exp (r - M - Real.log S) : ℝ) : EReal) = ((Real.exp (r - M) : ℝ) : EReal) * ((S⁻¹ : ℝ) : EReal)
  rw [← EReal.coe_mul, Real.exp_sub, Real.exp_log hS, div_eq_mul_inv]

end Cert.Reals
-- ==== Proof.RI.Finite.lean ====
/-
  Rows picked by indices that lie inside the array: each element is one of the array's.
-/
module

public import proofs.«01_k».proof.Proof.R.Ops
public import proofs.«01_k».proof.Proof.Reals
public import Idealize.ShloMosaic.Lib.StableHlo.RunRead
public import Idealize.ShloMosaic.Lib.ReduceAll
public import Idealize.ShloMosaic.Lib.Affine

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Reals

/-- The index is inside an axis of `n` places. -/
def Inside (n : ℤ) (a : BitVec 32) : Prop := 0 ≤ a.toInt ∧ a.toInt < n

/-- An index that is not negative is not wrapped. -/
theorem not_wrapped (a b : BitVec 32) (h : 0 ≤ a.toInt) : Scalar.select (IntOp.cmpi .slt a 0#32) b a = a := by
  have : IntOp.cmpi .slt a 0#32 ≠ 1#1 := fun e => by
    have := IntOp.cmpi_slt.1 e
    rw [show (0#32 : BitVec 32).toInt = 0 from by decide] at this
    omega
  exact if_neg this

/-- An index inside passes the range test. -/
theorem passes (a c : BitVec 32) (n : ℤ) (h : Inside n a) (hc : c.toInt = n - 1) : IntOp.andi (IntOp.cmpi .sge a 0#32) (IntOp.cmpi .sle a c) = 1#1 := by
  have h1 : IntOp.cmpi .sge a 0#32 = 1#1 := IntOp.cmpi_sge.2 (by rw [show (0#32 : BitVec 32).toInt = 0 from by decide]; exact h.1)
  have h2 : IntOp.cmpi .sle a c = 1#1 := IntOp.cmpi_sle.2 (by rw [hc]; have := h.2; omega)
  rw [h1, h2]
  rfl

/-- The row numbers, the negative ones wrapped. -/
def rowPlaces (idx : IVec S64 32) : IVec S64x1 32 :=
  broadcastInDim S64x1 ![0] bcast_S64_S64x1_0 (select (cmpi .slt idx (broadcastInDim S64 ![] bcast_S_S64 (constantI S_ 32 0#32))) (addi idx (broadcastInDim S64 ![] bcast_S_S64 (constantI S_ 32 512#32))) idx)

/-- Which row numbers are inside. -/
def rowTests (idx : IVec S64 32) : IVec S64 1 :=
  Host.reduce IntOp.andi (andi (cmpi .sge (rowPlaces idx) (broadcastInDim S64x1 ![] bcast_S_S64x1 (constantI S_ 32 0#32)))
    (cmpi .sle (rowPlaces idx) (broadcastInDim S64x1 ![0, 1] bcast_S1x1_S64x1_0_1 (broadcastInDim S1x1 ![1] bcast_S1_S1x1_1 (constantI S1 32 511#32)))))
    (constantI S_ 1 1#1) reducesTo_S64x1_S64_d1 h_S_

/-- The rows picked. -/
def rowsPicked (x : FVec Ideal S512x1024 .f32) (idx : IVec S64 32) : FVec Ideal S64x1024 .f32 :=
  select (broadcastInDim S64x1024 ![0] bcast_S64_S64x1024_0 (rowTests idx)) (Host.gather gather_S512x1024_S64x1_S64x1024_1_0_n_n_0_1_11024 x (rowPlaces idx))
    (broadcastInDim S64x1024 ![] bcast_S_S64x1024 (constant S_ .f32 0x7FC00000#32))

/-- The reference's run picks the rows. -/
theorem rows_run (V' : Valuation τ sig (Elt Ideal)) (x : FVec Ideal S512x1024 .f32) (idx : IVec S64 32) (h0 : V' (Proc.devRef .tc main_arg1) = x) (h1 : V' (Proc.devRef .tc main_arg2) = idx) :
    (StableHlo.after (ops0 (F := Ideal)) V' (Proc.devRef .tc main_v0) : FVec Ideal S64x1024 .f32) = rowsPicked x idx := by
  subst h0 h1
  after_reads_simp
  rfl

/-- Each element picked is one of the array's. -/
theorem rows_one_of (x : FVec Ideal S512x1024 .f32) (idx : IVec S64 32) (h : ∀ k, Inside 512 (idx k)) (j : S64x1024.Idx) : ∃ k, rowsPicked x idx j = x k := by
  have hw : ∀ i, Inside 512 (rowPlaces idx i) := by
    intro i
    have e : ∃ k, rowPlaces idx i = Scalar.select (IntOp.cmpi .slt (idx k) 0#32) (IntOp.addi (idx k) 512#32) (idx k) := ⟨_, rfl⟩
    obtain ⟨k, e⟩ := e
    rw [e, not_wrapped _ _ (h k).1]
    exact h k
  have ht : ∀ b, rowTests idx b = 1#1 := fun b =>
    Host.reduce_andi_one _ _ _ _ b rfl fun i => passes (rowPlaces idx i) 511#32 512 (hw i) (by decide)
  have e : ∃ b, rowsPicked x idx j = Scalar.select (rowTests idx b) (Host.gather gather_S512x1024_S64x1_S64x1024_1_0_n_n_0_1_11024 x (rowPlaces idx) j) (Ideal.ofBits .f32 0x7FC00000#32) := ⟨_, rfl⟩
  obtain ⟨b, e⟩ := e
  rw [e, ht]
  exact ⟨_, rfl⟩

/-- The column numbers, the negative ones wrapped. -/
def colPlaces (idx : IVec S64x100000 32) : IVec S64x100000x1 32 :=
  shapeCast S64x100000x1
    (select (cmpi .slt idx (broadcastInDim S64x100000 ![] bcast_S_S64x100000 (constantI S_ 32 0#32))) (addi idx (broadcastInDim S64x100000 ![] bcast_S_S64x100000 (constantI S_ 32 100000#32))) idx)
    shapeCasts_S64x100000_S64x100000x1

/-- Which column numbers are inside. -/
def colTests (idx : IVec S64x100000 32) : IVec S64x100000 1 :=
  Host.reduce IntOp.andi (andi (cmpi .sge (colPlaces idx) (broadcastInDim S64x100000x1 ![] bcast_S_S64x100000x1 (constantI S_ 32 0#32)))
    (cmpi .sle (colPlaces idx) (broadcastInDim S64x100000x1 ![0, 1, 2] bcast_S1x1x1_S64x100000x1_0_1_2 (broadcastInDim S1x1x1 ![2] bcast_S1_S1x1x1_2 (constantI S1 32 99999#32)))))
    (constantI S_ 1 1#1) reducesTo_S64x100000x1_S64x100000_d2 h_S_

/-- The elements picked along the rows. -/
def colsPicked (x : FVec Ideal S64x100000 .f32) (idx : IVec S64x100000 32) : FVec Ideal S64x100000 .f32 :=
  select (colTests idx) (Host.gather gather_S64x100000_S64x100000x1_S64x100000_n_1_0_0_1_2_11 x (colPlaces idx))
    (broadcastInDim S64x100000 ![] bcast_S_S64x100000 (constant S_ .f32 0x7FC00000#32))

/-- Each element picked is one of the array's. -/
theorem cols_one_of (x : FVec Ideal S64x100000 .f32) (idx : IVec S64x100000 32) (h : ∀ k, Inside 100000 (idx k)) (j : S64x100000.Idx) : ∃ k, colsPicked x idx j = x k := by
  have hw : ∀ i, Inside 100000 (colPlaces idx i) := by
    intro i
    have e : ∃ k, colPlaces idx i = Scalar.select (IntOp.cmpi .slt (idx k) 0#32) (IntOp.addi (idx k) 100000#32) (idx k) := ⟨_, rfl⟩
    obtain ⟨k, e⟩ := e
    rw [e, not_wrapped _ _ (h k).1]
    exact h k
  have ht : ∀ b, colTests idx b = 1#1 := fun b =>
    Host.reduce_andi_one _ _ _ _ b rfl fun i => passes (colPlaces idx i) 99999#32 100000 (hw i) (by decide)
  have e : colsPicked x idx j = Scalar.select (colTests idx j) (Host.gather gather_S64x100000_S64x100000x1_S64x100000_n_1_0_0_1_2_11 x (colPlaces idx) j) (Ideal.ofBits .f32 0x7FC00000#32) := rfl
  rw [e, ht]
  exact ⟨_, rfl⟩

/-- What is written to the sorted logits' buffer is what it holds. -/
theorem held_v40 (y : FVec Ideal S64x100000 .f32) : ((StableHlo.TRef.of main_v40 : StableHlo.TRef sig ⟨S64x100000, .f32⟩).toBuf (Val := Elt Ideal) y : FVec Ideal S64x100000 .f32) = y := rfl

/-- What is written to the cut logits' buffer is what it holds. -/
theorem held_v68 (y : FVec Ideal S64x100000 .f32) : ((StableHlo.TRef.of main_v68 : StableHlo.TRef sig ⟨S64x100000, .f32⟩).toBuf (Val := Elt Ideal) y : FVec Ideal S64x100000 .f32) = y := rfl

/-- The reference's run picks the logits in descending order. -/
theorem sorted_run (V' : Valuation τ sig (Elt Ideal)) (x : FVec Ideal S64x100000 .f32) (idx : IVec S64x100000 32) (h0 : V' (Proc.devRef .tc main_v37) = x) (h1 : V' (Proc.devRef .tc main_v39) = idx) :
    (StableHlo.after (ops3 (F := Ideal)) V' (Proc.devRef .tc main_v40) : FVec Ideal S64x100000 .f32) = colsPicked x idx := by
  subst h0 h1
  after_reads_simp
  simp only [StableHlo.TRef.ofBuf_toBuf]
  refine (held_v40 _).trans ?_
  unfold colsPicked colTests colPlaces
  rfl

/-- The reference's run puts the cut logits back in the order of the vocabulary. -/
theorem unsorted_run (V' : Valuation τ sig (Elt Ideal)) (x : FVec Ideal S64x100000 .f32) (idx : IVec S64x100000 32) (h0 : V' (Proc.devRef .tc main_v66) = x) (h1 : V' (Proc.devRef .tc main_v67) = idx) :
    (StableHlo.after (ops10 (F := Ideal)) V' (Proc.devRef .tc main_v68) : FVec Ideal S64x100000 .f32) = colsPicked x idx := by
  subst h0 h1
  after_reads_simp
  simp only [StableHlo.TRef.ofBuf_toBuf]
  refine (held_v68 _).trans ?_
  unfold colsPicked colTests colPlaces
  rfl

/-- A column number is inside. -/
theorem iota_inside (k : S64x100000.Idx) : Inside 100000 (iotaInDim S64x100000 32 1 k) := by
  have e : iotaInDim S64x100000 32 1 k = BitVec.ofNat 32 (k 1).val := rfl
  have hk : (k 1).val < 100000 := (k 1).isLt
  rw [e]
  have h : (BitVec.ofNat 32 (k 1).val).toInt = ((k 1).val : ℤ) := by
    rw [BitVec.toInt_eq_toNat_of_lt (by rw [BitVec.toNat_ofNat]; omega), BitVec.toNat_ofNat]
    omega
  unfold Inside
  rw [h]
  constructor <;> omega

/-- What a sort carries along is what was there. -/
theorem sort_one_of {α : Type} (cmp : α × BitVec 32 → α × BitVec 32 → BitVec 1) (x : S64x100000.Idx → α) (y : S64x100000.Idx → BitVec 32) (j : S64x100000.Idx) :
    ∃ k, (Host.sort2 S64x100000 1 cmp x y).2 j = y k := ⟨_, rfl⟩

/-- The descending order's column numbers are inside. -/
theorem order_inside (V' : Valuation τ sig (Elt Ideal)) (j : S64x100000.Idx) :
    Inside 100000 ((StableHlo.after (ops2 (F := Ideal)) V' (Proc.devRef .tc main_v39) : IVec S64x100000 32) j) := by
  after_reads_simp
  obtain ⟨k, e⟩ := sort_one_of (α := Ideal .f32) comparator_f32_i32_d1 (V' (Proc.devRef .tc main_v38) : FVec Ideal S64x100000 .f32) (iotaInDim S64x100000 32 1) j
  have := iota_inside k
  rw [← e] at this
  exact this

/-- The inverse order's column numbers are inside. -/
theorem inverse_inside (V' : Valuation τ sig (Elt Ideal)) (j : S64x100000.Idx) :
    Inside 100000 ((StableHlo.after (ops9 (F := Ideal)) V' (Proc.devRef .tc main_v67) : IVec S64x100000 32) j) := by
  after_reads_simp
  obtain ⟨k, e⟩ := sort_one_of comparator_i32_i32_d1 (V' (Proc.devRef .tc main_v39) : IVec S64x100000 32) (iotaInDim S64x100000 32 1) j
  have := iota_inside k
  rw [← e] at this
  exact this

/-- The number put in the place of a cut logit is real. -/
theorem cut_real : IsReal (Ideal.ofBits FTy.f32 0xCE6E6B28#32) := by
  refine ⟨_, by simp [Ideal.ofBits, Ideal.ieee, -EReal.coe_mul]; rfl⟩

/-- The number put in the place of the cut logits. -/
theorem cut_run (V' : Valuation τ sig (Elt Ideal)) :
    (StableHlo.after (ops7 (F := Ideal)) V' (Proc.devRef .tc main_cst_10) : FVec Ideal S_ .f32) = (constant S_ .f32 0xCE6E6B28#32 : FVec Ideal S_ .f32) := by
  after_reads_simp

/-- A cut logit is the logit or the number put in its place. -/
theorem where_run (V' : Valuation τ sig (Elt Ideal)) (x : FVec Ideal S64x100000 .f32) (z : FVec Ideal S_ .f32) (h0 : V' (Proc.devRef .tc main_v40) = x) (h1 : V' (Proc.devRef .tc main_cst_10) = z) (j : S64x100000.Idx) :
    (∃ k, (StableHlo.after (ops8 (F := Ideal)) V' (Proc.devRef .tc main_v66) : FVec Ideal S64x100000 .f32) j = x k)
      ∨ ∃ k, (StableHlo.after (ops8 (F := Ideal)) V' (Proc.devRef .tc main_v66) : FVec Ideal S64x100000 .f32) j = z k := by
  subst h0 h1
  after_reads_simp
  generalize hc : V' (Proc.devRef .tc main_v65) = c
  have e : ∃ k, select (c : IVec S64x100000 1) (broadcastInDim S64x100000 ![] bcast_S_S64x100000 (V' (Proc.devRef .tc main_cst_10) : FVec Ideal S_ .f32)) (V' (Proc.devRef .tc main_v40) : FVec Ideal S64x100000 .f32) j
      = Scalar.select ((c : IVec S64x100000 1) j) ((V' (Proc.devRef .tc main_cst_10) : FVec Ideal S_ .f32) k) ((V' (Proc.devRef .tc main_v40) : FVec Ideal S64x100000 .f32) j) := ⟨_, rfl⟩
  obtain ⟨k, e⟩ := e
  by_cases hb : (c : IVec S64x100000 1) j = 1#1
  · exact .inr ⟨k, e.trans (if_pos hb)⟩
  · exact .inl ⟨j, e.trans (if_neg hb)⟩

end Cert.ReferenceIdeal.Hand
-- ==== Proof.V.Ordinary.lean ====
/-
  From finite inputs and row numbers inside the array, the cut logits are real numbers; so the probabilities agree.
-/
module

public import proofs.«01_k».proof.Proof.V.Results
public import proofs.«01_k».proof.Proof.RI.Finite

@[expose] public section

set_option maxRecDepth 16384

noncomputable section

namespace Cert.Agree

open Idealize.ShloMosaic Idealize.ShloMosaic.TcCoe Idealize.ShloMosaic.Tactic
open Cert.KernelIdeal.Gen Cert.KernelIdeal.Hand Cert.ReferenceIdeal.Hand Cert.Reals

variable {m : KM} {c : Dev KernelIdeal.nD} {W : Fin 22 → KV}

/-- Finite inputs, row numbers inside the array, and tokens that are not negative. -/
structure Ordinary (V : KV) : Prop where
  emb : ∀ i, IsReal ((V (Proc.devRef .tc KernelIdeal.main_arg0) : FVec Ideal ReferenceIdeal.S100000x1024 .f32) i)
  hid : ∀ i, IsReal ((V (Proc.devRef .tc KernelIdeal.main_arg1) : FVec Ideal ReferenceIdeal.S512x1024 .f32) i)
  rows : ∀ i, Inside 512 ((V (Proc.devRef .tc KernelIdeal.main_arg2) : IVec ReferenceIdeal.S64 32) i)
  toks : ∀ i, 0 ≤ ((V (Proc.devRef .tc KernelIdeal.main_arg3) : IVec ReferenceIdeal.S64x50 32) i).toInt
  pres : ∀ i, IsReal ((V (Proc.devRef .tc KernelIdeal.main_arg4) : FVec Ideal ReferenceIdeal.S64 .f32) i)
  freq : ∀ i, IsReal ((V (Proc.devRef .tc KernelIdeal.main_arg5) : FVec Ideal ReferenceIdeal.S64 .f32) i)

/-- The gathered rows are real. -/
theorem States.real0 (h : States m c W) {m' : RM} (s : Same (W 0) (U0 m' c)) (o : Ordinary (W 0)) (i : ReferenceIdeal.S64x1024.Idx) :
    IsReal ((W 1 (Proc.devRef .tc KernelIdeal.main_v0) : FVec Ideal ReferenceIdeal.S64x1024 .f32) i) := by
  have e := (h.v0 s).trans (rows_run (U0 m' c) _ _ s.a1.symm s.a2.symm)
  obtain ⟨k, hk⟩ := rows_one_of (W 0 (Proc.devRef .tc KernelIdeal.main_arg1)) (W 0 (Proc.devRef .tc KernelIdeal.main_arg2)) o.rows i
  have := o.hid k
  rw [← hk] at this
  rw [e]
  exact this

/-- The logits are real. -/
theorem States.real4 (h : States m c W) {m' : RM} (s : Same (W 0) (U0 m' c)) (o : Ordinary (W 0)) (i : ReferenceIdeal.S64x100000.Idx) :
    IsReal ((W 3 (Proc.devRef .tc KernelIdeal.main_v4) : FVec Ideal ReferenceIdeal.S64x100000 .f32) i) := by
  obtain ⟨b, v, rfl⟩ := row_column i
  have hc := columns (W 1) _ _ _ h.main_arg5_1 h.main_arg4_1 h.main_arg6_1
  rw [← h.s2] at hc
  have e := KernelIdeal.Hand.logits_at (W 2) c (W 1 (Proc.devRef .tc KernelIdeal.main_v0)) _ _ _ _ _ h.main_v0_2 h.main_arg0_2 h.main_arg3_2 rfl rfl rfl _ (h.s3.1 6) (ix2 b v)
  have hr : IsReal (logitAt _ _ _ _ _ _ (ix2 b v)) := logitAt_real (W 0 (Proc.devRef .tc KernelIdeal.main_arg3)) (W 2 (Proc.devRef .tc KernelIdeal.main_v3)) (h.real0 s o) o.emb
    (fp := W 2 (Proc.devRef .tc KernelIdeal.main_v1)) (pp := W 2 (Proc.devRef .tc KernelIdeal.main_v2))
    (fun b => by
      have := o.freq (ix1 b)
      rw [← (hc b).1] at this
      exact this)
    (fun b => by
      have := o.pres (ix1 b)
      rw [← (hc b).2.1] at this
      exact this) b v
  rw [← e] at hr
  exact hr

/-- The cut logits are real. -/
theorem States.real35 (h : States m c W) {m' : RM} (s : Same (W 0) (U0 m' c)) (o : Ordinary (W 0)) (i : ReferenceIdeal.S64x100000.Idx) :
    IsReal ((U11 m' c (Proc.devRef .tc ReferenceIdeal.main_v68) : FVec Ideal ReferenceIdeal.S64x100000 .f32) i) := by
  have r37 : ∀ k, IsReal ((U3 m' c (Proc.devRef .tc ReferenceIdeal.main_v37) : FVec Ideal ReferenceIdeal.S64x100000 .f32) k) := by
    intro k
    have := h.real4 s o k
    rw [h.v4 s o.toks] at this
    rw [ref_main_v37_3]
    exact this
  have r40 : ∀ k, IsReal ((U4 m' c (Proc.devRef .tc ReferenceIdeal.main_v40) : FVec Ideal ReferenceIdeal.S64x100000 .f32) k) := by
    intro k
    have e := sorted_run (U3 m' c) _ _ rfl rfl
    obtain ⟨k', hk⟩ := cols_one_of (U3 m' c (Proc.devRef .tc ReferenceIdeal.main_v37)) (U3 m' c (Proc.devRef .tc ReferenceIdeal.main_v39)) (order_inside (U2 m' c)) k
    have := r37 k'
    rw [← hk] at this
    rw [U4, e]
    exact this
  have r66 : ∀ k, IsReal ((U10 m' c (Proc.devRef .tc ReferenceIdeal.main_v66) : FVec Ideal ReferenceIdeal.S64x100000 .f32) k) := by
    intro k
    rw [ref_main_v66_10, U9]
    rcases where_run (U8 m' c) _ _ (ref_main_v40_8 m' c) (cut_run (U7 m' c)) k with ⟨k', e⟩ | ⟨k', e⟩
    · have := r40 k'
      rw [← e] at this
      exact this
    · have := cut_real
      rw [e]
      exact this
  have e := unsorted_run (U10 m' c) _ _ rfl rfl
  obtain ⟨k', hk⟩ := cols_one_of (U10 m' c (Proc.devRef .tc ReferenceIdeal.main_v66)) (U10 m' c (Proc.devRef .tc ReferenceIdeal.main_v67)) (inverse_inside (U9 m' c)) i
  have := r66 k'
  rw [← hk] at this
  rw [U11, e]
  exact this

/-- The three results agree. -/
theorem States.agree (h : States m c W) {m' : RM} (s : Same (W 0) (U0 m' c)) (o : Ordinary (W 0)) :
    (W 21 (Proc.devRef .tc KernelIdeal.main_v53) : IVec ReferenceIdeal.S64 32) = U17 m' c (Proc.devRef .tc ReferenceIdeal.main_v90)
    ∧ (W 21 (Proc.devRef .tc KernelIdeal.main_v43_0) : FVec Ideal ReferenceIdeal.S64x100000 .f32) = U17 m' c (Proc.devRef .tc ReferenceIdeal.main_v79)
    ∧ (W 21 (Proc.devRef .tc KernelIdeal.main_v43_1) : FVec Ideal ReferenceIdeal.S64x100000 .f32) = U17 m' c (Proc.devRef .tc ReferenceIdeal.main_v80) := by
  have e := h.v35 s (h.v4 s o.toks)
  refine ⟨h.v53 e, h.v43_0 e _ rfl fun b v => ?_, h.v43_1 e⟩
  exact quotient _ b (fun v => h.real35 s o (ix2 b v)) v

end Cert.Agree

end
-- ==== Proof.Pre.lean ====
/-
  What the precondition says of each element.
-/
module

public import proofs.«01_k».proof.Defs
public import proofs.«01_k».proof.Proof.V.Ordinary
public import Idealize.ShloMosaic.Lib.ReduceAll

@[expose] public section

set_option maxRecDepth 16384

noncomputable section

namespace Cert.Range

open Idealize.ShloMosaic Cert.Pre_inputs_in_range Cert.Reals Cert.ReferenceIdeal.Hand

/-- The shapes of the precondition fit. -/
theorem fits : Cert.Pre_inputs_in_range.Facts where
  bcast_S_S100000x1024 := by decide
  reducesTo_S100000x1024_S_d0_1 := by decide
  h_S_ := by decide
  bcast_S_S512x1024 := by decide
  reducesTo_S512x1024_S_d0_1 := by decide
  bcast_S_S64 := by decide
  reducesTo_S64_S_d0 := by decide
  bcast_S_S64x50 := by decide
  reducesTo_S64x50_S_d0_1 := by decide

/-- The upper bound's literal is +∞. -/
theorem ofBits_top : Ideal.ofBits .f32 0x7F800000#32 = ⊤ := rfl

/-- A scalar array has one index. -/
instance one_index : Subsingleton S_.Idx := ⟨fun a b => funext fun k => k.elim0⟩

/-- Both conjuncts of an `and` of single bits that is 1 are 1. -/
theorem both {c d : BitVec 1} (h : IntOp.andi c d = 1#1) : c = 1#1 ∧ d = 1#1 := IntOp.andi_eq_one.mp h

/-- A number that passes both strict comparisons with the infinities is real. -/
theorem real_of_bits {x : EReal}
    (h : IntOp.andi (FloatOps.cmpf (F := Ideal) (φ := .f32) .olt x (Ideal.ofBits .f32 0x7F800000#32)) (FloatOps.cmpf (F := Ideal) (φ := .f32) .ogt x (Ideal.ofBits .f32 0xFF800000#32)) = 1#1) : IsReal x := by
  obtain ⟨h1, h2⟩ := both h
  rw [ofBits_top] at h1
  change Ideal.cmp .olt x ⊤ = 1#1 at h1
  rw [KernelIdeal.Hand.ofBits_bot] at h2
  change Ideal.cmp .ogt x ⊥ = 1#1 at h2
  refine IsReal.of_lt ?_ ?_
  · by_contra hn
    simp [Ideal.cmp, hn] at h1
  · by_contra hn
    simp [Ideal.cmp, hn] at h2

/-- A number that passes both comparisons with 0 and 512 lies between them. -/
theorem inside_of_bits {x : BitVec 32} (h : IntOp.andi (IntOp.cmpi .sge x 0#32) (IntOp.cmpi .slt x 512#32) = 1#1) : Inside 512 x := by
  obtain ⟨h1, h2⟩ := both h
  exact ⟨IntOp.cmpi_sge.mp h1, IntOp.cmpi_slt.mp h2⟩

/-- The precondition, element by element. -/
theorem each [Cert.Pre_inputs_in_range.Facts] (a0 : FVec Ideal S100000x1024 .f32) (a1 : FVec Ideal S512x1024 .f32) (a2 : IVec S64 32) (a3 : IVec S64x50 32)
    (a4 a5 a6 a7 : FVec Ideal S64 .f32) (a8 : IVec S64 32) (h : Cert.Pre_inputs_in_range.fn (F := Ideal) a0 a1 a2 a3 a4 a5 a6 a7 a8 = fun _ => 1#1) :
    (∀ i, IsReal (a0 i)) ∧ (∀ i, IsReal (a1 i)) ∧ (∀ i, Inside 512 (a2 i)) ∧ (∀ i, 0 ≤ (a3 i).toInt) ∧ (∀ i, IsReal (a4 i)) ∧ ∀ i, IsReal (a5 i) := by
  have e := congrFun h (fun k => k.elim0)
  obtain ⟨e, h3⟩ := both e
  obtain ⟨e, h2⟩ := both e
  obtain ⟨e, h5⟩ := both e
  obtain ⟨e, h4⟩ := both e
  obtain ⟨h0, h1⟩ := both e
  refine ⟨fun i => ?_, fun i => ?_, fun i => ?_, fun i => ?_, fun i => ?_, fun i => ?_⟩
  · exact real_of_bits (Host.reduce_andi_all _ _ _ _ _ h0 i)
  · exact real_of_bits (Host.reduce_andi_all _ _ _ _ _ h1 i)
  · exact inside_of_bits (Host.reduce_andi_all _ _ _ _ _ h2 i)
  · exact IntOp.cmpi_sge.mp (Host.reduce_andi_all _ _ _ _ _ h3 i)
  · exact real_of_bits (Host.reduce_andi_all _ _ _ _ _ h4 i)
  · exact real_of_bits (Host.reduce_andi_all _ _ _ _ _ h5 i)

end Cert.Range

end
-- ==== Proof.Value.lean ====
/-
  The kernel's three results are the reference's, under the precondition.
-/
module

public import proofs.«01_k».proof.Defs
public import proofs.«01_k».proof.Proof.Pre
public import proofs.«01_k».proof.Proof.KI.Frame
public import proofs.«01_k».proof.Proof.R.Run

@[expose] public section

set_option maxRecDepth 16384

noncomputable section

namespace Cert.Proof

open Idealize.ShloMosaic Idealize.ShloMosaic.TcCoe Idealize.SL.Sem Cert.Agree
open Cert.KernelIdeal.Gen Cert.ReferenceIdeal.Gen

/-- From the same arguments, under the precondition, the kernel's last state holds the reference's three results. -/
theorem results (m : KM) (m' : RM) (c : Dev KernelIdeal.nD) (V : KV) (h : KernelIdeal.Hand.P21 m c V)
    (s : Same (fun b => m (c, b)) (ReferenceIdeal.Hand.U0 m' c)) (o : Ordinary (fun b => m (c, b))) :
    (V (Proc.devRef .tc KernelIdeal.main_v53) : IVec ReferenceIdeal.S64 32) = ReferenceIdeal.Hand.U17 m' c (Proc.devRef .tc ReferenceIdeal.main_v90)
    ∧ (V (Proc.devRef .tc KernelIdeal.main_v43_0) : FVec Ideal ReferenceIdeal.S64x100000 .f32) = ReferenceIdeal.Hand.U17 m' c (Proc.devRef .tc ReferenceIdeal.main_v79)
    ∧ (V (Proc.devRef .tc KernelIdeal.main_v43_1) : FVec Ideal ReferenceIdeal.S64x100000 .f32) = ReferenceIdeal.Hand.U17 m' c (Proc.devRef .tc ReferenceIdeal.main_v80) := by
  obtain ⟨W, hW, rfl⟩ := states m c V h
  have e : W 0 = fun b => m (c, b) := hW.s0
  rw [← e] at s o
  exact hW.agree s o

/-- The value claim. -/
theorem same_results : Cert.algebraic_KernelIdeal_ReferenceIdeal_pre_inputs_in_range (hPre_inputs_in_range := Cert.Range.fits) := by
  intro m g m' g' hp hs
  have hr : ∀ (c : Dev KernelIdeal.nD) (V : KV), KernelIdeal.Hand.P21 m c V → _ := fun c V h => results m m' c V h
    (by
      obtain ⟨a0, a1, a2, a3, a4, a5, a6, a7, a8⟩ := hs c
      exact ⟨a0.symm, a1.symm, a2.symm, a3.symm, a4.symm, a5.symm, a6.symm, a7.symm, a8.symm⟩)
    (by
      obtain ⟨o0, o1, o2, o3, o4, o5⟩ := @Cert.Range.each Cert.Range.fits _ _ _ _ _ _ _ _ _ (hp c)
      exact ⟨o0, o1, o2, o3, o4, o5⟩)
  refine ⟨fun c => ReferenceIdeal.Hand.U17 m' c (Proc.devRef .tc ReferenceIdeal.main_v90), fun c => ReferenceIdeal.Hand.U17 m' c (Proc.devRef .tc ReferenceIdeal.main_v79),
    fun c => ReferenceIdeal.Hand.U17 m' c (Proc.devRef .tc ReferenceIdeal.main_v80), ?_, ?_⟩
  · refine θ_run_mono (KernelIdeal.Hand.ran m g) fun r hr' c => ?_
    obtain ⟨V, hV, hb⟩ := hr'.1 c
    obtain ⟨e0, e1, e2⟩ := hr c V hV
    obtain ⟨a0, a1, a2, a3, a4, a5, a6, a7, a8⟩ := KernelIdeal.Hand.args_kept m c V hV
    exact ⟨(hb _ (KernelIdeal.Hand.mem_uc KernelIdeal.main_v53 (by decide))).trans e0,
      (hb _ (KernelIdeal.Hand.mem_uc KernelIdeal.main_v43_0 (by decide))).trans e1,
      (hb _ (KernelIdeal.Hand.mem_uc KernelIdeal.main_v43_1 (by decide))).trans e2,
      (hb _ (KernelIdeal.Hand.mem_uc KernelIdeal.main_arg0 (by decide))).trans a0,
      (hb _ (KernelIdeal.Hand.mem_uc KernelIdeal.main_arg1 (by decide))).trans a1,
      (hb _ (KernelIdeal.Hand.mem_uc KernelIdeal.main_arg2 (by decide))).trans a2,
      (hb _ (KernelIdeal.Hand.mem_uc KernelIdeal.main_arg3 (by decide))).trans a3,
      (hb _ (KernelIdeal.Hand.mem_uc KernelIdeal.main_arg4 (by decide))).trans a4,
      (hb _ (KernelIdeal.Hand.mem_uc KernelIdeal.main_arg5 (by decide))).trans a5,
      (hb _ (KernelIdeal.Hand.mem_uc KernelIdeal.main_arg6 (by decide))).trans a6,
      (hb _ (KernelIdeal.Hand.mem_uc KernelIdeal.main_arg7 (by decide))).trans a7,
      (hb _ (KernelIdeal.Hand.mem_uc KernelIdeal.main_arg8 (by decide))).trans a8⟩
  · exact θ_run_mono (ReferenceIdeal.Hand.ran m' g') fun r hr' c =>
      ⟨hr'.1 c ReferenceIdeal.main_v90, hr'.1 c ReferenceIdeal.main_v79, hr'.1 c ReferenceIdeal.main_v80,
        (hr'.1 c ReferenceIdeal.main_arg0).trans (ReferenceIdeal.Hand.kept_arg0 m' c),
        (hr'.1 c ReferenceIdeal.main_arg1).trans (ReferenceIdeal.Hand.kept_arg1 m' c),
        (hr'.1 c ReferenceIdeal.main_arg2).trans (ReferenceIdeal.Hand.kept_arg2 m' c),
        (hr'.1 c ReferenceIdeal.main_arg3).trans (ReferenceIdeal.Hand.kept_arg3 m' c),
        (hr'.1 c ReferenceIdeal.main_arg4).trans (ReferenceIdeal.Hand.kept_arg4 m' c),
        (hr'.1 c ReferenceIdeal.main_arg5).trans (ReferenceIdeal.Hand.kept_arg5 m' c),
        (hr'.1 c ReferenceIdeal.main_arg6).trans (ReferenceIdeal.Hand.kept_arg6 m' c),
        (hr'.1 c ReferenceIdeal.main_arg7).trans (ReferenceIdeal.Hand.kept_arg7 m' c),
        (hr'.1 c ReferenceIdeal.main_arg8).trans (ReferenceIdeal.Hand.kept_arg8 m' c)⟩

end Cert.Proof

end
-- ==== Proof.lean ====
/-
  The claims assembled: the three programs' frames, the named constant's statement, and the equality of the three results.
-/
module

public import proofs.«01_k».proof.Defs
public import proofs.«01_k».proof.Proof.K.Frame
public import proofs.«01_k».proof.Proof.KI.Frame
public import proofs.«01_k».proof.Proof.R.Run
public import proofs.«01_k».proof.Proof.Value

@[expose] public section

noncomputable section

namespace Cert.Proof

open Idealize.ShloMosaic Idealize.SL.Sem

/-- The mask's literal is the one that the table names: −∞. -/
theorem mask_named : Cert.preserves_Kernel_KernelIdeal :=
  IdealRules.named_const.statement Cert.KernelIdeal.κ "mask" .f32 0xF149F2CA#32 ⊥ rfl

/-- Every claim. -/
theorem claim : Cert.Claim :=
  ⟨Cert.Kernel.Gen.facts, Cert.KernelIdeal.Gen.facts, Cert.ReferenceIdeal.Gen.facts, Cert.Range.fits,
    fun m g _ => Cert.Kernel.Hand.framed m g, fun m g _ => Cert.KernelIdeal.Hand.framed m g, fun m g _ => Cert.KernelIdeal.Hand.framed m g,
    fun m g _ => Cert.ReferenceIdeal.Hand.framed m g, fun m g _ => Cert.ReferenceIdeal.Hand.framed m g, mask_named, same_results⟩

end Cert.Proof

end
